-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1304)) (v1 : (c : Dev Cert.KernelIdeal.nD) → Buf (Elt Ideal) ((c.tc : Thread Cert.KernelIdeal.nD Cert.KernelIdeal.τ).loc Cert.KernelIdeal.main_v1305)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1304) = v0 c
          ∧ r.2.mem ((c.tc : Thread Cert.KernelIdeal.nD Cert.KernelIdeal.τ).loc Cert.KernelIdeal.main_v1305) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v504) = v0 c
          ∧ r.2.mem ((c.tc : Thread Cert.ReferenceIdeal.nD Cert.ReferenceIdeal.τ).loc Cert.ReferenceIdeal.main_v505) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x20000x32 : Shape := ⟨3, ![2, 20000, 32]⟩
abbrev S2x20000x2 : Shape := ⟨3, ![2, 20000, 2]⟩
abbrev S96x32 : Shape := ⟨2, ![96, 32]⟩
abbrev S96 : Shape := ⟨1, ![96]⟩
abbrev S32x32 : Shape := ⟨2, ![32, 32]⟩
abbrev S32 : Shape := ⟨1, ![32]⟩
abbrev S1x20000x32 : Shape := ⟨3, ![1, 20000, 32]⟩
abbrev S20000x32 : Shape := ⟨2, ![20000, 32]⟩
abbrev S1x20000x2 : Shape := ⟨3, ![1, 20000, 2]⟩
abbrev S20000x2 : Shape := ⟨2, ![20000, 2]⟩
abbrev S20000x1 : Shape := ⟨2, ![20000, 1]⟩
abbrev S20000 : Shape := ⟨1, ![20000]⟩
abbrev S_ : Shape := ⟨0, ![]⟩
abbrev S214272 : Shape := ⟨1, ![214272]⟩
abbrev S1 : Shape := ⟨1, ![1]⟩
abbrev S1x1 : Shape := ⟨2, ![1, 1]⟩
abbrev S9x20000x32 : Shape := ⟨3, ![9, 20000, 32]⟩
abbrev S20000x9x32 : Shape := ⟨3, ![20000, 9, 32]⟩
abbrev S1x32 : Shape := ⟨2, ![1, 32]⟩
abbrev S4000x32 : Shape := ⟨2, ![4000, 32]⟩
abbrev S180000x32 : Shape := ⟨2, ![180000, 32]⟩
abbrev S20000x2x16 : Shape := ⟨3, ![20000, 2, 16]⟩
abbrev S20000x9x2x16 : Shape := ⟨4, ![20000, 9, 2, 16]⟩
abbrev S20000x2x9x16 : Shape := ⟨4, ![20000, 2, 9, 16]⟩
abbrev S20000x2x9 : Shape := ⟨3, ![20000, 2, 9]⟩
abbrev S20000x2x1 : Shape := ⟨3, ![20000, 2, 1]⟩
abbrev S32x214272 : Shape := ⟨2, ![32, 214272]⟩
abbrev S32x20000 : Shape := ⟨2, ![32, 20000]⟩
abbrev S1x32x496x432 : Shape := ⟨4, ![1, 32, 496, 432]⟩
abbrev S2x32x496x432 : Shape := ⟨4, ![2, 32, 496, 432]⟩

abbrev nBuf : Space → Nat
  | .hbm => 3274
  | .vmem => 96
  | .smem => 0
  | _ => 0

abbrev hbmTy0_0 (i : Nat) : BufTy := match i % 128 with
  | 0 => ⟨S2x20000x32, .f32⟩
  | 1 => ⟨S2x20000x2, .i32⟩
  | 2 => ⟨S2x20000x32, .f32⟩
  | 3 => ⟨S2x20000x2, .i32⟩
  | 4 => ⟨S96x32, .f32⟩
  | 5 => ⟨S96, .f32⟩
  | 6 => ⟨S32x32, .f32⟩
  | 7 => ⟨S32, .f32⟩
  | 8 => ⟨S96x32, .f32⟩
  | 9 => ⟨S96, .f32⟩
  | 10 => ⟨S32x32, .f32⟩
  | 11 => ⟨S32, .f32⟩
  | 12 => ⟨S1x20000x32, .f32⟩
  | 13 => ⟨S20000x32, .f32⟩
  | 14 => ⟨S1x20000x2, .i32⟩
  | 15 => ⟨S20000x2, .i32⟩
  | 16 => ⟨S1x20000x32, .f32⟩
  | 17 => ⟨S20000x32, .f32⟩
  | 18 => ⟨S1x20000x2, .i32⟩
  | 19 => ⟨S20000x2, .i32⟩
  | 20 => ⟨S20000x1, .i32⟩
  | 21 => ⟨S20000, .i32⟩
  | 22 => ⟨S_, .i32⟩
  | 23 => ⟨S20000, .i32⟩
  | 24 => ⟨S20000, .i32⟩
  | 25 => ⟨S20000x1, .i32⟩
  | 26 => ⟨S20000, .i32⟩
  | 27 => ⟨S20000, .i32⟩
  | 28 => ⟨S_, .i32⟩
  | 29 => ⟨S214272, .i32⟩
  | 30 => ⟨S20000, .i32⟩
  | 31 => ⟨S_, .i32⟩
  | 32 => ⟨S20000, .i32⟩
  | 33 => ⟨S20000, .i1⟩
  | 34 => ⟨S_, .i32⟩
  | 35 => ⟨S20000, .i32⟩
  | 36 => ⟨S20000, .i32⟩
  | 37 => ⟨S20000, .i32⟩
  | 38 => ⟨S20000x1, .i32⟩
  | 39 => ⟨S214272, .i32⟩
  | 40 => ⟨S20000x1, .i32⟩
  | 41 => ⟨S20000, .i32⟩
  | 42 => ⟨S_, .i32⟩
  | 43 => ⟨S20000, .i32⟩
  | 44 => ⟨S20000, .i32⟩
  | 45 => ⟨S_, .i32⟩
  | 46 => ⟨S_, .i32⟩
  | 47 => ⟨S_, .i32⟩
  | 48 => ⟨S20000, .i32⟩
  | 49 => ⟨S20000, .i32⟩
  | 50 => ⟨S_, .i32⟩
  | 51 => ⟨S20000, .i32⟩
  | 52 => ⟨S20000, .i32⟩
  | 53 => ⟨S20000x1, .i32⟩
  | 54 => ⟨S20000, .i32⟩
  | 55 => ⟨S_, .i32⟩
  | 56 => ⟨S20000, .i32⟩
  | 57 => ⟨S20000, .i32⟩
  | 58 => ⟨S_, .i32⟩
  | 59 => ⟨S_, .i32⟩
  | 60 => ⟨S_, .i32⟩
  | 61 => ⟨S20000, .i32⟩
  | 62 => ⟨S20000, .i32⟩
  | 63 => ⟨S_, .i32⟩
  | 64 => ⟨S20000, .i32⟩
  | 65 => ⟨S20000, .i32⟩
  | 66 => ⟨S_, .i32⟩
  | 67 => ⟨S20000, .i32⟩
  | 68 => ⟨S20000, .i32⟩
  | 69 => ⟨S20000, .i32⟩
  | 70 => ⟨S_, .i32⟩
  | 71 => ⟨S20000, .i32⟩
  | 72 => ⟨S20000, .i1⟩
  | 73 => ⟨S_, .i32⟩
  | 74 => ⟨S20000, .i32⟩
  | 75 => ⟨S20000, .i32⟩
  | 76 => ⟨S20000, .i32⟩
  | 77 => ⟨S20000x1, .i32⟩
  | 78 => ⟨S20000, .i32⟩
  | 79 => ⟨S_, .i32⟩
  | 80 => ⟨S20000, .i32⟩
  | 81 => ⟨S20000, .i1⟩
  | 82 => ⟨S20000x1, .i1⟩
  | 83 => ⟨S_, .i32⟩
  | 84 => ⟨S_, .i32⟩
  | 85 => ⟨S_, .i32⟩
  | 86 => ⟨S20000, .i32⟩
  | 87 => ⟨S20000, .i32⟩
  | 88 => ⟨S_, .i32⟩
  | 89 => ⟨S20000, .i32⟩
  | 90 => ⟨S20000, .i32⟩
  | 91 => ⟨S_, .i32⟩
  | 92 => ⟨S20000, .i32⟩
  | 93 => ⟨S20000, .i1⟩
  | 94 => ⟨S_, .i32⟩
  | 95 => ⟨S20000, .i32⟩
  | 96 => ⟨S20000, .i32⟩
  | 97 => ⟨S20000, .i32⟩
  | 98 => ⟨S20000x1, .i32⟩
  | 99 => ⟨S1, .i32⟩
  | 100 => ⟨S_, .i32⟩
  | 101 => ⟨S20000x1, .i32⟩
  | 102 => ⟨S20000x1, .i1⟩
  | 103 => ⟨S1x1, .i32⟩
  | 104 => ⟨S20000x1, .i32⟩
  | 105 => ⟨S20000x1, .i1⟩
  | 106 => ⟨S20000x1, .i1⟩
  | 107 => ⟨S_, .i1⟩
  | 108 => ⟨S20000, .i1⟩
  | 109 => ⟨S20000x32, .f32⟩
  | 110 => ⟨S20000x32, .i1⟩
  | 111 => ⟨S_, .f32⟩
  | 112 => ⟨S20000x32, .f32⟩
  | 113 => ⟨S20000x32, .f32⟩
  | 114 => ⟨S_, .f32⟩
  | 115 => ⟨S_, .f32⟩
  | 116 => ⟨S20000x32, .i1⟩
  | 117 => ⟨S20000x32, .f32⟩
  | 118 => ⟨S20000x32, .f32⟩
  | 119 => ⟨S20000x1, .i32⟩
  | 120 => ⟨S20000, .i32⟩
  | 121 => ⟨S_, .i32⟩
  | 122 => ⟨S20000, .i32⟩
  | 123 => ⟨S20000, .i32⟩
  | 124 => ⟨S_, .i32⟩
  | 125 => ⟨S_, .i32⟩
  | 126 => ⟨S_, .i32⟩
  | 127 => ⟨S20000, .i32⟩
  | _ => ⟨S2x20000x32, .f32⟩

abbrev hbmTy0_1 (i : Nat) : BufTy := match i % 128 with
  | 0 => ⟨S20000, .i32⟩
  | 1 => ⟨S_, .i32⟩
  | 2 => ⟨S20000, .i32⟩
  | 3 => ⟨S20000, .i32⟩
  | 4 => ⟨S20000x1, .i32⟩
  | 5 => ⟨S20000, .i32⟩
  | 6 => ⟨S_, .i32⟩
  | 7 => ⟨S20000, .i32⟩
  | 8 => ⟨S20000, .i32⟩
  | 9 => ⟨S_, .i32⟩
  | 10 => ⟨S_, .i32⟩
  | 11 => ⟨S_, .i32⟩
  | 12 => ⟨S20000, .i32⟩
  | 13 => ⟨S20000, .i32⟩
  | 14 => ⟨S_, .i32⟩
  | 15 => ⟨S20000, .i32⟩
  | 16 => ⟨S20000, .i32⟩
  | 17 => ⟨S_, .i32⟩
  | 18 => ⟨S20000, .i32⟩
  | 19 => ⟨S20000, .i32⟩
  | 20 => ⟨S20000, .i32⟩
  | 21 => ⟨S_, .i32⟩
  | 22 => ⟨S20000, .i32⟩
  | 23 => ⟨S20000, .i1⟩
  | 24 => ⟨S_, .i32⟩
  | 25 => ⟨S20000, .i32⟩
  | 26 => ⟨S20000, .i32⟩
  | 27 => ⟨S20000, .i32⟩
  | 28 => ⟨S20000x1, .i32⟩
  | 29 => ⟨S20000, .i32⟩
  | 30 => ⟨S_, .i32⟩
  | 31 => ⟨S20000, .i32⟩
  | 32 => ⟨S20000, .i1⟩
  | 33 => ⟨S20000x1, .i1⟩
  | 34 => ⟨S_, .i32⟩
  | 35 => ⟨S_, .i32⟩
  | 36 => ⟨S_, .i32⟩
  | 37 => ⟨S20000, .i32⟩
  | 38 => ⟨S20000, .i32⟩
  | 39 => ⟨S_, .i32⟩
  | 40 => ⟨S20000, .i32⟩
  | 41 => ⟨S20000, .i32⟩
  | 42 => ⟨S_, .i32⟩
  | 43 => ⟨S20000, .i32⟩
  | 44 => ⟨S20000, .i1⟩
  | 45 => ⟨S_, .i32⟩
  | 46 => ⟨S20000, .i32⟩
  | 47 => ⟨S20000, .i32⟩
  | 48 => ⟨S20000, .i32⟩
  | 49 => ⟨S20000x1, .i32⟩
  | 50 => ⟨S1, .i32⟩
  | 51 => ⟨S_, .i32⟩
  | 52 => ⟨S20000x1, .i32⟩
  | 53 => ⟨S20000x1, .i1⟩
  | 54 => ⟨S1x1, .i32⟩
  | 55 => ⟨S20000x1, .i32⟩
  | 56 => ⟨S20000x1, .i1⟩
  | 57 => ⟨S20000x1, .i1⟩
  | 58 => ⟨S_, .i1⟩
  | 59 => ⟨S20000, .i1⟩
  | 60 => ⟨S20000x32, .f32⟩
  | 61 => ⟨S20000x32, .i1⟩
  | 62 => ⟨S_, .f32⟩
  | 63 => ⟨S20000x32, .f32⟩
  | 64 => ⟨S20000x32, .f32⟩
  | 65 => ⟨S_, .f32⟩
  | 66 => ⟨S_, .f32⟩
  | 67 => ⟨S20000x32, .i1⟩
  | 68 => ⟨S20000x32, .f32⟩
  | 69 => ⟨S20000x32, .f32⟩
  | 70 => ⟨S20000x1, .i32⟩
  | 71 => ⟨S20000, .i32⟩
  | 72 => ⟨S_, .i32⟩
  | 73 => ⟨S20000, .i32⟩
  | 74 => ⟨S20000, .i32⟩
  | 75 => ⟨S_, .i32⟩
  | 76 => ⟨S_, .i32⟩
  | 77 => ⟨S_, .i32⟩
  | 78 => ⟨S20000, .i32⟩
  | 79 => ⟨S20000, .i32⟩
  | 80 => ⟨S_, .i32⟩
  | 81 => ⟨S20000, .i32⟩
  | 82 => ⟨S20000, .i32⟩
  | 83 => ⟨S20000x1, .i32⟩
  | 84 => ⟨S20000, .i32⟩
  | 85 => ⟨S_, .i32⟩
  | 86 => ⟨S20000, .i32⟩
  | 87 => ⟨S20000, .i32⟩
  | 88 => ⟨S_, .i32⟩
  | 89 => ⟨S_, .i32⟩
  | 90 => ⟨S_, .i32⟩
  | 91 => ⟨S20000, .i32⟩
  | 92 => ⟨S20000, .i32⟩
  | 93 => ⟨S_, .i32⟩
  | 94 => ⟨S20000, .i32⟩
  | 95 => ⟨S20000, .i32⟩
  | 96 => ⟨S_, .i32⟩
  | 97 => ⟨S20000, .i32⟩
  | 98 => ⟨S20000, .i32⟩
  | 99 => ⟨S20000, .i32⟩
  | 100 => ⟨S_, .i32⟩
  | 101 => ⟨S20000, .i32⟩
  | 102 => ⟨S20000, .i1⟩
  | 103 => ⟨S_, .i32⟩
  | 104 => ⟨S20000, .i32⟩
  | 105 => ⟨S20000, .i32⟩
  | 106 => ⟨S20000, .i32⟩
  | 107 => ⟨S20000x1, .i32⟩
  | 108 => ⟨S20000, .i32⟩
  | 109 => ⟨S_, .i32⟩
  | 110 => ⟨S20000, .i32⟩
  | 111 => ⟨S20000, .i1⟩
  | 112 => ⟨S20000x1, .i1⟩
  | 113 => ⟨S_, .i32⟩
  | 114 => ⟨S_, .i32⟩
  | 115 => ⟨S_, .i32⟩
  | 116 => ⟨S20000, .i32⟩
  | 117 => ⟨S20000, .i32⟩
  | 118 => ⟨S_, .i32⟩
  | 119 => ⟨S20000, .i32⟩
  | 120 => ⟨S20000, .i32⟩
  | 121 => ⟨S_, .i32⟩
  | 122 => ⟨S20000, .i32⟩
  | 123 => ⟨S20000, .i1⟩
  | 124 => ⟨S_, .i32⟩
  | 125 => ⟨S20000, .i32⟩
  | 126 => ⟨S20000, .i32⟩
  | 127 => ⟨S20000, .i32⟩
  | _ => ⟨S2x20000x32, .f32⟩

abbrev hbmTy0_2 (i : Nat) : BufTy := match i % 128 with
  | 0 => ⟨S20000x1, .i32⟩
  | 1 => ⟨S1, .i32⟩
  | 2 => ⟨S_, .i32⟩
  | 3 => ⟨S20000x1, .i32⟩
  | 4 => ⟨S20000x1, .i1⟩
  | 5 => ⟨S1x1, .i32⟩
  | 6 => ⟨S20000x1, .i32⟩
  | 7 => ⟨S20000x1, .i1⟩
  | 8 => ⟨S20000x1, .i1⟩
  | 9 => ⟨S_, .i1⟩
  | 10 => ⟨S20000, .i1⟩
  | 11 => ⟨S20000x32, .f32⟩
  | 12 => ⟨S20000x32, .i1⟩
  | 13 => ⟨S_, .f32⟩
  | 14 => ⟨S20000x32, .f32⟩
  | 15 => ⟨S20000x32, .f32⟩
  | 16 => ⟨S_, .f32⟩
  | 17 => ⟨S_, .f32⟩
  | 18 => ⟨S20000x32, .i1⟩
  | 19 => ⟨S20000x32, .f32⟩
  | 20 => ⟨S20000x32, .f32⟩
  | 21 => ⟨S20000x1, .i32⟩
  | 22 => ⟨S20000, .i32⟩
  | 23 => ⟨S_, .i32⟩
  | 24 => ⟨S20000, .i32⟩
  | 25 => ⟨S20000, .i32⟩
  | 26 => ⟨S_, .i32⟩
  | 27 => ⟨S_, .i32⟩
  | 28 => ⟨S_, .i32⟩
  | 29 => ⟨S20000, .i32⟩
  | 30 => ⟨S20000, .i32⟩
  | 31 => ⟨S_, .i32⟩
  | 32 => ⟨S20000, .i32⟩
  | 33 => ⟨S20000, .i32⟩
  | 34 => ⟨S20000x1, .i32⟩
  | 35 => ⟨S20000, .i32⟩
  | 36 => ⟨S_, .i32⟩
  | 37 => ⟨S20000, .i32⟩
  | 38 => ⟨S20000, .i32⟩
  | 39 => ⟨S_, .i32⟩
  | 40 => ⟨S_, .i32⟩
  | 41 => ⟨S_, .i32⟩
  | 42 => ⟨S20000, .i32⟩
  | 43 => ⟨S20000, .i32⟩
  | 44 => ⟨S_, .i32⟩
  | 45 => ⟨S20000, .i32⟩
  | 46 => ⟨S20000, .i32⟩
  | 47 => ⟨S_, .i32⟩
  | 48 => ⟨S20000, .i32⟩
  | 49 => ⟨S20000, .i32⟩
  | 50 => ⟨S20000, .i32⟩
  | 51 => ⟨S_, .i32⟩
  | 52 => ⟨S20000, .i32⟩
  | 53 => ⟨S20000, .i1⟩
  | 54 => ⟨S_, .i32⟩
  | 55 => ⟨S20000, .i32⟩
  | 56 => ⟨S20000, .i32⟩
  | 57 => ⟨S20000, .i32⟩
  | 58 => ⟨S20000x1, .i32⟩
  | 59 => ⟨S20000, .i32⟩
  | 60 => ⟨S_, .i32⟩
  | 61 => ⟨S20000, .i32⟩
  | 62 => ⟨S20000, .i1⟩
  | 63 => ⟨S20000x1, .i1⟩
  | 64 => ⟨S_, .i32⟩
  | 65 => ⟨S_, .i32⟩
  | 66 => ⟨S_, .i32⟩
  | 67 => ⟨S20000, .i32⟩
  | 68 => ⟨S20000, .i32⟩
  | 69 => ⟨S_, .i32⟩
  | 70 => ⟨S20000, .i32⟩
  | 71 => ⟨S20000, .i32⟩
  | 72 => ⟨S_, .i32⟩
  | 73 => ⟨S20000, .i32⟩
  | 74 => ⟨S20000, .i1⟩
  | 75 => ⟨S_, .i32⟩
  | 76 => ⟨S20000, .i32⟩
  | 77 => ⟨S20000, .i32⟩
  | 78 => ⟨S20000, .i32⟩
  | 79 => ⟨S20000x1, .i32⟩
  | 80 => ⟨S1, .i32⟩
  | 81 => ⟨S_, .i32⟩
  | 82 => ⟨S20000x1, .i32⟩
  | 83 => ⟨S20000x1, .i1⟩
  | 84 => ⟨S1x1, .i32⟩
  | 85 => ⟨S20000x1, .i32⟩
  | 86 => ⟨S20000x1, .i1⟩
  | 87 => ⟨S20000x1, .i1⟩
  | 88 => ⟨S_, .i1⟩
  | 89 => ⟨S20000, .i1⟩
  | 90 => ⟨S20000x32, .f32⟩
  | 91 => ⟨S20000x32, .i1⟩
  | 92 => ⟨S_, .f32⟩
  | 93 => ⟨S20000x32, .f32⟩
  | 94 => ⟨S20000x32, .f32⟩
  | 95 => ⟨S_, .f32⟩
  | 96 => ⟨S_, .f32⟩
  | 97 => ⟨S20000x32, .i1⟩
  | 98 => ⟨S20000x32, .f32⟩
  | 99 => ⟨S20000x32, .f32⟩
  | 100 => ⟨S20000x1, .i32⟩
  | 101 => ⟨S20000, .i32⟩
  | 102 => ⟨S_, .i32⟩
  | 103 => ⟨S20000, .i32⟩
  | 104 => ⟨S20000, .i32⟩
  | 105 => ⟨S_, .i32⟩
  | 106 => ⟨S_, .i32⟩
  | 107 => ⟨S_, .i32⟩
  | 108 => ⟨S20000, .i32⟩
  | 109 => ⟨S20000, .i32⟩
  | 110 => ⟨S_, .i32⟩
  | 111 => ⟨S20000, .i32⟩
  | 112 => ⟨S20000, .i32⟩
  | 113 => ⟨S20000x1, .i32⟩
  | 114 => ⟨S20000, .i32⟩
  | 115 => ⟨S_, .i32⟩
  | 116 => ⟨S20000, .i32⟩
  | 117 => ⟨S20000, .i32⟩
  | 118 => ⟨S_, .i32⟩
  | 119 => ⟨S_, .i32⟩
  | 120 => ⟨S_, .i32⟩
  | 121 => ⟨S20000, .i32⟩
  | 122 => ⟨S20000, .i32⟩
  | 123 => ⟨S_, .i32⟩
  | 124 => ⟨S20000, .i32⟩
  | 125 => ⟨S20000, .i32⟩
  | 126 => ⟨S_, .i32⟩
  | 127 => ⟨S20000, .i32⟩
  | _ => ⟨S2x20000x32, .f32⟩

abbrev hbmTy0_3 (i : Nat) : BufTy := match i % 128 with
  | 0 => ⟨S20000, .i32⟩
  | 1 => ⟨S20000, .i32⟩
  | 2 => ⟨S_, .i32⟩
  | 3 => ⟨S20000, .i32⟩
  | 4 => ⟨S20000, .i1⟩
  | 5 => ⟨S_, .i32⟩
  | 6 => ⟨S20000, .i32⟩
  | 7 => ⟨S20000, .i32⟩
  | 8 => ⟨S20000, .i32⟩
  | 9 => ⟨S20000x1, .i32⟩
  | 10 => ⟨S20000, .i32⟩
  | 11 => ⟨S_, .i32⟩
  | 12 => ⟨S20000, .i32⟩
  | 13 => ⟨S20000, .i1⟩
  | 14 => ⟨S20000x1, .i1⟩
  | 15 => ⟨S_, .i32⟩
  | 16 => ⟨S_, .i32⟩
  | 17 => ⟨S_, .i32⟩
  | 18 => ⟨S20000, .i32⟩
  | 19 => ⟨S20000, .i32⟩
  | 20 => ⟨S_, .i32⟩
  | 21 => ⟨S20000, .i32⟩
  | 22 => ⟨S20000, .i32⟩
  | 23 => ⟨S_, .i32⟩
  | 24 => ⟨S20000, .i32⟩
  | 25 => ⟨S20000, .i1⟩
  | 26 => ⟨S_, .i32⟩
  | 27 => ⟨S20000, .i32⟩
  | 28 => ⟨S20000, .i32⟩
  | 29 => ⟨S20000, .i32⟩
  | 30 => ⟨S20000x1, .i32⟩
  | 31 => ⟨S1, .i32⟩
  | 32 => ⟨S_, .i32⟩
  | 33 => ⟨S20000x1, .i32⟩
  | 34 => ⟨S20000x1, .i1⟩
  | 35 => ⟨S1x1, .i32⟩
  | 36 => ⟨S20000x1, .i32⟩
  | 37 => ⟨S20000x1, .i1⟩
  | 38 => ⟨S20000x1, .i1⟩
  | 39 => ⟨S_, .i1⟩
  | 40 => ⟨S20000, .i1⟩
  | 41 => ⟨S20000x32, .f32⟩
  | 42 => ⟨S20000x32, .i1⟩
  | 43 => ⟨S_, .f32⟩
  | 44 => ⟨S20000x32, .f32⟩
  | 45 => ⟨S20000x32, .f32⟩
  | 46 => ⟨S_, .f32⟩
  | 47 => ⟨S_, .f32⟩
  | 48 => ⟨S20000x32, .i1⟩
  | 49 => ⟨S20000x32, .f32⟩
  | 50 => ⟨S20000x32, .f32⟩
  | 51 => ⟨S20000x1, .i32⟩
  | 52 => ⟨S20000, .i32⟩
  | 53 => ⟨S_, .i32⟩
  | 54 => ⟨S20000, .i32⟩
  | 55 => ⟨S20000, .i32⟩
  | 56 => ⟨S_, .i32⟩
  | 57 => ⟨S_, .i32⟩
  | 58 => ⟨S_, .i32⟩
  | 59 => ⟨S20000, .i32⟩
  | 60 => ⟨S20000, .i32⟩
  | 61 => ⟨S_, .i32⟩
  | 62 => ⟨S20000, .i32⟩
  | 63 => ⟨S20000, .i32⟩
  | 64 => ⟨S20000x1, .i32⟩
  | 65 => ⟨S20000, .i32⟩
  | 66 => ⟨S_, .i32⟩
  | 67 => ⟨S20000, .i32⟩
  | 68 => ⟨S20000, .i32⟩
  | 69 => ⟨S_, .i32⟩
  | 70 => ⟨S_, .i32⟩
  | 71 => ⟨S_, .i32⟩
  | 72 => ⟨S20000, .i32⟩
  | 73 => ⟨S20000, .i32⟩
  | 74 => ⟨S_, .i32⟩
  | 75 => ⟨S20000, .i32⟩
  | 76 => ⟨S20000, .i32⟩
  | 77 => ⟨S_, .i32⟩
  | 78 => ⟨S20000, .i32⟩
  | 79 => ⟨S20000, .i32⟩
  | 80 => ⟨S20000, .i32⟩
  | 81 => ⟨S_, .i32⟩
  | 82 => ⟨S20000, .i32⟩
  | 83 => ⟨S20000, .i1⟩
  | 84 => ⟨S_, .i32⟩
  | 85 => ⟨S20000, .i32⟩
  | 86 => ⟨S20000, .i32⟩
  | 87 => ⟨S20000, .i32⟩
  | 88 => ⟨S20000x1, .i32⟩
  | 89 => ⟨S20000, .i32⟩
  | 90 => ⟨S_, .i32⟩
  | 91 => ⟨S20000, .i32⟩
  | 92 => ⟨S20000, .i1⟩
  | 93 => ⟨S20000x1, .i1⟩
  | 94 => ⟨S_, .i32⟩
  | 95 => ⟨S_, .i32⟩
  | 96 => ⟨S_, .i32⟩
  | 97 => ⟨S20000, .i32⟩
  | 98 => ⟨S20000, .i32⟩
  | 99 => ⟨S_, .i32⟩
  | 100 => ⟨S20000, .i32⟩
  | 101 => ⟨S20000, .i32⟩
  | 102 => ⟨S_, .i32⟩
  | 103 => ⟨S20000, .i32⟩
  | 104 => ⟨S20000, .i1⟩
  | 105 => ⟨S_, .i32⟩
  | 106 => ⟨S20000, .i32⟩
  | 107 => ⟨S20000, .i32⟩
  | 108 => ⟨S20000, .i32⟩
  | 109 => ⟨S20000x1, .i32⟩
  | 110 => ⟨S1, .i32⟩
  | 111 => ⟨S_, .i32⟩
  | 112 => ⟨S20000x1, .i32⟩
  | 113 => ⟨S20000x1, .i1⟩
  | 114 => ⟨S1x1, .i32⟩
  | 115 => ⟨S20000x1, .i32⟩
  | 116 => ⟨S20000x1, .i1⟩
  | 117 => ⟨S20000x1, .i1⟩
  | 118 => ⟨S_, .i1⟩
  | 119 => ⟨S20000, .i1⟩
  | 120 => ⟨S20000x32, .f32⟩
  | 121 => ⟨S20000x32, .i1⟩
  | 122 => ⟨S_, .f32⟩
  | 123 => ⟨S20000x32, .f32⟩
  | 124 => ⟨S20000x32, .f32⟩
  | 125 => ⟨S_, .f32⟩
  | 126 => ⟨S_, .f32⟩
  | 127 => ⟨S20000x32, .i1⟩
  | _ => ⟨S2x20000x32, .f32⟩

abbrev hbmTy0_4 (i : Nat) : BufTy := match i % 128 with
  | 0 => ⟨S20000x32, .f32⟩
  | 1 => ⟨S20000x32, .f32⟩
  | 2 => ⟨S20000x1, .i32⟩
  | 3 => ⟨S20000, .i32⟩
  | 4 => ⟨S_, .i32⟩
  | 5 => ⟨S20000, .i32⟩
  | 6 => ⟨S20000, .i32⟩
  | 7 => ⟨S_, .i32⟩
  | 8 => ⟨S_, .i32⟩
  | 9 => ⟨S_, .i32⟩
  | 10 => ⟨S20000, .i32⟩
  | 11 => ⟨S20000, .i32⟩
  | 12 => ⟨S_, .i32⟩
  | 13 => ⟨S20000, .i32⟩
  | 14 => ⟨S20000, .i32⟩
  | 15 => ⟨S20000x1, .i32⟩
  | 16 => ⟨S20000, .i32⟩
  | 17 => ⟨S_, .i32⟩
  | 18 => ⟨S20000, .i32⟩
  | 19 => ⟨S20000, .i32⟩
  | 20 => ⟨S_, .i32⟩
  | 21 => ⟨S_, .i32⟩
  | 22 => ⟨S_, .i32⟩
  | 23 => ⟨S20000, .i32⟩
  | 24 => ⟨S20000, .i32⟩
  | 25 => ⟨S_, .i32⟩
  | 26 => ⟨S20000, .i32⟩
  | 27 => ⟨S20000, .i32⟩
  | 28 => ⟨S_, .i32⟩
  | 29 => ⟨S20000, .i32⟩
  | 30 => ⟨S20000, .i32⟩
  | 31 => ⟨S20000, .i32⟩
  | 32 => ⟨S_, .i32⟩
  | 33 => ⟨S20000, .i32⟩
  | 34 => ⟨S20000, .i1⟩
  | 35 => ⟨S_, .i32⟩
  | 36 => ⟨S20000, .i32⟩
  | 37 => ⟨S20000, .i32⟩
  | 38 => ⟨S20000, .i32⟩
  | 39 => ⟨S20000x1, .i32⟩
  | 40 => ⟨S20000, .i32⟩
  | 41 => ⟨S_, .i32⟩
  | 42 => ⟨S20000, .i32⟩
  | 43 => ⟨S20000, .i1⟩
  | 44 => ⟨S20000x1, .i1⟩
  | 45 => ⟨S_, .i32⟩
  | 46 => ⟨S_, .i32⟩
  | 47 => ⟨S_, .i32⟩
  | 48 => ⟨S20000, .i32⟩
  | 49 => ⟨S20000, .i32⟩
  | 50 => ⟨S_, .i32⟩
  | 51 => ⟨S20000, .i32⟩
  | 52 => ⟨S20000, .i32⟩
  | 53 => ⟨S_, .i32⟩
  | 54 => ⟨S20000, .i32⟩
  | 55 => ⟨S20000, .i1⟩
  | 56 => ⟨S_, .i32⟩
  | 57 => ⟨S20000, .i32⟩
  | 58 => ⟨S20000, .i32⟩
  | 59 => ⟨S20000, .i32⟩
  | 60 => ⟨S20000x1, .i32⟩
  | 61 => ⟨S1, .i32⟩
  | 62 => ⟨S_, .i32⟩
  | 63 => ⟨S20000x1, .i32⟩
  | 64 => ⟨S20000x1, .i1⟩
  | 65 => ⟨S1x1, .i32⟩
  | 66 => ⟨S20000x1, .i32⟩
  | 67 => ⟨S20000x1, .i1⟩
  | 68 => ⟨S20000x1, .i1⟩
  | 69 => ⟨S_, .i1⟩
  | 70 => ⟨S20000, .i1⟩
  | 71 => ⟨S20000x32, .f32⟩
  | 72 => ⟨S20000x32, .i1⟩
  | 73 => ⟨S_, .f32⟩
  | 74 => ⟨S20000x32, .f32⟩
  | 75 => ⟨S20000x32, .f32⟩
  | 76 => ⟨S_, .f32⟩
  | 77 => ⟨S_, .f32⟩
  | 78 => ⟨S20000x32, .i1⟩
  | 79 => ⟨S20000x32, .f32⟩
  | 80 => ⟨S20000x32, .f32⟩
  | 81 => ⟨S20000x1, .i32⟩
  | 82 => ⟨S20000, .i32⟩
  | 83 => ⟨S_, .i32⟩
  | 84 => ⟨S20000, .i32⟩
  | 85 => ⟨S20000, .i32⟩
  | 86 => ⟨S_, .i32⟩
  | 87 => ⟨S_, .i32⟩
  | 88 => ⟨S_, .i32⟩
  | 89 => ⟨S20000, .i32⟩
  | 90 => ⟨S20000, .i32⟩
  | 91 => ⟨S_, .i32⟩
  | 92 => ⟨S20000, .i32⟩
  | 93 => ⟨S20000, .i32⟩
  | 94 => ⟨S20000x1, .i32⟩
  | 95 => ⟨S20000, .i32⟩
  | 96 => ⟨S_, .i32⟩
  | 97 => ⟨S20000, .i32⟩
  | 98 => ⟨S20000, .i32⟩
  | 99 => ⟨S_, .i32⟩
  | 100 => ⟨S_, .i32⟩
  | 101 => ⟨S_, .i32⟩
  | 102 => ⟨S20000, .i32⟩
  | 103 => ⟨S20000, .i32⟩
  | 104 => ⟨S_, .i32⟩
  | 105 => ⟨S20000, .i32⟩
  | 106 => ⟨S20000, .i32⟩
  | 107 => ⟨S_, .i32⟩
  | 108 => ⟨S20000, .i32⟩
  | 109 => ⟨S20000, .i32⟩
  | 110 => ⟨S20000, .i32⟩
  | 111 => ⟨S_, .i32⟩
  | 112 => ⟨S20000, .i32⟩
  | 113 => ⟨S20000, .i1⟩
  | 114 => ⟨S_, .i32⟩
  | 115 => ⟨S20000, .i32⟩
  | 116 => ⟨S20000, .i32⟩
  | 117 => ⟨S20000, .i32⟩
  | 118 => ⟨S20000x1, .i32⟩
  | 119 => ⟨S20000, .i32⟩
  | 120 => ⟨S_, .i32⟩
  | 121 => ⟨S20000, .i32⟩
  | 122 => ⟨S20000, .i1⟩
  | 123 => ⟨S20000x1, .i1⟩
  | 124 => ⟨S_, .i32⟩
  | 125 => ⟨S_, .i32⟩
  | 126 => ⟨S_, .i32⟩
  | 127 => ⟨S20000, .i32⟩
  | _ => ⟨S2x20000x32, .f32⟩

abbrev hbmTy0_5 (i : Nat) : BufTy := match i % 128 with
  | 0 => ⟨S20000, .i32⟩
  | 1 => ⟨S_, .i32⟩
  | 2 => ⟨S20000, .i32⟩
  | 3 => ⟨S20000, .i32⟩
  | 4 => ⟨S_, .i32⟩
  | 5 => ⟨S20000, .i32⟩
  | 6 => ⟨S20000, .i1⟩
  | 7 => ⟨S_, .i32⟩
  | 8 => ⟨S20000, .i32⟩
  | 9 => ⟨S20000, .i32⟩
  | 10 => ⟨S20000, .i32⟩
  | 11 => ⟨S20000x1, .i32⟩
  | 12 => ⟨S1, .i32⟩
  | 13 => ⟨S_, .i32⟩
  | 14 => ⟨S20000x1, .i32⟩
  | 15 => ⟨S20000x1, .i1⟩
  | 16 => ⟨S1x1, .i32⟩
  | 17 => ⟨S20000x1, .i32⟩
  | 18 => ⟨S20000x1, .i1⟩
  | 19 => ⟨S20000x1, .i1⟩
  | 20 => ⟨S_, .i1⟩
  | 21 => ⟨S20000, .i1⟩
  | 22 => ⟨S20000x32, .f32⟩
  | 23 => ⟨S20000x32, .i1⟩
  | 24 => ⟨S_, .f32⟩
  | 25 => ⟨S20000x32, .f32⟩
  | 26 => ⟨S20000x32, .f32⟩
  | 27 => ⟨S_, .f32⟩
  | 28 => ⟨S_, .f32⟩
  | 29 => ⟨S20000x32, .i1⟩
  | 30 => ⟨S20000x32, .f32⟩
  | 31 => ⟨S20000x32, .f32⟩
  | 32 => ⟨S20000x1, .i32⟩
  | 33 => ⟨S20000, .i32⟩
  | 34 => ⟨S_, .i32⟩
  | 35 => ⟨S20000, .i32⟩
  | 36 => ⟨S20000, .i32⟩
  | 37 => ⟨S_, .i32⟩
  | 38 => ⟨S_, .i32⟩
  | 39 => ⟨S_, .i32⟩
  | 40 => ⟨S20000, .i32⟩
  | 41 => ⟨S20000, .i32⟩
  | 42 => ⟨S_, .i32⟩
  | 43 => ⟨S20000, .i32⟩
  | 44 => ⟨S20000, .i32⟩
  | 45 => ⟨S20000x1, .i32⟩
  | 46 => ⟨S20000, .i32⟩
  | 47 => ⟨S_, .i32⟩
  | 48 => ⟨S20000, .i32⟩
  | 49 => ⟨S20000, .i32⟩
  | 50 => ⟨S_, .i32⟩
  | 51 => ⟨S_, .i32⟩
  | 52 => ⟨S_, .i32⟩
  | 53 => ⟨S20000, .i32⟩
  | 54 => ⟨S20000, .i32⟩
  | 55 => ⟨S_, .i32⟩
  | 56 => ⟨S20000, .i32⟩
  | 57 => ⟨S20000, .i32⟩
  | 58 => ⟨S_, .i32⟩
  | 59 => ⟨S20000, .i32⟩
  | 60 => ⟨S20000, .i32⟩
  | 61 => ⟨S20000, .i32⟩
  | 62 => ⟨S_, .i32⟩
  | 63 => ⟨S20000, .i32⟩
  | 64 => ⟨S20000, .i1⟩
  | 65 => ⟨S_, .i32⟩
  | 66 => ⟨S20000, .i32⟩
  | 67 => ⟨S20000, .i32⟩
  | 68 => ⟨S20000, .i32⟩
  | 69 => ⟨S20000x1, .i32⟩
  | 70 => ⟨S20000, .i32⟩
  | 71 => ⟨S_, .i32⟩
  | 72 => ⟨S20000, .i32⟩
  | 73 => ⟨S20000, .i1⟩
  | 74 => ⟨S20000x1, .i1⟩
  | 75 => ⟨S_, .i32⟩
  | 76 => ⟨S_, .i32⟩
  | 77 => ⟨S_, .i32⟩
  | 78 => ⟨S20000, .i32⟩
  | 79 => ⟨S20000, .i32⟩
  | 80 => ⟨S_, .i32⟩
  | 81 => ⟨S20000, .i32⟩
  | 82 => ⟨S20000, .i32⟩
  | 83 => ⟨S_, .i32⟩
  | 84 => ⟨S20000, .i32⟩
  | 85 => ⟨S20000, .i1⟩
  | 86 => ⟨S_, .i32⟩
  | 87 => ⟨S20000, .i32⟩
  | 88 => ⟨S20000, .i32⟩
  | 89 => ⟨S20000, .i32⟩
  | 90 => ⟨S20000x1, .i32⟩
  | 91 => ⟨S1, .i32⟩
  | 92 => ⟨S_, .i32⟩
  | 93 => ⟨S20000x1, .i32⟩
  | 94 => ⟨S20000x1, .i1⟩
  | 95 => ⟨S1x1, .i32⟩
  | 96 => ⟨S20000x1, .i32⟩
  | 97 => ⟨S20000x1, .i1⟩
  | 98 => ⟨S20000x1, .i1⟩
  | 99 => ⟨S_, .i1⟩
  | 100 => ⟨S20000, .i1⟩
  | 101 => ⟨S20000x32, .f32⟩
  | 102 => ⟨S20000x32, .i1⟩
  | 103 => ⟨S_, .f32⟩
  | 104 => ⟨S20000x32, .f32⟩
  | 105 => ⟨S20000x32, .f32⟩
  | 106 => ⟨S_, .f32⟩
  | 107 => ⟨S_, .f32⟩
  | 108 => ⟨S20000x32, .i1⟩
  | 109 => ⟨S20000x32, .f32⟩
  | 110 => ⟨S20000x32, .f32⟩
  | 111 => ⟨S1x20000x32, .f32⟩
  | 112 => ⟨S1x20000x32, .f32⟩
  | 113 => ⟨S1x20000x32, .f32⟩
  | 114 => ⟨S1x20000x32, .f32⟩
  | 115 => ⟨S1x20000x32, .f32⟩
  | 116 => ⟨S1x20000x32, .f32⟩
  | 117 => ⟨S1x20000x32, .f32⟩
  | 118 => ⟨S1x20000x32, .f32⟩
  | 119 => ⟨S1x20000x32, .f32⟩
  | 120 => ⟨S9x20000x32, .f32⟩
  | 121 => ⟨S20000x9x32, .f32⟩
  | 122 => ⟨S32x32, .f32⟩
  | 123 => ⟨S32, .f32⟩
  | 124 => ⟨S1x32, .f32⟩
  | 125 => ⟨S20000x32, .f32⟩
  | 126 => ⟨S180000x32, .f32⟩
  | 127 => ⟨S32x32, .f32⟩
  | _ => ⟨S2x20000x32, .f32⟩

abbrev hbmTy0_6 (i : Nat) : BufTy := match i % 128 with
  | 0 => ⟨S32, .f32⟩
  | 1 => ⟨S1x32, .f32⟩
  | 2 => ⟨S180000x32, .f32⟩
  | 3 => ⟨S20000x9x32, .f32⟩
  | 4 => ⟨S180000x32, .f32⟩
  | 5 => ⟨S32x32, .f32⟩
  | 6 => ⟨S32, .f32⟩
  | 7 => ⟨S1x32, .f32⟩
  | 8 => ⟨S180000x32, .f32⟩
  | 9 => ⟨S20000x9x32, .f32⟩
  | 10 => ⟨S20000x2x16, .f32⟩
  | 11 => ⟨S20000x9x2x16, .f32⟩
  | 12 => ⟨S20000x2x9x16, .f32⟩
  | 13 => ⟨S20000x9x2x16, .f32⟩
  | 14 => ⟨S20000x2x9x16, .f32⟩
  | 15 => ⟨S20000x2x9, .f32⟩
  | 16 => ⟨S_, .f32⟩
  | 17 => ⟨S20000x2x9, .f32⟩
  | 18 => ⟨S20000x2x9, .f32⟩
  | 19 => ⟨S_, .f32⟩
  | 20 => ⟨S20000x2, .f32⟩
  | 21 => ⟨S_, .f32⟩
  | 22 => ⟨S20000x2, .f32⟩
  | 23 => ⟨S20000x2, .f32⟩
  | 24 => ⟨S20000x2x1, .f32⟩
  | 25 => ⟨S20000x2x9, .f32⟩
  | 26 => ⟨S20000x2x9, .f32⟩
  | 27 => ⟨S20000x2x9, .f32⟩
  | 28 => ⟨S_, .f32⟩
  | 29 => ⟨S20000x2, .f32⟩
  | 30 => ⟨S20000x2x1, .f32⟩
  | 31 => ⟨S20000x2x9, .f32⟩
  | 32 => ⟨S20000x2x9, .f32⟩
  | 33 => ⟨S20000x2x16, .f32⟩
  | 34 => ⟨S20000x32, .f32⟩
  | 35 => ⟨S1x32, .f32⟩
  | 36 => ⟨S20000x32, .f32⟩
  | 37 => ⟨S20000x32, .f32⟩
  | 38 => ⟨S20000x1, .i32⟩
  | 39 => ⟨S20000, .i32⟩
  | 40 => ⟨S_, .i32⟩
  | 41 => ⟨S20000, .i32⟩
  | 42 => ⟨S20000, .i32⟩
  | 43 => ⟨S20000x1, .i32⟩
  | 44 => ⟨S20000, .i32⟩
  | 45 => ⟨S20000, .i32⟩
  | 46 => ⟨S_, .f32⟩
  | 47 => ⟨S32x214272, .f32⟩
  | 48 => ⟨S32x20000, .f32⟩
  | 49 => ⟨S_, .i32⟩
  | 50 => ⟨S20000, .i32⟩
  | 51 => ⟨S20000, .i1⟩
  | 52 => ⟨S_, .i32⟩
  | 53 => ⟨S20000, .i32⟩
  | 54 => ⟨S20000, .i32⟩
  | 55 => ⟨S20000, .i32⟩
  | 56 => ⟨S20000x1, .i32⟩
  | 57 => ⟨S32x214272, .f32⟩
  | 58 => ⟨S1x32x496x432, .f32⟩
  | 59 => ⟨S1x20000x32, .f32⟩
  | 60 => ⟨S20000x32, .f32⟩
  | 61 => ⟨S1x20000x2, .i32⟩
  | 62 => ⟨S20000x2, .i32⟩
  | 63 => ⟨S1x20000x32, .f32⟩
  | 64 => ⟨S20000x32, .f32⟩
  | 65 => ⟨S1x20000x2, .i32⟩
  | 66 => ⟨S20000x2, .i32⟩
  | 67 => ⟨S20000x1, .i32⟩
  | 68 => ⟨S20000, .i32⟩
  | 69 => ⟨S_, .i32⟩
  | 70 => ⟨S20000, .i32⟩
  | 71 => ⟨S20000, .i32⟩
  | 72 => ⟨S20000x1, .i32⟩
  | 73 => ⟨S20000, .i32⟩
  | 74 => ⟨S20000, .i32⟩
  | 75 => ⟨S_, .i32⟩
  | 76 => ⟨S214272, .i32⟩
  | 77 => ⟨S20000, .i32⟩
  | 78 => ⟨S_, .i32⟩
  | 79 => ⟨S20000, .i32⟩
  | 80 => ⟨S20000, .i1⟩
  | 81 => ⟨S_, .i32⟩
  | 82 => ⟨S20000, .i32⟩
  | 83 => ⟨S20000, .i32⟩
  | 84 => ⟨S20000, .i32⟩
  | 85 => ⟨S20000x1, .i32⟩
  | 86 => ⟨S214272, .i32⟩
  | 87 => ⟨S20000x1, .i32⟩
  | 88 => ⟨S20000, .i32⟩
  | 89 => ⟨S_, .i32⟩
  | 90 => ⟨S20000, .i32⟩
  | 91 => ⟨S20000, .i32⟩
  | 92 => ⟨S_, .i32⟩
  | 93 => ⟨S_, .i32⟩
  | 94 => ⟨S_, .i32⟩
  | 95 => ⟨S20000, .i32⟩
  | 96 => ⟨S20000, .i32⟩
  | 97 => ⟨S_, .i32⟩
  | 98 => ⟨S20000, .i32⟩
  | 99 => ⟨S20000, .i32⟩
  | 100 => ⟨S20000x1, .i32⟩
  | 101 => ⟨S20000, .i32⟩
  | 102 => ⟨S_, .i32⟩
  | 103 => ⟨S20000, .i32⟩
  | 104 => ⟨S20000, .i32⟩
  | 105 => ⟨S_, .i32⟩
  | 106 => ⟨S_, .i32⟩
  | 107 => ⟨S_, .i32⟩
  | 108 => ⟨S20000, .i32⟩
  | 109 => ⟨S20000, .i32⟩
  | 110 => ⟨S_, .i32⟩
  | 111 => ⟨S20000, .i32⟩
  | 112 => ⟨S20000, .i32⟩
  | 113 => ⟨S_, .i32⟩
  | 114 => ⟨S20000, .i32⟩
  | 115 => ⟨S20000, .i32⟩
  | 116 => ⟨S20000, .i32⟩
  | 117 => ⟨S_, .i32⟩
  | 118 => ⟨S20000, .i32⟩
  | 119 => ⟨S20000, .i1⟩
  | 120 => ⟨S_, .i32⟩
  | 121 => ⟨S20000, .i32⟩
  | 122 => ⟨S20000, .i32⟩
  | 123 => ⟨S20000, .i32⟩
  | 124 => ⟨S20000x1, .i32⟩
  | 125 => ⟨S20000, .i32⟩
  | 126 => ⟨S_, .i32⟩
  | 127 => ⟨S20000, .i32⟩
  | _ => ⟨S2x20000x32, .f32⟩

abbrev hbmTy0_7 (i : Nat) : BufTy := match i % 128 with
  | 0 => ⟨S20000, .i1⟩
  | 1 => ⟨S20000x1, .i1⟩
  | 2 => ⟨S_, .i32⟩
  | 3 => ⟨S_, .i32⟩
  | 4 => ⟨S_, .i32⟩
  | 5 => ⟨S20000, .i32⟩
  | 6 => ⟨S20000, .i32⟩
  | 7 => ⟨S_, .i32⟩
  | 8 => ⟨S20000, .i32⟩
  | 9 => ⟨S20000, .i32⟩
  | 10 => ⟨S_, .i32⟩
  | 11 => ⟨S20000, .i32⟩
  | 12 => ⟨S20000, .i1⟩
  | 13 => ⟨S_, .i32⟩
  | 14 => ⟨S20000, .i32⟩
  | 15 => ⟨S20000, .i32⟩
  | 16 => ⟨S20000, .i32⟩
  | 17 => ⟨S20000x1, .i32⟩
  | 18 => ⟨S1, .i32⟩
  | 19 => ⟨S_, .i32⟩
  | 20 => ⟨S20000x1, .i32⟩
  | 21 => ⟨S20000x1, .i1⟩
  | 22 => ⟨S1x1, .i32⟩
  | 23 => ⟨S20000x1, .i32⟩
  | 24 => ⟨S20000x1, .i1⟩
  | 25 => ⟨S20000x1, .i1⟩
  | 26 => ⟨S_, .i1⟩
  | 27 => ⟨S20000, .i1⟩
  | 28 => ⟨S20000x32, .f32⟩
  | 29 => ⟨S20000x32, .i1⟩
  | 30 => ⟨S_, .f32⟩
  | 31 => ⟨S20000x32, .f32⟩
  | 32 => ⟨S20000x32, .f32⟩
  | 33 => ⟨S_, .f32⟩
  | 34 => ⟨S_, .f32⟩
  | 35 => ⟨S20000x32, .i1⟩
  | 36 => ⟨S20000x32, .f32⟩
  | 37 => ⟨S20000x32, .f32⟩
  | 38 => ⟨S20000x1, .i32⟩
  | 39 => ⟨S20000, .i32⟩
  | 40 => ⟨S_, .i32⟩
  | 41 => ⟨S20000, .i32⟩
  | 42 => ⟨S20000, .i32⟩
  | 43 => ⟨S_, .i32⟩
  | 44 => ⟨S_, .i32⟩
  | 45 => ⟨S_, .i32⟩
  | 46 => ⟨S20000, .i32⟩
  | 47 => ⟨S20000, .i32⟩
  | 48 => ⟨S_, .i32⟩
  | 49 => ⟨S20000, .i32⟩
  | 50 => ⟨S20000, .i32⟩
  | 51 => ⟨S20000x1, .i32⟩
  | 52 => ⟨S20000, .i32⟩
  | 53 => ⟨S_, .i32⟩
  | 54 => ⟨S20000, .i32⟩
  | 55 => ⟨S20000, .i32⟩
  | 56 => ⟨S_, .i32⟩
  | 57 => ⟨S_, .i32⟩
  | 58 => ⟨S_, .i32⟩
  | 59 => ⟨S20000, .i32⟩
  | 60 => ⟨S20000, .i32⟩
  | 61 => ⟨S_, .i32⟩
  | 62 => ⟨S20000, .i32⟩
  | 63 => ⟨S20000, .i32⟩
  | 64 => ⟨S_, .i32⟩
  | 65 => ⟨S20000, .i32⟩
  | 66 => ⟨S20000, .i32⟩
  | 67 => ⟨S20000, .i32⟩
  | 68 => ⟨S_, .i32⟩
  | 69 => ⟨S20000, .i32⟩
  | 70 => ⟨S20000, .i1⟩
  | 71 => ⟨S_, .i32⟩
  | 72 => ⟨S20000, .i32⟩
  | 73 => ⟨S20000, .i32⟩
  | 74 => ⟨S20000, .i32⟩
  | 75 => ⟨S20000x1, .i32⟩
  | 76 => ⟨S20000, .i32⟩
  | 77 => ⟨S_, .i32⟩
  | 78 => ⟨S20000, .i32⟩
  | 79 => ⟨S20000, .i1⟩
  | 80 => ⟨S20000x1, .i1⟩
  | 81 => ⟨S_, .i32⟩
  | 82 => ⟨S_, .i32⟩
  | 83 => ⟨S_, .i32⟩
  | 84 => ⟨S20000, .i32⟩
  | 85 => ⟨S20000, .i32⟩
  | 86 => ⟨S_, .i32⟩
  | 87 => ⟨S20000, .i32⟩
  | 88 => ⟨S20000, .i32⟩
  | 89 => ⟨S_, .i32⟩
  | 90 => ⟨S20000, .i32⟩
  | 91 => ⟨S20000, .i1⟩
  | 92 => ⟨S_, .i32⟩
  | 93 => ⟨S20000, .i32⟩
  | 94 => ⟨S20000, .i32⟩
  | 95 => ⟨S20000, .i32⟩
  | 96 => ⟨S20000x1, .i32⟩
  | 97 => ⟨S1, .i32⟩
  | 98 => ⟨S_, .i32⟩
  | 99 => ⟨S20000x1, .i32⟩
  | 100 => ⟨S20000x1, .i1⟩
  | 101 => ⟨S1x1, .i32⟩
  | 102 => ⟨S20000x1, .i32⟩
  | 103 => ⟨S20000x1, .i1⟩
  | 104 => ⟨S20000x1, .i1⟩
  | 105 => ⟨S_, .i1⟩
  | 106 => ⟨S20000, .i1⟩
  | 107 => ⟨S20000x32, .f32⟩
  | 108 => ⟨S20000x32, .i1⟩
  | 109 => ⟨S_, .f32⟩
  | 110 => ⟨S20000x32, .f32⟩
  | 111 => ⟨S20000x32, .f32⟩
  | 112 => ⟨S_, .f32⟩
  | 113 => ⟨S_, .f32⟩
  | 114 => ⟨S20000x32, .i1⟩
  | 115 => ⟨S20000x32, .f32⟩
  | 116 => ⟨S20000x32, .f32⟩
  | 117 => ⟨S20000x1, .i32⟩
  | 118 => ⟨S20000, .i32⟩
  | 119 => ⟨S_, .i32⟩
  | 120 => ⟨S20000, .i32⟩
  | 121 => ⟨S20000, .i32⟩
  | 122 => ⟨S_, .i32⟩
  | 123 => ⟨S_, .i32⟩
  | 124 => ⟨S_, .i32⟩
  | 125 => ⟨S20000, .i32⟩
  | 126 => ⟨S20000, .i32⟩
  | 127 => ⟨S_, .i32⟩
  | _ => ⟨S2x20000x32, .f32⟩

abbrev hbmTy0_8 (i : Nat) : BufTy := match i % 128 with
  | 0 => ⟨S20000, .i32⟩
  | 1 => ⟨S20000, .i32⟩
  | 2 => ⟨S20000x1, .i32⟩
  | 3 => ⟨S20000, .i32⟩
  | 4 => ⟨S_, .i32⟩
  | 5 => ⟨S20000, .i32⟩
  | 6 => ⟨S20000, .i32⟩
  | 7 => ⟨S_, .i32⟩
  | 8 => ⟨S_, .i32⟩
  | 9 => ⟨S_, .i32⟩
  | 10 => ⟨S20000, .i32⟩
  | 11 => ⟨S20000, .i32⟩
  | 12 => ⟨S_, .i32⟩
  | 13 => ⟨S20000, .i32⟩
  | 14 => ⟨S20000, .i32⟩
  | 15 => ⟨S_, .i32⟩
  | 16 => ⟨S20000, .i32⟩
  | 17 => ⟨S20000, .i32⟩
  | 18 => ⟨S20000, .i32⟩
  | 19 => ⟨S_, .i32⟩
  | 20 => ⟨S20000, .i32⟩
  | 21 => ⟨S20000, .i1⟩
  | 22 => ⟨S_, .i32⟩
  | 23 => ⟨S20000, .i32⟩
  | 24 => ⟨S20000, .i32⟩
  | 25 => ⟨S20000, .i32⟩
  | 26 => ⟨S20000x1, .i32⟩
  | 27 => ⟨S20000, .i32⟩
  | 28 => ⟨S_, .i32⟩
  | 29 => ⟨S20000, .i32⟩
  | 30 => ⟨S20000, .i1⟩
  | 31 => ⟨S20000x1, .i1⟩
  | 32 => ⟨S_, .i32⟩
  | 33 => ⟨S_, .i32⟩
  | 34 => ⟨S_, .i32⟩
  | 35 => ⟨S20000, .i32⟩
  | 36 => ⟨S20000, .i32⟩
  | 37 => ⟨S_, .i32⟩
  | 38 => ⟨S20000, .i32⟩
  | 39 => ⟨S20000, .i32⟩
  | 40 => ⟨S_, .i32⟩
  | 41 => ⟨S20000, .i32⟩
  | 42 => ⟨S20000, .i1⟩
  | 43 => ⟨S_, .i32⟩
  | 44 => ⟨S20000, .i32⟩
  | 45 => ⟨S20000, .i32⟩
  | 46 => ⟨S20000, .i32⟩
  | 47 => ⟨S20000x1, .i32⟩
  | 48 => ⟨S1, .i32⟩
  | 49 => ⟨S_, .i32⟩
  | 50 => ⟨S20000x1, .i32⟩
  | 51 => ⟨S20000x1, .i1⟩
  | 52 => ⟨S1x1, .i32⟩
  | 53 => ⟨S20000x1, .i32⟩
  | 54 => ⟨S20000x1, .i1⟩
  | 55 => ⟨S20000x1, .i1⟩
  | 56 => ⟨S_, .i1⟩
  | 57 => ⟨S20000, .i1⟩
  | 58 => ⟨S20000x32, .f32⟩
  | 59 => ⟨S20000x32, .i1⟩
  | 60 => ⟨S_, .f32⟩
  | 61 => ⟨S20000x32, .f32⟩
  | 62 => ⟨S20000x32, .f32⟩
  | 63 => ⟨S_, .f32⟩
  | 64 => ⟨S_, .f32⟩
  | 65 => ⟨S20000x32, .i1⟩
  | 66 => ⟨S20000x32, .f32⟩
  | 67 => ⟨S20000x32, .f32⟩
  | 68 => ⟨S20000x1, .i32⟩
  | 69 => ⟨S20000, .i32⟩
  | 70 => ⟨S_, .i32⟩
  | 71 => ⟨S20000, .i32⟩
  | 72 => ⟨S20000, .i32⟩
  | 73 => ⟨S_, .i32⟩
  | 74 => ⟨S_, .i32⟩
  | 75 => ⟨S_, .i32⟩
  | 76 => ⟨S20000, .i32⟩
  | 77 => ⟨S20000, .i32⟩
  | 78 => ⟨S_, .i32⟩
  | 79 => ⟨S20000, .i32⟩
  | 80 => ⟨S20000, .i32⟩
  | 81 => ⟨S20000x1, .i32⟩
  | 82 => ⟨S20000, .i32⟩
  | 83 => ⟨S_, .i32⟩
  | 84 => ⟨S20000, .i32⟩
  | 85 => ⟨S20000, .i32⟩
  | 86 => ⟨S_, .i32⟩
  | 87 => ⟨S_, .i32⟩
  | 88 => ⟨S_, .i32⟩
  | 89 => ⟨S20000, .i32⟩
  | 90 => ⟨S20000, .i32⟩
  | 91 => ⟨S_, .i32⟩
  | 92 => ⟨S20000, .i32⟩
  | 93 => ⟨S20000, .i32⟩
  | 94 => ⟨S_, .i32⟩
  | 95 => ⟨S20000, .i32⟩
  | 96 => ⟨S20000, .i32⟩
  | 97 => ⟨S20000, .i32⟩
  | 98 => ⟨S_, .i32⟩
  | 99 => ⟨S20000, .i32⟩
  | 100 => ⟨S20000, .i1⟩
  | 101 => ⟨S_, .i32⟩
  | 102 => ⟨S20000, .i32⟩
  | 103 => ⟨S20000, .i32⟩
  | 104 => ⟨S20000, .i32⟩
  | 105 => ⟨S20000x1, .i32⟩
  | 106 => ⟨S20000, .i32⟩
  | 107 => ⟨S_, .i32⟩
  | 108 => ⟨S20000, .i32⟩
  | 109 => ⟨S20000, .i1⟩
  | 110 => ⟨S20000x1, .i1⟩
  | 111 => ⟨S_, .i32⟩
  | 112 => ⟨S_, .i32⟩
  | 113 => ⟨S_, .i32⟩
  | 114 => ⟨S20000, .i32⟩
  | 115 => ⟨S20000, .i32⟩
  | 116 => ⟨S_, .i32⟩
  | 117 => ⟨S20000, .i32⟩
  | 118 => ⟨S20000, .i32⟩
  | 119 => ⟨S_, .i32⟩
  | 120 => ⟨S20000, .i32⟩
  | 121 => ⟨S20000, .i1⟩
  | 122 => ⟨S_, .i32⟩
  | 123 => ⟨S20000, .i32⟩
  | 124 => ⟨S20000, .i32⟩
  | 125 => ⟨S20000, .i32⟩
  | 126 => ⟨S20000x1, .i32⟩
  | 127 => ⟨S1, .i32⟩
  | _ => ⟨S2x20000x32, .f32⟩

abbrev hbmTy0_9 (i : Nat) : BufTy := match i % 128 with
  | 0 => ⟨S_, .i32⟩
  | 1 => ⟨S20000x1, .i32⟩
  | 2 => ⟨S20000x1, .i1⟩
  | 3 => ⟨S1x1, .i32⟩
  | 4 => ⟨S20000x1, .i32⟩
  | 5 => ⟨S20000x1, .i1⟩
  | 6 => ⟨S20000x1, .i1⟩
  | 7 => ⟨S_, .i1⟩
  | 8 => ⟨S20000, .i1⟩
  | 9 => ⟨S20000x32, .f32⟩
  | 10 => ⟨S20000x32, .i1⟩
  | 11 => ⟨S_, .f32⟩
  | 12 => ⟨S20000x32, .f32⟩
  | 13 => ⟨S20000x32, .f32⟩
  | 14 => ⟨S_, .f32⟩
  | 15 => ⟨S_, .f32⟩
  | 16 => ⟨S20000x32, .i1⟩
  | 17 => ⟨S20000x32, .f32⟩
  | 18 => ⟨S20000x32, .f32⟩
  | 19 => ⟨S20000x1, .i32⟩
  | 20 => ⟨S20000, .i32⟩
  | 21 => ⟨S_, .i32⟩
  | 22 => ⟨S20000, .i32⟩
  | 23 => ⟨S20000, .i32⟩
  | 24 => ⟨S_, .i32⟩
  | 25 => ⟨S_, .i32⟩
  | 26 => ⟨S_, .i32⟩
  | 27 => ⟨S20000, .i32⟩
  | 28 => ⟨S20000, .i32⟩
  | 29 => ⟨S_, .i32⟩
  | 30 => ⟨S20000, .i32⟩
  | 31 => ⟨S20000, .i32⟩
  | 32 => ⟨S20000x1, .i32⟩
  | 33 => ⟨S20000, .i32⟩
  | 34 => ⟨S_, .i32⟩
  | 35 => ⟨S20000, .i32⟩
  | 36 => ⟨S20000, .i32⟩
  | 37 => ⟨S_, .i32⟩
  | 38 => ⟨S_, .i32⟩
  | 39 => ⟨S_, .i32⟩
  | 40 => ⟨S20000, .i32⟩
  | 41 => ⟨S20000, .i32⟩
  | 42 => ⟨S_, .i32⟩
  | 43 => ⟨S20000, .i32⟩
  | 44 => ⟨S20000, .i32⟩
  | 45 => ⟨S_, .i32⟩
  | 46 => ⟨S20000, .i32⟩
  | 47 => ⟨S20000, .i32⟩
  | 48 => ⟨S20000, .i32⟩
  | 49 => ⟨S_, .i32⟩
  | 50 => ⟨S20000, .i32⟩
  | 51 => ⟨S20000, .i1⟩
  | 52 => ⟨S_, .i32⟩
  | 53 => ⟨S20000, .i32⟩
  | 54 => ⟨S20000, .i32⟩
  | 55 => ⟨S20000, .i32⟩
  | 56 => ⟨S20000x1, .i32⟩
  | 57 => ⟨S20000, .i32⟩
  | 58 => ⟨S_, .i32⟩
  | 59 => ⟨S20000, .i32⟩
  | 60 => ⟨S20000, .i1⟩
  | 61 => ⟨S20000x1, .i1⟩
  | 62 => ⟨S_, .i32⟩
  | 63 => ⟨S_, .i32⟩
  | 64 => ⟨S_, .i32⟩
  | 65 => ⟨S20000, .i32⟩
  | 66 => ⟨S20000, .i32⟩
  | 67 => ⟨S_, .i32⟩
  | 68 => ⟨S20000, .i32⟩
  | 69 => ⟨S20000, .i32⟩
  | 70 => ⟨S_, .i32⟩
  | 71 => ⟨S20000, .i32⟩
  | 72 => ⟨S20000, .i1⟩
  | 73 => ⟨S_, .i32⟩
  | 74 => ⟨S20000, .i32⟩
  | 75 => ⟨S20000, .i32⟩
  | 76 => ⟨S20000, .i32⟩
  | 77 => ⟨S20000x1, .i32⟩
  | 78 => ⟨S1, .i32⟩
  | 79 => ⟨S_, .i32⟩
  | 80 => ⟨S20000x1, .i32⟩
  | 81 => ⟨S20000x1, .i1⟩
  | 82 => ⟨S1x1, .i32⟩
  | 83 => ⟨S20000x1, .i32⟩
  | 84 => ⟨S20000x1, .i1⟩
  | 85 => ⟨S20000x1, .i1⟩
  | 86 => ⟨S_, .i1⟩
  | 87 => ⟨S20000, .i1⟩
  | 88 => ⟨S20000x32, .f32⟩
  | 89 => ⟨S20000x32, .i1⟩
  | 90 => ⟨S_, .f32⟩
  | 91 => ⟨S20000x32, .f32⟩
  | 92 => ⟨S20000x32, .f32⟩
  | 93 => ⟨S_, .f32⟩
  | 94 => ⟨S_, .f32⟩
  | 95 => ⟨S20000x32, .i1⟩
  | 96 => ⟨S20000x32, .f32⟩
  | 97 => ⟨S20000x32, .f32⟩
  | 98 => ⟨S20000x1, .i32⟩
  | 99 => ⟨S20000, .i32⟩
  | 100 => ⟨S_, .i32⟩
  | 101 => ⟨S20000, .i32⟩
  | 102 => ⟨S20000, .i32⟩
  | 103 => ⟨S_, .i32⟩
  | 104 => ⟨S_, .i32⟩
  | 105 => ⟨S_, .i32⟩
  | 106 => ⟨S20000, .i32⟩
  | 107 => ⟨S20000, .i32⟩
  | 108 => ⟨S_, .i32⟩
  | 109 => ⟨S20000, .i32⟩
  | 110 => ⟨S20000, .i32⟩
  | 111 => ⟨S20000x1, .i32⟩
  | 112 => ⟨S20000, .i32⟩
  | 113 => ⟨S_, .i32⟩
  | 114 => ⟨S20000, .i32⟩
  | 115 => ⟨S20000, .i32⟩
  | 116 => ⟨S_, .i32⟩
  | 117 => ⟨S_, .i32⟩
  | 118 => ⟨S_, .i32⟩
  | 119 => ⟨S20000, .i32⟩
  | 120 => ⟨S20000, .i32⟩
  | 121 => ⟨S_, .i32⟩
  | 122 => ⟨S20000, .i32⟩
  | 123 => ⟨S20000, .i32⟩
  | 124 => ⟨S_, .i32⟩
  | 125 => ⟨S20000, .i32⟩
  | 126 => ⟨S20000, .i32⟩
  | 127 => ⟨S20000, .i32⟩
  | _ => ⟨S2x20000x32, .f32⟩

abbrev hbmTy0_10 (i : Nat) : BufTy := match i % 128 with
  | 0 => ⟨S_, .i32⟩
  | 1 => ⟨S20000, .i32⟩
  | 2 => ⟨S20000, .i1⟩
  | 3 => ⟨S_, .i32⟩
  | 4 => ⟨S20000, .i32⟩
  | 5 => ⟨S20000, .i32⟩
  | 6 => ⟨S20000, .i32⟩
  | 7 => ⟨S20000x1, .i32⟩
  | 8 => ⟨S20000, .i32⟩
  | 9 => ⟨S_, .i32⟩
  | 10 => ⟨S20000, .i32⟩
  | 11 => ⟨S20000, .i1⟩
  | 12 => ⟨S20000x1, .i1⟩
  | 13 => ⟨S_, .i32⟩
  | 14 => ⟨S_, .i32⟩
  | 15 => ⟨S_, .i32⟩
  | 16 => ⟨S20000, .i32⟩
  | 17 => ⟨S20000, .i32⟩
  | 18 => ⟨S_, .i32⟩
  | 19 => ⟨S20000, .i32⟩
  | 20 => ⟨S20000, .i32⟩
  | 21 => ⟨S_, .i32⟩
  | 22 => ⟨S20000, .i32⟩
  | 23 => ⟨S20000, .i1⟩
  | 24 => ⟨S_, .i32⟩
  | 25 => ⟨S20000, .i32⟩
  | 26 => ⟨S20000, .i32⟩
  | 27 => ⟨S20000, .i32⟩
  | 28 => ⟨S20000x1, .i32⟩
  | 29 => ⟨S1, .i32⟩
  | 30 => ⟨S_, .i32⟩
  | 31 => ⟨S20000x1, .i32⟩
  | 32 => ⟨S20000x1, .i1⟩
  | 33 => ⟨S1x1, .i32⟩
  | 34 => ⟨S20000x1, .i32⟩
  | 35 => ⟨S20000x1, .i1⟩
  | 36 => ⟨S20000x1, .i1⟩
  | 37 => ⟨S_, .i1⟩
  | 38 => ⟨S20000, .i1⟩
  | 39 => ⟨S20000x32, .f32⟩
  | 40 => ⟨S20000x32, .i1⟩
  | 41 => ⟨S_, .f32⟩
  | 42 => ⟨S20000x32, .f32⟩
  | 43 => ⟨S20000x32, .f32⟩
  | 44 => ⟨S_, .f32⟩
  | 45 => ⟨S_, .f32⟩
  | 46 => ⟨S20000x32, .i1⟩
  | 47 => ⟨S20000x32, .f32⟩
  | 48 => ⟨S20000x32, .f32⟩
  | 49 => ⟨S20000x1, .i32⟩
  | 50 => ⟨S20000, .i32⟩
  | 51 => ⟨S_, .i32⟩
  | 52 => ⟨S20000, .i32⟩
  | 53 => ⟨S20000, .i32⟩
  | 54 => ⟨S_, .i32⟩
  | 55 => ⟨S_, .i32⟩
  | 56 => ⟨S_, .i32⟩
  | 57 => ⟨S20000, .i32⟩
  | 58 => ⟨S20000, .i32⟩
  | 59 => ⟨S_, .i32⟩
  | 60 => ⟨S20000, .i32⟩
  | 61 => ⟨S20000, .i32⟩
  | 62 => ⟨S20000x1, .i32⟩
  | 63 => ⟨S20000, .i32⟩
  | 64 => ⟨S_, .i32⟩
  | 65 => ⟨S20000, .i32⟩
  | 66 => ⟨S20000, .i32⟩
  | 67 => ⟨S_, .i32⟩
  | 68 => ⟨S_, .i32⟩
  | 69 => ⟨S_, .i32⟩
  | 70 => ⟨S20000, .i32⟩
  | 71 => ⟨S20000, .i32⟩
  | 72 => ⟨S_, .i32⟩
  | 73 => ⟨S20000, .i32⟩
  | 74 => ⟨S20000, .i32⟩
  | 75 => ⟨S_, .i32⟩
  | 76 => ⟨S20000, .i32⟩
  | 77 => ⟨S20000, .i32⟩
  | 78 => ⟨S20000, .i32⟩
  | 79 => ⟨S_, .i32⟩
  | 80 => ⟨S20000, .i32⟩
  | 81 => ⟨S20000, .i1⟩
  | 82 => ⟨S_, .i32⟩
  | 83 => ⟨S20000, .i32⟩
  | 84 => ⟨S20000, .i32⟩
  | 85 => ⟨S20000, .i32⟩
  | 86 => ⟨S20000x1, .i32⟩
  | 87 => ⟨S20000, .i32⟩
  | 88 => ⟨S_, .i32⟩
  | 89 => ⟨S20000, .i32⟩
  | 90 => ⟨S20000, .i1⟩
  | 91 => ⟨S20000x1, .i1⟩
  | 92 => ⟨S_, .i32⟩
  | 93 => ⟨S_, .i32⟩
  | 94 => ⟨S_, .i32⟩
  | 95 => ⟨S20000, .i32⟩
  | 96 => ⟨S20000, .i32⟩
  | 97 => ⟨S_, .i32⟩
  | 98 => ⟨S20000, .i32⟩
  | 99 => ⟨S20000, .i32⟩
  | 100 => ⟨S_, .i32⟩
  | 101 => ⟨S20000, .i32⟩
  | 102 => ⟨S20000, .i1⟩
  | 103 => ⟨S_, .i32⟩
  | 104 => ⟨S20000, .i32⟩
  | 105 => ⟨S20000, .i32⟩
  | 106 => ⟨S20000, .i32⟩
  | 107 => ⟨S20000x1, .i32⟩
  | 108 => ⟨S1, .i32⟩
  | 109 => ⟨S_, .i32⟩
  | 110 => ⟨S20000x1, .i32⟩
  | 111 => ⟨S20000x1, .i1⟩
  | 112 => ⟨S1x1, .i32⟩
  | 113 => ⟨S20000x1, .i32⟩
  | 114 => ⟨S20000x1, .i1⟩
  | 115 => ⟨S20000x1, .i1⟩
  | 116 => ⟨S_, .i1⟩
  | 117 => ⟨S20000, .i1⟩
  | 118 => ⟨S20000x32, .f32⟩
  | 119 => ⟨S20000x32, .i1⟩
  | 120 => ⟨S_, .f32⟩
  | 121 => ⟨S20000x32, .f32⟩
  | 122 => ⟨S20000x32, .f32⟩
  | 123 => ⟨S_, .f32⟩
  | 124 => ⟨S_, .f32⟩
  | 125 => ⟨S20000x32, .i1⟩
  | 126 => ⟨S20000x32, .f32⟩
  | 127 => ⟨S20000x32, .f32⟩
  | _ => ⟨S2x20000x32, .f32⟩

abbrev hbmTy0_11 (i : Nat) : BufTy := match i % 128 with
  | 0 => ⟨S20000x1, .i32⟩
  | 1 => ⟨S20000, .i32⟩
  | 2 => ⟨S_, .i32⟩
  | 3 => ⟨S20000, .i32⟩
  | 4 => ⟨S20000, .i32⟩
  | 5 => ⟨S_, .i32⟩
  | 6 => ⟨S_, .i32⟩
  | 7 => ⟨S_, .i32⟩
  | 8 => ⟨S20000, .i32⟩
  | 9 => ⟨S20000, .i32⟩
  | 10 => ⟨S_, .i32⟩
  | 11 => ⟨S20000, .i32⟩
  | 12 => ⟨S20000, .i32⟩
  | 13 => ⟨S20000x1, .i32⟩
  | 14 => ⟨S20000, .i32⟩
  | 15 => ⟨S_, .i32⟩
  | 16 => ⟨S20000, .i32⟩
  | 17 => ⟨S20000, .i32⟩
  | 18 => ⟨S_, .i32⟩
  | 19 => ⟨S_, .i32⟩
  | 20 => ⟨S_, .i32⟩
  | 21 => ⟨S20000, .i32⟩
  | 22 => ⟨S20000, .i32⟩
  | 23 => ⟨S_, .i32⟩
  | 24 => ⟨S20000, .i32⟩
  | 25 => ⟨S20000, .i32⟩
  | 26 => ⟨S_, .i32⟩
  | 27 => ⟨S20000, .i32⟩
  | 28 => ⟨S20000, .i32⟩
  | 29 => ⟨S20000, .i32⟩
  | 30 => ⟨S_, .i32⟩
  | 31 => ⟨S20000, .i32⟩
  | 32 => ⟨S20000, .i1⟩
  | 33 => ⟨S_, .i32⟩
  | 34 => ⟨S20000, .i32⟩
  | 35 => ⟨S20000, .i32⟩
  | 36 => ⟨S20000, .i32⟩
  | 37 => ⟨S20000x1, .i32⟩
  | 38 => ⟨S20000, .i32⟩
  | 39 => ⟨S_, .i32⟩
  | 40 => ⟨S20000, .i32⟩
  | 41 => ⟨S20000, .i1⟩
  | 42 => ⟨S20000x1, .i1⟩
  | 43 => ⟨S_, .i32⟩
  | 44 => ⟨S_, .i32⟩
  | 45 => ⟨S_, .i32⟩
  | 46 => ⟨S20000, .i32⟩
  | 47 => ⟨S20000, .i32⟩
  | 48 => ⟨S_, .i32⟩
  | 49 => ⟨S20000, .i32⟩
  | 50 => ⟨S20000, .i32⟩
  | 51 => ⟨S_, .i32⟩
  | 52 => ⟨S20000, .i32⟩
  | 53 => ⟨S20000, .i1⟩
  | 54 => ⟨S_, .i32⟩
  | 55 => ⟨S20000, .i32⟩
  | 56 => ⟨S20000, .i32⟩
  | 57 => ⟨S20000, .i32⟩
  | 58 => ⟨S20000x1, .i32⟩
  | 59 => ⟨S1, .i32⟩
  | 60 => ⟨S_, .i32⟩
  | 61 => ⟨S20000x1, .i32⟩
  | 62 => ⟨S20000x1, .i1⟩
  | 63 => ⟨S1x1, .i32⟩
  | 64 => ⟨S20000x1, .i32⟩
  | 65 => ⟨S20000x1, .i1⟩
  | 66 => ⟨S20000x1, .i1⟩
  | 67 => ⟨S_, .i1⟩
  | 68 => ⟨S20000, .i1⟩
  | 69 => ⟨S20000x32, .f32⟩
  | 70 => ⟨S20000x32, .i1⟩
  | 71 => ⟨S_, .f32⟩
  | 72 => ⟨S20000x32, .f32⟩
  | 73 => ⟨S20000x32, .f32⟩
  | 74 => ⟨S_, .f32⟩
  | 75 => ⟨S_, .f32⟩
  | 76 => ⟨S20000x32, .i1⟩
  | 77 => ⟨S20000x32, .f32⟩
  | 78 => ⟨S20000x32, .f32⟩
  | 79 => ⟨S20000x1, .i32⟩
  | 80 => ⟨S20000, .i32⟩
  | 81 => ⟨S_, .i32⟩
  | 82 => ⟨S20000, .i32⟩
  | 83 => ⟨S20000, .i32⟩
  | 84 => ⟨S_, .i32⟩
  | 85 => ⟨S_, .i32⟩
  | 86 => ⟨S_, .i32⟩
  | 87 => ⟨S20000, .i32⟩
  | 88 => ⟨S20000, .i32⟩
  | 89 => ⟨S_, .i32⟩
  | 90 => ⟨S20000, .i32⟩
  | 91 => ⟨S20000, .i32⟩
  | 92 => ⟨S20000x1, .i32⟩
  | 93 => ⟨S20000, .i32⟩
  | 94 => ⟨S_, .i32⟩
  | 95 => ⟨S20000, .i32⟩
  | 96 => ⟨S20000, .i32⟩
  | 97 => ⟨S_, .i32⟩
  | 98 => ⟨S_, .i32⟩
  | 99 => ⟨S_, .i32⟩
  | 100 => ⟨S20000, .i32⟩
  | 101 => ⟨S20000, .i32⟩
  | 102 => ⟨S_, .i32⟩
  | 103 => ⟨S20000, .i32⟩
  | 104 => ⟨S20000, .i32⟩
  | 105 => ⟨S_, .i32⟩
  | 106 => ⟨S20000, .i32⟩
  | 107 => ⟨S20000, .i32⟩
  | 108 => ⟨S20000, .i32⟩
  | 109 => ⟨S_, .i32⟩
  | 110 => ⟨S20000, .i32⟩
  | 111 => ⟨S20000, .i1⟩
  | 112 => ⟨S_, .i32⟩
  | 113 => ⟨S20000, .i32⟩
  | 114 => ⟨S20000, .i32⟩
  | 115 => ⟨S20000, .i32⟩
  | 116 => ⟨S20000x1, .i32⟩
  | 117 => ⟨S20000, .i32⟩
  | 118 => ⟨S_, .i32⟩
  | 119 => ⟨S20000, .i32⟩
  | 120 => ⟨S20000, .i1⟩
  | 121 => ⟨S20000x1, .i1⟩
  | 122 => ⟨S_, .i32⟩
  | 123 => ⟨S_, .i32⟩
  | 124 => ⟨S_, .i32⟩
  | 125 => ⟨S20000, .i32⟩
  | 126 => ⟨S20000, .i32⟩
  | 127 => ⟨S_, .i32⟩
  | _ => ⟨S2x20000x32, .f32⟩

abbrev hbmTy0_12 (i : Nat) : BufTy := match i % 128 with
  | 0 => ⟨S20000, .i32⟩
  | 1 => ⟨S20000, .i32⟩
  | 2 => ⟨S_, .i32⟩
  | 3 => ⟨S20000, .i32⟩
  | 4 => ⟨S20000, .i1⟩
  | 5 => ⟨S_, .i32⟩
  | 6 => ⟨S20000, .i32⟩
  | 7 => ⟨S20000, .i32⟩
  | 8 => ⟨S20000, .i32⟩
  | 9 => ⟨S20000x1, .i32⟩
  | 10 => ⟨S1, .i32⟩
  | 11 => ⟨S_, .i32⟩
  | 12 => ⟨S20000x1, .i32⟩
  | 13 => ⟨S20000x1, .i1⟩
  | 14 => ⟨S1x1, .i32⟩
  | 15 => ⟨S20000x1, .i32⟩
  | 16 => ⟨S20000x1, .i1⟩
  | 17 => ⟨S20000x1, .i1⟩
  | 18 => ⟨S_, .i1⟩
  | 19 => ⟨S20000, .i1⟩
  | 20 => ⟨S20000x32, .f32⟩
  | 21 => ⟨S20000x32, .i1⟩
  | 22 => ⟨S_, .f32⟩
  | 23 => ⟨S20000x32, .f32⟩
  | 24 => ⟨S20000x32, .f32⟩
  | 25 => ⟨S_, .f32⟩
  | 26 => ⟨S_, .f32⟩
  | 27 => ⟨S20000x32, .i1⟩
  | 28 => ⟨S20000x32, .f32⟩
  | 29 => ⟨S20000x32, .f32⟩
  | 30 => ⟨S1x20000x32, .f32⟩
  | 31 => ⟨S1x20000x32, .f32⟩
  | 32 => ⟨S1x20000x32, .f32⟩
  | 33 => ⟨S1x20000x32, .f32⟩
  | 34 => ⟨S1x20000x32, .f32⟩
  | 35 => ⟨S1x20000x32, .f32⟩
  | 36 => ⟨S1x20000x32, .f32⟩
  | 37 => ⟨S1x20000x32, .f32⟩
  | 38 => ⟨S1x20000x32, .f32⟩
  | 39 => ⟨S9x20000x32, .f32⟩
  | 40 => ⟨S20000x9x32, .f32⟩
  | 41 => ⟨S32x32, .f32⟩
  | 42 => ⟨S32, .f32⟩
  | 43 => ⟨S1x32, .f32⟩
  | 44 => ⟨S20000x32, .f32⟩
  | 45 => ⟨S180000x32, .f32⟩
  | 46 => ⟨S32x32, .f32⟩
  | 47 => ⟨S32, .f32⟩
  | 48 => ⟨S1x32, .f32⟩
  | 49 => ⟨S180000x32, .f32⟩
  | 50 => ⟨S20000x9x32, .f32⟩
  | 51 => ⟨S180000x32, .f32⟩
  | 52 => ⟨S32x32, .f32⟩
  | 53 => ⟨S32, .f32⟩
  | 54 => ⟨S1x32, .f32⟩
  | 55 => ⟨S180000x32, .f32⟩
  | 56 => ⟨S20000x9x32, .f32⟩
  | 57 => ⟨S20000x2x16, .f32⟩
  | 58 => ⟨S20000x9x2x16, .f32⟩
  | 59 => ⟨S20000x2x9x16, .f32⟩
  | 60 => ⟨S20000x9x2x16, .f32⟩
  | 61 => ⟨S20000x2x9x16, .f32⟩
  | 62 => ⟨S20000x2x9, .f32⟩
  | 63 => ⟨S_, .f32⟩
  | 64 => ⟨S20000x2x9, .f32⟩
  | 65 => ⟨S20000x2x9, .f32⟩
  | 66 => ⟨S_, .f32⟩
  | 67 => ⟨S20000x2, .f32⟩
  | 68 => ⟨S_, .f32⟩
  | 69 => ⟨S20000x2, .f32⟩
  | 70 => ⟨S20000x2, .f32⟩
  | 71 => ⟨S20000x2x1, .f32⟩
  | 72 => ⟨S20000x2x9, .f32⟩
  | 73 => ⟨S20000x2x9, .f32⟩
  | 74 => ⟨S20000x2x9, .f32⟩
  | 75 => ⟨S_, .f32⟩
  | 76 => ⟨S20000x2, .f32⟩
  | 77 => ⟨S20000x2x1, .f32⟩
  | 78 => ⟨S20000x2x9, .f32⟩
  | 79 => ⟨S20000x2x9, .f32⟩
  | 80 => ⟨S20000x2x16, .f32⟩
  | 81 => ⟨S20000x32, .f32⟩
  | 82 => ⟨S1x32, .f32⟩
  | 83 => ⟨S20000x32, .f32⟩
  | 84 => ⟨S20000x32, .f32⟩
  | 85 => ⟨S20000x1, .i32⟩
  | 86 => ⟨S20000, .i32⟩
  | 87 => ⟨S_, .i32⟩
  | 88 => ⟨S20000, .i32⟩
  | 89 => ⟨S20000, .i32⟩
  | 90 => ⟨S20000x1, .i32⟩
  | 91 => ⟨S20000, .i32⟩
  | 92 => ⟨S20000, .i32⟩
  | 93 => ⟨S_, .f32⟩
  | 94 => ⟨S32x214272, .f32⟩
  | 95 => ⟨S32x20000, .f32⟩
  | 96 => ⟨S_, .i32⟩
  | 97 => ⟨S20000, .i32⟩
  | 98 => ⟨S20000, .i1⟩
  | 99 => ⟨S_, .i32⟩
  | 100 => ⟨S20000, .i32⟩
  | 101 => ⟨S20000, .i32⟩
  | 102 => ⟨S20000, .i32⟩
  | 103 => ⟨S20000x1, .i32⟩
  | 104 => ⟨S32x214272, .f32⟩
  | 105 => ⟨S1x32x496x432, .f32⟩
  | 106 => ⟨S1x20000x32, .f32⟩
  | 107 => ⟨S20000x32, .f32⟩
  | 108 => ⟨S1x20000x2, .i32⟩
  | 109 => ⟨S20000x2, .i32⟩
  | 110 => ⟨S1x20000x32, .f32⟩
  | 111 => ⟨S20000x32, .f32⟩
  | 112 => ⟨S1x20000x2, .i32⟩
  | 113 => ⟨S20000x2, .i32⟩
  | 114 => ⟨S20000x1, .i32⟩
  | 115 => ⟨S20000, .i32⟩
  | 116 => ⟨S_, .i32⟩
  | 117 => ⟨S20000, .i32⟩
  | 118 => ⟨S20000, .i32⟩
  | 119 => ⟨S20000x1, .i32⟩
  | 120 => ⟨S20000, .i32⟩
  | 121 => ⟨S20000, .i32⟩
  | 122 => ⟨S_, .i32⟩
  | 123 => ⟨S214272, .i32⟩
  | 124 => ⟨S20000, .i32⟩
  | 125 => ⟨S_, .i32⟩
  | 126 => ⟨S20000, .i32⟩
  | 127 => ⟨S20000, .i1⟩
  | _ => ⟨S2x20000x32, .f32⟩

abbrev hbmTy0_13 (i : Nat) : BufTy := match i % 128 with
  | 0 => ⟨S_, .i32⟩
  | 1 => ⟨S20000, .i32⟩
  | 2 => ⟨S20000, .i32⟩
  | 3 => ⟨S20000, .i32⟩
  | 4 => ⟨S20000x1, .i32⟩
  | 5 => ⟨S214272, .i32⟩
  | 6 => ⟨S20000x1, .i32⟩
  | 7 => ⟨S20000, .i32⟩
  | 8 => ⟨S_, .i32⟩
  | 9 => ⟨S20000, .i32⟩
  | 10 => ⟨S20000, .i32⟩
  | 11 => ⟨S_, .i32⟩
  | 12 => ⟨S_, .i32⟩
  | 13 => ⟨S_, .i32⟩
  | 14 => ⟨S20000, .i32⟩
  | 15 => ⟨S20000, .i32⟩
  | 16 => ⟨S_, .i32⟩
  | 17 => ⟨S20000, .i32⟩
  | 18 => ⟨S20000, .i32⟩
  | 19 => ⟨S20000x1, .i32⟩
  | 20 => ⟨S20000, .i32⟩
  | 21 => ⟨S_, .i32⟩
  | 22 => ⟨S20000, .i32⟩
  | 23 => ⟨S20000, .i32⟩
  | 24 => ⟨S_, .i32⟩
  | 25 => ⟨S_, .i32⟩
  | 26 => ⟨S_, .i32⟩
  | 27 => ⟨S20000, .i32⟩
  | 28 => ⟨S20000, .i32⟩
  | 29 => ⟨S_, .i32⟩
  | 30 => ⟨S20000, .i32⟩
  | 31 => ⟨S20000, .i32⟩
  | 32 => ⟨S_, .i32⟩
  | 33 => ⟨S20000, .i32⟩
  | 34 => ⟨S20000, .i32⟩
  | 35 => ⟨S20000, .i32⟩
  | 36 => ⟨S_, .i32⟩
  | 37 => ⟨S20000, .i32⟩
  | 38 => ⟨S20000, .i1⟩
  | 39 => ⟨S_, .i32⟩
  | 40 => ⟨S20000, .i32⟩
  | 41 => ⟨S20000, .i32⟩
  | 42 => ⟨S20000, .i32⟩
  | 43 => ⟨S20000x1, .i32⟩
  | 44 => ⟨S20000, .i32⟩
  | 45 => ⟨S_, .i32⟩
  | 46 => ⟨S20000, .i32⟩
  | 47 => ⟨S20000, .i1⟩
  | 48 => ⟨S20000x1, .i1⟩
  | 49 => ⟨S_, .i32⟩
  | 50 => ⟨S_, .i32⟩
  | 51 => ⟨S_, .i32⟩
  | 52 => ⟨S20000, .i32⟩
  | 53 => ⟨S20000, .i32⟩
  | 54 => ⟨S_, .i32⟩
  | 55 => ⟨S20000, .i32⟩
  | 56 => ⟨S20000, .i32⟩
  | 57 => ⟨S_, .i32⟩
  | 58 => ⟨S20000, .i32⟩
  | 59 => ⟨S20000, .i1⟩
  | 60 => ⟨S_, .i32⟩
  | 61 => ⟨S20000, .i32⟩
  | 62 => ⟨S20000, .i32⟩
  | 63 => ⟨S20000, .i32⟩
  | 64 => ⟨S20000x1, .i32⟩
  | 65 => ⟨S1, .i32⟩
  | 66 => ⟨S_, .i32⟩
  | 67 => ⟨S20000x1, .i32⟩
  | 68 => ⟨S20000x1, .i1⟩
  | 69 => ⟨S1x1, .i32⟩
  | 70 => ⟨S20000x1, .i32⟩
  | 71 => ⟨S20000x1, .i1⟩
  | 72 => ⟨S20000x1, .i1⟩
  | 73 => ⟨S_, .i1⟩
  | 74 => ⟨S20000, .i1⟩
  | 75 => ⟨S20000x32, .f32⟩
  | 76 => ⟨S20000x32, .i1⟩
  | 77 => ⟨S_, .f32⟩
  | 78 => ⟨S20000x32, .f32⟩
  | 79 => ⟨S20000x32, .f32⟩
  | 80 => ⟨S_, .f32⟩
  | 81 => ⟨S_, .f32⟩
  | 82 => ⟨S20000x32, .i1⟩
  | 83 => ⟨S20000x32, .f32⟩
  | 84 => ⟨S20000x32, .f32⟩
  | 85 => ⟨S20000x1, .i32⟩
  | 86 => ⟨S20000, .i32⟩
  | 87 => ⟨S_, .i32⟩
  | 88 => ⟨S20000, .i32⟩
  | 89 => ⟨S20000, .i32⟩
  | 90 => ⟨S_, .i32⟩
  | 91 => ⟨S_, .i32⟩
  | 92 => ⟨S_, .i32⟩
  | 93 => ⟨S20000, .i32⟩
  | 94 => ⟨S20000, .i32⟩
  | 95 => ⟨S_, .i32⟩
  | 96 => ⟨S20000, .i32⟩
  | 97 => ⟨S20000, .i32⟩
  | 98 => ⟨S20000x1, .i32⟩
  | 99 => ⟨S20000, .i32⟩
  | 100 => ⟨S_, .i32⟩
  | 101 => ⟨S20000, .i32⟩
  | 102 => ⟨S20000, .i32⟩
  | 103 => ⟨S_, .i32⟩
  | 104 => ⟨S_, .i32⟩
  | 105 => ⟨S_, .i32⟩
  | 106 => ⟨S20000, .i32⟩
  | 107 => ⟨S20000, .i32⟩
  | 108 => ⟨S_, .i32⟩
  | 109 => ⟨S20000, .i32⟩
  | 110 => ⟨S20000, .i32⟩
  | 111 => ⟨S_, .i32⟩
  | 112 => ⟨S20000, .i32⟩
  | 113 => ⟨S20000, .i32⟩
  | 114 => ⟨S20000, .i32⟩
  | 115 => ⟨S_, .i32⟩
  | 116 => ⟨S20000, .i32⟩
  | 117 => ⟨S20000, .i1⟩
  | 118 => ⟨S_, .i32⟩
  | 119 => ⟨S20000, .i32⟩
  | 120 => ⟨S20000, .i32⟩
  | 121 => ⟨S20000, .i32⟩
  | 122 => ⟨S20000x1, .i32⟩
  | 123 => ⟨S20000, .i32⟩
  | 124 => ⟨S_, .i32⟩
  | 125 => ⟨S20000, .i32⟩
  | 126 => ⟨S20000, .i1⟩
  | 127 => ⟨S20000x1, .i1⟩
  | _ => ⟨S2x20000x32, .f32⟩

abbrev hbmTy0_14 (i : Nat) : BufTy := match i % 128 with
  | 0 => ⟨S_, .i32⟩
  | 1 => ⟨S_, .i32⟩
  | 2 => ⟨S_, .i32⟩
  | 3 => ⟨S20000, .i32⟩
  | 4 => ⟨S20000, .i32⟩
  | 5 => ⟨S_, .i32⟩
  | 6 => ⟨S20000, .i32⟩
  | 7 => ⟨S20000, .i32⟩
  | 8 => ⟨S_, .i32⟩
  | 9 => ⟨S20000, .i32⟩
  | 10 => ⟨S20000, .i1⟩
  | 11 => ⟨S_, .i32⟩
  | 12 => ⟨S20000, .i32⟩
  | 13 => ⟨S20000, .i32⟩
  | 14 => ⟨S20000, .i32⟩
  | 15 => ⟨S20000x1, .i32⟩
  | 16 => ⟨S1, .i32⟩
  | 17 => ⟨S_, .i32⟩
  | 18 => ⟨S20000x1, .i32⟩
  | 19 => ⟨S20000x1, .i1⟩
  | 20 => ⟨S1x1, .i32⟩
  | 21 => ⟨S20000x1, .i32⟩
  | 22 => ⟨S20000x1, .i1⟩
  | 23 => ⟨S20000x1, .i1⟩
  | 24 => ⟨S_, .i1⟩
  | 25 => ⟨S20000, .i1⟩
  | 26 => ⟨S20000x32, .f32⟩
  | 27 => ⟨S20000x32, .i1⟩
  | 28 => ⟨S_, .f32⟩
  | 29 => ⟨S20000x32, .f32⟩
  | 30 => ⟨S20000x32, .f32⟩
  | 31 => ⟨S_, .f32⟩
  | 32 => ⟨S_, .f32⟩
  | 33 => ⟨S20000x32, .i1⟩
  | 34 => ⟨S20000x32, .f32⟩
  | 35 => ⟨S20000x32, .f32⟩
  | 36 => ⟨S20000x1, .i32⟩
  | 37 => ⟨S20000, .i32⟩
  | 38 => ⟨S_, .i32⟩
  | 39 => ⟨S20000, .i32⟩
  | 40 => ⟨S20000, .i32⟩
  | 41 => ⟨S_, .i32⟩
  | 42 => ⟨S_, .i32⟩
  | 43 => ⟨S_, .i32⟩
  | 44 => ⟨S20000, .i32⟩
  | 45 => ⟨S20000, .i32⟩
  | 46 => ⟨S_, .i32⟩
  | 47 => ⟨S20000, .i32⟩
  | 48 => ⟨S20000, .i32⟩
  | 49 => ⟨S20000x1, .i32⟩
  | 50 => ⟨S20000, .i32⟩
  | 51 => ⟨S_, .i32⟩
  | 52 => ⟨S20000, .i32⟩
  | 53 => ⟨S20000, .i32⟩
  | 54 => ⟨S_, .i32⟩
  | 55 => ⟨S_, .i32⟩
  | 56 => ⟨S_, .i32⟩
  | 57 => ⟨S20000, .i32⟩
  | 58 => ⟨S20000, .i32⟩
  | 59 => ⟨S_, .i32⟩
  | 60 => ⟨S20000, .i32⟩
  | 61 => ⟨S20000, .i32⟩
  | 62 => ⟨S_, .i32⟩
  | 63 => ⟨S20000, .i32⟩
  | 64 => ⟨S20000, .i32⟩
  | 65 => ⟨S20000, .i32⟩
  | 66 => ⟨S_, .i32⟩
  | 67 => ⟨S20000, .i32⟩
  | 68 => ⟨S20000, .i1⟩
  | 69 => ⟨S_, .i32⟩
  | 70 => ⟨S20000, .i32⟩
  | 71 => ⟨S20000, .i32⟩
  | 72 => ⟨S20000, .i32⟩
  | 73 => ⟨S20000x1, .i32⟩
  | 74 => ⟨S20000, .i32⟩
  | 75 => ⟨S_, .i32⟩
  | 76 => ⟨S20000, .i32⟩
  | 77 => ⟨S20000, .i1⟩
  | 78 => ⟨S20000x1, .i1⟩
  | 79 => ⟨S_, .i32⟩
  | 80 => ⟨S_, .i32⟩
  | 81 => ⟨S_, .i32⟩
  | 82 => ⟨S20000, .i32⟩
  | 83 => ⟨S20000, .i32⟩
  | 84 => ⟨S_, .i32⟩
  | 85 => ⟨S20000, .i32⟩
  | 86 => ⟨S20000, .i32⟩
  | 87 => ⟨S_, .i32⟩
  | 88 => ⟨S20000, .i32⟩
  | 89 => ⟨S20000, .i1⟩
  | 90 => ⟨S_, .i32⟩
  | 91 => ⟨S20000, .i32⟩
  | 92 => ⟨S20000, .i32⟩
  | 93 => ⟨S20000, .i32⟩
  | 94 => ⟨S20000x1, .i32⟩
  | 95 => ⟨S1, .i32⟩
  | 96 => ⟨S_, .i32⟩
  | 97 => ⟨S20000x1, .i32⟩
  | 98 => ⟨S20000x1, .i1⟩
  | 99 => ⟨S1x1, .i32⟩
  | 100 => ⟨S20000x1, .i32⟩
  | 101 => ⟨S20000x1, .i1⟩
  | 102 => ⟨S20000x1, .i1⟩
  | 103 => ⟨S_, .i1⟩
  | 104 => ⟨S20000, .i1⟩
  | 105 => ⟨S20000x32, .f32⟩
  | 106 => ⟨S20000x32, .i1⟩
  | 107 => ⟨S_, .f32⟩
  | 108 => ⟨S20000x32, .f32⟩
  | 109 => ⟨S20000x32, .f32⟩
  | 110 => ⟨S_, .f32⟩
  | 111 => ⟨S_, .f32⟩
  | 112 => ⟨S20000x32, .i1⟩
  | 113 => ⟨S20000x32, .f32⟩
  | 114 => ⟨S20000x32, .f32⟩
  | 115 => ⟨S20000x1, .i32⟩
  | 116 => ⟨S20000, .i32⟩
  | 117 => ⟨S_, .i32⟩
  | 118 => ⟨S20000, .i32⟩
  | 119 => ⟨S20000, .i32⟩
  | 120 => ⟨S_, .i32⟩
  | 121 => ⟨S_, .i32⟩
  | 122 => ⟨S_, .i32⟩
  | 123 => ⟨S20000, .i32⟩
  | 124 => ⟨S20000, .i32⟩
  | 125 => ⟨S_, .i32⟩
  | 126 => ⟨S20000, .i32⟩
  | 127 => ⟨S20000, .i32⟩
  | _ => ⟨S2x20000x32, .f32⟩

abbrev hbmTy0_15 (i : Nat) : BufTy := match i % 128 with
  | 0 => ⟨S20000x1, .i32⟩
  | 1 => ⟨S20000, .i32⟩
  | 2 => ⟨S_, .i32⟩
  | 3 => ⟨S20000, .i32⟩
  | 4 => ⟨S20000, .i32⟩
  | 5 => ⟨S_, .i32⟩
  | 6 => ⟨S_, .i32⟩
  | 7 => ⟨S_, .i32⟩
  | 8 => ⟨S20000, .i32⟩
  | 9 => ⟨S20000, .i32⟩
  | 10 => ⟨S_, .i32⟩
  | 11 => ⟨S20000, .i32⟩
  | 12 => ⟨S20000, .i32⟩
  | 13 => ⟨S_, .i32⟩
  | 14 => ⟨S20000, .i32⟩
  | 15 => ⟨S20000, .i32⟩
  | 16 => ⟨S20000, .i32⟩
  | 17 => ⟨S_, .i32⟩
  | 18 => ⟨S20000, .i32⟩
  | 19 => ⟨S20000, .i1⟩
  | 20 => ⟨S_, .i32⟩
  | 21 => ⟨S20000, .i32⟩
  | 22 => ⟨S20000, .i32⟩
  | 23 => ⟨S20000, .i32⟩
  | 24 => ⟨S20000x1, .i32⟩
  | 25 => ⟨S20000, .i32⟩
  | 26 => ⟨S_, .i32⟩
  | 27 => ⟨S20000, .i32⟩
  | 28 => ⟨S20000, .i1⟩
  | 29 => ⟨S20000x1, .i1⟩
  | 30 => ⟨S_, .i32⟩
  | 31 => ⟨S_, .i32⟩
  | 32 => ⟨S_, .i32⟩
  | 33 => ⟨S20000, .i32⟩
  | 34 => ⟨S20000, .i32⟩
  | 35 => ⟨S_, .i32⟩
  | 36 => ⟨S20000, .i32⟩
  | 37 => ⟨S20000, .i32⟩
  | 38 => ⟨S_, .i32⟩
  | 39 => ⟨S20000, .i32⟩
  | 40 => ⟨S20000, .i1⟩
  | 41 => ⟨S_, .i32⟩
  | 42 => ⟨S20000, .i32⟩
  | 43 => ⟨S20000, .i32⟩
  | 44 => ⟨S20000, .i32⟩
  | 45 => ⟨S20000x1, .i32⟩
  | 46 => ⟨S1, .i32⟩
  | 47 => ⟨S_, .i32⟩
  | 48 => ⟨S20000x1, .i32⟩
  | 49 => ⟨S20000x1, .i1⟩
  | 50 => ⟨S1x1, .i32⟩
  | 51 => ⟨S20000x1, .i32⟩
  | 52 => ⟨S20000x1, .i1⟩
  | 53 => ⟨S20000x1, .i1⟩
  | 54 => ⟨S_, .i1⟩
  | 55 => ⟨S20000, .i1⟩
  | 56 => ⟨S20000x32, .f32⟩
  | 57 => ⟨S20000x32, .i1⟩
  | 58 => ⟨S_, .f32⟩
  | 59 => ⟨S20000x32, .f32⟩
  | 60 => ⟨S20000x32, .f32⟩
  | 61 => ⟨S_, .f32⟩
  | 62 => ⟨S_, .f32⟩
  | 63 => ⟨S20000x32, .i1⟩
  | 64 => ⟨S20000x32, .f32⟩
  | 65 => ⟨S20000x32, .f32⟩
  | 66 => ⟨S20000x1, .i32⟩
  | 67 => ⟨S20000, .i32⟩
  | 68 => ⟨S_, .i32⟩
  | 69 => ⟨S20000, .i32⟩
  | 70 => ⟨S20000, .i32⟩
  | 71 => ⟨S_, .i32⟩
  | 72 => ⟨S_, .i32⟩
  | 73 => ⟨S_, .i32⟩
  | 74 => ⟨S20000, .i32⟩
  | 75 => ⟨S20000, .i32⟩
  | 76 => ⟨S_, .i32⟩
  | 77 => ⟨S20000, .i32⟩
  | 78 => ⟨S20000, .i32⟩
  | 79 => ⟨S20000x1, .i32⟩
  | 80 => ⟨S20000, .i32⟩
  | 81 => ⟨S_, .i32⟩
  | 82 => ⟨S20000, .i32⟩
  | 83 => ⟨S20000, .i32⟩
  | 84 => ⟨S_, .i32⟩
  | 85 => ⟨S_, .i32⟩
  | 86 => ⟨S_, .i32⟩
  | 87 => ⟨S20000, .i32⟩
  | 88 => ⟨S20000, .i32⟩
  | 89 => ⟨S_, .i32⟩
  | 90 => ⟨S20000, .i32⟩
  | 91 => ⟨S20000, .i32⟩
  | 92 => ⟨S_, .i32⟩
  | 93 => ⟨S20000, .i32⟩
  | 94 => ⟨S20000, .i32⟩
  | 95 => ⟨S20000, .i32⟩
  | 96 => ⟨S_, .i32⟩
  | 97 => ⟨S20000, .i32⟩
  | 98 => ⟨S20000, .i1⟩
  | 99 => ⟨S_, .i32⟩
  | 100 => ⟨S20000, .i32⟩
  | 101 => ⟨S20000, .i32⟩
  | 102 => ⟨S20000, .i32⟩
  | 103 => ⟨S20000x1, .i32⟩
  | 104 => ⟨S20000, .i32⟩
  | 105 => ⟨S_, .i32⟩
  | 106 => ⟨S20000, .i32⟩
  | 107 => ⟨S20000, .i1⟩
  | 108 => ⟨S20000x1, .i1⟩
  | 109 => ⟨S_, .i32⟩
  | 110 => ⟨S_, .i32⟩
  | 111 => ⟨S_, .i32⟩
  | 112 => ⟨S20000, .i32⟩
  | 113 => ⟨S20000, .i32⟩
  | 114 => ⟨S_, .i32⟩
  | 115 => ⟨S20000, .i32⟩
  | 116 => ⟨S20000, .i32⟩
  | 117 => ⟨S_, .i32⟩
  | 118 => ⟨S20000, .i32⟩
  | 119 => ⟨S20000, .i1⟩
  | 120 => ⟨S_, .i32⟩
  | 121 => ⟨S20000, .i32⟩
  | 122 => ⟨S20000, .i32⟩
  | 123 => ⟨S20000, .i32⟩
  | 124 => ⟨S20000x1, .i32⟩
  | 125 => ⟨S1, .i32⟩
  | 126 => ⟨S_, .i32⟩
  | 127 => ⟨S20000x1, .i32⟩
  | _ => ⟨S2x20000x32, .f32⟩

abbrev hbmTy0_16 (i : Nat) : BufTy := match i % 128 with
  | 0 => ⟨S20000x1, .i1⟩
  | 1 => ⟨S1x1, .i32⟩
  | 2 => ⟨S20000x1, .i32⟩
  | 3 => ⟨S20000x1, .i1⟩
  | 4 => ⟨S20000x1, .i1⟩
  | 5 => ⟨S_, .i1⟩
  | 6 => ⟨S20000, .i1⟩
  | 7 => ⟨S20000x32, .f32⟩
  | 8 => ⟨S20000x32, .i1⟩
  | 9 => ⟨S_, .f32⟩
  | 10 => ⟨S20000x32, .f32⟩
  | 11 => ⟨S20000x32, .f32⟩
  | 12 => ⟨S_, .f32⟩
  | 13 => ⟨S_, .f32⟩
  | 14 => ⟨S20000x32, .i1⟩
  | 15 => ⟨S20000x32, .f32⟩
  | 16 => ⟨S20000x32, .f32⟩
  | 17 => ⟨S20000x1, .i32⟩
  | 18 => ⟨S20000, .i32⟩
  | 19 => ⟨S_, .i32⟩
  | 20 => ⟨S20000, .i32⟩
  | 21 => ⟨S20000, .i32⟩
  | 22 => ⟨S_, .i32⟩
  | 23 => ⟨S_, .i32⟩
  | 24 => ⟨S_, .i32⟩
  | 25 => ⟨S20000, .i32⟩
  | 26 => ⟨S20000, .i32⟩
  | 27 => ⟨S_, .i32⟩
  | 28 => ⟨S20000, .i32⟩
  | 29 => ⟨S20000, .i32⟩
  | 30 => ⟨S20000x1, .i32⟩
  | 31 => ⟨S20000, .i32⟩
  | 32 => ⟨S_, .i32⟩
  | 33 => ⟨S20000, .i32⟩
  | 34 => ⟨S20000, .i32⟩
  | 35 => ⟨S_, .i32⟩
  | 36 => ⟨S_, .i32⟩
  | 37 => ⟨S_, .i32⟩
  | 38 => ⟨S20000, .i32⟩
  | 39 => ⟨S20000, .i32⟩
  | 40 => ⟨S_, .i32⟩
  | 41 => ⟨S20000, .i32⟩
  | 42 => ⟨S20000, .i32⟩
  | 43 => ⟨S_, .i32⟩
  | 44 => ⟨S20000, .i32⟩
  | 45 => ⟨S20000, .i32⟩
  | 46 => ⟨S20000, .i32⟩
  | 47 => ⟨S_, .i32⟩
  | 48 => ⟨S20000, .i32⟩
  | 49 => ⟨S20000, .i1⟩
  | 50 => ⟨S_, .i32⟩
  | 51 => ⟨S20000, .i32⟩
  | 52 => ⟨S20000, .i32⟩
  | 53 => ⟨S20000, .i32⟩
  | 54 => ⟨S20000x1, .i32⟩
  | 55 => ⟨S20000, .i32⟩
  | 56 => ⟨S_, .i32⟩
  | 57 => ⟨S20000, .i32⟩
  | 58 => ⟨S20000, .i1⟩
  | 59 => ⟨S20000x1, .i1⟩
  | 60 => ⟨S_, .i32⟩
  | 61 => ⟨S_, .i32⟩
  | 62 => ⟨S_, .i32⟩
  | 63 => ⟨S20000, .i32⟩
  | 64 => ⟨S20000, .i32⟩
  | 65 => ⟨S_, .i32⟩
  | 66 => ⟨S20000, .i32⟩
  | 67 => ⟨S20000, .i32⟩
  | 68 => ⟨S_, .i32⟩
  | 69 => ⟨S20000, .i32⟩
  | 70 => ⟨S20000, .i1⟩
  | 71 => ⟨S_, .i32⟩
  | 72 => ⟨S20000, .i32⟩
  | 73 => ⟨S20000, .i32⟩
  | 74 => ⟨S20000, .i32⟩
  | 75 => ⟨S20000x1, .i32⟩
  | 76 => ⟨S1, .i32⟩
  | 77 => ⟨S_, .i32⟩
  | 78 => ⟨S20000x1, .i32⟩
  | 79 => ⟨S20000x1, .i1⟩
  | 80 => ⟨S1x1, .i32⟩
  | 81 => ⟨S20000x1, .i32⟩
  | 82 => ⟨S20000x1, .i1⟩
  | 83 => ⟨S20000x1, .i1⟩
  | 84 => ⟨S_, .i1⟩
  | 85 => ⟨S20000, .i1⟩
  | 86 => ⟨S20000x32, .f32⟩
  | 87 => ⟨S20000x32, .i1⟩
  | 88 => ⟨S_, .f32⟩
  | 89 => ⟨S20000x32, .f32⟩
  | 90 => ⟨S20000x32, .f32⟩
  | 91 => ⟨S_, .f32⟩
  | 92 => ⟨S_, .f32⟩
  | 93 => ⟨S20000x32, .i1⟩
  | 94 => ⟨S20000x32, .f32⟩
  | 95 => ⟨S20000x32, .f32⟩
  | 96 => ⟨S20000x1, .i32⟩
  | 97 => ⟨S20000, .i32⟩
  | 98 => ⟨S_, .i32⟩
  | 99 => ⟨S20000, .i32⟩
  | 100 => ⟨S20000, .i32⟩
  | 101 => ⟨S_, .i32⟩
  | 102 => ⟨S_, .i32⟩
  | 103 => ⟨S_, .i32⟩
  | 104 => ⟨S20000, .i32⟩
  | 105 => ⟨S20000, .i32⟩
  | 106 => ⟨S_, .i32⟩
  | 107 => ⟨S20000, .i32⟩
  | 108 => ⟨S20000, .i32⟩
  | 109 => ⟨S20000x1, .i32⟩
  | 110 => ⟨S20000, .i32⟩
  | 111 => ⟨S_, .i32⟩
  | 112 => ⟨S20000, .i32⟩
  | 113 => ⟨S20000, .i32⟩
  | 114 => ⟨S_, .i32⟩
  | 115 => ⟨S_, .i32⟩
  | 116 => ⟨S_, .i32⟩
  | 117 => ⟨S20000, .i32⟩
  | 118 => ⟨S20000, .i32⟩
  | 119 => ⟨S_, .i32⟩
  | 120 => ⟨S20000, .i32⟩
  | 121 => ⟨S20000, .i32⟩
  | 122 => ⟨S_, .i32⟩
  | 123 => ⟨S20000, .i32⟩
  | 124 => ⟨S20000, .i32⟩
  | 125 => ⟨S20000, .i32⟩
  | 126 => ⟨S_, .i32⟩
  | 127 => ⟨S20000, .i32⟩
  | _ => ⟨S2x20000x32, .f32⟩

abbrev hbmTy0_17 (i : Nat) : BufTy := match i % 128 with
  | 0 => ⟨S20000, .i1⟩
  | 1 => ⟨S_, .i32⟩
  | 2 => ⟨S20000, .i32⟩
  | 3 => ⟨S20000, .i32⟩
  | 4 => ⟨S20000, .i32⟩
  | 5 => ⟨S20000x1, .i32⟩
  | 6 => ⟨S20000, .i32⟩
  | 7 => ⟨S_, .i32⟩
  | 8 => ⟨S20000, .i32⟩
  | 9 => ⟨S20000, .i1⟩
  | 10 => ⟨S20000x1, .i1⟩
  | 11 => ⟨S_, .i32⟩
  | 12 => ⟨S_, .i32⟩
  | 13 => ⟨S_, .i32⟩
  | 14 => ⟨S20000, .i32⟩
  | 15 => ⟨S20000, .i32⟩
  | 16 => ⟨S_, .i32⟩
  | 17 => ⟨S20000, .i32⟩
  | 18 => ⟨S20000, .i32⟩
  | 19 => ⟨S_, .i32⟩
  | 20 => ⟨S20000, .i32⟩
  | 21 => ⟨S20000, .i1⟩
  | 22 => ⟨S_, .i32⟩
  | 23 => ⟨S20000, .i32⟩
  | 24 => ⟨S20000, .i32⟩
  | 25 => ⟨S20000, .i32⟩
  | 26 => ⟨S20000x1, .i32⟩
  | 27 => ⟨S1, .i32⟩
  | 28 => ⟨S_, .i32⟩
  | 29 => ⟨S20000x1, .i32⟩
  | 30 => ⟨S20000x1, .i1⟩
  | 31 => ⟨S1x1, .i32⟩
  | 32 => ⟨S20000x1, .i32⟩
  | 33 => ⟨S20000x1, .i1⟩
  | 34 => ⟨S20000x1, .i1⟩
  | 35 => ⟨S_, .i1⟩
  | 36 => ⟨S20000, .i1⟩
  | 37 => ⟨S20000x32, .f32⟩
  | 38 => ⟨S20000x32, .i1⟩
  | 39 => ⟨S_, .f32⟩
  | 40 => ⟨S20000x32, .f32⟩
  | 41 => ⟨S20000x32, .f32⟩
  | 42 => ⟨S_, .f32⟩
  | 43 => ⟨S_, .f32⟩
  | 44 => ⟨S20000x32, .i1⟩
  | 45 => ⟨S20000x32, .f32⟩
  | 46 => ⟨S20000x32, .f32⟩
  | 47 => ⟨S20000x1, .i32⟩
  | 48 => ⟨S20000, .i32⟩
  | 49 => ⟨S_, .i32⟩
  | 50 => ⟨S20000, .i32⟩
  | 51 => ⟨S20000, .i32⟩
  | 52 => ⟨S_, .i32⟩
  | 53 => ⟨S_, .i32⟩
  | 54 => ⟨S_, .i32⟩
  | 55 => ⟨S20000, .i32⟩
  | 56 => ⟨S20000, .i32⟩
  | 57 => ⟨S_, .i32⟩
  | 58 => ⟨S20000, .i32⟩
  | 59 => ⟨S20000, .i32⟩
  | 60 => ⟨S20000x1, .i32⟩
  | 61 => ⟨S20000, .i32⟩
  | 62 => ⟨S_, .i32⟩
  | 63 => ⟨S20000, .i32⟩
  | 64 => ⟨S20000, .i32⟩
  | 65 => ⟨S_, .i32⟩
  | 66 => ⟨S_, .i32⟩
  | 67 => ⟨S_, .i32⟩
  | 68 => ⟨S20000, .i32⟩
  | 69 => ⟨S20000, .i32⟩
  | 70 => ⟨S_, .i32⟩
  | 71 => ⟨S20000, .i32⟩
  | 72 => ⟨S20000, .i32⟩
  | 73 => ⟨S_, .i32⟩
  | 74 => ⟨S20000, .i32⟩
  | 75 => ⟨S20000, .i32⟩
  | 76 => ⟨S20000, .i32⟩
  | 77 => ⟨S_, .i32⟩
  | 78 => ⟨S20000, .i32⟩
  | 79 => ⟨S20000, .i1⟩
  | 80 => ⟨S_, .i32⟩
  | 81 => ⟨S20000, .i32⟩
  | 82 => ⟨S20000, .i32⟩
  | 83 => ⟨S20000, .i32⟩
  | 84 => ⟨S20000x1, .i32⟩
  | 85 => ⟨S20000, .i32⟩
  | 86 => ⟨S_, .i32⟩
  | 87 => ⟨S20000, .i32⟩
  | 88 => ⟨S20000, .i1⟩
  | 89 => ⟨S20000x1, .i1⟩
  | 90 => ⟨S_, .i32⟩
  | 91 => ⟨S_, .i32⟩
  | 92 => ⟨S_, .i32⟩
  | 93 => ⟨S20000, .i32⟩
  | 94 => ⟨S20000, .i32⟩
  | 95 => ⟨S_, .i32⟩
  | 96 => ⟨S20000, .i32⟩
  | 97 => ⟨S20000, .i32⟩
  | 98 => ⟨S_, .i32⟩
  | 99 => ⟨S20000, .i32⟩
  | 100 => ⟨S20000, .i1⟩
  | 101 => ⟨S_, .i32⟩
  | 102 => ⟨S20000, .i32⟩
  | 103 => ⟨S20000, .i32⟩
  | 104 => ⟨S20000, .i32⟩
  | 105 => ⟨S20000x1, .i32⟩
  | 106 => ⟨S1, .i32⟩
  | 107 => ⟨S_, .i32⟩
  | 108 => ⟨S20000x1, .i32⟩
  | 109 => ⟨S20000x1, .i1⟩
  | 110 => ⟨S1x1, .i32⟩
  | 111 => ⟨S20000x1, .i32⟩
  | 112 => ⟨S20000x1, .i1⟩
  | 113 => ⟨S20000x1, .i1⟩
  | 114 => ⟨S_, .i1⟩
  | 115 => ⟨S20000, .i1⟩
  | 116 => ⟨S20000x32, .f32⟩
  | 117 => ⟨S20000x32, .i1⟩
  | 118 => ⟨S_, .f32⟩
  | 119 => ⟨S20000x32, .f32⟩
  | 120 => ⟨S20000x32, .f32⟩
  | 121 => ⟨S_, .f32⟩
  | 122 => ⟨S_, .f32⟩
  | 123 => ⟨S20000x32, .i1⟩
  | 124 => ⟨S20000x32, .f32⟩
  | 125 => ⟨S20000x32, .f32⟩
  | 126 => ⟨S20000x1, .i32⟩
  | 127 => ⟨S20000, .i32⟩
  | _ => ⟨S2x20000x32, .f32⟩

abbrev hbmTy0_18 (i : Nat) : BufTy := match i % 128 with
  | 0 => ⟨S_, .i32⟩
  | 1 => ⟨S20000, .i32⟩
  | 2 => ⟨S20000, .i32⟩
  | 3 => ⟨S_, .i32⟩
  | 4 => ⟨S_, .i32⟩
  | 5 => ⟨S_, .i32⟩
  | 6 => ⟨S20000, .i32⟩
  | 7 => ⟨S20000, .i32⟩
  | 8 => ⟨S_, .i32⟩
  | 9 => ⟨S20000, .i32⟩
  | 10 => ⟨S20000, .i32⟩
  | 11 => ⟨S20000x1, .i32⟩
  | 12 => ⟨S20000, .i32⟩
  | 13 => ⟨S_, .i32⟩
  | 14 => ⟨S20000, .i32⟩
  | 15 => ⟨S20000, .i32⟩
  | 16 => ⟨S_, .i32⟩
  | 17 => ⟨S_, .i32⟩
  | 18 => ⟨S_, .i32⟩
  | 19 => ⟨S20000, .i32⟩
  | 20 => ⟨S20000, .i32⟩
  | 21 => ⟨S_, .i32⟩
  | 22 => ⟨S20000, .i32⟩
  | 23 => ⟨S20000, .i32⟩
  | 24 => ⟨S_, .i32⟩
  | 25 => ⟨S20000, .i32⟩
  | 26 => ⟨S20000, .i32⟩
  | 27 => ⟨S20000, .i32⟩
  | 28 => ⟨S_, .i32⟩
  | 29 => ⟨S20000, .i32⟩
  | 30 => ⟨S20000, .i1⟩
  | 31 => ⟨S_, .i32⟩
  | 32 => ⟨S20000, .i32⟩
  | 33 => ⟨S20000, .i32⟩
  | 34 => ⟨S20000, .i32⟩
  | 35 => ⟨S20000x1, .i32⟩
  | 36 => ⟨S20000, .i32⟩
  | 37 => ⟨S_, .i32⟩
  | 38 => ⟨S20000, .i32⟩
  | 39 => ⟨S20000, .i1⟩
  | 40 => ⟨S20000x1, .i1⟩
  | 41 => ⟨S_, .i32⟩
  | 42 => ⟨S_, .i32⟩
  | 43 => ⟨S_, .i32⟩
  | 44 => ⟨S20000, .i32⟩
  | 45 => ⟨S20000, .i32⟩
  | 46 => ⟨S_, .i32⟩
  | 47 => ⟨S20000, .i32⟩
  | 48 => ⟨S20000, .i32⟩
  | 49 => ⟨S_, .i32⟩
  | 50 => ⟨S20000, .i32⟩
  | 51 => ⟨S20000, .i1⟩
  | 52 => ⟨S_, .i32⟩
  | 53 => ⟨S20000, .i32⟩
  | 54 => ⟨S20000, .i32⟩
  | 55 => ⟨S20000, .i32⟩
  | 56 => ⟨S20000x1, .i32⟩
  | 57 => ⟨S1, .i32⟩
  | 58 => ⟨S_, .i32⟩
  | 59 => ⟨S20000x1, .i32⟩
  | 60 => ⟨S20000x1, .i1⟩
  | 61 => ⟨S1x1, .i32⟩
  | 62 => ⟨S20000x1, .i32⟩
  | 63 => ⟨S20000x1, .i1⟩
  | 64 => ⟨S20000x1, .i1⟩
  | 65 => ⟨S_, .i1⟩
  | 66 => ⟨S20000, .i1⟩
  | 67 => ⟨S20000x32, .f32⟩
  | 68 => ⟨S20000x32, .i1⟩
  | 69 => ⟨S_, .f32⟩
  | 70 => ⟨S20000x32, .f32⟩
  | 71 => ⟨S20000x32, .f32⟩
  | 72 => ⟨S_, .f32⟩
  | 73 => ⟨S_, .f32⟩
  | 74 => ⟨S20000x32, .i1⟩
  | 75 => ⟨S20000x32, .f32⟩
  | 76 => ⟨S20000x32, .f32⟩
  | 77 => ⟨S1x20000x32, .f32⟩
  | 78 => ⟨S1x20000x32, .f32⟩
  | 79 => ⟨S1x20000x32, .f32⟩
  | 80 => ⟨S1x20000x32, .f32⟩
  | 81 => ⟨S1x20000x32, .f32⟩
  | 82 => ⟨S1x20000x32, .f32⟩
  | 83 => ⟨S1x20000x32, .f32⟩
  | 84 => ⟨S1x20000x32, .f32⟩
  | 85 => ⟨S1x20000x32, .f32⟩
  | 86 => ⟨S9x20000x32, .f32⟩
  | 87 => ⟨S20000x9x32, .f32⟩
  | 88 => ⟨S32x32, .f32⟩
  | 89 => ⟨S32, .f32⟩
  | 90 => ⟨S1x32, .f32⟩
  | 91 => ⟨S20000x32, .f32⟩
  | 92 => ⟨S180000x32, .f32⟩
  | 93 => ⟨S32x32, .f32⟩
  | 94 => ⟨S32, .f32⟩
  | 95 => ⟨S1x32, .f32⟩
  | 96 => ⟨S180000x32, .f32⟩
  | 97 => ⟨S20000x9x32, .f32⟩
  | 98 => ⟨S180000x32, .f32⟩
  | 99 => ⟨S32x32, .f32⟩
  | 100 => ⟨S32, .f32⟩
  | 101 => ⟨S1x32, .f32⟩
  | 102 => ⟨S180000x32, .f32⟩
  | 103 => ⟨S20000x9x32, .f32⟩
  | 104 => ⟨S20000x2x16, .f32⟩
  | 105 => ⟨S20000x9x2x16, .f32⟩
  | 106 => ⟨S20000x2x9x16, .f32⟩
  | 107 => ⟨S20000x9x2x16, .f32⟩
  | 108 => ⟨S20000x2x9x16, .f32⟩
  | 109 => ⟨S20000x2x9, .f32⟩
  | 110 => ⟨S_, .f32⟩
  | 111 => ⟨S20000x2x9, .f32⟩
  | 112 => ⟨S20000x2x9, .f32⟩
  | 113 => ⟨S_, .f32⟩
  | 114 => ⟨S20000x2, .f32⟩
  | 115 => ⟨S_, .f32⟩
  | 116 => ⟨S20000x2, .f32⟩
  | 117 => ⟨S20000x2, .f32⟩
  | 118 => ⟨S20000x2x1, .f32⟩
  | 119 => ⟨S20000x2x9, .f32⟩
  | 120 => ⟨S20000x2x9, .f32⟩
  | 121 => ⟨S20000x2x9, .f32⟩
  | 122 => ⟨S_, .f32⟩
  | 123 => ⟨S20000x2, .f32⟩
  | 124 => ⟨S20000x2x1, .f32⟩
  | 125 => ⟨S20000x2x9, .f32⟩
  | 126 => ⟨S20000x2x9, .f32⟩
  | 127 => ⟨S20000x2x16, .f32⟩
  | _ => ⟨S2x20000x32, .f32⟩

abbrev hbmTy0_19 (i : Nat) : BufTy := match i % 128 with
  | 0 => ⟨S20000x32, .f32⟩
  | 1 => ⟨S1x32, .f32⟩
  | 2 => ⟨S20000x32, .f32⟩
  | 3 => ⟨S20000x32, .f32⟩
  | 4 => ⟨S20000x1, .i32⟩
  | 5 => ⟨S20000, .i32⟩
  | 6 => ⟨S_, .i32⟩
  | 7 => ⟨S20000, .i32⟩
  | 8 => ⟨S20000, .i32⟩
  | 9 => ⟨S20000x1, .i32⟩
  | 10 => ⟨S20000, .i32⟩
  | 11 => ⟨S20000, .i32⟩
  | 12 => ⟨S_, .f32⟩
  | 13 => ⟨S32x214272, .f32⟩
  | 14 => ⟨S32x20000, .f32⟩
  | 15 => ⟨S_, .i32⟩
  | 16 => ⟨S20000, .i32⟩
  | 17 => ⟨S20000, .i1⟩
  | 18 => ⟨S_, .i32⟩
  | 19 => ⟨S20000, .i32⟩
  | 20 => ⟨S20000, .i32⟩
  | 21 => ⟨S20000, .i32⟩
  | 22 => ⟨S20000x1, .i32⟩
  | 23 => ⟨S32x214272, .f32⟩
  | 24 => ⟨S1x32x496x432, .f32⟩
  | 25 => ⟨S1x20000x32, .f32⟩
  | 26 => ⟨S20000x32, .f32⟩
  | 27 => ⟨S1x20000x2, .i32⟩
  | 28 => ⟨S20000x2, .i32⟩
  | 29 => ⟨S1x20000x32, .f32⟩
  | 30 => ⟨S20000x32, .f32⟩
  | 31 => ⟨S1x20000x2, .i32⟩
  | 32 => ⟨S20000x2, .i32⟩
  | 33 => ⟨S20000x1, .i32⟩
  | 34 => ⟨S20000, .i32⟩
  | 35 => ⟨S_, .i32⟩
  | 36 => ⟨S20000, .i32⟩
  | 37 => ⟨S20000, .i32⟩
  | 38 => ⟨S20000x1, .i32⟩
  | 39 => ⟨S20000, .i32⟩
  | 40 => ⟨S20000, .i32⟩
  | 41 => ⟨S_, .i32⟩
  | 42 => ⟨S214272, .i32⟩
  | 43 => ⟨S20000, .i32⟩
  | 44 => ⟨S_, .i32⟩
  | 45 => ⟨S20000, .i32⟩
  | 46 => ⟨S20000, .i1⟩
  | 47 => ⟨S_, .i32⟩
  | 48 => ⟨S20000, .i32⟩
  | 49 => ⟨S20000, .i32⟩
  | 50 => ⟨S20000, .i32⟩
  | 51 => ⟨S20000x1, .i32⟩
  | 52 => ⟨S214272, .i32⟩
  | 53 => ⟨S20000x1, .i32⟩
  | 54 => ⟨S20000, .i32⟩
  | 55 => ⟨S_, .i32⟩
  | 56 => ⟨S20000, .i32⟩
  | 57 => ⟨S20000, .i32⟩
  | 58 => ⟨S_, .i32⟩
  | 59 => ⟨S_, .i32⟩
  | 60 => ⟨S_, .i32⟩
  | 61 => ⟨S20000, .i32⟩
  | 62 => ⟨S20000, .i32⟩
  | 63 => ⟨S_, .i32⟩
  | 64 => ⟨S20000, .i32⟩
  | 65 => ⟨S20000, .i32⟩
  | 66 => ⟨S20000x1, .i32⟩
  | 67 => ⟨S20000, .i32⟩
  | 68 => ⟨S_, .i32⟩
  | 69 => ⟨S20000, .i32⟩
  | 70 => ⟨S20000, .i32⟩
  | 71 => ⟨S_, .i32⟩
  | 72 => ⟨S_, .i32⟩
  | 73 => ⟨S_, .i32⟩
  | 74 => ⟨S20000, .i32⟩
  | 75 => ⟨S20000, .i32⟩
  | 76 => ⟨S_, .i32⟩
  | 77 => ⟨S20000, .i32⟩
  | 78 => ⟨S20000, .i32⟩
  | 79 => ⟨S_, .i32⟩
  | 80 => ⟨S20000, .i32⟩
  | 81 => ⟨S20000, .i32⟩
  | 82 => ⟨S20000, .i32⟩
  | 83 => ⟨S_, .i32⟩
  | 84 => ⟨S20000, .i32⟩
  | 85 => ⟨S20000, .i1⟩
  | 86 => ⟨S_, .i32⟩
  | 87 => ⟨S20000, .i32⟩
  | 88 => ⟨S20000, .i32⟩
  | 89 => ⟨S20000, .i32⟩
  | 90 => ⟨S20000x1, .i32⟩
  | 91 => ⟨S20000, .i32⟩
  | 92 => ⟨S_, .i32⟩
  | 93 => ⟨S20000, .i32⟩
  | 94 => ⟨S20000, .i1⟩
  | 95 => ⟨S20000x1, .i1⟩
  | 96 => ⟨S_, .i32⟩
  | 97 => ⟨S_, .i32⟩
  | 98 => ⟨S_, .i32⟩
  | 99 => ⟨S20000, .i32⟩
  | 100 => ⟨S20000, .i32⟩
  | 101 => ⟨S_, .i32⟩
  | 102 => ⟨S20000, .i32⟩
  | 103 => ⟨S20000, .i32⟩
  | 104 => ⟨S_, .i32⟩
  | 105 => ⟨S20000, .i32⟩
  | 106 => ⟨S20000, .i1⟩
  | 107 => ⟨S_, .i32⟩
  | 108 => ⟨S20000, .i32⟩
  | 109 => ⟨S20000, .i32⟩
  | 110 => ⟨S20000, .i32⟩
  | 111 => ⟨S20000x1, .i32⟩
  | 112 => ⟨S1, .i32⟩
  | 113 => ⟨S_, .i32⟩
  | 114 => ⟨S20000x1, .i32⟩
  | 115 => ⟨S20000x1, .i1⟩
  | 116 => ⟨S1x1, .i32⟩
  | 117 => ⟨S20000x1, .i32⟩
  | 118 => ⟨S20000x1, .i1⟩
  | 119 => ⟨S20000x1, .i1⟩
  | 120 => ⟨S_, .i1⟩
  | 121 => ⟨S20000, .i1⟩
  | 122 => ⟨S20000x32, .f32⟩
  | 123 => ⟨S20000x32, .i1⟩
  | 124 => ⟨S_, .f32⟩
  | 125 => ⟨S20000x32, .f32⟩
  | 126 => ⟨S20000x32, .f32⟩
  | 127 => ⟨S_, .f32⟩
  | _ => ⟨S2x20000x32, .f32⟩

abbrev hbmTy0_20 (i : Nat) : BufTy := match i % 128 with
  | 0 => ⟨S_, .f32⟩
  | 1 => ⟨S20000x32, .i1⟩
  | 2 => ⟨S20000x32, .f32⟩
  | 3 => ⟨S20000x32, .f32⟩
  | 4 => ⟨S20000x1, .i32⟩
  | 5 => ⟨S20000, .i32⟩
  | 6 => ⟨S_, .i32⟩
  | 7 => ⟨S20000, .i32⟩
  | 8 => ⟨S20000, .i32⟩
  | 9 => ⟨S_, .i32⟩
  | 10 => ⟨S_, .i32⟩
  | 11 => ⟨S_, .i32⟩
  | 12 => ⟨S20000, .i32⟩
  | 13 => ⟨S20000, .i32⟩
  | 14 => ⟨S_, .i32⟩
  | 15 => ⟨S20000, .i32⟩
  | 16 => ⟨S20000, .i32⟩
  | 17 => ⟨S20000x1, .i32⟩
  | 18 => ⟨S20000, .i32⟩
  | 19 => ⟨S_, .i32⟩
  | 20 => ⟨S20000, .i32⟩
  | 21 => ⟨S20000, .i32⟩
  | 22 => ⟨S_, .i32⟩
  | 23 => ⟨S_, .i32⟩
  | 24 => ⟨S_, .i32⟩
  | 25 => ⟨S20000, .i32⟩
  | 26 => ⟨S20000, .i32⟩
  | 27 => ⟨S_, .i32⟩
  | 28 => ⟨S20000, .i32⟩
  | 29 => ⟨S20000, .i32⟩
  | 30 => ⟨S_, .i32⟩
  | 31 => ⟨S20000, .i32⟩
  | 32 => ⟨S20000, .i32⟩
  | 33 => ⟨S20000, .i32⟩
  | 34 => ⟨S_, .i32⟩
  | 35 => ⟨S20000, .i32⟩
  | 36 => ⟨S20000, .i1⟩
  | 37 => ⟨S_, .i32⟩
  | 38 => ⟨S20000, .i32⟩
  | 39 => ⟨S20000, .i32⟩
  | 40 => ⟨S20000, .i32⟩
  | 41 => ⟨S20000x1, .i32⟩
  | 42 => ⟨S20000, .i32⟩
  | 43 => ⟨S_, .i32⟩
  | 44 => ⟨S20000, .i32⟩
  | 45 => ⟨S20000, .i1⟩
  | 46 => ⟨S20000x1, .i1⟩
  | 47 => ⟨S_, .i32⟩
  | 48 => ⟨S_, .i32⟩
  | 49 => ⟨S_, .i32⟩
  | 50 => ⟨S20000, .i32⟩
  | 51 => ⟨S20000, .i32⟩
  | 52 => ⟨S_, .i32⟩
  | 53 => ⟨S20000, .i32⟩
  | 54 => ⟨S20000, .i32⟩
  | 55 => ⟨S_, .i32⟩
  | 56 => ⟨S20000, .i32⟩
  | 57 => ⟨S20000, .i1⟩
  | 58 => ⟨S_, .i32⟩
  | 59 => ⟨S20000, .i32⟩
  | 60 => ⟨S20000, .i32⟩
  | 61 => ⟨S20000, .i32⟩
  | 62 => ⟨S20000x1, .i32⟩
  | 63 => ⟨S1, .i32⟩
  | 64 => ⟨S_, .i32⟩
  | 65 => ⟨S20000x1, .i32⟩
  | 66 => ⟨S20000x1, .i1⟩
  | 67 => ⟨S1x1, .i32⟩
  | 68 => ⟨S20000x1, .i32⟩
  | 69 => ⟨S20000x1, .i1⟩
  | 70 => ⟨S20000x1, .i1⟩
  | 71 => ⟨S_, .i1⟩
  | 72 => ⟨S20000, .i1⟩
  | 73 => ⟨S20000x32, .f32⟩
  | 74 => ⟨S20000x32, .i1⟩
  | 75 => ⟨S_, .f32⟩
  | 76 => ⟨S20000x32, .f32⟩
  | 77 => ⟨S20000x32, .f32⟩
  | 78 => ⟨S_, .f32⟩
  | 79 => ⟨S_, .f32⟩
  | 80 => ⟨S20000x32, .i1⟩
  | 81 => ⟨S20000x32, .f32⟩
  | 82 => ⟨S20000x32, .f32⟩
  | 83 => ⟨S20000x1, .i32⟩
  | 84 => ⟨S20000, .i32⟩
  | 85 => ⟨S_, .i32⟩
  | 86 => ⟨S20000, .i32⟩
  | 87 => ⟨S20000, .i32⟩
  | 88 => ⟨S_, .i32⟩
  | 89 => ⟨S_, .i32⟩
  | 90 => ⟨S_, .i32⟩
  | 91 => ⟨S20000, .i32⟩
  | 92 => ⟨S20000, .i32⟩
  | 93 => ⟨S_, .i32⟩
  | 94 => ⟨S20000, .i32⟩
  | 95 => ⟨S20000, .i32⟩
  | 96 => ⟨S20000x1, .i32⟩
  | 97 => ⟨S20000, .i32⟩
  | 98 => ⟨S_, .i32⟩
  | 99 => ⟨S20000, .i32⟩
  | 100 => ⟨S20000, .i32⟩
  | 101 => ⟨S_, .i32⟩
  | 102 => ⟨S_, .i32⟩
  | 103 => ⟨S_, .i32⟩
  | 104 => ⟨S20000, .i32⟩
  | 105 => ⟨S20000, .i32⟩
  | 106 => ⟨S_, .i32⟩
  | 107 => ⟨S20000, .i32⟩
  | 108 => ⟨S20000, .i32⟩
  | 109 => ⟨S_, .i32⟩
  | 110 => ⟨S20000, .i32⟩
  | 111 => ⟨S20000, .i32⟩
  | 112 => ⟨S20000, .i32⟩
  | 113 => ⟨S_, .i32⟩
  | 114 => ⟨S20000, .i32⟩
  | 115 => ⟨S20000, .i1⟩
  | 116 => ⟨S_, .i32⟩
  | 117 => ⟨S20000, .i32⟩
  | 118 => ⟨S20000, .i32⟩
  | 119 => ⟨S20000, .i32⟩
  | 120 => ⟨S20000x1, .i32⟩
  | 121 => ⟨S20000, .i32⟩
  | 122 => ⟨S_, .i32⟩
  | 123 => ⟨S20000, .i32⟩
  | 124 => ⟨S20000, .i1⟩
  | 125 => ⟨S20000x1, .i1⟩
  | 126 => ⟨S_, .i32⟩
  | 127 => ⟨S_, .i32⟩
  | _ => ⟨S2x20000x32, .f32⟩

abbrev hbmTy0_21 (i : Nat) : BufTy := match i % 128 with
  | 0 => ⟨S_, .i32⟩
  | 1 => ⟨S20000, .i32⟩
  | 2 => ⟨S20000, .i32⟩
  | 3 => ⟨S_, .i32⟩
  | 4 => ⟨S20000, .i32⟩
  | 5 => ⟨S20000, .i32⟩
  | 6 => ⟨S_, .i32⟩
  | 7 => ⟨S20000, .i32⟩
  | 8 => ⟨S20000, .i1⟩
  | 9 => ⟨S_, .i32⟩
  | 10 => ⟨S20000, .i32⟩
  | 11 => ⟨S20000, .i32⟩
  | 12 => ⟨S20000, .i32⟩
  | 13 => ⟨S20000x1, .i32⟩
  | 14 => ⟨S1, .i32⟩
  | 15 => ⟨S_, .i32⟩
  | 16 => ⟨S20000x1, .i32⟩
  | 17 => ⟨S20000x1, .i1⟩
  | 18 => ⟨S1x1, .i32⟩
  | 19 => ⟨S20000x1, .i32⟩
  | 20 => ⟨S20000x1, .i1⟩
  | 21 => ⟨S20000x1, .i1⟩
  | 22 => ⟨S_, .i1⟩
  | 23 => ⟨S20000, .i1⟩
  | 24 => ⟨S20000x32, .f32⟩
  | 25 => ⟨S20000x32, .i1⟩
  | 26 => ⟨S_, .f32⟩
  | 27 => ⟨S20000x32, .f32⟩
  | 28 => ⟨S20000x32, .f32⟩
  | 29 => ⟨S_, .f32⟩
  | 30 => ⟨S_, .f32⟩
  | 31 => ⟨S20000x32, .i1⟩
  | 32 => ⟨S20000x32, .f32⟩
  | 33 => ⟨S20000x32, .f32⟩
  | 34 => ⟨S20000x1, .i32⟩
  | 35 => ⟨S20000, .i32⟩
  | 36 => ⟨S_, .i32⟩
  | 37 => ⟨S20000, .i32⟩
  | 38 => ⟨S20000, .i32⟩
  | 39 => ⟨S_, .i32⟩
  | 40 => ⟨S_, .i32⟩
  | 41 => ⟨S_, .i32⟩
  | 42 => ⟨S20000, .i32⟩
  | 43 => ⟨S20000, .i32⟩
  | 44 => ⟨S_, .i32⟩
  | 45 => ⟨S20000, .i32⟩
  | 46 => ⟨S20000, .i32⟩
  | 47 => ⟨S20000x1, .i32⟩
  | 48 => ⟨S20000, .i32⟩
  | 49 => ⟨S_, .i32⟩
  | 50 => ⟨S20000, .i32⟩
  | 51 => ⟨S20000, .i32⟩
  | 52 => ⟨S_, .i32⟩
  | 53 => ⟨S_, .i32⟩
  | 54 => ⟨S_, .i32⟩
  | 55 => ⟨S20000, .i32⟩
  | 56 => ⟨S20000, .i32⟩
  | 57 => ⟨S_, .i32⟩
  | 58 => ⟨S20000, .i32⟩
  | 59 => ⟨S20000, .i32⟩
  | 60 => ⟨S_, .i32⟩
  | 61 => ⟨S20000, .i32⟩
  | 62 => ⟨S20000, .i32⟩
  | 63 => ⟨S20000, .i32⟩
  | 64 => ⟨S_, .i32⟩
  | 65 => ⟨S20000, .i32⟩
  | 66 => ⟨S20000, .i1⟩
  | 67 => ⟨S_, .i32⟩
  | 68 => ⟨S20000, .i32⟩
  | 69 => ⟨S20000, .i32⟩
  | 70 => ⟨S20000, .i32⟩
  | 71 => ⟨S20000x1, .i32⟩
  | 72 => ⟨S20000, .i32⟩
  | 73 => ⟨S_, .i32⟩
  | 74 => ⟨S20000, .i32⟩
  | 75 => ⟨S20000, .i1⟩
  | 76 => ⟨S20000x1, .i1⟩
  | 77 => ⟨S_, .i32⟩
  | 78 => ⟨S_, .i32⟩
  | 79 => ⟨S_, .i32⟩
  | 80 => ⟨S20000, .i32⟩
  | 81 => ⟨S20000, .i32⟩
  | 82 => ⟨S_, .i32⟩
  | 83 => ⟨S20000, .i32⟩
  | 84 => ⟨S20000, .i32⟩
  | 85 => ⟨S_, .i32⟩
  | 86 => ⟨S20000, .i32⟩
  | 87 => ⟨S20000, .i1⟩
  | 88 => ⟨S_, .i32⟩
  | 89 => ⟨S20000, .i32⟩
  | 90 => ⟨S20000, .i32⟩
  | 91 => ⟨S20000, .i32⟩
  | 92 => ⟨S20000x1, .i32⟩
  | 93 => ⟨S1, .i32⟩
  | 94 => ⟨S_, .i32⟩
  | 95 => ⟨S20000x1, .i32⟩
  | 96 => ⟨S20000x1, .i1⟩
  | 97 => ⟨S1x1, .i32⟩
  | 98 => ⟨S20000x1, .i32⟩
  | 99 => ⟨S20000x1, .i1⟩
  | 100 => ⟨S20000x1, .i1⟩
  | 101 => ⟨S_, .i1⟩
  | 102 => ⟨S20000, .i1⟩
  | 103 => ⟨S20000x32, .f32⟩
  | 104 => ⟨S20000x32, .i1⟩
  | 105 => ⟨S_, .f32⟩
  | 106 => ⟨S20000x32, .f32⟩
  | 107 => ⟨S20000x32, .f32⟩
  | 108 => ⟨S_, .f32⟩
  | 109 => ⟨S_, .f32⟩
  | 110 => ⟨S20000x32, .i1⟩
  | 111 => ⟨S20000x32, .f32⟩
  | 112 => ⟨S20000x32, .f32⟩
  | 113 => ⟨S20000x1, .i32⟩
  | 114 => ⟨S20000, .i32⟩
  | 115 => ⟨S_, .i32⟩
  | 116 => ⟨S20000, .i32⟩
  | 117 => ⟨S20000, .i32⟩
  | 118 => ⟨S_, .i32⟩
  | 119 => ⟨S_, .i32⟩
  | 120 => ⟨S_, .i32⟩
  | 121 => ⟨S20000, .i32⟩
  | 122 => ⟨S20000, .i32⟩
  | 123 => ⟨S_, .i32⟩
  | 124 => ⟨S20000, .i32⟩
  | 125 => ⟨S20000, .i32⟩
  | 126 => ⟨S20000x1, .i32⟩
  | 127 => ⟨S20000, .i32⟩
  | _ => ⟨S2x20000x32, .f32⟩

abbrev hbmTy0_22 (i : Nat) : BufTy := match i % 128 with
  | 0 => ⟨S_, .i32⟩
  | 1 => ⟨S20000, .i32⟩
  | 2 => ⟨S20000, .i32⟩
  | 3 => ⟨S_, .i32⟩
  | 4 => ⟨S_, .i32⟩
  | 5 => ⟨S_, .i32⟩
  | 6 => ⟨S20000, .i32⟩
  | 7 => ⟨S20000, .i32⟩
  | 8 => ⟨S_, .i32⟩
  | 9 => ⟨S20000, .i32⟩
  | 10 => ⟨S20000, .i32⟩
  | 11 => ⟨S_, .i32⟩
  | 12 => ⟨S20000, .i32⟩
  | 13 => ⟨S20000, .i32⟩
  | 14 => ⟨S20000, .i32⟩
  | 15 => ⟨S_, .i32⟩
  | 16 => ⟨S20000, .i32⟩
  | 17 => ⟨S20000, .i1⟩
  | 18 => ⟨S_, .i32⟩
  | 19 => ⟨S20000, .i32⟩
  | 20 => ⟨S20000, .i32⟩
  | 21 => ⟨S20000, .i32⟩
  | 22 => ⟨S20000x1, .i32⟩
  | 23 => ⟨S20000, .i32⟩
  | 24 => ⟨S_, .i32⟩
  | 25 => ⟨S20000, .i32⟩
  | 26 => ⟨S20000, .i1⟩
  | 27 => ⟨S20000x1, .i1⟩
  | 28 => ⟨S_, .i32⟩
  | 29 => ⟨S_, .i32⟩
  | 30 => ⟨S_, .i32⟩
  | 31 => ⟨S20000, .i32⟩
  | 32 => ⟨S20000, .i32⟩
  | 33 => ⟨S_, .i32⟩
  | 34 => ⟨S20000, .i32⟩
  | 35 => ⟨S20000, .i32⟩
  | 36 => ⟨S_, .i32⟩
  | 37 => ⟨S20000, .i32⟩
  | 38 => ⟨S20000, .i1⟩
  | 39 => ⟨S_, .i32⟩
  | 40 => ⟨S20000, .i32⟩
  | 41 => ⟨S20000, .i32⟩
  | 42 => ⟨S20000, .i32⟩
  | 43 => ⟨S20000x1, .i32⟩
  | 44 => ⟨S1, .i32⟩
  | 45 => ⟨S_, .i32⟩
  | 46 => ⟨S20000x1, .i32⟩
  | 47 => ⟨S20000x1, .i1⟩
  | 48 => ⟨S1x1, .i32⟩
  | 49 => ⟨S20000x1, .i32⟩
  | 50 => ⟨S20000x1, .i1⟩
  | 51 => ⟨S20000x1, .i1⟩
  | 52 => ⟨S_, .i1⟩
  | 53 => ⟨S20000, .i1⟩
  | 54 => ⟨S20000x32, .f32⟩
  | 55 => ⟨S20000x32, .i1⟩
  | 56 => ⟨S_, .f32⟩
  | 57 => ⟨S20000x32, .f32⟩
  | 58 => ⟨S20000x32, .f32⟩
  | 59 => ⟨S_, .f32⟩
  | 60 => ⟨S_, .f32⟩
  | 61 => ⟨S20000x32, .i1⟩
  | 62 => ⟨S20000x32, .f32⟩
  | 63 => ⟨S20000x32, .f32⟩
  | 64 => ⟨S20000x1, .i32⟩
  | 65 => ⟨S20000, .i32⟩
  | 66 => ⟨S_, .i32⟩
  | 67 => ⟨S20000, .i32⟩
  | 68 => ⟨S20000, .i32⟩
  | 69 => ⟨S_, .i32⟩
  | 70 => ⟨S_, .i32⟩
  | 71 => ⟨S_, .i32⟩
  | 72 => ⟨S20000, .i32⟩
  | 73 => ⟨S20000, .i32⟩
  | 74 => ⟨S_, .i32⟩
  | 75 => ⟨S20000, .i32⟩
  | 76 => ⟨S20000, .i32⟩
  | 77 => ⟨S20000x1, .i32⟩
  | 78 => ⟨S20000, .i32⟩
  | 79 => ⟨S_, .i32⟩
  | 80 => ⟨S20000, .i32⟩
  | 81 => ⟨S20000, .i32⟩
  | 82 => ⟨S_, .i32⟩
  | 83 => ⟨S_, .i32⟩
  | 84 => ⟨S_, .i32⟩
  | 85 => ⟨S20000, .i32⟩
  | 86 => ⟨S20000, .i32⟩
  | 87 => ⟨S_, .i32⟩
  | 88 => ⟨S20000, .i32⟩
  | 89 => ⟨S20000, .i32⟩
  | 90 => ⟨S_, .i32⟩
  | 91 => ⟨S20000, .i32⟩
  | 92 => ⟨S20000, .i32⟩
  | 93 => ⟨S20000, .i32⟩
  | 94 => ⟨S_, .i32⟩
  | 95 => ⟨S20000, .i32⟩
  | 96 => ⟨S20000, .i1⟩
  | 97 => ⟨S_, .i32⟩
  | 98 => ⟨S20000, .i32⟩
  | 99 => ⟨S20000, .i32⟩
  | 100 => ⟨S20000, .i32⟩
  | 101 => ⟨S20000x1, .i32⟩
  | 102 => ⟨S20000, .i32⟩
  | 103 => ⟨S_, .i32⟩
  | 104 => ⟨S20000, .i32⟩
  | 105 => ⟨S20000, .i1⟩
  | 106 => ⟨S20000x1, .i1⟩
  | 107 => ⟨S_, .i32⟩
  | 108 => ⟨S_, .i32⟩
  | 109 => ⟨S_, .i32⟩
  | 110 => ⟨S20000, .i32⟩
  | 111 => ⟨S20000, .i32⟩
  | 112 => ⟨S_, .i32⟩
  | 113 => ⟨S20000, .i32⟩
  | 114 => ⟨S20000, .i32⟩
  | 115 => ⟨S_, .i32⟩
  | 116 => ⟨S20000, .i32⟩
  | 117 => ⟨S20000, .i1⟩
  | 118 => ⟨S_, .i32⟩
  | 119 => ⟨S20000, .i32⟩
  | 120 => ⟨S20000, .i32⟩
  | 121 => ⟨S20000, .i32⟩
  | 122 => ⟨S20000x1, .i32⟩
  | 123 => ⟨S1, .i32⟩
  | 124 => ⟨S_, .i32⟩
  | 125 => ⟨S20000x1, .i32⟩
  | 126 => ⟨S20000x1, .i1⟩
  | 127 => ⟨S1x1, .i32⟩
  | _ => ⟨S2x20000x32, .f32⟩

abbrev hbmTy0_23 (i : Nat) : BufTy := match i % 128 with
  | 0 => ⟨S20000x1, .i32⟩
  | 1 => ⟨S20000x1, .i1⟩
  | 2 => ⟨S20000x1, .i1⟩
  | 3 => ⟨S_, .i1⟩
  | 4 => ⟨S20000, .i1⟩
  | 5 => ⟨S20000x32, .f32⟩
  | 6 => ⟨S20000x32, .i1⟩
  | 7 => ⟨S_, .f32⟩
  | 8 => ⟨S20000x32, .f32⟩
  | 9 => ⟨S20000x32, .f32⟩
  | 10 => ⟨S_, .f32⟩
  | 11 => ⟨S_, .f32⟩
  | 12 => ⟨S20000x32, .i1⟩
  | 13 => ⟨S20000x32, .f32⟩
  | 14 => ⟨S20000x32, .f32⟩
  | 15 => ⟨S20000x1, .i32⟩
  | 16 => ⟨S20000, .i32⟩
  | 17 => ⟨S_, .i32⟩
  | 18 => ⟨S20000, .i32⟩
  | 19 => ⟨S20000, .i32⟩
  | 20 => ⟨S_, .i32⟩
  | 21 => ⟨S_, .i32⟩
  | 22 => ⟨S_, .i32⟩
  | 23 => ⟨S20000, .i32⟩
  | 24 => ⟨S20000, .i32⟩
  | 25 => ⟨S_, .i32⟩
  | 26 => ⟨S20000, .i32⟩
  | 27 => ⟨S20000, .i32⟩
  | 28 => ⟨S20000x1, .i32⟩
  | 29 => ⟨S20000, .i32⟩
  | 30 => ⟨S_, .i32⟩
  | 31 => ⟨S20000, .i32⟩
  | 32 => ⟨S20000, .i32⟩
  | 33 => ⟨S_, .i32⟩
  | 34 => ⟨S_, .i32⟩
  | 35 => ⟨S_, .i32⟩
  | 36 => ⟨S20000, .i32⟩
  | 37 => ⟨S20000, .i32⟩
  | 38 => ⟨S_, .i32⟩
  | 39 => ⟨S20000, .i32⟩
  | 40 => ⟨S20000, .i32⟩
  | 41 => ⟨S_, .i32⟩
  | 42 => ⟨S20000, .i32⟩
  | 43 => ⟨S20000, .i32⟩
  | 44 => ⟨S20000, .i32⟩
  | 45 => ⟨S_, .i32⟩
  | 46 => ⟨S20000, .i32⟩
  | 47 => ⟨S20000, .i1⟩
  | 48 => ⟨S_, .i32⟩
  | 49 => ⟨S20000, .i32⟩
  | 50 => ⟨S20000, .i32⟩
  | 51 => ⟨S20000, .i32⟩
  | 52 => ⟨S20000x1, .i32⟩
  | 53 => ⟨S20000, .i32⟩
  | 54 => ⟨S_, .i32⟩
  | 55 => ⟨S20000, .i32⟩
  | 56 => ⟨S20000, .i1⟩
  | 57 => ⟨S20000x1, .i1⟩
  | 58 => ⟨S_, .i32⟩
  | 59 => ⟨S_, .i32⟩
  | 60 => ⟨S_, .i32⟩
  | 61 => ⟨S20000, .i32⟩
  | 62 => ⟨S20000, .i32⟩
  | 63 => ⟨S_, .i32⟩
  | 64 => ⟨S20000, .i32⟩
  | 65 => ⟨S20000, .i32⟩
  | 66 => ⟨S_, .i32⟩
  | 67 => ⟨S20000, .i32⟩
  | 68 => ⟨S20000, .i1⟩
  | 69 => ⟨S_, .i32⟩
  | 70 => ⟨S20000, .i32⟩
  | 71 => ⟨S20000, .i32⟩
  | 72 => ⟨S20000, .i32⟩
  | 73 => ⟨S20000x1, .i32⟩
  | 74 => ⟨S1, .i32⟩
  | 75 => ⟨S_, .i32⟩
  | 76 => ⟨S20000x1, .i32⟩
  | 77 => ⟨S20000x1, .i1⟩
  | 78 => ⟨S1x1, .i32⟩
  | 79 => ⟨S20000x1, .i32⟩
  | 80 => ⟨S20000x1, .i1⟩
  | 81 => ⟨S20000x1, .i1⟩
  | 82 => ⟨S_, .i1⟩
  | 83 => ⟨S20000, .i1⟩
  | 84 => ⟨S20000x32, .f32⟩
  | 85 => ⟨S20000x32, .i1⟩
  | 86 => ⟨S_, .f32⟩
  | 87 => ⟨S20000x32, .f32⟩
  | 88 => ⟨S20000x32, .f32⟩
  | 89 => ⟨S_, .f32⟩
  | 90 => ⟨S_, .f32⟩
  | 91 => ⟨S20000x32, .i1⟩
  | 92 => ⟨S20000x32, .f32⟩
  | 93 => ⟨S20000x32, .f32⟩
  | 94 => ⟨S20000x1, .i32⟩
  | 95 => ⟨S20000, .i32⟩
  | 96 => ⟨S_, .i32⟩
  | 97 => ⟨S20000, .i32⟩
  | 98 => ⟨S20000, .i32⟩
  | 99 => ⟨S_, .i32⟩
  | 100 => ⟨S_, .i32⟩
  | 101 => ⟨S_, .i32⟩
  | 102 => ⟨S20000, .i32⟩
  | 103 => ⟨S20000, .i32⟩
  | 104 => ⟨S_, .i32⟩
  | 105 => ⟨S20000, .i32⟩
  | 106 => ⟨S20000, .i32⟩
  | 107 => ⟨S20000x1, .i32⟩
  | 108 => ⟨S20000, .i32⟩
  | 109 => ⟨S_, .i32⟩
  | 110 => ⟨S20000, .i32⟩
  | 111 => ⟨S20000, .i32⟩
  | 112 => ⟨S_, .i32⟩
  | 113 => ⟨S_, .i32⟩
  | 114 => ⟨S_, .i32⟩
  | 115 => ⟨S20000, .i32⟩
  | 116 => ⟨S20000, .i32⟩
  | 117 => ⟨S_, .i32⟩
  | 118 => ⟨S20000, .i32⟩
  | 119 => ⟨S20000, .i32⟩
  | 120 => ⟨S_, .i32⟩
  | 121 => ⟨S20000, .i32⟩
  | 122 => ⟨S20000, .i32⟩
  | 123 => ⟨S20000, .i32⟩
  | 124 => ⟨S_, .i32⟩
  | 125 => ⟨S20000, .i32⟩
  | 126 => ⟨S20000, .i1⟩
  | 127 => ⟨S_, .i32⟩
  | _ => ⟨S2x20000x32, .f32⟩

abbrev hbmTy0_24 (i : Nat) : BufTy := match i % 128 with
  | 0 => ⟨S20000, .i32⟩
  | 1 => ⟨S20000, .i32⟩
  | 2 => ⟨S20000, .i32⟩
  | 3 => ⟨S20000x1, .i32⟩
  | 4 => ⟨S20000, .i32⟩
  | 5 => ⟨S_, .i32⟩
  | 6 => ⟨S20000, .i32⟩
  | 7 => ⟨S20000, .i1⟩
  | 8 => ⟨S20000x1, .i1⟩
  | 9 => ⟨S_, .i32⟩
  | 10 => ⟨S_, .i32⟩
  | 11 => ⟨S_, .i32⟩
  | 12 => ⟨S20000, .i32⟩
  | 13 => ⟨S20000, .i32⟩
  | 14 => ⟨S_, .i32⟩
  | 15 => ⟨S20000, .i32⟩
  | 16 => ⟨S20000, .i32⟩
  | 17 => ⟨S_, .i32⟩
  | 18 => ⟨S20000, .i32⟩
  | 19 => ⟨S20000, .i1⟩
  | 20 => ⟨S_, .i32⟩
  | 21 => ⟨S20000, .i32⟩
  | 22 => ⟨S20000, .i32⟩
  | 23 => ⟨S20000, .i32⟩
  | 24 => ⟨S20000x1, .i32⟩
  | 25 => ⟨S1, .i32⟩
  | 26 => ⟨S_, .i32⟩
  | 27 => ⟨S20000x1, .i32⟩
  | 28 => ⟨S20000x1, .i1⟩
  | 29 => ⟨S1x1, .i32⟩
  | 30 => ⟨S20000x1, .i32⟩
  | 31 => ⟨S20000x1, .i1⟩
  | 32 => ⟨S20000x1, .i1⟩
  | 33 => ⟨S_, .i1⟩
  | 34 => ⟨S20000, .i1⟩
  | 35 => ⟨S20000x32, .f32⟩
  | 36 => ⟨S20000x32, .i1⟩
  | 37 => ⟨S_, .f32⟩
  | 38 => ⟨S20000x32, .f32⟩
  | 39 => ⟨S20000x32, .f32⟩
  | 40 => ⟨S_, .f32⟩
  | 41 => ⟨S_, .f32⟩
  | 42 => ⟨S20000x32, .i1⟩
  | 43 => ⟨S20000x32, .f32⟩
  | 44 => ⟨S20000x32, .f32⟩
  | 45 => ⟨S20000x1, .i32⟩
  | 46 => ⟨S20000, .i32⟩
  | 47 => ⟨S_, .i32⟩
  | 48 => ⟨S20000, .i32⟩
  | 49 => ⟨S20000, .i32⟩
  | 50 => ⟨S_, .i32⟩
  | 51 => ⟨S_, .i32⟩
  | 52 => ⟨S_, .i32⟩
  | 53 => ⟨S20000, .i32⟩
  | 54 => ⟨S20000, .i32⟩
  | 55 => ⟨S_, .i32⟩
  | 56 => ⟨S20000, .i32⟩
  | 57 => ⟨S20000, .i32⟩
  | 58 => ⟨S20000x1, .i32⟩
  | 59 => ⟨S20000, .i32⟩
  | 60 => ⟨S_, .i32⟩
  | 61 => ⟨S20000, .i32⟩
  | 62 => ⟨S20000, .i32⟩
  | 63 => ⟨S_, .i32⟩
  | 64 => ⟨S_, .i32⟩
  | 65 => ⟨S_, .i32⟩
  | 66 => ⟨S20000, .i32⟩
  | 67 => ⟨S20000, .i32⟩
  | 68 => ⟨S_, .i32⟩
  | 69 => ⟨S20000, .i32⟩
  | 70 => ⟨S20000, .i32⟩
  | 71 => ⟨S_, .i32⟩
  | 72 => ⟨S20000, .i32⟩
  | 73 => ⟨S20000, .i32⟩
  | 74 => ⟨S20000, .i32⟩
  | 75 => ⟨S_, .i32⟩
  | 76 => ⟨S20000, .i32⟩
  | 77 => ⟨S20000, .i1⟩
  | 78 => ⟨S_, .i32⟩
  | 79 => ⟨S20000, .i32⟩
  | 80 => ⟨S20000, .i32⟩
  | 81 => ⟨S20000, .i32⟩
  | 82 => ⟨S20000x1, .i32⟩
  | 83 => ⟨S20000, .i32⟩
  | 84 => ⟨S_, .i32⟩
  | 85 => ⟨S20000, .i32⟩
  | 86 => ⟨S20000, .i1⟩
  | 87 => ⟨S20000x1, .i1⟩
  | 88 => ⟨S_, .i32⟩
  | 89 => ⟨S_, .i32⟩
  | 90 => ⟨S_, .i32⟩
  | 91 => ⟨S20000, .i32⟩
  | 92 => ⟨S20000, .i32⟩
  | 93 => ⟨S_, .i32⟩
  | 94 => ⟨S20000, .i32⟩
  | 95 => ⟨S20000, .i32⟩
  | 96 => ⟨S_, .i32⟩
  | 97 => ⟨S20000, .i32⟩
  | 98 => ⟨S20000, .i1⟩
  | 99 => ⟨S_, .i32⟩
  | 100 => ⟨S20000, .i32⟩
  | 101 => ⟨S20000, .i32⟩
  | 102 => ⟨S20000, .i32⟩
  | 103 => ⟨S20000x1, .i32⟩
  | 104 => ⟨S1, .i32⟩
  | 105 => ⟨S_, .i32⟩
  | 106 => ⟨S20000x1, .i32⟩
  | 107 => ⟨S20000x1, .i1⟩
  | 108 => ⟨S1x1, .i32⟩
  | 109 => ⟨S20000x1, .i32⟩
  | 110 => ⟨S20000x1, .i1⟩
  | 111 => ⟨S20000x1, .i1⟩
  | 112 => ⟨S_, .i1⟩
  | 113 => ⟨S20000, .i1⟩
  | 114 => ⟨S20000x32, .f32⟩
  | 115 => ⟨S20000x32, .i1⟩
  | 116 => ⟨S_, .f32⟩
  | 117 => ⟨S20000x32, .f32⟩
  | 118 => ⟨S20000x32, .f32⟩
  | 119 => ⟨S_, .f32⟩
  | 120 => ⟨S_, .f32⟩
  | 121 => ⟨S20000x32, .i1⟩
  | 122 => ⟨S20000x32, .f32⟩
  | 123 => ⟨S20000x32, .f32⟩
  | 124 => ⟨S1x20000x32, .f32⟩
  | 125 => ⟨S1x20000x32, .f32⟩
  | 126 => ⟨S1x20000x32, .f32⟩
  | 127 => ⟨S1x20000x32, .f32⟩
  | _ => ⟨S2x20000x32, .f32⟩

abbrev hbmTy0_25 (i : Nat) : BufTy := match i % 128 with
  | 0 => ⟨S1x20000x32, .f32⟩
  | 1 => ⟨S1x20000x32, .f32⟩
  | 2 => ⟨S1x20000x32, .f32⟩
  | 3 => ⟨S1x20000x32, .f32⟩
  | 4 => ⟨S1x20000x32, .f32⟩
  | 5 => ⟨S9x20000x32, .f32⟩
  | 6 => ⟨S20000x9x32, .f32⟩
  | 7 => ⟨S32x32, .f32⟩
  | 8 => ⟨S32, .f32⟩
  | 9 => ⟨S1x32, .f32⟩
  | 10 => ⟨S20000x32, .f32⟩
  | 11 => ⟨S180000x32, .f32⟩
  | 12 => ⟨S32x32, .f32⟩
  | 13 => ⟨S32, .f32⟩
  | 14 => ⟨S1x32, .f32⟩
  | 15 => ⟨S180000x32, .f32⟩
  | 16 => ⟨S20000x9x32, .f32⟩
  | 17 => ⟨S180000x32, .f32⟩
  | 18 => ⟨S32x32, .f32⟩
  | 19 => ⟨S32, .f32⟩
  | 20 => ⟨S1x32, .f32⟩
  | 21 => ⟨S180000x32, .f32⟩
  | 22 => ⟨S20000x9x32, .f32⟩
  | 23 => ⟨S20000x2x16, .f32⟩
  | 24 => ⟨S20000x9x2x16, .f32⟩
  | 25 => ⟨S20000x2x9x16, .f32⟩
  | 26 => ⟨S20000x9x2x16, .f32⟩
  | 27 => ⟨S20000x2x9x16, .f32⟩
  | 28 => ⟨S20000x2x9, .f32⟩
  | 29 => ⟨S_, .f32⟩
  | 30 => ⟨S20000x2x9, .f32⟩
  | 31 => ⟨S20000x2x9, .f32⟩
  | 32 => ⟨S_, .f32⟩
  | 33 => ⟨S20000x2, .f32⟩
  | 34 => ⟨S_, .f32⟩
  | 35 => ⟨S20000x2, .f32⟩
  | 36 => ⟨S20000x2, .f32⟩
  | 37 => ⟨S20000x2x1, .f32⟩
  | 38 => ⟨S20000x2x9, .f32⟩
  | 39 => ⟨S20000x2x9, .f32⟩
  | 40 => ⟨S20000x2x9, .f32⟩
  | 41 => ⟨S_, .f32⟩
  | 42 => ⟨S20000x2, .f32⟩
  | 43 => ⟨S20000x2x1, .f32⟩
  | 44 => ⟨S20000x2x9, .f32⟩
  | 45 => ⟨S20000x2x9, .f32⟩
  | 46 => ⟨S20000x2x16, .f32⟩
  | 47 => ⟨S20000x32, .f32⟩
  | 48 => ⟨S1x32, .f32⟩
  | 49 => ⟨S20000x32, .f32⟩
  | 50 => ⟨S20000x32, .f32⟩
  | 51 => ⟨S20000x1, .i32⟩
  | 52 => ⟨S20000, .i32⟩
  | 53 => ⟨S_, .i32⟩
  | 54 => ⟨S20000, .i32⟩
  | 55 => ⟨S20000, .i32⟩
  | 56 => ⟨S20000x1, .i32⟩
  | 57 => ⟨S20000, .i32⟩
  | 58 => ⟨S20000, .i32⟩
  | 59 => ⟨S_, .f32⟩
  | 60 => ⟨S32x214272, .f32⟩
  | 61 => ⟨S32x20000, .f32⟩
  | 62 => ⟨S_, .i32⟩
  | 63 => ⟨S20000, .i32⟩
  | 64 => ⟨S20000, .i1⟩
  | 65 => ⟨S_, .i32⟩
  | 66 => ⟨S20000, .i32⟩
  | 67 => ⟨S20000, .i32⟩
  | 68 => ⟨S20000, .i32⟩
  | 69 => ⟨S20000x1, .i32⟩
  | 70 => ⟨S32x214272, .f32⟩
  | 71 => ⟨S1x32x496x432, .f32⟩
  | 72 => ⟨S2x32x496x432, .f32⟩
  | 73 => ⟨S2x32x496x432, .f32⟩
  | _ => ⟨S2x20000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | _ => ⟨S2x20000x32, .f32⟩

abbrev bufTy : (tb : Table) → Fin (tcTables nBuf tb) → BufTy
  | .hbm, ⟨i, _⟩ => hbmTy i
  | .local _ .vmem, ⟨0, _⟩ => ⟨S4000x32, .f32⟩
  | .local _ .vmem, ⟨1, _⟩ => ⟨S4000x32, .f32⟩
  | .local _ .vmem, ⟨2, _⟩ => ⟨S32x32, .f32⟩
  | .local _ .vmem, ⟨3, _⟩ => ⟨S1x32, .f32⟩
  | .local _ .vmem, ⟨4, _⟩ => ⟨S4000x32, .f32⟩
  | .local _ .vmem, ⟨5, _⟩ => ⟨S4000x32, .f32⟩
  | .local _ .vmem, ⟨6, _⟩ => ⟨S4000x32, .f32⟩
  | .local _ .vmem, ⟨7, _⟩ => ⟨S4000x32, .f32⟩
  | .local _ .vmem, ⟨8, _⟩ => ⟨S32x32, .f32⟩
  | .local _ .vmem, ⟨9, _⟩ => ⟨S1x32, .f32⟩
  | .local _ .vmem, ⟨10, _⟩ => ⟨S4000x32, .f32⟩
  | .local _ .vmem, ⟨11, _⟩ => ⟨S4000x32, .f32⟩
  | .local _ .vmem, ⟨12, _⟩ => ⟨S4000x32, .f32⟩
  | .local _ .vmem, ⟨13, _⟩ => ⟨S4000x32, .f32⟩
  | .local _ .vmem, ⟨14, _⟩ => ⟨S32x32, .f32⟩
  | .local _ .vmem, ⟨15, _⟩ => ⟨S1x32, .f32⟩
  | .local _ .vmem, ⟨16, _⟩ => ⟨S4000x32, .f32⟩
  | .local _ .vmem, ⟨17, _⟩ => ⟨S4000x32, .f32⟩
  | .local _ .vmem, ⟨18, _⟩ => ⟨S4000x32, .f32⟩
  | .local _ .vmem, ⟨19, _⟩ => ⟨S4000x32, .f32⟩
  | .local _ .vmem, ⟨20, _⟩ => ⟨S32x32, .f32⟩
  | .local _ .vmem, ⟨21, _⟩ => ⟨S1x32, .f32⟩
  | .local _ .vmem, ⟨22, _⟩ => ⟨S4000x32, .f32⟩
  | .local _ .vmem, ⟨23, _⟩ => ⟨S4000x32, .f32⟩
  | .local _ .vmem, ⟨24, _⟩ => ⟨S4000x32, .f32⟩
  | .local _ .vmem, ⟨25, _⟩ => ⟨S4000x32, .f32⟩
  | .local _ .vmem, ⟨26, _⟩ => ⟨S32x32, .f32⟩
  | .local _ .vmem, ⟨27, _⟩ => ⟨S1x32, .f32⟩
  | .local _ .vmem, ⟨28, _⟩ => ⟨S4000x32, .f32⟩
  | .local _ .vmem, ⟨29, _⟩ => ⟨S4000x32, .f32⟩
  | .local _ .vmem, ⟨30, _⟩ => ⟨S4000x32, .f32⟩
  | .local _ .vmem, ⟨31, _⟩ => ⟨S4000x32, .f32⟩
  | .local _ .vmem, ⟨32, _⟩ => ⟨S32x32, .f32⟩
  | .local _ .vmem, ⟨33, _⟩ => ⟨S1x32, .f32⟩
  | .local _ .vmem, ⟨34, _⟩ => ⟨S4000x32, .f32⟩
  | .local _ .vmem, ⟨35, _⟩ => ⟨S4000x32, .f32⟩
  | .local _ .vmem, ⟨36, _⟩ => ⟨S4000x32, .f32⟩
  | .local _ .vmem, ⟨37, _⟩ => ⟨S4000x32, .f32⟩
  | .local _ .vmem, ⟨38, _⟩ => ⟨S32x32, .f32⟩
  | .local _ .vmem, ⟨39, _⟩ => ⟨S1x32, .f32⟩
  | .local _ .vmem, ⟨40, _⟩ => ⟨S4000x32, .f32⟩
  | .local _ .vmem, ⟨41, _⟩ => ⟨S4000x32, .f32⟩
  | .local _ .vmem, ⟨42, _⟩ => ⟨S4000x32, .f32⟩
  | .local _ .vmem, ⟨43, _⟩ => ⟨S4000x32, .f32⟩
  | .local _ .vmem, ⟨44, _⟩ => ⟨S32x32, .f32⟩
  | .local _ .vmem, ⟨45, _⟩ => ⟨S1x32, .f32⟩
  | .local _ .vmem, ⟨46, _⟩ => ⟨S4000x32, .f32⟩
  | .local _ .vmem, ⟨47, _⟩ => ⟨S4000x32, .f32⟩
  | .local _ .vmem, ⟨48, _⟩ => ⟨S4000x32, .f32⟩
  | .local _ .vmem, ⟨49, _⟩ => ⟨S4000x32, .f32⟩
  | .local _ .vmem, ⟨50, _⟩ => ⟨S32x32, .f32⟩
  | .local _ .vmem, ⟨51, _⟩ => ⟨S1x32, .f32⟩
  | .local _ .vmem, ⟨52, _⟩ => ⟨S4000x32, .f32⟩
  | .local _ .vmem, ⟨53, _⟩ => ⟨S4000x32, .f32⟩
  | .local _ .vmem, ⟨54, _⟩ => ⟨S4000x32, .f32⟩
  | .local _ .vmem, ⟨55, _⟩ => ⟨S4000x32, .f32⟩
  | .local _ .vmem, ⟨56, _⟩ => ⟨S32x32, .f32⟩
  | .local _ .vmem, ⟨57, _⟩ => ⟨S1x32, .f32⟩
  | .local _ .vmem, ⟨58, _⟩ => ⟨S4000x32, .f32⟩
  | .local _ .vmem, ⟨59, _⟩ => ⟨S4000x32, .f32⟩
  | .local _ .vmem, ⟨60, _⟩ => ⟨S4000x32, .f32⟩
  | .local _ .vmem, ⟨61, _⟩ => ⟨S4000x32, .f32⟩
  | .local _ .vmem, ⟨62, _⟩ => ⟨S32x32, .f32⟩
  | .local _ .vmem, ⟨63, _⟩ => ⟨S1x32, .f32⟩
  | .local _ .vmem, ⟨64, _⟩ => ⟨S4000x32, .f32⟩
  | .local _ .vmem, ⟨65, _⟩ => ⟨S4000x32, .f32⟩
  | .local _ .vmem, ⟨66, _⟩ => ⟨S4000x32, .f32⟩
  | .local _ .vmem, ⟨67, _⟩ => ⟨S4000x32, .f32⟩
  | .local _ .vmem, ⟨68, _⟩ => ⟨S32x32, .f32⟩
  | .local _ .vmem, ⟨69, _⟩ => ⟨S1x32, .f32⟩
  | .local _ .vmem, ⟨70, _⟩ => ⟨S4000x32, .f32⟩
  | .local _ .vmem, ⟨71, _⟩ => ⟨S4000x32, .f32⟩
  | .local _ .vmem, ⟨72, _⟩ => ⟨S4000x32, .f32⟩
  | .local _ .vmem, ⟨73, _⟩ => ⟨S4000x32, .f32⟩
  | .local _ .vmem, ⟨74, _⟩ => ⟨S32x32, .f32⟩
  | .local _ .vmem, ⟨75, _⟩ => ⟨S1x32, .f32⟩
  | .local _ .vmem, ⟨76, _⟩ => ⟨S4000x32, .f32⟩
  | .local _ .vmem, ⟨77, _⟩ => ⟨S4000x32, .f32⟩
  | .local _ .vmem, ⟨78, _⟩ => ⟨S4000x32, .f32⟩
  | .local _ .vmem, ⟨79, _⟩ => ⟨S4000x32, .f32⟩
  | .local _ .vmem, ⟨80, _⟩ => ⟨S32x32, .f32⟩
  | .local _ .vmem, ⟨81, _⟩ => ⟨S1x32, .f32⟩
  | .local _ .vmem, ⟨82, _⟩ => ⟨S4000x32, .f32⟩
  | .local _ .vmem, ⟨83, _⟩ => ⟨S4000x32, .f32⟩
  | .local _ .vmem, ⟨84, _⟩ => ⟨S4000x32, .f32⟩
  | .local _ .vmem, ⟨85, _⟩ => ⟨S4000x32, .f32⟩
  | .local _ .vmem, ⟨86, _⟩ => ⟨S32x32, .f32⟩
  | .local _ .vmem, ⟨87, _⟩ => ⟨S1x32, .f32⟩
  | .local _ .vmem, ⟨88, _⟩ => ⟨S4000x32, .f32⟩
  | .local _ .vmem, ⟨89, _⟩ => ⟨S4000x32, .f32⟩
  | .local _ .vmem, ⟨90, _⟩ => ⟨S4000x32, .f32⟩
  | .local _ .vmem, ⟨91, _⟩ => ⟨S4000x32, .f32⟩
  | .local _ .vmem, ⟨92, _⟩ => ⟨S32x32, .f32⟩
  | .local _ .vmem, ⟨93, _⟩ => ⟨S1x32, .f32⟩
  | .local _ .vmem, ⟨94, _⟩ => ⟨S4000x32, .f32⟩
  | .local _ .vmem, ⟨95, _⟩ => ⟨S4000x32, .f32⟩
  | _, _ => ⟨S2x20000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_c_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_c_8 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v33 : Ref sig .tc := ⟨.hbm, 65, rfl⟩
abbrev main_c_9 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_10 : Ref sig .tc := ⟨.hbm, 70, rfl⟩
abbrev main_v37 : Ref sig .tc := ⟨.hbm, 71, rfl⟩
abbrev main_v38 : Ref sig .tc := ⟨.hbm, 72, rfl⟩
abbrev main_c_11 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_12 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_13 : Ref sig .tc := ⟨.hbm, 83, rfl⟩
abbrev main_c_14 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v47 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v48 : Ref sig .tc := ⟨.hbm, 113, rfl⟩
abbrev main_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_c_15 : Ref sig .tc := ⟨.hbm, 121, rfl⟩
abbrev main_v52 : Ref sig .tc := ⟨.hbm, 122, rfl⟩
abbrev main_v53 : Ref sig .tc := ⟨.hbm, 123, rfl⟩
abbrev main_c_16 : Ref sig .tc := ⟨.hbm, 124, rfl⟩
abbrev main_c_17 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_c_18 : Ref sig .tc := ⟨.hbm, 134, rfl⟩
abbrev main_v57 : Ref sig .tc := ⟨.hbm, 135, rfl⟩
abbrev main_v58 : Ref sig .tc := ⟨.hbm, 136, rfl⟩
abbrev main_c_19 : Ref sig .tc := ⟨.hbm, 137, rfl⟩
abbrev main_c_20 : Ref sig .tc := ⟨.hbm, 138, rfl⟩
abbrev main_call6_v0 : Ref sig .tc := ⟨.hbm, 139, rfl⟩
abbrev main_call6_v1 : Ref sig .tc := ⟨.hbm, 140, rfl⟩
abbrev main_call6_v2 : Ref sig .tc := ⟨.hbm, 141, rfl⟩
abbrev main_call6_v3 : Ref sig .tc := ⟨.hbm, 142, rfl⟩
abbrev main_call6_v4 : Ref sig .tc := ⟨.hbm, 143, rfl⟩
abbrev main_v59 : Ref sig .tc := ⟨.hbm, 144, rfl⟩
abbrev main_c_21 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_c_22 : Ref sig .tc := ⟨.hbm, 149, rfl⟩
abbrev main_v63 : Ref sig .tc := ⟨.hbm, 150, rfl⟩
abbrev main_v64 : Ref sig .tc := ⟨.hbm, 151, rfl⟩
abbrev main_c_23 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_c_24 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_c_25 : Ref sig .tc := ⟨.hbm, 162, rfl⟩
abbrev main_c_26 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_v73 : Ref sig .tc := ⟨.hbm, 169, rfl⟩
abbrev main_call8_c : Ref sig .tc := ⟨.hbm, 170, rfl⟩
abbrev main_call8_v0 : Ref sig .tc := ⟨.hbm, 171, rfl⟩
abbrev main_call8_v1 : Ref sig .tc := ⟨.hbm, 172, rfl⟩
abbrev main_call8_c_0 : Ref sig .tc := ⟨.hbm, 173, rfl⟩
abbrev main_call8_v2 : Ref sig .tc := ⟨.hbm, 174, rfl⟩
abbrev main_call8_v3 : Ref sig .tc := ⟨.hbm, 175, rfl⟩
abbrev main_call8_v4 : Ref sig .tc := ⟨.hbm, 176, rfl⟩
abbrev main_call8_v5 : Ref sig .tc := ⟨.hbm, 177, rfl⟩
abbrev main_call8_c_1 : Ref sig .tc := ⟨.hbm, 178, rfl⟩
abbrev main_call8_c_2 : Ref sig .tc := ⟨.hbm, 179, rfl⟩
abbrev main_call8_v6 : Ref sig .tc := ⟨.hbm, 180, rfl⟩
abbrev main_call8_v7 : Ref sig .tc := ⟨.hbm, 181, rfl⟩
abbrev main_call8_v8 : Ref sig .tc := ⟨.hbm, 182, rfl⟩
abbrev main_call8_v9 : Ref sig .tc := ⟨.hbm, 183, rfl⟩
abbrev main_call8_v10 : Ref sig .tc := ⟨.hbm, 184, rfl⟩
abbrev main_call8_v11 : Ref sig .tc := ⟨.hbm, 185, rfl⟩
abbrev main_call8_c_3 : Ref sig .tc := ⟨.hbm, 186, rfl⟩
abbrev main_call8_v12 : Ref sig .tc := ⟨.hbm, 187, rfl⟩
abbrev main_call8_v13 : Ref sig .tc := ⟨.hbm, 188, rfl⟩
abbrev main_call8_v14 : Ref sig .tc := ⟨.hbm, 189, rfl⟩
abbrev main_call8_cst : Ref sig .tc := ⟨.hbm, 190, rfl⟩
abbrev main_call8_v15 : Ref sig .tc := ⟨.hbm, 191, rfl⟩
abbrev main_v74 : Ref sig .tc := ⟨.hbm, 192, rfl⟩
abbrev main_cst_27 : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_c_28 : Ref sig .tc := ⟨.hbm, 200, rfl⟩
abbrev main_v78 : Ref sig .tc := ⟨.hbm, 201, rfl⟩
abbrev main_v79 : Ref sig .tc := ⟨.hbm, 202, rfl⟩
abbrev main_c_29 : Ref sig .tc := ⟨.hbm, 203, rfl⟩
abbrev main_c_30 : Ref sig .tc := ⟨.hbm, 204, rfl⟩
abbrev main_call10_v0 : Ref sig .tc := ⟨.hbm, 205, rfl⟩
abbrev main_call10_v1 : Ref sig .tc := ⟨.hbm, 206, rfl⟩
abbrev main_call10_v2 : Ref sig .tc := ⟨.hbm, 207, rfl⟩
abbrev main_call10_v3 : Ref sig .tc := ⟨.hbm, 208, rfl⟩
abbrev main_call10_v4 : Ref sig .tc := ⟨.hbm, 209, rfl⟩
abbrev main_v80 : Ref sig .tc := ⟨.hbm, 210, rfl⟩
abbrev main_v81 : Ref sig .tc := ⟨.hbm, 211, rfl⟩
abbrev main_v82 : Ref sig .tc := ⟨.hbm, 212, rfl⟩
abbrev main_c_31 : Ref sig .tc := ⟨.hbm, 213, rfl⟩
abbrev main_v83 : Ref sig .tc := ⟨.hbm, 214, rfl⟩
abbrev main_v84 : Ref sig .tc := ⟨.hbm, 215, rfl⟩
abbrev main_c_32 : Ref sig .tc := ⟨.hbm, 216, rfl⟩
abbrev main_c_33 : Ref sig .tc := ⟨.hbm, 217, rfl⟩
abbrev main_call11_v0 : Ref sig .tc := ⟨.hbm, 218, rfl⟩
abbrev main_call11_v1 : Ref sig .tc := ⟨.hbm, 219, rfl⟩
abbrev main_call11_v2 : Ref sig .tc := ⟨.hbm, 220, rfl⟩
abbrev main_call11_v3 : Ref sig .tc := ⟨.hbm, 221, rfl⟩
abbrev main_call11_v4 : Ref sig .tc := ⟨.hbm, 222, rfl⟩
abbrev main_v85 : Ref sig .tc := ⟨.hbm, 223, rfl⟩
abbrev main_c_34 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_c_35 : Ref sig .tc := ⟨.hbm, 228, rfl⟩
abbrev main_v89 : Ref sig .tc := ⟨.hbm, 229, rfl⟩
abbrev main_v90 : Ref sig .tc := ⟨.hbm, 230, rfl⟩
abbrev main_c_36 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩
abbrev main_c_37 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_c_38 : Ref sig .tc := ⟨.hbm, 241, rfl⟩
abbrev main_c_39 : Ref sig .tc := ⟨.hbm, 242, rfl⟩
abbrev main_call12_v0 : Ref sig .tc := ⟨.hbm, 243, rfl⟩
abbrev main_call12_v1 : Ref sig .tc := ⟨.hbm, 244, rfl⟩
abbrev main_call12_v2 : Ref sig .tc := ⟨.hbm, 245, rfl⟩
abbrev main_call12_v3 : Ref sig .tc := ⟨.hbm, 246, rfl⟩
abbrev main_call12_v4 : Ref sig .tc := ⟨.hbm, 247, rfl⟩
abbrev main_v99 : Ref sig .tc := ⟨.hbm, 248, rfl⟩
abbrev main_call13_c : Ref sig .tc := ⟨.hbm, 249, rfl⟩
abbrev main_call13_v0 : Ref sig .tc := ⟨.hbm, 250, rfl⟩
abbrev main_call13_v1 : Ref sig .tc := ⟨.hbm, 251, rfl⟩
abbrev main_call13_c_0 : Ref sig .tc := ⟨.hbm, 252, rfl⟩
abbrev main_call13_v2 : Ref sig .tc := ⟨.hbm, 253, rfl⟩
abbrev main_call13_v3 : Ref sig .tc := ⟨.hbm, 254, rfl⟩
abbrev main_call13_v4 : Ref sig .tc := ⟨.hbm, 255, rfl⟩
abbrev main_call13_v5 : Ref sig .tc := ⟨.hbm, 256, rfl⟩
abbrev main_call13_c_1 : Ref sig .tc := ⟨.hbm, 257, rfl⟩
abbrev main_call13_c_2 : Ref sig .tc := ⟨.hbm, 258, rfl⟩
abbrev main_call13_v6 : Ref sig .tc := ⟨.hbm, 259, rfl⟩
abbrev main_call13_v7 : Ref sig .tc := ⟨.hbm, 260, rfl⟩
abbrev main_call13_v8 : Ref sig .tc := ⟨.hbm, 261, rfl⟩
abbrev main_call13_v9 : Ref sig .tc := ⟨.hbm, 262, rfl⟩
abbrev main_call13_v10 : Ref sig .tc := ⟨.hbm, 263, rfl⟩
abbrev main_call13_v11 : Ref sig .tc := ⟨.hbm, 264, rfl⟩
abbrev main_call13_c_3 : Ref sig .tc := ⟨.hbm, 265, rfl⟩
abbrev main_call13_v12 : Ref sig .tc := ⟨.hbm, 266, rfl⟩
abbrev main_call13_v13 : Ref sig .tc := ⟨.hbm, 267, rfl⟩
abbrev main_call13_v14 : Ref sig .tc := ⟨.hbm, 268, rfl⟩
abbrev main_call13_cst : Ref sig .tc := ⟨.hbm, 269, rfl⟩
abbrev main_call13_v15 : Ref sig .tc := ⟨.hbm, 270, rfl⟩
abbrev main_v100 : Ref sig .tc := ⟨.hbm, 271, rfl⟩
abbrev main_cst_40 : Ref sig .tc := ⟨.hbm, 272, rfl⟩
abbrev main_call14_v0 : Ref sig .tc := ⟨.hbm, 273, rfl⟩
abbrev main_call14_v1 : Ref sig .tc := ⟨.hbm, 274, rfl⟩
abbrev main_call14_v2 : Ref sig .tc := ⟨.hbm, 275, rfl⟩
abbrev main_v101 : Ref sig .tc := ⟨.hbm, 276, rfl⟩
abbrev main_v102 : Ref sig .tc := ⟨.hbm, 277, rfl⟩
abbrev main_v103 : Ref sig .tc := ⟨.hbm, 278, rfl⟩
abbrev main_c_41 : Ref sig .tc := ⟨.hbm, 279, rfl⟩
abbrev main_v104 : Ref sig .tc := ⟨.hbm, 280, rfl⟩
abbrev main_v105 : Ref sig .tc := ⟨.hbm, 281, rfl⟩
abbrev main_c_42 : Ref sig .tc := ⟨.hbm, 282, rfl⟩
abbrev main_c_43 : Ref sig .tc := ⟨.hbm, 283, rfl⟩
abbrev main_call15_v0 : Ref sig .tc := ⟨.hbm, 284, rfl⟩
abbrev main_call15_v1 : Ref sig .tc := ⟨.hbm, 285, rfl⟩
abbrev main_call15_v2 : Ref sig .tc := ⟨.hbm, 286, rfl⟩
abbrev main_call15_v3 : Ref sig .tc := ⟨.hbm, 287, rfl⟩
abbrev main_call15_v4 : Ref sig .tc := ⟨.hbm, 288, rfl⟩
abbrev main_v106 : Ref sig .tc := ⟨.hbm, 289, rfl⟩
abbrev main_v107 : Ref sig .tc := ⟨.hbm, 290, rfl⟩
abbrev main_v108 : Ref sig .tc := ⟨.hbm, 291, rfl⟩
abbrev main_c_44 : Ref sig .tc := ⟨.hbm, 292, rfl⟩
abbrev main_v109 : Ref sig .tc := ⟨.hbm, 293, rfl⟩
abbrev main_v110 : Ref sig .tc := ⟨.hbm, 294, rfl⟩
abbrev main_c_45 : Ref sig .tc := ⟨.hbm, 295, rfl⟩
abbrev main_c_46 : Ref sig .tc := ⟨.hbm, 296, rfl⟩
abbrev main_call16_v0 : Ref sig .tc := ⟨.hbm, 297, rfl⟩
abbrev main_call16_v1 : Ref sig .tc := ⟨.hbm, 298, rfl⟩
abbrev main_call16_v2 : Ref sig .tc := ⟨.hbm, 299, rfl⟩
abbrev main_call16_v3 : Ref sig .tc := ⟨.hbm, 300, rfl⟩
abbrev main_call16_v4 : Ref sig .tc := ⟨.hbm, 301, rfl⟩
abbrev main_v111 : Ref sig .tc := ⟨.hbm, 302, rfl⟩
abbrev main_c_47 : Ref sig .tc := ⟨.hbm, 303, rfl⟩
abbrev main_v112 : Ref sig .tc := ⟨.hbm, 304, rfl⟩
abbrev main_v113 : Ref sig .tc := ⟨.hbm, 305, rfl⟩
abbrev main_v114 : Ref sig .tc := ⟨.hbm, 306, rfl⟩
abbrev main_c_48 : Ref sig .tc := ⟨.hbm, 307, rfl⟩
abbrev main_v115 : Ref sig .tc := ⟨.hbm, 308, rfl⟩
abbrev main_v116 : Ref sig .tc := ⟨.hbm, 309, rfl⟩
abbrev main_c_49 : Ref sig .tc := ⟨.hbm, 310, rfl⟩
abbrev main_v117 : Ref sig .tc := ⟨.hbm, 311, rfl⟩
abbrev main_v118 : Ref sig .tc := ⟨.hbm, 312, rfl⟩
abbrev main_v119 : Ref sig .tc := ⟨.hbm, 313, rfl⟩
abbrev main_v120 : Ref sig .tc := ⟨.hbm, 314, rfl⟩
abbrev main_v121 : Ref sig .tc := ⟨.hbm, 315, rfl⟩
abbrev main_c_50 : Ref sig .tc := ⟨.hbm, 316, rfl⟩
abbrev main_v122 : Ref sig .tc := ⟨.hbm, 317, rfl⟩
abbrev main_v123 : Ref sig .tc := ⟨.hbm, 318, rfl⟩
abbrev main_v124 : Ref sig .tc := ⟨.hbm, 319, rfl⟩
abbrev main_c_51 : Ref sig .tc := ⟨.hbm, 320, rfl⟩
abbrev main_c_52 : Ref sig .tc := ⟨.hbm, 321, rfl⟩
abbrev main_call17_v0 : Ref sig .tc := ⟨.hbm, 322, rfl⟩
abbrev main_call17_v1 : Ref sig .tc := ⟨.hbm, 323, rfl⟩
abbrev main_call17_v2 : Ref sig .tc := ⟨.hbm, 324, rfl⟩
abbrev main_call17_v3 : Ref sig .tc := ⟨.hbm, 325, rfl⟩
abbrev main_call17_v4 : Ref sig .tc := ⟨.hbm, 326, rfl⟩
abbrev main_v125 : Ref sig .tc := ⟨.hbm, 327, rfl⟩
abbrev main_call18_c : Ref sig .tc := ⟨.hbm, 328, rfl⟩
abbrev main_call18_v0 : Ref sig .tc := ⟨.hbm, 329, rfl⟩
abbrev main_call18_v1 : Ref sig .tc := ⟨.hbm, 330, rfl⟩
abbrev main_call18_c_0 : Ref sig .tc := ⟨.hbm, 331, rfl⟩
abbrev main_call18_v2 : Ref sig .tc := ⟨.hbm, 332, rfl⟩
abbrev main_call18_v3 : Ref sig .tc := ⟨.hbm, 333, rfl⟩
abbrev main_call18_v4 : Ref sig .tc := ⟨.hbm, 334, rfl⟩
abbrev main_call18_v5 : Ref sig .tc := ⟨.hbm, 335, rfl⟩
abbrev main_call18_c_1 : Ref sig .tc := ⟨.hbm, 336, rfl⟩
abbrev main_call18_c_2 : Ref sig .tc := ⟨.hbm, 337, rfl⟩
abbrev main_call18_v6 : Ref sig .tc := ⟨.hbm, 338, rfl⟩
abbrev main_call18_v7 : Ref sig .tc := ⟨.hbm, 339, rfl⟩
abbrev main_call18_v8 : Ref sig .tc := ⟨.hbm, 340, rfl⟩
abbrev main_call18_v9 : Ref sig .tc := ⟨.hbm, 341, rfl⟩
abbrev main_call18_v10 : Ref sig .tc := ⟨.hbm, 342, rfl⟩
abbrev main_call18_v11 : Ref sig .tc := ⟨.hbm, 343, rfl⟩
abbrev main_call18_c_3 : Ref sig .tc := ⟨.hbm, 344, rfl⟩
abbrev main_call18_v12 : Ref sig .tc := ⟨.hbm, 345, rfl⟩
abbrev main_call18_v13 : Ref sig .tc := ⟨.hbm, 346, rfl⟩
abbrev main_call18_v14 : Ref sig .tc := ⟨.hbm, 347, rfl⟩
abbrev main_call18_cst : Ref sig .tc := ⟨.hbm, 348, rfl⟩
abbrev main_call18_v15 : Ref sig .tc := ⟨.hbm, 349, rfl⟩
abbrev main_v126 : Ref sig .tc := ⟨.hbm, 350, rfl⟩
abbrev main_cst_53 : Ref sig .tc := ⟨.hbm, 351, rfl⟩
abbrev main_call19_v0 : Ref sig .tc := ⟨.hbm, 352, rfl⟩
abbrev main_call19_v1 : Ref sig .tc := ⟨.hbm, 353, rfl⟩
abbrev main_call19_v2 : Ref sig .tc := ⟨.hbm, 354, rfl⟩
abbrev main_v127 : Ref sig .tc := ⟨.hbm, 355, rfl⟩
abbrev main_v128 : Ref sig .tc := ⟨.hbm, 356, rfl⟩
abbrev main_v129 : Ref sig .tc := ⟨.hbm, 357, rfl⟩
abbrev main_c_54 : Ref sig .tc := ⟨.hbm, 358, rfl⟩
abbrev main_v130 : Ref sig .tc := ⟨.hbm, 359, rfl⟩
abbrev main_v131 : Ref sig .tc := ⟨.hbm, 360, rfl⟩
abbrev main_c_55 : Ref sig .tc := ⟨.hbm, 361, rfl⟩
abbrev main_c_56 : Ref sig .tc := ⟨.hbm, 362, rfl⟩
abbrev main_call20_v0 : Ref sig .tc := ⟨.hbm, 363, rfl⟩
abbrev main_call20_v1 : Ref sig .tc := ⟨.hbm, 364, rfl⟩
abbrev main_call20_v2 : Ref sig .tc := ⟨.hbm, 365, rfl⟩
abbrev main_call20_v3 : Ref sig .tc := ⟨.hbm, 366, rfl⟩
abbrev main_call20_v4 : Ref sig .tc := ⟨.hbm, 367, rfl⟩
abbrev main_v132 : Ref sig .tc := ⟨.hbm, 368, rfl⟩
abbrev main_v133 : Ref sig .tc := ⟨.hbm, 369, rfl⟩
abbrev main_v134 : Ref sig .tc := ⟨.hbm, 370, rfl⟩
abbrev main_c_57 : Ref sig .tc := ⟨.hbm, 371, rfl⟩
abbrev main_v135 : Ref sig .tc := ⟨.hbm, 372, rfl⟩
abbrev main_v136 : Ref sig .tc := ⟨.hbm, 373, rfl⟩
abbrev main_c_58 : Ref sig .tc := ⟨.hbm, 374, rfl⟩
abbrev main_c_59 : Ref sig .tc := ⟨.hbm, 375, rfl⟩
abbrev main_call21_v0 : Ref sig .tc := ⟨.hbm, 376, rfl⟩
abbrev main_call21_v1 : Ref sig .tc := ⟨.hbm, 377, rfl⟩
abbrev main_call21_v2 : Ref sig .tc := ⟨.hbm, 378, rfl⟩
abbrev main_call21_v3 : Ref sig .tc := ⟨.hbm, 379, rfl⟩
abbrev main_call21_v4 : Ref sig .tc := ⟨.hbm, 380, rfl⟩
abbrev main_v137 : Ref sig .tc := ⟨.hbm, 381, rfl⟩
abbrev main_c_60 : Ref sig .tc := ⟨.hbm, 382, rfl⟩
abbrev main_v138 : Ref sig .tc := ⟨.hbm, 383, rfl⟩
abbrev main_v139 : Ref sig .tc := ⟨.hbm, 384, rfl⟩
abbrev main_v140 : Ref sig .tc := ⟨.hbm, 385, rfl⟩
abbrev main_c_61 : Ref sig .tc := ⟨.hbm, 386, rfl⟩
abbrev main_v141 : Ref sig .tc := ⟨.hbm, 387, rfl⟩
abbrev main_v142 : Ref sig .tc := ⟨.hbm, 388, rfl⟩
abbrev main_c_62 : Ref sig .tc := ⟨.hbm, 389, rfl⟩
abbrev main_v143 : Ref sig .tc := ⟨.hbm, 390, rfl⟩
abbrev main_v144 : Ref sig .tc := ⟨.hbm, 391, rfl⟩
abbrev main_v145 : Ref sig .tc := ⟨.hbm, 392, rfl⟩
abbrev main_v146 : Ref sig .tc := ⟨.hbm, 393, rfl⟩
abbrev main_v147 : Ref sig .tc := ⟨.hbm, 394, rfl⟩
abbrev main_c_63 : Ref sig .tc := ⟨.hbm, 395, rfl⟩
abbrev main_v148 : Ref sig .tc := ⟨.hbm, 396, rfl⟩
abbrev main_v149 : Ref sig .tc := ⟨.hbm, 397, rfl⟩
abbrev main_v150 : Ref sig .tc := ⟨.hbm, 398, rfl⟩
abbrev main_c_64 : Ref sig .tc := ⟨.hbm, 399, rfl⟩
abbrev main_c_65 : Ref sig .tc := ⟨.hbm, 400, rfl⟩
abbrev main_call22_v0 : Ref sig .tc := ⟨.hbm, 401, rfl⟩
abbrev main_call22_v1 : Ref sig .tc := ⟨.hbm, 402, rfl⟩
abbrev main_call22_v2 : Ref sig .tc := ⟨.hbm, 403, rfl⟩
abbrev main_call22_v3 : Ref sig .tc := ⟨.hbm, 404, rfl⟩
abbrev main_call22_v4 : Ref sig .tc := ⟨.hbm, 405, rfl⟩
abbrev main_v151 : Ref sig .tc := ⟨.hbm, 406, rfl⟩
abbrev main_call23_c : Ref sig .tc := ⟨.hbm, 407, rfl⟩
abbrev main_call23_v0 : Ref sig .tc := ⟨.hbm, 408, rfl⟩
abbrev main_call23_v1 : Ref sig .tc := ⟨.hbm, 409, rfl⟩
abbrev main_call23_c_0 : Ref sig .tc := ⟨.hbm, 410, rfl⟩
abbrev main_call23_v2 : Ref sig .tc := ⟨.hbm, 411, rfl⟩
abbrev main_call23_v3 : Ref sig .tc := ⟨.hbm, 412, rfl⟩
abbrev main_call23_v4 : Ref sig .tc := ⟨.hbm, 413, rfl⟩
abbrev main_call23_v5 : Ref sig .tc := ⟨.hbm, 414, rfl⟩
abbrev main_call23_c_1 : Ref sig .tc := ⟨.hbm, 415, rfl⟩
abbrev main_call23_c_2 : Ref sig .tc := ⟨.hbm, 416, rfl⟩
abbrev main_call23_v6 : Ref sig .tc := ⟨.hbm, 417, rfl⟩
abbrev main_call23_v7 : Ref sig .tc := ⟨.hbm, 418, rfl⟩
abbrev main_call23_v8 : Ref sig .tc := ⟨.hbm, 419, rfl⟩
abbrev main_call23_v9 : Ref sig .tc := ⟨.hbm, 420, rfl⟩
abbrev main_call23_v10 : Ref sig .tc := ⟨.hbm, 421, rfl⟩
abbrev main_call23_v11 : Ref sig .tc := ⟨.hbm, 422, rfl⟩
abbrev main_call23_c_3 : Ref sig .tc := ⟨.hbm, 423, rfl⟩
abbrev main_call23_v12 : Ref sig .tc := ⟨.hbm, 424, rfl⟩
abbrev main_call23_v13 : Ref sig .tc := ⟨.hbm, 425, rfl⟩
abbrev main_call23_v14 : Ref sig .tc := ⟨.hbm, 426, rfl⟩
abbrev main_call23_cst : Ref sig .tc := ⟨.hbm, 427, rfl⟩
abbrev main_call23_v15 : Ref sig .tc := ⟨.hbm, 428, rfl⟩
abbrev main_v152 : Ref sig .tc := ⟨.hbm, 429, rfl⟩
abbrev main_cst_66 : Ref sig .tc := ⟨.hbm, 430, rfl⟩
abbrev main_call24_v0 : Ref sig .tc := ⟨.hbm, 431, rfl⟩
abbrev main_call24_v1 : Ref sig .tc := ⟨.hbm, 432, rfl⟩
abbrev main_call24_v2 : Ref sig .tc := ⟨.hbm, 433, rfl⟩
abbrev main_v153 : Ref sig .tc := ⟨.hbm, 434, rfl⟩
abbrev main_v154 : Ref sig .tc := ⟨.hbm, 435, rfl⟩
abbrev main_v155 : Ref sig .tc := ⟨.hbm, 436, rfl⟩
abbrev main_c_67 : Ref sig .tc := ⟨.hbm, 437, rfl⟩
abbrev main_v156 : Ref sig .tc := ⟨.hbm, 438, rfl⟩
abbrev main_v157 : Ref sig .tc := ⟨.hbm, 439, rfl⟩
abbrev main_c_68 : Ref sig .tc := ⟨.hbm, 440, rfl⟩
abbrev main_c_69 : Ref sig .tc := ⟨.hbm, 441, rfl⟩
abbrev main_call25_v0 : Ref sig .tc := ⟨.hbm, 442, rfl⟩
abbrev main_call25_v1 : Ref sig .tc := ⟨.hbm, 443, rfl⟩
abbrev main_call25_v2 : Ref sig .tc := ⟨.hbm, 444, rfl⟩
abbrev main_call25_v3 : Ref sig .tc := ⟨.hbm, 445, rfl⟩
abbrev main_call25_v4 : Ref sig .tc := ⟨.hbm, 446, rfl⟩
abbrev main_v158 : Ref sig .tc := ⟨.hbm, 447, rfl⟩
abbrev main_v159 : Ref sig .tc := ⟨.hbm, 448, rfl⟩
abbrev main_v160 : Ref sig .tc := ⟨.hbm, 449, rfl⟩
abbrev main_c_70 : Ref sig .tc := ⟨.hbm, 450, rfl⟩
abbrev main_v161 : Ref sig .tc := ⟨.hbm, 451, rfl⟩
abbrev main_v162 : Ref sig .tc := ⟨.hbm, 452, rfl⟩
abbrev main_c_71 : Ref sig .tc := ⟨.hbm, 453, rfl⟩
abbrev main_c_72 : Ref sig .tc := ⟨.hbm, 454, rfl⟩
abbrev main_call26_v0 : Ref sig .tc := ⟨.hbm, 455, rfl⟩
abbrev main_call26_v1 : Ref sig .tc := ⟨.hbm, 456, rfl⟩
abbrev main_call26_v2 : Ref sig .tc := ⟨.hbm, 457, rfl⟩
abbrev main_call26_v3 : Ref sig .tc := ⟨.hbm, 458, rfl⟩
abbrev main_call26_v4 : Ref sig .tc := ⟨.hbm, 459, rfl⟩
abbrev main_v163 : Ref sig .tc := ⟨.hbm, 460, rfl⟩
abbrev main_c_73 : Ref sig .tc := ⟨.hbm, 461, rfl⟩
abbrev main_v164 : Ref sig .tc := ⟨.hbm, 462, rfl⟩
abbrev main_v165 : Ref sig .tc := ⟨.hbm, 463, rfl⟩
abbrev main_v166 : Ref sig .tc := ⟨.hbm, 464, rfl⟩
abbrev main_c_74 : Ref sig .tc := ⟨.hbm, 465, rfl⟩
abbrev main_v167 : Ref sig .tc := ⟨.hbm, 466, rfl⟩
abbrev main_v168 : Ref sig .tc := ⟨.hbm, 467, rfl⟩
abbrev main_c_75 : Ref sig .tc := ⟨.hbm, 468, rfl⟩
abbrev main_v169 : Ref sig .tc := ⟨.hbm, 469, rfl⟩
abbrev main_v170 : Ref sig .tc := ⟨.hbm, 470, rfl⟩
abbrev main_v171 : Ref sig .tc := ⟨.hbm, 471, rfl⟩
abbrev main_v172 : Ref sig .tc := ⟨.hbm, 472, rfl⟩
abbrev main_v173 : Ref sig .tc := ⟨.hbm, 473, rfl⟩
abbrev main_c_76 : Ref sig .tc := ⟨.hbm, 474, rfl⟩
abbrev main_v174 : Ref sig .tc := ⟨.hbm, 475, rfl⟩
abbrev main_v175 : Ref sig .tc := ⟨.hbm, 476, rfl⟩
abbrev main_v176 : Ref sig .tc := ⟨.hbm, 477, rfl⟩
abbrev main_c_77 : Ref sig .tc := ⟨.hbm, 478, rfl⟩
abbrev main_c_78 : Ref sig .tc := ⟨.hbm, 479, rfl⟩
abbrev main_call27_v0 : Ref sig .tc := ⟨.hbm, 480, rfl⟩
abbrev main_call27_v1 : Ref sig .tc := ⟨.hbm, 481, rfl⟩
abbrev main_call27_v2 : Ref sig .tc := ⟨.hbm, 482, rfl⟩
abbrev main_call27_v3 : Ref sig .tc := ⟨.hbm, 483, rfl⟩
abbrev main_call27_v4 : Ref sig .tc := ⟨.hbm, 484, rfl⟩
abbrev main_v177 : Ref sig .tc := ⟨.hbm, 485, rfl⟩
abbrev main_call28_c : Ref sig .tc := ⟨.hbm, 486, rfl⟩
abbrev main_call28_v0 : Ref sig .tc := ⟨.hbm, 487, rfl⟩
abbrev main_call28_v1 : Ref sig .tc := ⟨.hbm, 488, rfl⟩
abbrev main_call28_c_0 : Ref sig .tc := ⟨.hbm, 489, rfl⟩
abbrev main_call28_v2 : Ref sig .tc := ⟨.hbm, 490, rfl⟩
abbrev main_call28_v3 : Ref sig .tc := ⟨.hbm, 491, rfl⟩
abbrev main_call28_v4 : Ref sig .tc := ⟨.hbm, 492, rfl⟩
abbrev main_call28_v5 : Ref sig .tc := ⟨.hbm, 493, rfl⟩
abbrev main_call28_c_1 : Ref sig .tc := ⟨.hbm, 494, rfl⟩
abbrev main_call28_c_2 : Ref sig .tc := ⟨.hbm, 495, rfl⟩
abbrev main_call28_v6 : Ref sig .tc := ⟨.hbm, 496, rfl⟩
abbrev main_call28_v7 : Ref sig .tc := ⟨.hbm, 497, rfl⟩
abbrev main_call28_v8 : Ref sig .tc := ⟨.hbm, 498, rfl⟩
abbrev main_call28_v9 : Ref sig .tc := ⟨.hbm, 499, rfl⟩
abbrev main_call28_v10 : Ref sig .tc := ⟨.hbm, 500, rfl⟩
abbrev main_call28_v11 : Ref sig .tc := ⟨.hbm, 501, rfl⟩
abbrev main_call28_c_3 : Ref sig .tc := ⟨.hbm, 502, rfl⟩
abbrev main_call28_v12 : Ref sig .tc := ⟨.hbm, 503, rfl⟩
abbrev main_call28_v13 : Ref sig .tc := ⟨.hbm, 504, rfl⟩
abbrev main_call28_v14 : Ref sig .tc := ⟨.hbm, 505, rfl⟩
abbrev main_call28_cst : Ref sig .tc := ⟨.hbm, 506, rfl⟩
abbrev main_call28_v15 : Ref sig .tc := ⟨.hbm, 507, rfl⟩
abbrev main_v178 : Ref sig .tc := ⟨.hbm, 508, rfl⟩
abbrev main_cst_79 : Ref sig .tc := ⟨.hbm, 509, rfl⟩
abbrev main_call29_v0 : Ref sig .tc := ⟨.hbm, 510, rfl⟩
abbrev main_call29_v1 : Ref sig .tc := ⟨.hbm, 511, rfl⟩
abbrev main_call29_v2 : Ref sig .tc := ⟨.hbm, 512, rfl⟩
abbrev main_v179 : Ref sig .tc := ⟨.hbm, 513, rfl⟩
abbrev main_v180 : Ref sig .tc := ⟨.hbm, 514, rfl⟩
abbrev main_v181 : Ref sig .tc := ⟨.hbm, 515, rfl⟩
abbrev main_c_80 : Ref sig .tc := ⟨.hbm, 516, rfl⟩
abbrev main_v182 : Ref sig .tc := ⟨.hbm, 517, rfl⟩
abbrev main_v183 : Ref sig .tc := ⟨.hbm, 518, rfl⟩
abbrev main_c_81 : Ref sig .tc := ⟨.hbm, 519, rfl⟩
abbrev main_c_82 : Ref sig .tc := ⟨.hbm, 520, rfl⟩
abbrev main_call30_v0 : Ref sig .tc := ⟨.hbm, 521, rfl⟩
abbrev main_call30_v1 : Ref sig .tc := ⟨.hbm, 522, rfl⟩
abbrev main_call30_v2 : Ref sig .tc := ⟨.hbm, 523, rfl⟩
abbrev main_call30_v3 : Ref sig .tc := ⟨.hbm, 524, rfl⟩
abbrev main_call30_v4 : Ref sig .tc := ⟨.hbm, 525, rfl⟩
abbrev main_v184 : Ref sig .tc := ⟨.hbm, 526, rfl⟩
abbrev main_v185 : Ref sig .tc := ⟨.hbm, 527, rfl⟩
abbrev main_v186 : Ref sig .tc := ⟨.hbm, 528, rfl⟩
abbrev main_c_83 : Ref sig .tc := ⟨.hbm, 529, rfl⟩
abbrev main_v187 : Ref sig .tc := ⟨.hbm, 530, rfl⟩
abbrev main_v188 : Ref sig .tc := ⟨.hbm, 531, rfl⟩
abbrev main_c_84 : Ref sig .tc := ⟨.hbm, 532, rfl⟩
abbrev main_c_85 : Ref sig .tc := ⟨.hbm, 533, rfl⟩
abbrev main_call31_v0 : Ref sig .tc := ⟨.hbm, 534, rfl⟩
abbrev main_call31_v1 : Ref sig .tc := ⟨.hbm, 535, rfl⟩
abbrev main_call31_v2 : Ref sig .tc := ⟨.hbm, 536, rfl⟩
abbrev main_call31_v3 : Ref sig .tc := ⟨.hbm, 537, rfl⟩
abbrev main_call31_v4 : Ref sig .tc := ⟨.hbm, 538, rfl⟩
abbrev main_v189 : Ref sig .tc := ⟨.hbm, 539, rfl⟩
abbrev main_c_86 : Ref sig .tc := ⟨.hbm, 540, rfl⟩
abbrev main_v190 : Ref sig .tc := ⟨.hbm, 541, rfl⟩
abbrev main_v191 : Ref sig .tc := ⟨.hbm, 542, rfl⟩
abbrev main_v192 : Ref sig .tc := ⟨.hbm, 543, rfl⟩
abbrev main_c_87 : Ref sig .tc := ⟨.hbm, 544, rfl⟩
abbrev main_v193 : Ref sig .tc := ⟨.hbm, 545, rfl⟩
abbrev main_v194 : Ref sig .tc := ⟨.hbm, 546, rfl⟩
abbrev main_c_88 : Ref sig .tc := ⟨.hbm, 547, rfl⟩
abbrev main_v195 : Ref sig .tc := ⟨.hbm, 548, rfl⟩
abbrev main_v196 : Ref sig .tc := ⟨.hbm, 549, rfl⟩
abbrev main_v197 : Ref sig .tc := ⟨.hbm, 550, rfl⟩
abbrev main_v198 : Ref sig .tc := ⟨.hbm, 551, rfl⟩
abbrev main_v199 : Ref sig .tc := ⟨.hbm, 552, rfl⟩
abbrev main_c_89 : Ref sig .tc := ⟨.hbm, 553, rfl⟩
abbrev main_v200 : Ref sig .tc := ⟨.hbm, 554, rfl⟩
abbrev main_v201 : Ref sig .tc := ⟨.hbm, 555, rfl⟩
abbrev main_v202 : Ref sig .tc := ⟨.hbm, 556, rfl⟩
abbrev main_c_90 : Ref sig .tc := ⟨.hbm, 557, rfl⟩
abbrev main_c_91 : Ref sig .tc := ⟨.hbm, 558, rfl⟩
abbrev main_call32_v0 : Ref sig .tc := ⟨.hbm, 559, rfl⟩
abbrev main_call32_v1 : Ref sig .tc := ⟨.hbm, 560, rfl⟩
abbrev main_call32_v2 : Ref sig .tc := ⟨.hbm, 561, rfl⟩
abbrev main_call32_v3 : Ref sig .tc := ⟨.hbm, 562, rfl⟩
abbrev main_call32_v4 : Ref sig .tc := ⟨.hbm, 563, rfl⟩
abbrev main_v203 : Ref sig .tc := ⟨.hbm, 564, rfl⟩
abbrev main_call33_c : Ref sig .tc := ⟨.hbm, 565, rfl⟩
abbrev main_call33_v0 : Ref sig .tc := ⟨.hbm, 566, rfl⟩
abbrev main_call33_v1 : Ref sig .tc := ⟨.hbm, 567, rfl⟩
abbrev main_call33_c_0 : Ref sig .tc := ⟨.hbm, 568, rfl⟩
abbrev main_call33_v2 : Ref sig .tc := ⟨.hbm, 569, rfl⟩
abbrev main_call33_v3 : Ref sig .tc := ⟨.hbm, 570, rfl⟩
abbrev main_call33_v4 : Ref sig .tc := ⟨.hbm, 571, rfl⟩
abbrev main_call33_v5 : Ref sig .tc := ⟨.hbm, 572, rfl⟩
abbrev main_call33_c_1 : Ref sig .tc := ⟨.hbm, 573, rfl⟩
abbrev main_call33_c_2 : Ref sig .tc := ⟨.hbm, 574, rfl⟩
abbrev main_call33_v6 : Ref sig .tc := ⟨.hbm, 575, rfl⟩
abbrev main_call33_v7 : Ref sig .tc := ⟨.hbm, 576, rfl⟩
abbrev main_call33_v8 : Ref sig .tc := ⟨.hbm, 577, rfl⟩
abbrev main_call33_v9 : Ref sig .tc := ⟨.hbm, 578, rfl⟩
abbrev main_call33_v10 : Ref sig .tc := ⟨.hbm, 579, rfl⟩
abbrev main_call33_v11 : Ref sig .tc := ⟨.hbm, 580, rfl⟩
abbrev main_call33_c_3 : Ref sig .tc := ⟨.hbm, 581, rfl⟩
abbrev main_call33_v12 : Ref sig .tc := ⟨.hbm, 582, rfl⟩
abbrev main_call33_v13 : Ref sig .tc := ⟨.hbm, 583, rfl⟩
abbrev main_call33_v14 : Ref sig .tc := ⟨.hbm, 584, rfl⟩
abbrev main_call33_cst : Ref sig .tc := ⟨.hbm, 585, rfl⟩
abbrev main_call33_v15 : Ref sig .tc := ⟨.hbm, 586, rfl⟩
abbrev main_v204 : Ref sig .tc := ⟨.hbm, 587, rfl⟩
abbrev main_cst_92 : Ref sig .tc := ⟨.hbm, 588, rfl⟩
abbrev main_call34_v0 : Ref sig .tc := ⟨.hbm, 589, rfl⟩
abbrev main_call34_v1 : Ref sig .tc := ⟨.hbm, 590, rfl⟩
abbrev main_call34_v2 : Ref sig .tc := ⟨.hbm, 591, rfl⟩
abbrev main_v205 : Ref sig .tc := ⟨.hbm, 592, rfl⟩
abbrev main_v206 : Ref sig .tc := ⟨.hbm, 593, rfl⟩
abbrev main_v207 : Ref sig .tc := ⟨.hbm, 594, rfl⟩
abbrev main_c_93 : Ref sig .tc := ⟨.hbm, 595, rfl⟩
abbrev main_v208 : Ref sig .tc := ⟨.hbm, 596, rfl⟩
abbrev main_v209 : Ref sig .tc := ⟨.hbm, 597, rfl⟩
abbrev main_c_94 : Ref sig .tc := ⟨.hbm, 598, rfl⟩
abbrev main_c_95 : Ref sig .tc := ⟨.hbm, 599, rfl⟩
abbrev main_call35_v0 : Ref sig .tc := ⟨.hbm, 600, rfl⟩
abbrev main_call35_v1 : Ref sig .tc := ⟨.hbm, 601, rfl⟩
abbrev main_call35_v2 : Ref sig .tc := ⟨.hbm, 602, rfl⟩
abbrev main_call35_v3 : Ref sig .tc := ⟨.hbm, 603, rfl⟩
abbrev main_call35_v4 : Ref sig .tc := ⟨.hbm, 604, rfl⟩
abbrev main_v210 : Ref sig .tc := ⟨.hbm, 605, rfl⟩
abbrev main_v211 : Ref sig .tc := ⟨.hbm, 606, rfl⟩
abbrev main_v212 : Ref sig .tc := ⟨.hbm, 607, rfl⟩
abbrev main_c_96 : Ref sig .tc := ⟨.hbm, 608, rfl⟩
abbrev main_v213 : Ref sig .tc := ⟨.hbm, 609, rfl⟩
abbrev main_v214 : Ref sig .tc := ⟨.hbm, 610, rfl⟩
abbrev main_c_97 : Ref sig .tc := ⟨.hbm, 611, rfl⟩
abbrev main_c_98 : Ref sig .tc := ⟨.hbm, 612, rfl⟩
abbrev main_call36_v0 : Ref sig .tc := ⟨.hbm, 613, rfl⟩
abbrev main_call36_v1 : Ref sig .tc := ⟨.hbm, 614, rfl⟩
abbrev main_call36_v2 : Ref sig .tc := ⟨.hbm, 615, rfl⟩
abbrev main_call36_v3 : Ref sig .tc := ⟨.hbm, 616, rfl⟩
abbrev main_call36_v4 : Ref sig .tc := ⟨.hbm, 617, rfl⟩
abbrev main_v215 : Ref sig .tc := ⟨.hbm, 618, rfl⟩
abbrev main_c_99 : Ref sig .tc := ⟨.hbm, 619, rfl⟩
abbrev main_v216 : Ref sig .tc := ⟨.hbm, 620, rfl⟩
abbrev main_v217 : Ref sig .tc := ⟨.hbm, 621, rfl⟩
abbrev main_v218 : Ref sig .tc := ⟨.hbm, 622, rfl⟩
abbrev main_c_100 : Ref sig .tc := ⟨.hbm, 623, rfl⟩
abbrev main_v219 : Ref sig .tc := ⟨.hbm, 624, rfl⟩
abbrev main_v220 : Ref sig .tc := ⟨.hbm, 625, rfl⟩
abbrev main_c_101 : Ref sig .tc := ⟨.hbm, 626, rfl⟩
abbrev main_v221 : Ref sig .tc := ⟨.hbm, 627, rfl⟩
abbrev main_v222 : Ref sig .tc := ⟨.hbm, 628, rfl⟩
abbrev main_v223 : Ref sig .tc := ⟨.hbm, 629, rfl⟩
abbrev main_v224 : Ref sig .tc := ⟨.hbm, 630, rfl⟩
abbrev main_v225 : Ref sig .tc := ⟨.hbm, 631, rfl⟩
abbrev main_c_102 : Ref sig .tc := ⟨.hbm, 632, rfl⟩
abbrev main_v226 : Ref sig .tc := ⟨.hbm, 633, rfl⟩
abbrev main_v227 : Ref sig .tc := ⟨.hbm, 634, rfl⟩
abbrev main_v228 : Ref sig .tc := ⟨.hbm, 635, rfl⟩
abbrev main_c_103 : Ref sig .tc := ⟨.hbm, 636, rfl⟩
abbrev main_c_104 : Ref sig .tc := ⟨.hbm, 637, rfl⟩
abbrev main_call37_v0 : Ref sig .tc := ⟨.hbm, 638, rfl⟩
abbrev main_call37_v1 : Ref sig .tc := ⟨.hbm, 639, rfl⟩
abbrev main_call37_v2 : Ref sig .tc := ⟨.hbm, 640, rfl⟩
abbrev main_call37_v3 : Ref sig .tc := ⟨.hbm, 641, rfl⟩
abbrev main_call37_v4 : Ref sig .tc := ⟨.hbm, 642, rfl⟩
abbrev main_v229 : Ref sig .tc := ⟨.hbm, 643, rfl⟩
abbrev main_call38_c : Ref sig .tc := ⟨.hbm, 644, rfl⟩
abbrev main_call38_v0 : Ref sig .tc := ⟨.hbm, 645, rfl⟩
abbrev main_call38_v1 : Ref sig .tc := ⟨.hbm, 646, rfl⟩
abbrev main_call38_c_0 : Ref sig .tc := ⟨.hbm, 647, rfl⟩
abbrev main_call38_v2 : Ref sig .tc := ⟨.hbm, 648, rfl⟩
abbrev main_call38_v3 : Ref sig .tc := ⟨.hbm, 649, rfl⟩
abbrev main_call38_v4 : Ref sig .tc := ⟨.hbm, 650, rfl⟩
abbrev main_call38_v5 : Ref sig .tc := ⟨.hbm, 651, rfl⟩
abbrev main_call38_c_1 : Ref sig .tc := ⟨.hbm, 652, rfl⟩
abbrev main_call38_c_2 : Ref sig .tc := ⟨.hbm, 653, rfl⟩
abbrev main_call38_v6 : Ref sig .tc := ⟨.hbm, 654, rfl⟩
abbrev main_call38_v7 : Ref sig .tc := ⟨.hbm, 655, rfl⟩
abbrev main_call38_v8 : Ref sig .tc := ⟨.hbm, 656, rfl⟩
abbrev main_call38_v9 : Ref sig .tc := ⟨.hbm, 657, rfl⟩
abbrev main_call38_v10 : Ref sig .tc := ⟨.hbm, 658, rfl⟩
abbrev main_call38_v11 : Ref sig .tc := ⟨.hbm, 659, rfl⟩
abbrev main_call38_c_3 : Ref sig .tc := ⟨.hbm, 660, rfl⟩
abbrev main_call38_v12 : Ref sig .tc := ⟨.hbm, 661, rfl⟩
abbrev main_call38_v13 : Ref sig .tc := ⟨.hbm, 662, rfl⟩
abbrev main_call38_v14 : Ref sig .tc := ⟨.hbm, 663, rfl⟩
abbrev main_call38_cst : Ref sig .tc := ⟨.hbm, 664, rfl⟩
abbrev main_call38_v15 : Ref sig .tc := ⟨.hbm, 665, rfl⟩
abbrev main_v230 : Ref sig .tc := ⟨.hbm, 666, rfl⟩
abbrev main_cst_105 : Ref sig .tc := ⟨.hbm, 667, rfl⟩
abbrev main_call39_v0 : Ref sig .tc := ⟨.hbm, 668, rfl⟩
abbrev main_call39_v1 : Ref sig .tc := ⟨.hbm, 669, rfl⟩
abbrev main_call39_v2 : Ref sig .tc := ⟨.hbm, 670, rfl⟩
abbrev main_v231 : Ref sig .tc := ⟨.hbm, 671, rfl⟩
abbrev main_v232 : Ref sig .tc := ⟨.hbm, 672, rfl⟩
abbrev main_v233 : Ref sig .tc := ⟨.hbm, 673, rfl⟩
abbrev main_c_106 : Ref sig .tc := ⟨.hbm, 674, rfl⟩
abbrev main_v234 : Ref sig .tc := ⟨.hbm, 675, rfl⟩
abbrev main_v235 : Ref sig .tc := ⟨.hbm, 676, rfl⟩
abbrev main_c_107 : Ref sig .tc := ⟨.hbm, 677, rfl⟩
abbrev main_c_108 : Ref sig .tc := ⟨.hbm, 678, rfl⟩
abbrev main_call40_v0 : Ref sig .tc := ⟨.hbm, 679, rfl⟩
abbrev main_call40_v1 : Ref sig .tc := ⟨.hbm, 680, rfl⟩
abbrev main_call40_v2 : Ref sig .tc := ⟨.hbm, 681, rfl⟩
abbrev main_call40_v3 : Ref sig .tc := ⟨.hbm, 682, rfl⟩
abbrev main_call40_v4 : Ref sig .tc := ⟨.hbm, 683, rfl⟩
abbrev main_v236 : Ref sig .tc := ⟨.hbm, 684, rfl⟩
abbrev main_v237 : Ref sig .tc := ⟨.hbm, 685, rfl⟩
abbrev main_v238 : Ref sig .tc := ⟨.hbm, 686, rfl⟩
abbrev main_c_109 : Ref sig .tc := ⟨.hbm, 687, rfl⟩
abbrev main_v239 : Ref sig .tc := ⟨.hbm, 688, rfl⟩
abbrev main_v240 : Ref sig .tc := ⟨.hbm, 689, rfl⟩
abbrev main_c_110 : Ref sig .tc := ⟨.hbm, 690, rfl⟩
abbrev main_c_111 : Ref sig .tc := ⟨.hbm, 691, rfl⟩
abbrev main_call41_v0 : Ref sig .tc := ⟨.hbm, 692, rfl⟩
abbrev main_call41_v1 : Ref sig .tc := ⟨.hbm, 693, rfl⟩
abbrev main_call41_v2 : Ref sig .tc := ⟨.hbm, 694, rfl⟩
abbrev main_call41_v3 : Ref sig .tc := ⟨.hbm, 695, rfl⟩
abbrev main_call41_v4 : Ref sig .tc := ⟨.hbm, 696, rfl⟩
abbrev main_v241 : Ref sig .tc := ⟨.hbm, 697, rfl⟩
abbrev main_c_112 : Ref sig .tc := ⟨.hbm, 698, rfl⟩
abbrev main_v242 : Ref sig .tc := ⟨.hbm, 699, rfl⟩
abbrev main_v243 : Ref sig .tc := ⟨.hbm, 700, rfl⟩
abbrev main_v244 : Ref sig .tc := ⟨.hbm, 701, rfl⟩
abbrev main_c_113 : Ref sig .tc := ⟨.hbm, 702, rfl⟩
abbrev main_v245 : Ref sig .tc := ⟨.hbm, 703, rfl⟩
abbrev main_v246 : Ref sig .tc := ⟨.hbm, 704, rfl⟩
abbrev main_c_114 : Ref sig .tc := ⟨.hbm, 705, rfl⟩
abbrev main_v247 : Ref sig .tc := ⟨.hbm, 706, rfl⟩
abbrev main_v248 : Ref sig .tc := ⟨.hbm, 707, rfl⟩
abbrev main_v249 : Ref sig .tc := ⟨.hbm, 708, rfl⟩
abbrev main_v250 : Ref sig .tc := ⟨.hbm, 709, rfl⟩
abbrev main_v251 : Ref sig .tc := ⟨.hbm, 710, rfl⟩
abbrev main_c_115 : Ref sig .tc := ⟨.hbm, 711, rfl⟩
abbrev main_v252 : Ref sig .tc := ⟨.hbm, 712, rfl⟩
abbrev main_v253 : Ref sig .tc := ⟨.hbm, 713, rfl⟩
abbrev main_v254 : Ref sig .tc := ⟨.hbm, 714, rfl⟩
abbrev main_c_116 : Ref sig .tc := ⟨.hbm, 715, rfl⟩
abbrev main_c_117 : Ref sig .tc := ⟨.hbm, 716, rfl⟩
abbrev main_call42_v0 : Ref sig .tc := ⟨.hbm, 717, rfl⟩
abbrev main_call42_v1 : Ref sig .tc := ⟨.hbm, 718, rfl⟩
abbrev main_call42_v2 : Ref sig .tc := ⟨.hbm, 719, rfl⟩
abbrev main_call42_v3 : Ref sig .tc := ⟨.hbm, 720, rfl⟩
abbrev main_call42_v4 : Ref sig .tc := ⟨.hbm, 721, rfl⟩
abbrev main_v255 : Ref sig .tc := ⟨.hbm, 722, rfl⟩
abbrev main_call43_c : Ref sig .tc := ⟨.hbm, 723, rfl⟩
abbrev main_call43_v0 : Ref sig .tc := ⟨.hbm, 724, rfl⟩
abbrev main_call43_v1 : Ref sig .tc := ⟨.hbm, 725, rfl⟩
abbrev main_call43_c_0 : Ref sig .tc := ⟨.hbm, 726, rfl⟩
abbrev main_call43_v2 : Ref sig .tc := ⟨.hbm, 727, rfl⟩
abbrev main_call43_v3 : Ref sig .tc := ⟨.hbm, 728, rfl⟩
abbrev main_call43_v4 : Ref sig .tc := ⟨.hbm, 729, rfl⟩
abbrev main_call43_v5 : Ref sig .tc := ⟨.hbm, 730, rfl⟩
abbrev main_call43_c_1 : Ref sig .tc := ⟨.hbm, 731, rfl⟩
abbrev main_call43_c_2 : Ref sig .tc := ⟨.hbm, 732, rfl⟩
abbrev main_call43_v6 : Ref sig .tc := ⟨.hbm, 733, rfl⟩
abbrev main_call43_v7 : Ref sig .tc := ⟨.hbm, 734, rfl⟩
abbrev main_call43_v8 : Ref sig .tc := ⟨.hbm, 735, rfl⟩
abbrev main_call43_v9 : Ref sig .tc := ⟨.hbm, 736, rfl⟩
abbrev main_call43_v10 : Ref sig .tc := ⟨.hbm, 737, rfl⟩
abbrev main_call43_v11 : Ref sig .tc := ⟨.hbm, 738, rfl⟩
abbrev main_call43_c_3 : Ref sig .tc := ⟨.hbm, 739, rfl⟩
abbrev main_call43_v12 : Ref sig .tc := ⟨.hbm, 740, rfl⟩
abbrev main_call43_v13 : Ref sig .tc := ⟨.hbm, 741, rfl⟩
abbrev main_call43_v14 : Ref sig .tc := ⟨.hbm, 742, rfl⟩
abbrev main_call43_cst : Ref sig .tc := ⟨.hbm, 743, rfl⟩
abbrev main_call43_v15 : Ref sig .tc := ⟨.hbm, 744, rfl⟩
abbrev main_v256 : Ref sig .tc := ⟨.hbm, 745, rfl⟩
abbrev main_cst_118 : Ref sig .tc := ⟨.hbm, 746, rfl⟩
abbrev main_call44_v0 : Ref sig .tc := ⟨.hbm, 747, rfl⟩
abbrev main_call44_v1 : Ref sig .tc := ⟨.hbm, 748, rfl⟩
abbrev main_call44_v2 : Ref sig .tc := ⟨.hbm, 749, rfl⟩
abbrev main_v257 : Ref sig .tc := ⟨.hbm, 750, rfl⟩
abbrev main_v258 : Ref sig .tc := ⟨.hbm, 751, rfl⟩
abbrev main_v259 : Ref sig .tc := ⟨.hbm, 752, rfl⟩
abbrev main_v260 : Ref sig .tc := ⟨.hbm, 753, rfl⟩
abbrev main_v261 : Ref sig .tc := ⟨.hbm, 754, rfl⟩
abbrev main_v262 : Ref sig .tc := ⟨.hbm, 755, rfl⟩
abbrev main_v263 : Ref sig .tc := ⟨.hbm, 756, rfl⟩
abbrev main_v264 : Ref sig .tc := ⟨.hbm, 757, rfl⟩
abbrev main_v265 : Ref sig .tc := ⟨.hbm, 758, rfl⟩
abbrev main_v266 : Ref sig .tc := ⟨.hbm, 759, rfl⟩
abbrev main_v267 : Ref sig .tc := ⟨.hbm, 760, rfl⟩
abbrev main_v268 : Ref sig .tc := ⟨.hbm, 761, rfl⟩
abbrev main_v269 : Ref sig .tc := ⟨.hbm, 762, rfl⟩
abbrev main_v270 : Ref sig .tc := ⟨.hbm, 763, rfl⟩
abbrev main_v271 : Ref sig .tc := ⟨.hbm, 764, rfl⟩
abbrev main_v272 : Ref sig .tc := ⟨.hbm, 765, rfl⟩
abbrev main_v273 : Ref sig .tc := ⟨.hbm, 766, rfl⟩
abbrev main_v274 : Ref sig .tc := ⟨.hbm, 767, rfl⟩
abbrev main_v275 : Ref sig .tc := ⟨.hbm, 768, rfl⟩
abbrev main_v276 : Ref sig .tc := ⟨.hbm, 769, rfl⟩
abbrev main_v277 : Ref sig .tc := ⟨.hbm, 770, rfl⟩
abbrev main_v278 : Ref sig .tc := ⟨.hbm, 771, rfl⟩
abbrev main_v279 : Ref sig .tc := ⟨.hbm, 772, rfl⟩
abbrev main_v280 : Ref sig .tc := ⟨.hbm, 773, rfl⟩
abbrev main_v281 : Ref sig .tc := ⟨.hbm, 774, rfl⟩
abbrev main_v282 : Ref sig .tc := ⟨.hbm, 775, rfl⟩
abbrev main_v283 : Ref sig .tc := ⟨.hbm, 776, rfl⟩
abbrev main_v284 : Ref sig .tc := ⟨.hbm, 777, rfl⟩
abbrev main_v285 : Ref sig .tc := ⟨.hbm, 778, rfl⟩
abbrev main_v286 : Ref sig .tc := ⟨.hbm, 779, rfl⟩
abbrev main_v287 : Ref sig .tc := ⟨.hbm, 780, rfl⟩
abbrev main_v288 : Ref sig .tc := ⟨.hbm, 781, rfl⟩
abbrev main_v289 : Ref sig .tc := ⟨.hbm, 782, rfl⟩
abbrev main_v290 : Ref sig .tc := ⟨.hbm, 783, rfl⟩
abbrev main_cst_119 : Ref sig .tc := ⟨.hbm, 784, rfl⟩
abbrev main_v291 : Ref sig .tc := ⟨.hbm, 785, rfl⟩
abbrev main_v292 : Ref sig .tc := ⟨.hbm, 786, rfl⟩
abbrev main_cst_120 : Ref sig .tc := ⟨.hbm, 787, rfl⟩
abbrev main_v293 : Ref sig .tc := ⟨.hbm, 788, rfl⟩
abbrev main_cst_121 : Ref sig .tc := ⟨.hbm, 789, rfl⟩
abbrev main_v294 : Ref sig .tc := ⟨.hbm, 790, rfl⟩
abbrev main_v295 : Ref sig .tc := ⟨.hbm, 791, rfl⟩
abbrev main_v296 : Ref sig .tc := ⟨.hbm, 792, rfl⟩
abbrev main_v297 : Ref sig .tc := ⟨.hbm, 793, rfl⟩
abbrev main_v298 : Ref sig .tc := ⟨.hbm, 794, rfl⟩
abbrev main_v299 : Ref sig .tc := ⟨.hbm, 795, rfl⟩
abbrev main_cst_122 : Ref sig .tc := ⟨.hbm, 796, rfl⟩
abbrev main_v300 : Ref sig .tc := ⟨.hbm, 797, rfl⟩
abbrev main_v301 : Ref sig .tc := ⟨.hbm, 798, rfl⟩
abbrev main_v302 : Ref sig .tc := ⟨.hbm, 799, rfl⟩
abbrev main_v303 : Ref sig .tc := ⟨.hbm, 800, rfl⟩
abbrev main_v304 : Ref sig .tc := ⟨.hbm, 801, rfl⟩
abbrev main_v305 : Ref sig .tc := ⟨.hbm, 802, rfl⟩
abbrev main_v306 : Ref sig .tc := ⟨.hbm, 803, rfl⟩
abbrev main_v307 : Ref sig .tc := ⟨.hbm, 804, rfl⟩
abbrev main_v308 : Ref sig .tc := ⟨.hbm, 805, rfl⟩
abbrev main_v309 : Ref sig .tc := ⟨.hbm, 806, rfl⟩
abbrev main_v310 : Ref sig .tc := ⟨.hbm, 807, rfl⟩
abbrev main_c_123 : Ref sig .tc := ⟨.hbm, 808, rfl⟩
abbrev main_v311 : Ref sig .tc := ⟨.hbm, 809, rfl⟩
abbrev main_v312 : Ref sig .tc := ⟨.hbm, 810, rfl⟩
abbrev main_v313 : Ref sig .tc := ⟨.hbm, 811, rfl⟩
abbrev main_v314 : Ref sig .tc := ⟨.hbm, 812, rfl⟩
abbrev main_v315 : Ref sig .tc := ⟨.hbm, 813, rfl⟩
abbrev main_cst_124 : Ref sig .tc := ⟨.hbm, 814, rfl⟩
abbrev main_v316 : Ref sig .tc := ⟨.hbm, 815, rfl⟩
abbrev main_v317 : Ref sig .tc := ⟨.hbm, 816, rfl⟩
abbrev main_c_125 : Ref sig .tc := ⟨.hbm, 817, rfl⟩
abbrev main_v318 : Ref sig .tc := ⟨.hbm, 818, rfl⟩
abbrev main_v319 : Ref sig .tc := ⟨.hbm, 819, rfl⟩
abbrev main_c_126 : Ref sig .tc := ⟨.hbm, 820, rfl⟩
abbrev main_v320 : Ref sig .tc := ⟨.hbm, 821, rfl⟩
abbrev main_v321 : Ref sig .tc := ⟨.hbm, 822, rfl⟩
abbrev main_v322 : Ref sig .tc := ⟨.hbm, 823, rfl⟩
abbrev main_v323 : Ref sig .tc := ⟨.hbm, 824, rfl⟩
abbrev main_v324 : Ref sig .tc := ⟨.hbm, 825, rfl⟩
abbrev main_v325 : Ref sig .tc := ⟨.hbm, 826, rfl⟩
abbrev main_v326 : Ref sig .tc := ⟨.hbm, 827, rfl⟩
abbrev main_v327 : Ref sig .tc := ⟨.hbm, 828, rfl⟩
abbrev main_v328 : Ref sig .tc := ⟨.hbm, 829, rfl⟩
abbrev main_v329 : Ref sig .tc := ⟨.hbm, 830, rfl⟩
abbrev main_v330 : Ref sig .tc := ⟨.hbm, 831, rfl⟩
abbrev main_v331 : Ref sig .tc := ⟨.hbm, 832, rfl⟩
abbrev main_v332 : Ref sig .tc := ⟨.hbm, 833, rfl⟩
abbrev main_v333 : Ref sig .tc := ⟨.hbm, 834, rfl⟩
abbrev main_v334 : Ref sig .tc := ⟨.hbm, 835, rfl⟩
abbrev main_v335 : Ref sig .tc := ⟨.hbm, 836, rfl⟩
abbrev main_c_127 : Ref sig .tc := ⟨.hbm, 837, rfl⟩
abbrev main_v336 : Ref sig .tc := ⟨.hbm, 838, rfl⟩
abbrev main_v337 : Ref sig .tc := ⟨.hbm, 839, rfl⟩
abbrev main_v338 : Ref sig .tc := ⟨.hbm, 840, rfl⟩
abbrev main_v339 : Ref sig .tc := ⟨.hbm, 841, rfl⟩
abbrev main_v340 : Ref sig .tc := ⟨.hbm, 842, rfl⟩
abbrev main_c_128 : Ref sig .tc := ⟨.hbm, 843, rfl⟩
abbrev main_v341 : Ref sig .tc := ⟨.hbm, 844, rfl⟩
abbrev main_v342 : Ref sig .tc := ⟨.hbm, 845, rfl⟩
abbrev main_c_129 : Ref sig .tc := ⟨.hbm, 846, rfl⟩
abbrev main_v343 : Ref sig .tc := ⟨.hbm, 847, rfl⟩
abbrev main_v344 : Ref sig .tc := ⟨.hbm, 848, rfl⟩
abbrev main_c_130 : Ref sig .tc := ⟨.hbm, 849, rfl⟩
abbrev main_v345 : Ref sig .tc := ⟨.hbm, 850, rfl⟩
abbrev main_v346 : Ref sig .tc := ⟨.hbm, 851, rfl⟩
abbrev main_v347 : Ref sig .tc := ⟨.hbm, 852, rfl⟩
abbrev main_v348 : Ref sig .tc := ⟨.hbm, 853, rfl⟩
abbrev main_v349 : Ref sig .tc := ⟨.hbm, 854, rfl⟩
abbrev main_v350 : Ref sig .tc := ⟨.hbm, 855, rfl⟩
abbrev main_v351 : Ref sig .tc := ⟨.hbm, 856, rfl⟩
abbrev main_c_131 : Ref sig .tc := ⟨.hbm, 857, rfl⟩
abbrev main_v352 : Ref sig .tc := ⟨.hbm, 858, rfl⟩
abbrev main_v353 : Ref sig .tc := ⟨.hbm, 859, rfl⟩
abbrev main_c_132 : Ref sig .tc := ⟨.hbm, 860, rfl⟩
abbrev main_c_133 : Ref sig .tc := ⟨.hbm, 861, rfl⟩
abbrev main_call45_v0 : Ref sig .tc := ⟨.hbm, 862, rfl⟩
abbrev main_call45_v1 : Ref sig .tc := ⟨.hbm, 863, rfl⟩
abbrev main_call45_v2 : Ref sig .tc := ⟨.hbm, 864, rfl⟩
abbrev main_call45_v3 : Ref sig .tc := ⟨.hbm, 865, rfl⟩
abbrev main_call45_v4 : Ref sig .tc := ⟨.hbm, 866, rfl⟩
abbrev main_v354 : Ref sig .tc := ⟨.hbm, 867, rfl⟩
abbrev main_v355 : Ref sig .tc := ⟨.hbm, 868, rfl⟩
abbrev main_v356 : Ref sig .tc := ⟨.hbm, 869, rfl⟩
abbrev main_c_134 : Ref sig .tc := ⟨.hbm, 870, rfl⟩
abbrev main_v357 : Ref sig .tc := ⟨.hbm, 871, rfl⟩
abbrev main_v358 : Ref sig .tc := ⟨.hbm, 872, rfl⟩
abbrev main_c_135 : Ref sig .tc := ⟨.hbm, 873, rfl⟩
abbrev main_c_136 : Ref sig .tc := ⟨.hbm, 874, rfl⟩
abbrev main_call46_v0 : Ref sig .tc := ⟨.hbm, 875, rfl⟩
abbrev main_call46_v1 : Ref sig .tc := ⟨.hbm, 876, rfl⟩
abbrev main_call46_v2 : Ref sig .tc := ⟨.hbm, 877, rfl⟩
abbrev main_call46_v3 : Ref sig .tc := ⟨.hbm, 878, rfl⟩
abbrev main_call46_v4 : Ref sig .tc := ⟨.hbm, 879, rfl⟩
abbrev main_v359 : Ref sig .tc := ⟨.hbm, 880, rfl⟩
abbrev main_c_137 : Ref sig .tc := ⟨.hbm, 881, rfl⟩
abbrev main_v360 : Ref sig .tc := ⟨.hbm, 882, rfl⟩
abbrev main_v361 : Ref sig .tc := ⟨.hbm, 883, rfl⟩
abbrev main_v362 : Ref sig .tc := ⟨.hbm, 884, rfl⟩
abbrev main_c_138 : Ref sig .tc := ⟨.hbm, 885, rfl⟩
abbrev main_v363 : Ref sig .tc := ⟨.hbm, 886, rfl⟩
abbrev main_v364 : Ref sig .tc := ⟨.hbm, 887, rfl⟩
abbrev main_c_139 : Ref sig .tc := ⟨.hbm, 888, rfl⟩
abbrev main_v365 : Ref sig .tc := ⟨.hbm, 889, rfl⟩
abbrev main_v366 : Ref sig .tc := ⟨.hbm, 890, rfl⟩
abbrev main_v367 : Ref sig .tc := ⟨.hbm, 891, rfl⟩
abbrev main_v368 : Ref sig .tc := ⟨.hbm, 892, rfl⟩
abbrev main_v369 : Ref sig .tc := ⟨.hbm, 893, rfl⟩
abbrev main_c_140 : Ref sig .tc := ⟨.hbm, 894, rfl⟩
abbrev main_v370 : Ref sig .tc := ⟨.hbm, 895, rfl⟩
abbrev main_v371 : Ref sig .tc := ⟨.hbm, 896, rfl⟩
abbrev main_v372 : Ref sig .tc := ⟨.hbm, 897, rfl⟩
abbrev main_c_141 : Ref sig .tc := ⟨.hbm, 898, rfl⟩
abbrev main_c_142 : Ref sig .tc := ⟨.hbm, 899, rfl⟩
abbrev main_call47_v0 : Ref sig .tc := ⟨.hbm, 900, rfl⟩
abbrev main_call47_v1 : Ref sig .tc := ⟨.hbm, 901, rfl⟩
abbrev main_call47_v2 : Ref sig .tc := ⟨.hbm, 902, rfl⟩
abbrev main_call47_v3 : Ref sig .tc := ⟨.hbm, 903, rfl⟩
abbrev main_call47_v4 : Ref sig .tc := ⟨.hbm, 904, rfl⟩
abbrev main_v373 : Ref sig .tc := ⟨.hbm, 905, rfl⟩
abbrev main_call48_c : Ref sig .tc := ⟨.hbm, 906, rfl⟩
abbrev main_call48_v0 : Ref sig .tc := ⟨.hbm, 907, rfl⟩
abbrev main_call48_v1 : Ref sig .tc := ⟨.hbm, 908, rfl⟩
abbrev main_call48_c_0 : Ref sig .tc := ⟨.hbm, 909, rfl⟩
abbrev main_call48_v2 : Ref sig .tc := ⟨.hbm, 910, rfl⟩
abbrev main_call48_v3 : Ref sig .tc := ⟨.hbm, 911, rfl⟩
abbrev main_call48_v4 : Ref sig .tc := ⟨.hbm, 912, rfl⟩
abbrev main_call48_v5 : Ref sig .tc := ⟨.hbm, 913, rfl⟩
abbrev main_call48_c_1 : Ref sig .tc := ⟨.hbm, 914, rfl⟩
abbrev main_call48_c_2 : Ref sig .tc := ⟨.hbm, 915, rfl⟩
abbrev main_call48_v6 : Ref sig .tc := ⟨.hbm, 916, rfl⟩
abbrev main_call48_v7 : Ref sig .tc := ⟨.hbm, 917, rfl⟩
abbrev main_call48_v8 : Ref sig .tc := ⟨.hbm, 918, rfl⟩
abbrev main_call48_v9 : Ref sig .tc := ⟨.hbm, 919, rfl⟩
abbrev main_call48_v10 : Ref sig .tc := ⟨.hbm, 920, rfl⟩
abbrev main_call48_v11 : Ref sig .tc := ⟨.hbm, 921, rfl⟩
abbrev main_call48_c_3 : Ref sig .tc := ⟨.hbm, 922, rfl⟩
abbrev main_call48_v12 : Ref sig .tc := ⟨.hbm, 923, rfl⟩
abbrev main_call48_v13 : Ref sig .tc := ⟨.hbm, 924, rfl⟩
abbrev main_call48_v14 : Ref sig .tc := ⟨.hbm, 925, rfl⟩
abbrev main_call48_cst : Ref sig .tc := ⟨.hbm, 926, rfl⟩
abbrev main_call48_v15 : Ref sig .tc := ⟨.hbm, 927, rfl⟩
abbrev main_v374 : Ref sig .tc := ⟨.hbm, 928, rfl⟩
abbrev main_cst_143 : Ref sig .tc := ⟨.hbm, 929, rfl⟩
abbrev main_call49_v0 : Ref sig .tc := ⟨.hbm, 930, rfl⟩
abbrev main_call49_v1 : Ref sig .tc := ⟨.hbm, 931, rfl⟩
abbrev main_call49_v2 : Ref sig .tc := ⟨.hbm, 932, rfl⟩
abbrev main_v375 : Ref sig .tc := ⟨.hbm, 933, rfl⟩
abbrev main_v376 : Ref sig .tc := ⟨.hbm, 934, rfl⟩
abbrev main_v377 : Ref sig .tc := ⟨.hbm, 935, rfl⟩
abbrev main_c_144 : Ref sig .tc := ⟨.hbm, 936, rfl⟩
abbrev main_v378 : Ref sig .tc := ⟨.hbm, 937, rfl⟩
abbrev main_v379 : Ref sig .tc := ⟨.hbm, 938, rfl⟩
abbrev main_c_145 : Ref sig .tc := ⟨.hbm, 939, rfl⟩
abbrev main_c_146 : Ref sig .tc := ⟨.hbm, 940, rfl⟩
abbrev main_call50_v0 : Ref sig .tc := ⟨.hbm, 941, rfl⟩
abbrev main_call50_v1 : Ref sig .tc := ⟨.hbm, 942, rfl⟩
abbrev main_call50_v2 : Ref sig .tc := ⟨.hbm, 943, rfl⟩
abbrev main_call50_v3 : Ref sig .tc := ⟨.hbm, 944, rfl⟩
abbrev main_call50_v4 : Ref sig .tc := ⟨.hbm, 945, rfl⟩
abbrev main_v380 : Ref sig .tc := ⟨.hbm, 946, rfl⟩
abbrev main_v381 : Ref sig .tc := ⟨.hbm, 947, rfl⟩
abbrev main_v382 : Ref sig .tc := ⟨.hbm, 948, rfl⟩
abbrev main_c_147 : Ref sig .tc := ⟨.hbm, 949, rfl⟩
abbrev main_v383 : Ref sig .tc := ⟨.hbm, 950, rfl⟩
abbrev main_v384 : Ref sig .tc := ⟨.hbm, 951, rfl⟩
abbrev main_c_148 : Ref sig .tc := ⟨.hbm, 952, rfl⟩
abbrev main_c_149 : Ref sig .tc := ⟨.hbm, 953, rfl⟩
abbrev main_call51_v0 : Ref sig .tc := ⟨.hbm, 954, rfl⟩
abbrev main_call51_v1 : Ref sig .tc := ⟨.hbm, 955, rfl⟩
abbrev main_call51_v2 : Ref sig .tc := ⟨.hbm, 956, rfl⟩
abbrev main_call51_v3 : Ref sig .tc := ⟨.hbm, 957, rfl⟩
abbrev main_call51_v4 : Ref sig .tc := ⟨.hbm, 958, rfl⟩
abbrev main_v385 : Ref sig .tc := ⟨.hbm, 959, rfl⟩
abbrev main_c_150 : Ref sig .tc := ⟨.hbm, 960, rfl⟩
abbrev main_v386 : Ref sig .tc := ⟨.hbm, 961, rfl⟩
abbrev main_v387 : Ref sig .tc := ⟨.hbm, 962, rfl⟩
abbrev main_v388 : Ref sig .tc := ⟨.hbm, 963, rfl⟩
abbrev main_c_151 : Ref sig .tc := ⟨.hbm, 964, rfl⟩
abbrev main_v389 : Ref sig .tc := ⟨.hbm, 965, rfl⟩
abbrev main_v390 : Ref sig .tc := ⟨.hbm, 966, rfl⟩
abbrev main_c_152 : Ref sig .tc := ⟨.hbm, 967, rfl⟩
abbrev main_v391 : Ref sig .tc := ⟨.hbm, 968, rfl⟩
abbrev main_v392 : Ref sig .tc := ⟨.hbm, 969, rfl⟩
abbrev main_v393 : Ref sig .tc := ⟨.hbm, 970, rfl⟩
abbrev main_v394 : Ref sig .tc := ⟨.hbm, 971, rfl⟩
abbrev main_v395 : Ref sig .tc := ⟨.hbm, 972, rfl⟩
abbrev main_c_153 : Ref sig .tc := ⟨.hbm, 973, rfl⟩
abbrev main_v396 : Ref sig .tc := ⟨.hbm, 974, rfl⟩
abbrev main_v397 : Ref sig .tc := ⟨.hbm, 975, rfl⟩
abbrev main_v398 : Ref sig .tc := ⟨.hbm, 976, rfl⟩
abbrev main_c_154 : Ref sig .tc := ⟨.hbm, 977, rfl⟩
abbrev main_c_155 : Ref sig .tc := ⟨.hbm, 978, rfl⟩
abbrev main_call52_v0 : Ref sig .tc := ⟨.hbm, 979, rfl⟩
abbrev main_call52_v1 : Ref sig .tc := ⟨.hbm, 980, rfl⟩
abbrev main_call52_v2 : Ref sig .tc := ⟨.hbm, 981, rfl⟩
abbrev main_call52_v3 : Ref sig .tc := ⟨.hbm, 982, rfl⟩
abbrev main_call52_v4 : Ref sig .tc := ⟨.hbm, 983, rfl⟩
abbrev main_v399 : Ref sig .tc := ⟨.hbm, 984, rfl⟩
abbrev main_call53_c : Ref sig .tc := ⟨.hbm, 985, rfl⟩
abbrev main_call53_v0 : Ref sig .tc := ⟨.hbm, 986, rfl⟩
abbrev main_call53_v1 : Ref sig .tc := ⟨.hbm, 987, rfl⟩
abbrev main_call53_c_0 : Ref sig .tc := ⟨.hbm, 988, rfl⟩
abbrev main_call53_v2 : Ref sig .tc := ⟨.hbm, 989, rfl⟩
abbrev main_call53_v3 : Ref sig .tc := ⟨.hbm, 990, rfl⟩
abbrev main_call53_v4 : Ref sig .tc := ⟨.hbm, 991, rfl⟩
abbrev main_call53_v5 : Ref sig .tc := ⟨.hbm, 992, rfl⟩
abbrev main_call53_c_1 : Ref sig .tc := ⟨.hbm, 993, rfl⟩
abbrev main_call53_c_2 : Ref sig .tc := ⟨.hbm, 994, rfl⟩
abbrev main_call53_v6 : Ref sig .tc := ⟨.hbm, 995, rfl⟩
abbrev main_call53_v7 : Ref sig .tc := ⟨.hbm, 996, rfl⟩
abbrev main_call53_v8 : Ref sig .tc := ⟨.hbm, 997, rfl⟩
abbrev main_call53_v9 : Ref sig .tc := ⟨.hbm, 998, rfl⟩
abbrev main_call53_v10 : Ref sig .tc := ⟨.hbm, 999, rfl⟩
abbrev main_call53_v11 : Ref sig .tc := ⟨.hbm, 1000, rfl⟩
abbrev main_call53_c_3 : Ref sig .tc := ⟨.hbm, 1001, rfl⟩
abbrev main_call53_v12 : Ref sig .tc := ⟨.hbm, 1002, rfl⟩
abbrev main_call53_v13 : Ref sig .tc := ⟨.hbm, 1003, rfl⟩
abbrev main_call53_v14 : Ref sig .tc := ⟨.hbm, 1004, rfl⟩
abbrev main_call53_cst : Ref sig .tc := ⟨.hbm, 1005, rfl⟩
abbrev main_call53_v15 : Ref sig .tc := ⟨.hbm, 1006, rfl⟩
abbrev main_v400 : Ref sig .tc := ⟨.hbm, 1007, rfl⟩
abbrev main_cst_156 : Ref sig .tc := ⟨.hbm, 1008, rfl⟩
abbrev main_call54_v0 : Ref sig .tc := ⟨.hbm, 1009, rfl⟩
abbrev main_call54_v1 : Ref sig .tc := ⟨.hbm, 1010, rfl⟩
abbrev main_call54_v2 : Ref sig .tc := ⟨.hbm, 1011, rfl⟩
abbrev main_v401 : Ref sig .tc := ⟨.hbm, 1012, rfl⟩
abbrev main_v402 : Ref sig .tc := ⟨.hbm, 1013, rfl⟩
abbrev main_v403 : Ref sig .tc := ⟨.hbm, 1014, rfl⟩
abbrev main_c_157 : Ref sig .tc := ⟨.hbm, 1015, rfl⟩
abbrev main_v404 : Ref sig .tc := ⟨.hbm, 1016, rfl⟩
abbrev main_v405 : Ref sig .tc := ⟨.hbm, 1017, rfl⟩
abbrev main_c_158 : Ref sig .tc := ⟨.hbm, 1018, rfl⟩
abbrev main_c_159 : Ref sig .tc := ⟨.hbm, 1019, rfl⟩
abbrev main_call55_v0 : Ref sig .tc := ⟨.hbm, 1020, rfl⟩
abbrev main_call55_v1 : Ref sig .tc := ⟨.hbm, 1021, rfl⟩
abbrev main_call55_v2 : Ref sig .tc := ⟨.hbm, 1022, rfl⟩
abbrev main_call55_v3 : Ref sig .tc := ⟨.hbm, 1023, rfl⟩
abbrev main_call55_v4 : Ref sig .tc := ⟨.hbm, 1024, rfl⟩
abbrev main_v406 : Ref sig .tc := ⟨.hbm, 1025, rfl⟩
abbrev main_v407 : Ref sig .tc := ⟨.hbm, 1026, rfl⟩
abbrev main_v408 : Ref sig .tc := ⟨.hbm, 1027, rfl⟩
abbrev main_c_160 : Ref sig .tc := ⟨.hbm, 1028, rfl⟩
abbrev main_v409 : Ref sig .tc := ⟨.hbm, 1029, rfl⟩
abbrev main_v410 : Ref sig .tc := ⟨.hbm, 1030, rfl⟩
abbrev main_c_161 : Ref sig .tc := ⟨.hbm, 1031, rfl⟩
abbrev main_c_162 : Ref sig .tc := ⟨.hbm, 1032, rfl⟩
abbrev main_call56_v0 : Ref sig .tc := ⟨.hbm, 1033, rfl⟩
abbrev main_call56_v1 : Ref sig .tc := ⟨.hbm, 1034, rfl⟩
abbrev main_call56_v2 : Ref sig .tc := ⟨.hbm, 1035, rfl⟩
abbrev main_call56_v3 : Ref sig .tc := ⟨.hbm, 1036, rfl⟩
abbrev main_call56_v4 : Ref sig .tc := ⟨.hbm, 1037, rfl⟩
abbrev main_v411 : Ref sig .tc := ⟨.hbm, 1038, rfl⟩
abbrev main_c_163 : Ref sig .tc := ⟨.hbm, 1039, rfl⟩
abbrev main_v412 : Ref sig .tc := ⟨.hbm, 1040, rfl⟩
abbrev main_v413 : Ref sig .tc := ⟨.hbm, 1041, rfl⟩
abbrev main_v414 : Ref sig .tc := ⟨.hbm, 1042, rfl⟩
abbrev main_c_164 : Ref sig .tc := ⟨.hbm, 1043, rfl⟩
abbrev main_v415 : Ref sig .tc := ⟨.hbm, 1044, rfl⟩
abbrev main_v416 : Ref sig .tc := ⟨.hbm, 1045, rfl⟩
abbrev main_c_165 : Ref sig .tc := ⟨.hbm, 1046, rfl⟩
abbrev main_v417 : Ref sig .tc := ⟨.hbm, 1047, rfl⟩
abbrev main_v418 : Ref sig .tc := ⟨.hbm, 1048, rfl⟩
abbrev main_v419 : Ref sig .tc := ⟨.hbm, 1049, rfl⟩
abbrev main_v420 : Ref sig .tc := ⟨.hbm, 1050, rfl⟩
abbrev main_v421 : Ref sig .tc := ⟨.hbm, 1051, rfl⟩
abbrev main_c_166 : Ref sig .tc := ⟨.hbm, 1052, rfl⟩
abbrev main_v422 : Ref sig .tc := ⟨.hbm, 1053, rfl⟩
abbrev main_v423 : Ref sig .tc := ⟨.hbm, 1054, rfl⟩
abbrev main_v424 : Ref sig .tc := ⟨.hbm, 1055, rfl⟩
abbrev main_c_167 : Ref sig .tc := ⟨.hbm, 1056, rfl⟩
abbrev main_c_168 : Ref sig .tc := ⟨.hbm, 1057, rfl⟩
abbrev main_call57_v0 : Ref sig .tc := ⟨.hbm, 1058, rfl⟩
abbrev main_call57_v1 : Ref sig .tc := ⟨.hbm, 1059, rfl⟩
abbrev main_call57_v2 : Ref sig .tc := ⟨.hbm, 1060, rfl⟩
abbrev main_call57_v3 : Ref sig .tc := ⟨.hbm, 1061, rfl⟩
abbrev main_call57_v4 : Ref sig .tc := ⟨.hbm, 1062, rfl⟩
abbrev main_v425 : Ref sig .tc := ⟨.hbm, 1063, rfl⟩
abbrev main_call58_c : Ref sig .tc := ⟨.hbm, 1064, rfl⟩
abbrev main_call58_v0 : Ref sig .tc := ⟨.hbm, 1065, rfl⟩
abbrev main_call58_v1 : Ref sig .tc := ⟨.hbm, 1066, rfl⟩
abbrev main_call58_c_0 : Ref sig .tc := ⟨.hbm, 1067, rfl⟩
abbrev main_call58_v2 : Ref sig .tc := ⟨.hbm, 1068, rfl⟩
abbrev main_call58_v3 : Ref sig .tc := ⟨.hbm, 1069, rfl⟩
abbrev main_call58_v4 : Ref sig .tc := ⟨.hbm, 1070, rfl⟩
abbrev main_call58_v5 : Ref sig .tc := ⟨.hbm, 1071, rfl⟩
abbrev main_call58_c_1 : Ref sig .tc := ⟨.hbm, 1072, rfl⟩
abbrev main_call58_c_2 : Ref sig .tc := ⟨.hbm, 1073, rfl⟩
abbrev main_call58_v6 : Ref sig .tc := ⟨.hbm, 1074, rfl⟩
abbrev main_call58_v7 : Ref sig .tc := ⟨.hbm, 1075, rfl⟩
abbrev main_call58_v8 : Ref sig .tc := ⟨.hbm, 1076, rfl⟩
abbrev main_call58_v9 : Ref sig .tc := ⟨.hbm, 1077, rfl⟩
abbrev main_call58_v10 : Ref sig .tc := ⟨.hbm, 1078, rfl⟩
abbrev main_call58_v11 : Ref sig .tc := ⟨.hbm, 1079, rfl⟩
abbrev main_call58_c_3 : Ref sig .tc := ⟨.hbm, 1080, rfl⟩
abbrev main_call58_v12 : Ref sig .tc := ⟨.hbm, 1081, rfl⟩
abbrev main_call58_v13 : Ref sig .tc := ⟨.hbm, 1082, rfl⟩
abbrev main_call58_v14 : Ref sig .tc := ⟨.hbm, 1083, rfl⟩
abbrev main_call58_cst : Ref sig .tc := ⟨.hbm, 1084, rfl⟩
abbrev main_call58_v15 : Ref sig .tc := ⟨.hbm, 1085, rfl⟩
abbrev main_v426 : Ref sig .tc := ⟨.hbm, 1086, rfl⟩
abbrev main_cst_169 : Ref sig .tc := ⟨.hbm, 1087, rfl⟩
abbrev main_call59_v0 : Ref sig .tc := ⟨.hbm, 1088, rfl⟩
abbrev main_call59_v1 : Ref sig .tc := ⟨.hbm, 1089, rfl⟩
abbrev main_call59_v2 : Ref sig .tc := ⟨.hbm, 1090, rfl⟩
abbrev main_v427 : Ref sig .tc := ⟨.hbm, 1091, rfl⟩
abbrev main_v428 : Ref sig .tc := ⟨.hbm, 1092, rfl⟩
abbrev main_v429 : Ref sig .tc := ⟨.hbm, 1093, rfl⟩
abbrev main_c_170 : Ref sig .tc := ⟨.hbm, 1094, rfl⟩
abbrev main_v430 : Ref sig .tc := ⟨.hbm, 1095, rfl⟩
abbrev main_v431 : Ref sig .tc := ⟨.hbm, 1096, rfl⟩
abbrev main_c_171 : Ref sig .tc := ⟨.hbm, 1097, rfl⟩
abbrev main_c_172 : Ref sig .tc := ⟨.hbm, 1098, rfl⟩
abbrev main_call60_v0 : Ref sig .tc := ⟨.hbm, 1099, rfl⟩
abbrev main_call60_v1 : Ref sig .tc := ⟨.hbm, 1100, rfl⟩
abbrev main_call60_v2 : Ref sig .tc := ⟨.hbm, 1101, rfl⟩
abbrev main_call60_v3 : Ref sig .tc := ⟨.hbm, 1102, rfl⟩
abbrev main_call60_v4 : Ref sig .tc := ⟨.hbm, 1103, rfl⟩
abbrev main_v432 : Ref sig .tc := ⟨.hbm, 1104, rfl⟩
abbrev main_v433 : Ref sig .tc := ⟨.hbm, 1105, rfl⟩
abbrev main_v434 : Ref sig .tc := ⟨.hbm, 1106, rfl⟩
abbrev main_c_173 : Ref sig .tc := ⟨.hbm, 1107, rfl⟩
abbrev main_v435 : Ref sig .tc := ⟨.hbm, 1108, rfl⟩
abbrev main_v436 : Ref sig .tc := ⟨.hbm, 1109, rfl⟩
abbrev main_c_174 : Ref sig .tc := ⟨.hbm, 1110, rfl⟩
abbrev main_c_175 : Ref sig .tc := ⟨.hbm, 1111, rfl⟩
abbrev main_call61_v0 : Ref sig .tc := ⟨.hbm, 1112, rfl⟩
abbrev main_call61_v1 : Ref sig .tc := ⟨.hbm, 1113, rfl⟩
abbrev main_call61_v2 : Ref sig .tc := ⟨.hbm, 1114, rfl⟩
abbrev main_call61_v3 : Ref sig .tc := ⟨.hbm, 1115, rfl⟩
abbrev main_call61_v4 : Ref sig .tc := ⟨.hbm, 1116, rfl⟩
abbrev main_v437 : Ref sig .tc := ⟨.hbm, 1117, rfl⟩
abbrev main_c_176 : Ref sig .tc := ⟨.hbm, 1118, rfl⟩
abbrev main_v438 : Ref sig .tc := ⟨.hbm, 1119, rfl⟩
abbrev main_v439 : Ref sig .tc := ⟨.hbm, 1120, rfl⟩
abbrev main_v440 : Ref sig .tc := ⟨.hbm, 1121, rfl⟩
abbrev main_c_177 : Ref sig .tc := ⟨.hbm, 1122, rfl⟩
abbrev main_v441 : Ref sig .tc := ⟨.hbm, 1123, rfl⟩
abbrev main_v442 : Ref sig .tc := ⟨.hbm, 1124, rfl⟩
abbrev main_c_178 : Ref sig .tc := ⟨.hbm, 1125, rfl⟩
abbrev main_v443 : Ref sig .tc := ⟨.hbm, 1126, rfl⟩
abbrev main_v444 : Ref sig .tc := ⟨.hbm, 1127, rfl⟩
abbrev main_v445 : Ref sig .tc := ⟨.hbm, 1128, rfl⟩
abbrev main_v446 : Ref sig .tc := ⟨.hbm, 1129, rfl⟩
abbrev main_v447 : Ref sig .tc := ⟨.hbm, 1130, rfl⟩
abbrev main_c_179 : Ref sig .tc := ⟨.hbm, 1131, rfl⟩
abbrev main_v448 : Ref sig .tc := ⟨.hbm, 1132, rfl⟩
abbrev main_v449 : Ref sig .tc := ⟨.hbm, 1133, rfl⟩
abbrev main_v450 : Ref sig .tc := ⟨.hbm, 1134, rfl⟩
abbrev main_c_180 : Ref sig .tc := ⟨.hbm, 1135, rfl⟩
abbrev main_c_181 : Ref sig .tc := ⟨.hbm, 1136, rfl⟩
abbrev main_call62_v0 : Ref sig .tc := ⟨.hbm, 1137, rfl⟩
abbrev main_call62_v1 : Ref sig .tc := ⟨.hbm, 1138, rfl⟩
abbrev main_call62_v2 : Ref sig .tc := ⟨.hbm, 1139, rfl⟩
abbrev main_call62_v3 : Ref sig .tc := ⟨.hbm, 1140, rfl⟩
abbrev main_call62_v4 : Ref sig .tc := ⟨.hbm, 1141, rfl⟩
abbrev main_v451 : Ref sig .tc := ⟨.hbm, 1142, rfl⟩
abbrev main_call63_c : Ref sig .tc := ⟨.hbm, 1143, rfl⟩
abbrev main_call63_v0 : Ref sig .tc := ⟨.hbm, 1144, rfl⟩
abbrev main_call63_v1 : Ref sig .tc := ⟨.hbm, 1145, rfl⟩
abbrev main_call63_c_0 : Ref sig .tc := ⟨.hbm, 1146, rfl⟩
abbrev main_call63_v2 : Ref sig .tc := ⟨.hbm, 1147, rfl⟩
abbrev main_call63_v3 : Ref sig .tc := ⟨.hbm, 1148, rfl⟩
abbrev main_call63_v4 : Ref sig .tc := ⟨.hbm, 1149, rfl⟩
abbrev main_call63_v5 : Ref sig .tc := ⟨.hbm, 1150, rfl⟩
abbrev main_call63_c_1 : Ref sig .tc := ⟨.hbm, 1151, rfl⟩
abbrev main_call63_c_2 : Ref sig .tc := ⟨.hbm, 1152, rfl⟩
abbrev main_call63_v6 : Ref sig .tc := ⟨.hbm, 1153, rfl⟩
abbrev main_call63_v7 : Ref sig .tc := ⟨.hbm, 1154, rfl⟩
abbrev main_call63_v8 : Ref sig .tc := ⟨.hbm, 1155, rfl⟩
abbrev main_call63_v9 : Ref sig .tc := ⟨.hbm, 1156, rfl⟩
abbrev main_call63_v10 : Ref sig .tc := ⟨.hbm, 1157, rfl⟩
abbrev main_call63_v11 : Ref sig .tc := ⟨.hbm, 1158, rfl⟩
abbrev main_call63_c_3 : Ref sig .tc := ⟨.hbm, 1159, rfl⟩
abbrev main_call63_v12 : Ref sig .tc := ⟨.hbm, 1160, rfl⟩
abbrev main_call63_v13 : Ref sig .tc := ⟨.hbm, 1161, rfl⟩
abbrev main_call63_v14 : Ref sig .tc := ⟨.hbm, 1162, rfl⟩
abbrev main_call63_cst : Ref sig .tc := ⟨.hbm, 1163, rfl⟩
abbrev main_call63_v15 : Ref sig .tc := ⟨.hbm, 1164, rfl⟩
abbrev main_v452 : Ref sig .tc := ⟨.hbm, 1165, rfl⟩
abbrev main_cst_182 : Ref sig .tc := ⟨.hbm, 1166, rfl⟩
abbrev main_call64_v0 : Ref sig .tc := ⟨.hbm, 1167, rfl⟩
abbrev main_call64_v1 : Ref sig .tc := ⟨.hbm, 1168, rfl⟩
abbrev main_call64_v2 : Ref sig .tc := ⟨.hbm, 1169, rfl⟩
abbrev main_v453 : Ref sig .tc := ⟨.hbm, 1170, rfl⟩
abbrev main_v454 : Ref sig .tc := ⟨.hbm, 1171, rfl⟩
abbrev main_v455 : Ref sig .tc := ⟨.hbm, 1172, rfl⟩
abbrev main_c_183 : Ref sig .tc := ⟨.hbm, 1173, rfl⟩
abbrev main_v456 : Ref sig .tc := ⟨.hbm, 1174, rfl⟩
abbrev main_v457 : Ref sig .tc := ⟨.hbm, 1175, rfl⟩
abbrev main_c_184 : Ref sig .tc := ⟨.hbm, 1176, rfl⟩
abbrev main_c_185 : Ref sig .tc := ⟨.hbm, 1177, rfl⟩
abbrev main_call65_v0 : Ref sig .tc := ⟨.hbm, 1178, rfl⟩
abbrev main_call65_v1 : Ref sig .tc := ⟨.hbm, 1179, rfl⟩
abbrev main_call65_v2 : Ref sig .tc := ⟨.hbm, 1180, rfl⟩
abbrev main_call65_v3 : Ref sig .tc := ⟨.hbm, 1181, rfl⟩
abbrev main_call65_v4 : Ref sig .tc := ⟨.hbm, 1182, rfl⟩
abbrev main_v458 : Ref sig .tc := ⟨.hbm, 1183, rfl⟩
abbrev main_v459 : Ref sig .tc := ⟨.hbm, 1184, rfl⟩
abbrev main_v460 : Ref sig .tc := ⟨.hbm, 1185, rfl⟩
abbrev main_c_186 : Ref sig .tc := ⟨.hbm, 1186, rfl⟩
abbrev main_v461 : Ref sig .tc := ⟨.hbm, 1187, rfl⟩
abbrev main_v462 : Ref sig .tc := ⟨.hbm, 1188, rfl⟩
abbrev main_c_187 : Ref sig .tc := ⟨.hbm, 1189, rfl⟩
abbrev main_c_188 : Ref sig .tc := ⟨.hbm, 1190, rfl⟩
abbrev main_call66_v0 : Ref sig .tc := ⟨.hbm, 1191, rfl⟩
abbrev main_call66_v1 : Ref sig .tc := ⟨.hbm, 1192, rfl⟩
abbrev main_call66_v2 : Ref sig .tc := ⟨.hbm, 1193, rfl⟩
abbrev main_call66_v3 : Ref sig .tc := ⟨.hbm, 1194, rfl⟩
abbrev main_call66_v4 : Ref sig .tc := ⟨.hbm, 1195, rfl⟩
abbrev main_v463 : Ref sig .tc := ⟨.hbm, 1196, rfl⟩
abbrev main_c_189 : Ref sig .tc := ⟨.hbm, 1197, rfl⟩
abbrev main_v464 : Ref sig .tc := ⟨.hbm, 1198, rfl⟩
abbrev main_v465 : Ref sig .tc := ⟨.hbm, 1199, rfl⟩
abbrev main_v466 : Ref sig .tc := ⟨.hbm, 1200, rfl⟩
abbrev main_c_190 : Ref sig .tc := ⟨.hbm, 1201, rfl⟩
abbrev main_v467 : Ref sig .tc := ⟨.hbm, 1202, rfl⟩
abbrev main_v468 : Ref sig .tc := ⟨.hbm, 1203, rfl⟩
abbrev main_c_191 : Ref sig .tc := ⟨.hbm, 1204, rfl⟩
abbrev main_v469 : Ref sig .tc := ⟨.hbm, 1205, rfl⟩
abbrev main_v470 : Ref sig .tc := ⟨.hbm, 1206, rfl⟩
abbrev main_v471 : Ref sig .tc := ⟨.hbm, 1207, rfl⟩
abbrev main_v472 : Ref sig .tc := ⟨.hbm, 1208, rfl⟩
abbrev main_v473 : Ref sig .tc := ⟨.hbm, 1209, rfl⟩
abbrev main_c_192 : Ref sig .tc := ⟨.hbm, 1210, rfl⟩
abbrev main_v474 : Ref sig .tc := ⟨.hbm, 1211, rfl⟩
abbrev main_v475 : Ref sig .tc := ⟨.hbm, 1212, rfl⟩
abbrev main_v476 : Ref sig .tc := ⟨.hbm, 1213, rfl⟩
abbrev main_c_193 : Ref sig .tc := ⟨.hbm, 1214, rfl⟩
abbrev main_c_194 : Ref sig .tc := ⟨.hbm, 1215, rfl⟩
abbrev main_call67_v0 : Ref sig .tc := ⟨.hbm, 1216, rfl⟩
abbrev main_call67_v1 : Ref sig .tc := ⟨.hbm, 1217, rfl⟩
abbrev main_call67_v2 : Ref sig .tc := ⟨.hbm, 1218, rfl⟩
abbrev main_call67_v3 : Ref sig .tc := ⟨.hbm, 1219, rfl⟩
abbrev main_call67_v4 : Ref sig .tc := ⟨.hbm, 1220, rfl⟩
abbrev main_v477 : Ref sig .tc := ⟨.hbm, 1221, rfl⟩
abbrev main_call68_c : Ref sig .tc := ⟨.hbm, 1222, rfl⟩
abbrev main_call68_v0 : Ref sig .tc := ⟨.hbm, 1223, rfl⟩
abbrev main_call68_v1 : Ref sig .tc := ⟨.hbm, 1224, rfl⟩
abbrev main_call68_c_0 : Ref sig .tc := ⟨.hbm, 1225, rfl⟩
abbrev main_call68_v2 : Ref sig .tc := ⟨.hbm, 1226, rfl⟩
abbrev main_call68_v3 : Ref sig .tc := ⟨.hbm, 1227, rfl⟩
abbrev main_call68_v4 : Ref sig .tc := ⟨.hbm, 1228, rfl⟩
abbrev main_call68_v5 : Ref sig .tc := ⟨.hbm, 1229, rfl⟩
abbrev main_call68_c_1 : Ref sig .tc := ⟨.hbm, 1230, rfl⟩
abbrev main_call68_c_2 : Ref sig .tc := ⟨.hbm, 1231, rfl⟩
abbrev main_call68_v6 : Ref sig .tc := ⟨.hbm, 1232, rfl⟩
abbrev main_call68_v7 : Ref sig .tc := ⟨.hbm, 1233, rfl⟩
abbrev main_call68_v8 : Ref sig .tc := ⟨.hbm, 1234, rfl⟩
abbrev main_call68_v9 : Ref sig .tc := ⟨.hbm, 1235, rfl⟩
abbrev main_call68_v10 : Ref sig .tc := ⟨.hbm, 1236, rfl⟩
abbrev main_call68_v11 : Ref sig .tc := ⟨.hbm, 1237, rfl⟩
abbrev main_call68_c_3 : Ref sig .tc := ⟨.hbm, 1238, rfl⟩
abbrev main_call68_v12 : Ref sig .tc := ⟨.hbm, 1239, rfl⟩
abbrev main_call68_v13 : Ref sig .tc := ⟨.hbm, 1240, rfl⟩
abbrev main_call68_v14 : Ref sig .tc := ⟨.hbm, 1241, rfl⟩
abbrev main_call68_cst : Ref sig .tc := ⟨.hbm, 1242, rfl⟩
abbrev main_call68_v15 : Ref sig .tc := ⟨.hbm, 1243, rfl⟩
abbrev main_v478 : Ref sig .tc := ⟨.hbm, 1244, rfl⟩
abbrev main_cst_195 : Ref sig .tc := ⟨.hbm, 1245, rfl⟩
abbrev main_call69_v0 : Ref sig .tc := ⟨.hbm, 1246, rfl⟩
abbrev main_call69_v1 : Ref sig .tc := ⟨.hbm, 1247, rfl⟩
abbrev main_call69_v2 : Ref sig .tc := ⟨.hbm, 1248, rfl⟩
abbrev main_v479 : Ref sig .tc := ⟨.hbm, 1249, rfl⟩
abbrev main_v480 : Ref sig .tc := ⟨.hbm, 1250, rfl⟩
abbrev main_v481 : Ref sig .tc := ⟨.hbm, 1251, rfl⟩
abbrev main_c_196 : Ref sig .tc := ⟨.hbm, 1252, rfl⟩
abbrev main_v482 : Ref sig .tc := ⟨.hbm, 1253, rfl⟩
abbrev main_v483 : Ref sig .tc := ⟨.hbm, 1254, rfl⟩
abbrev main_c_197 : Ref sig .tc := ⟨.hbm, 1255, rfl⟩
abbrev main_c_198 : Ref sig .tc := ⟨.hbm, 1256, rfl⟩
abbrev main_call70_v0 : Ref sig .tc := ⟨.hbm, 1257, rfl⟩
abbrev main_call70_v1 : Ref sig .tc := ⟨.hbm, 1258, rfl⟩
abbrev main_call70_v2 : Ref sig .tc := ⟨.hbm, 1259, rfl⟩
abbrev main_call70_v3 : Ref sig .tc := ⟨.hbm, 1260, rfl⟩
abbrev main_call70_v4 : Ref sig .tc := ⟨.hbm, 1261, rfl⟩
abbrev main_v484 : Ref sig .tc := ⟨.hbm, 1262, rfl⟩
abbrev main_v485 : Ref sig .tc := ⟨.hbm, 1263, rfl⟩
abbrev main_v486 : Ref sig .tc := ⟨.hbm, 1264, rfl⟩
abbrev main_c_199 : Ref sig .tc := ⟨.hbm, 1265, rfl⟩
abbrev main_v487 : Ref sig .tc := ⟨.hbm, 1266, rfl⟩
abbrev main_v488 : Ref sig .tc := ⟨.hbm, 1267, rfl⟩
abbrev main_c_200 : Ref sig .tc := ⟨.hbm, 1268, rfl⟩
abbrev main_c_201 : Ref sig .tc := ⟨.hbm, 1269, rfl⟩
abbrev main_call71_v0 : Ref sig .tc := ⟨.hbm, 1270, rfl⟩
abbrev main_call71_v1 : Ref sig .tc := ⟨.hbm, 1271, rfl⟩
abbrev main_call71_v2 : Ref sig .tc := ⟨.hbm, 1272, rfl⟩
abbrev main_call71_v3 : Ref sig .tc := ⟨.hbm, 1273, rfl⟩
abbrev main_call71_v4 : Ref sig .tc := ⟨.hbm, 1274, rfl⟩
abbrev main_v489 : Ref sig .tc := ⟨.hbm, 1275, rfl⟩
abbrev main_c_202 : Ref sig .tc := ⟨.hbm, 1276, rfl⟩
abbrev main_v490 : Ref sig .tc := ⟨.hbm, 1277, rfl⟩
abbrev main_v491 : Ref sig .tc := ⟨.hbm, 1278, rfl⟩
abbrev main_v492 : Ref sig .tc := ⟨.hbm, 1279, rfl⟩
abbrev main_c_203 : Ref sig .tc := ⟨.hbm, 1280, rfl⟩
abbrev main_v493 : Ref sig .tc := ⟨.hbm, 1281, rfl⟩
abbrev main_v494 : Ref sig .tc := ⟨.hbm, 1282, rfl⟩
abbrev main_c_204 : Ref sig .tc := ⟨.hbm, 1283, rfl⟩
abbrev main_v495 : Ref sig .tc := ⟨.hbm, 1284, rfl⟩
abbrev main_v496 : Ref sig .tc := ⟨.hbm, 1285, rfl⟩
abbrev main_v497 : Ref sig .tc := ⟨.hbm, 1286, rfl⟩
abbrev main_v498 : Ref sig .tc := ⟨.hbm, 1287, rfl⟩
abbrev main_v499 : Ref sig .tc := ⟨.hbm, 1288, rfl⟩
abbrev main_c_205 : Ref sig .tc := ⟨.hbm, 1289, rfl⟩
abbrev main_v500 : Ref sig .tc := ⟨.hbm, 1290, rfl⟩
abbrev main_v501 : Ref sig .tc := ⟨.hbm, 1291, rfl⟩
abbrev main_v502 : Ref sig .tc := ⟨.hbm, 1292, rfl⟩
abbrev main_c_206 : Ref sig .tc := ⟨.hbm, 1293, rfl⟩
abbrev main_c_207 : Ref sig .tc := ⟨.hbm, 1294, rfl⟩
abbrev main_call72_v0 : Ref sig .tc := ⟨.hbm, 1295, rfl⟩
abbrev main_call72_v1 : Ref sig .tc := ⟨.hbm, 1296, rfl⟩
abbrev main_call72_v2 : Ref sig .tc := ⟨.hbm, 1297, rfl⟩
abbrev main_call72_v3 : Ref sig .tc := ⟨.hbm, 1298, rfl⟩
abbrev main_call72_v4 : Ref sig .tc := ⟨.hbm, 1299, rfl⟩
abbrev main_v503 : Ref sig .tc := ⟨.hbm, 1300, rfl⟩
abbrev main_call73_c : Ref sig .tc := ⟨.hbm, 1301, rfl⟩
abbrev main_call73_v0 : Ref sig .tc := ⟨.hbm, 1302, rfl⟩
abbrev main_call73_v1 : Ref sig .tc := ⟨.hbm, 1303, rfl⟩
abbrev main_call73_c_0 : Ref sig .tc := ⟨.hbm, 1304, rfl⟩
abbrev main_call73_v2 : Ref sig .tc := ⟨.hbm, 1305, rfl⟩
abbrev main_call73_v3 : Ref sig .tc := ⟨.hbm, 1306, rfl⟩
abbrev main_call73_v4 : Ref sig .tc := ⟨.hbm, 1307, rfl⟩
abbrev main_call73_v5 : Ref sig .tc := ⟨.hbm, 1308, rfl⟩
abbrev main_call73_c_1 : Ref sig .tc := ⟨.hbm, 1309, rfl⟩
abbrev main_call73_c_2 : Ref sig .tc := ⟨.hbm, 1310, rfl⟩
abbrev main_call73_v6 : Ref sig .tc := ⟨.hbm, 1311, rfl⟩
abbrev main_call73_v7 : Ref sig .tc := ⟨.hbm, 1312, rfl⟩
abbrev main_call73_v8 : Ref sig .tc := ⟨.hbm, 1313, rfl⟩
abbrev main_call73_v9 : Ref sig .tc := ⟨.hbm, 1314, rfl⟩
abbrev main_call73_v10 : Ref sig .tc := ⟨.hbm, 1315, rfl⟩
abbrev main_call73_v11 : Ref sig .tc := ⟨.hbm, 1316, rfl⟩
abbrev main_call73_c_3 : Ref sig .tc := ⟨.hbm, 1317, rfl⟩
abbrev main_call73_v12 : Ref sig .tc := ⟨.hbm, 1318, rfl⟩
abbrev main_call73_v13 : Ref sig .tc := ⟨.hbm, 1319, rfl⟩
abbrev main_call73_v14 : Ref sig .tc := ⟨.hbm, 1320, rfl⟩
abbrev main_call73_cst : Ref sig .tc := ⟨.hbm, 1321, rfl⟩
abbrev main_call73_v15 : Ref sig .tc := ⟨.hbm, 1322, rfl⟩
abbrev main_v504 : Ref sig .tc := ⟨.hbm, 1323, rfl⟩
abbrev main_cst_208 : Ref sig .tc := ⟨.hbm, 1324, rfl⟩
abbrev main_call74_v0 : Ref sig .tc := ⟨.hbm, 1325, rfl⟩
abbrev main_call74_v1 : Ref sig .tc := ⟨.hbm, 1326, rfl⟩
abbrev main_call74_v2 : Ref sig .tc := ⟨.hbm, 1327, rfl⟩
abbrev main_v505 : Ref sig .tc := ⟨.hbm, 1328, rfl⟩
abbrev main_v506 : Ref sig .tc := ⟨.hbm, 1329, rfl⟩
abbrev main_v507 : Ref sig .tc := ⟨.hbm, 1330, rfl⟩
abbrev main_c_209 : Ref sig .tc := ⟨.hbm, 1331, rfl⟩
abbrev main_v508 : Ref sig .tc := ⟨.hbm, 1332, rfl⟩
abbrev main_v509 : Ref sig .tc := ⟨.hbm, 1333, rfl⟩
abbrev main_c_210 : Ref sig .tc := ⟨.hbm, 1334, rfl⟩
abbrev main_c_211 : Ref sig .tc := ⟨.hbm, 1335, rfl⟩
abbrev main_call75_v0 : Ref sig .tc := ⟨.hbm, 1336, rfl⟩
abbrev main_call75_v1 : Ref sig .tc := ⟨.hbm, 1337, rfl⟩
abbrev main_call75_v2 : Ref sig .tc := ⟨.hbm, 1338, rfl⟩
abbrev main_call75_v3 : Ref sig .tc := ⟨.hbm, 1339, rfl⟩
abbrev main_call75_v4 : Ref sig .tc := ⟨.hbm, 1340, rfl⟩
abbrev main_v510 : Ref sig .tc := ⟨.hbm, 1341, rfl⟩
abbrev main_v511 : Ref sig .tc := ⟨.hbm, 1342, rfl⟩
abbrev main_v512 : Ref sig .tc := ⟨.hbm, 1343, rfl⟩
abbrev main_c_212 : Ref sig .tc := ⟨.hbm, 1344, rfl⟩
abbrev main_v513 : Ref sig .tc := ⟨.hbm, 1345, rfl⟩
abbrev main_v514 : Ref sig .tc := ⟨.hbm, 1346, rfl⟩
abbrev main_c_213 : Ref sig .tc := ⟨.hbm, 1347, rfl⟩
abbrev main_c_214 : Ref sig .tc := ⟨.hbm, 1348, rfl⟩
abbrev main_call76_v0 : Ref sig .tc := ⟨.hbm, 1349, rfl⟩
abbrev main_call76_v1 : Ref sig .tc := ⟨.hbm, 1350, rfl⟩
abbrev main_call76_v2 : Ref sig .tc := ⟨.hbm, 1351, rfl⟩
abbrev main_call76_v3 : Ref sig .tc := ⟨.hbm, 1352, rfl⟩
abbrev main_call76_v4 : Ref sig .tc := ⟨.hbm, 1353, rfl⟩
abbrev main_v515 : Ref sig .tc := ⟨.hbm, 1354, rfl⟩
abbrev main_c_215 : Ref sig .tc := ⟨.hbm, 1355, rfl⟩
abbrev main_v516 : Ref sig .tc := ⟨.hbm, 1356, rfl⟩
abbrev main_v517 : Ref sig .tc := ⟨.hbm, 1357, rfl⟩
abbrev main_v518 : Ref sig .tc := ⟨.hbm, 1358, rfl⟩
abbrev main_c_216 : Ref sig .tc := ⟨.hbm, 1359, rfl⟩
abbrev main_v519 : Ref sig .tc := ⟨.hbm, 1360, rfl⟩
abbrev main_v520 : Ref sig .tc := ⟨.hbm, 1361, rfl⟩
abbrev main_c_217 : Ref sig .tc := ⟨.hbm, 1362, rfl⟩
abbrev main_v521 : Ref sig .tc := ⟨.hbm, 1363, rfl⟩
abbrev main_v522 : Ref sig .tc := ⟨.hbm, 1364, rfl⟩
abbrev main_v523 : Ref sig .tc := ⟨.hbm, 1365, rfl⟩
abbrev main_v524 : Ref sig .tc := ⟨.hbm, 1366, rfl⟩
abbrev main_v525 : Ref sig .tc := ⟨.hbm, 1367, rfl⟩
abbrev main_c_218 : Ref sig .tc := ⟨.hbm, 1368, rfl⟩
abbrev main_v526 : Ref sig .tc := ⟨.hbm, 1369, rfl⟩
abbrev main_v527 : Ref sig .tc := ⟨.hbm, 1370, rfl⟩
abbrev main_v528 : Ref sig .tc := ⟨.hbm, 1371, rfl⟩
abbrev main_c_219 : Ref sig .tc := ⟨.hbm, 1372, rfl⟩
abbrev main_c_220 : Ref sig .tc := ⟨.hbm, 1373, rfl⟩
abbrev main_call77_v0 : Ref sig .tc := ⟨.hbm, 1374, rfl⟩
abbrev main_call77_v1 : Ref sig .tc := ⟨.hbm, 1375, rfl⟩
abbrev main_call77_v2 : Ref sig .tc := ⟨.hbm, 1376, rfl⟩
abbrev main_call77_v3 : Ref sig .tc := ⟨.hbm, 1377, rfl⟩
abbrev main_call77_v4 : Ref sig .tc := ⟨.hbm, 1378, rfl⟩
abbrev main_v529 : Ref sig .tc := ⟨.hbm, 1379, rfl⟩
abbrev main_call78_c : Ref sig .tc := ⟨.hbm, 1380, rfl⟩
abbrev main_call78_v0 : Ref sig .tc := ⟨.hbm, 1381, rfl⟩
abbrev main_call78_v1 : Ref sig .tc := ⟨.hbm, 1382, rfl⟩
abbrev main_call78_c_0 : Ref sig .tc := ⟨.hbm, 1383, rfl⟩
abbrev main_call78_v2 : Ref sig .tc := ⟨.hbm, 1384, rfl⟩
abbrev main_call78_v3 : Ref sig .tc := ⟨.hbm, 1385, rfl⟩
abbrev main_call78_v4 : Ref sig .tc := ⟨.hbm, 1386, rfl⟩
abbrev main_call78_v5 : Ref sig .tc := ⟨.hbm, 1387, rfl⟩
abbrev main_call78_c_1 : Ref sig .tc := ⟨.hbm, 1388, rfl⟩
abbrev main_call78_c_2 : Ref sig .tc := ⟨.hbm, 1389, rfl⟩
abbrev main_call78_v6 : Ref sig .tc := ⟨.hbm, 1390, rfl⟩
abbrev main_call78_v7 : Ref sig .tc := ⟨.hbm, 1391, rfl⟩
abbrev main_call78_v8 : Ref sig .tc := ⟨.hbm, 1392, rfl⟩
abbrev main_call78_v9 : Ref sig .tc := ⟨.hbm, 1393, rfl⟩
abbrev main_call78_v10 : Ref sig .tc := ⟨.hbm, 1394, rfl⟩
abbrev main_call78_v11 : Ref sig .tc := ⟨.hbm, 1395, rfl⟩
abbrev main_call78_c_3 : Ref sig .tc := ⟨.hbm, 1396, rfl⟩
abbrev main_call78_v12 : Ref sig .tc := ⟨.hbm, 1397, rfl⟩
abbrev main_call78_v13 : Ref sig .tc := ⟨.hbm, 1398, rfl⟩
abbrev main_call78_v14 : Ref sig .tc := ⟨.hbm, 1399, rfl⟩
abbrev main_call78_cst : Ref sig .tc := ⟨.hbm, 1400, rfl⟩
abbrev main_call78_v15 : Ref sig .tc := ⟨.hbm, 1401, rfl⟩
abbrev main_v530 : Ref sig .tc := ⟨.hbm, 1402, rfl⟩
abbrev main_cst_221 : Ref sig .tc := ⟨.hbm, 1403, rfl⟩
abbrev main_call79_v0 : Ref sig .tc := ⟨.hbm, 1404, rfl⟩
abbrev main_call79_v1 : Ref sig .tc := ⟨.hbm, 1405, rfl⟩
abbrev main_call79_v2 : Ref sig .tc := ⟨.hbm, 1406, rfl⟩
abbrev main_v531 : Ref sig .tc := ⟨.hbm, 1407, rfl⟩
abbrev main_v532 : Ref sig .tc := ⟨.hbm, 1408, rfl⟩
abbrev main_v533 : Ref sig .tc := ⟨.hbm, 1409, rfl⟩
abbrev main_c_222 : Ref sig .tc := ⟨.hbm, 1410, rfl⟩
abbrev main_v534 : Ref sig .tc := ⟨.hbm, 1411, rfl⟩
abbrev main_v535 : Ref sig .tc := ⟨.hbm, 1412, rfl⟩
abbrev main_c_223 : Ref sig .tc := ⟨.hbm, 1413, rfl⟩
abbrev main_c_224 : Ref sig .tc := ⟨.hbm, 1414, rfl⟩
abbrev main_call80_v0 : Ref sig .tc := ⟨.hbm, 1415, rfl⟩
abbrev main_call80_v1 : Ref sig .tc := ⟨.hbm, 1416, rfl⟩
abbrev main_call80_v2 : Ref sig .tc := ⟨.hbm, 1417, rfl⟩
abbrev main_call80_v3 : Ref sig .tc := ⟨.hbm, 1418, rfl⟩
abbrev main_call80_v4 : Ref sig .tc := ⟨.hbm, 1419, rfl⟩
abbrev main_v536 : Ref sig .tc := ⟨.hbm, 1420, rfl⟩
abbrev main_v537 : Ref sig .tc := ⟨.hbm, 1421, rfl⟩
abbrev main_v538 : Ref sig .tc := ⟨.hbm, 1422, rfl⟩
abbrev main_c_225 : Ref sig .tc := ⟨.hbm, 1423, rfl⟩
abbrev main_v539 : Ref sig .tc := ⟨.hbm, 1424, rfl⟩
abbrev main_v540 : Ref sig .tc := ⟨.hbm, 1425, rfl⟩
abbrev main_c_226 : Ref sig .tc := ⟨.hbm, 1426, rfl⟩
abbrev main_c_227 : Ref sig .tc := ⟨.hbm, 1427, rfl⟩
abbrev main_call81_v0 : Ref sig .tc := ⟨.hbm, 1428, rfl⟩
abbrev main_call81_v1 : Ref sig .tc := ⟨.hbm, 1429, rfl⟩
abbrev main_call81_v2 : Ref sig .tc := ⟨.hbm, 1430, rfl⟩
abbrev main_call81_v3 : Ref sig .tc := ⟨.hbm, 1431, rfl⟩
abbrev main_call81_v4 : Ref sig .tc := ⟨.hbm, 1432, rfl⟩
abbrev main_v541 : Ref sig .tc := ⟨.hbm, 1433, rfl⟩
abbrev main_c_228 : Ref sig .tc := ⟨.hbm, 1434, rfl⟩
abbrev main_v542 : Ref sig .tc := ⟨.hbm, 1435, rfl⟩
abbrev main_v543 : Ref sig .tc := ⟨.hbm, 1436, rfl⟩
abbrev main_v544 : Ref sig .tc := ⟨.hbm, 1437, rfl⟩
abbrev main_c_229 : Ref sig .tc := ⟨.hbm, 1438, rfl⟩
abbrev main_v545 : Ref sig .tc := ⟨.hbm, 1439, rfl⟩
abbrev main_v546 : Ref sig .tc := ⟨.hbm, 1440, rfl⟩
abbrev main_c_230 : Ref sig .tc := ⟨.hbm, 1441, rfl⟩
abbrev main_v547 : Ref sig .tc := ⟨.hbm, 1442, rfl⟩
abbrev main_v548 : Ref sig .tc := ⟨.hbm, 1443, rfl⟩
abbrev main_v549 : Ref sig .tc := ⟨.hbm, 1444, rfl⟩
abbrev main_v550 : Ref sig .tc := ⟨.hbm, 1445, rfl⟩
abbrev main_v551 : Ref sig .tc := ⟨.hbm, 1446, rfl⟩
abbrev main_c_231 : Ref sig .tc := ⟨.hbm, 1447, rfl⟩
abbrev main_v552 : Ref sig .tc := ⟨.hbm, 1448, rfl⟩
abbrev main_v553 : Ref sig .tc := ⟨.hbm, 1449, rfl⟩
abbrev main_v554 : Ref sig .tc := ⟨.hbm, 1450, rfl⟩
abbrev main_c_232 : Ref sig .tc := ⟨.hbm, 1451, rfl⟩
abbrev main_c_233 : Ref sig .tc := ⟨.hbm, 1452, rfl⟩
abbrev main_call82_v0 : Ref sig .tc := ⟨.hbm, 1453, rfl⟩
abbrev main_call82_v1 : Ref sig .tc := ⟨.hbm, 1454, rfl⟩
abbrev main_call82_v2 : Ref sig .tc := ⟨.hbm, 1455, rfl⟩
abbrev main_call82_v3 : Ref sig .tc := ⟨.hbm, 1456, rfl⟩
abbrev main_call82_v4 : Ref sig .tc := ⟨.hbm, 1457, rfl⟩
abbrev main_v555 : Ref sig .tc := ⟨.hbm, 1458, rfl⟩
abbrev main_call83_c : Ref sig .tc := ⟨.hbm, 1459, rfl⟩
abbrev main_call83_v0 : Ref sig .tc := ⟨.hbm, 1460, rfl⟩
abbrev main_call83_v1 : Ref sig .tc := ⟨.hbm, 1461, rfl⟩
abbrev main_call83_c_0 : Ref sig .tc := ⟨.hbm, 1462, rfl⟩
abbrev main_call83_v2 : Ref sig .tc := ⟨.hbm, 1463, rfl⟩
abbrev main_call83_v3 : Ref sig .tc := ⟨.hbm, 1464, rfl⟩
abbrev main_call83_v4 : Ref sig .tc := ⟨.hbm, 1465, rfl⟩
abbrev main_call83_v5 : Ref sig .tc := ⟨.hbm, 1466, rfl⟩
abbrev main_call83_c_1 : Ref sig .tc := ⟨.hbm, 1467, rfl⟩
abbrev main_call83_c_2 : Ref sig .tc := ⟨.hbm, 1468, rfl⟩
abbrev main_call83_v6 : Ref sig .tc := ⟨.hbm, 1469, rfl⟩
abbrev main_call83_v7 : Ref sig .tc := ⟨.hbm, 1470, rfl⟩
abbrev main_call83_v8 : Ref sig .tc := ⟨.hbm, 1471, rfl⟩
abbrev main_call83_v9 : Ref sig .tc := ⟨.hbm, 1472, rfl⟩
abbrev main_call83_v10 : Ref sig .tc := ⟨.hbm, 1473, rfl⟩
abbrev main_call83_v11 : Ref sig .tc := ⟨.hbm, 1474, rfl⟩
abbrev main_call83_c_3 : Ref sig .tc := ⟨.hbm, 1475, rfl⟩
abbrev main_call83_v12 : Ref sig .tc := ⟨.hbm, 1476, rfl⟩
abbrev main_call83_v13 : Ref sig .tc := ⟨.hbm, 1477, rfl⟩
abbrev main_call83_v14 : Ref sig .tc := ⟨.hbm, 1478, rfl⟩
abbrev main_call83_cst : Ref sig .tc := ⟨.hbm, 1479, rfl⟩
abbrev main_call83_v15 : Ref sig .tc := ⟨.hbm, 1480, rfl⟩
abbrev main_v556 : Ref sig .tc := ⟨.hbm, 1481, rfl⟩
abbrev main_cst_234 : Ref sig .tc := ⟨.hbm, 1482, rfl⟩
abbrev main_call84_v0 : Ref sig .tc := ⟨.hbm, 1483, rfl⟩
abbrev main_call84_v1 : Ref sig .tc := ⟨.hbm, 1484, rfl⟩
abbrev main_call84_v2 : Ref sig .tc := ⟨.hbm, 1485, rfl⟩
abbrev main_v557 : Ref sig .tc := ⟨.hbm, 1486, rfl⟩
abbrev main_v558 : Ref sig .tc := ⟨.hbm, 1487, rfl⟩
abbrev main_v559 : Ref sig .tc := ⟨.hbm, 1488, rfl⟩
abbrev main_c_235 : Ref sig .tc := ⟨.hbm, 1489, rfl⟩
abbrev main_v560 : Ref sig .tc := ⟨.hbm, 1490, rfl⟩
abbrev main_v561 : Ref sig .tc := ⟨.hbm, 1491, rfl⟩
abbrev main_c_236 : Ref sig .tc := ⟨.hbm, 1492, rfl⟩
abbrev main_c_237 : Ref sig .tc := ⟨.hbm, 1493, rfl⟩
abbrev main_call85_v0 : Ref sig .tc := ⟨.hbm, 1494, rfl⟩
abbrev main_call85_v1 : Ref sig .tc := ⟨.hbm, 1495, rfl⟩
abbrev main_call85_v2 : Ref sig .tc := ⟨.hbm, 1496, rfl⟩
abbrev main_call85_v3 : Ref sig .tc := ⟨.hbm, 1497, rfl⟩
abbrev main_call85_v4 : Ref sig .tc := ⟨.hbm, 1498, rfl⟩
abbrev main_v562 : Ref sig .tc := ⟨.hbm, 1499, rfl⟩
abbrev main_v563 : Ref sig .tc := ⟨.hbm, 1500, rfl⟩
abbrev main_v564 : Ref sig .tc := ⟨.hbm, 1501, rfl⟩
abbrev main_c_238 : Ref sig .tc := ⟨.hbm, 1502, rfl⟩
abbrev main_v565 : Ref sig .tc := ⟨.hbm, 1503, rfl⟩
abbrev main_v566 : Ref sig .tc := ⟨.hbm, 1504, rfl⟩
abbrev main_c_239 : Ref sig .tc := ⟨.hbm, 1505, rfl⟩
abbrev main_c_240 : Ref sig .tc := ⟨.hbm, 1506, rfl⟩
abbrev main_call86_v0 : Ref sig .tc := ⟨.hbm, 1507, rfl⟩
abbrev main_call86_v1 : Ref sig .tc := ⟨.hbm, 1508, rfl⟩
abbrev main_call86_v2 : Ref sig .tc := ⟨.hbm, 1509, rfl⟩
abbrev main_call86_v3 : Ref sig .tc := ⟨.hbm, 1510, rfl⟩
abbrev main_call86_v4 : Ref sig .tc := ⟨.hbm, 1511, rfl⟩
abbrev main_v567 : Ref sig .tc := ⟨.hbm, 1512, rfl⟩
abbrev main_c_241 : Ref sig .tc := ⟨.hbm, 1513, rfl⟩
abbrev main_v568 : Ref sig .tc := ⟨.hbm, 1514, rfl⟩
abbrev main_v569 : Ref sig .tc := ⟨.hbm, 1515, rfl⟩
abbrev main_v570 : Ref sig .tc := ⟨.hbm, 1516, rfl⟩
abbrev main_c_242 : Ref sig .tc := ⟨.hbm, 1517, rfl⟩
abbrev main_v571 : Ref sig .tc := ⟨.hbm, 1518, rfl⟩
abbrev main_v572 : Ref sig .tc := ⟨.hbm, 1519, rfl⟩
abbrev main_c_243 : Ref sig .tc := ⟨.hbm, 1520, rfl⟩
abbrev main_v573 : Ref sig .tc := ⟨.hbm, 1521, rfl⟩
abbrev main_v574 : Ref sig .tc := ⟨.hbm, 1522, rfl⟩
abbrev main_v575 : Ref sig .tc := ⟨.hbm, 1523, rfl⟩
abbrev main_v576 : Ref sig .tc := ⟨.hbm, 1524, rfl⟩
abbrev main_v577 : Ref sig .tc := ⟨.hbm, 1525, rfl⟩
abbrev main_c_244 : Ref sig .tc := ⟨.hbm, 1526, rfl⟩
abbrev main_v578 : Ref sig .tc := ⟨.hbm, 1527, rfl⟩
abbrev main_v579 : Ref sig .tc := ⟨.hbm, 1528, rfl⟩
abbrev main_v580 : Ref sig .tc := ⟨.hbm, 1529, rfl⟩
abbrev main_c_245 : Ref sig .tc := ⟨.hbm, 1530, rfl⟩
abbrev main_c_246 : Ref sig .tc := ⟨.hbm, 1531, rfl⟩
abbrev main_call87_v0 : Ref sig .tc := ⟨.hbm, 1532, rfl⟩
abbrev main_call87_v1 : Ref sig .tc := ⟨.hbm, 1533, rfl⟩
abbrev main_call87_v2 : Ref sig .tc := ⟨.hbm, 1534, rfl⟩
abbrev main_call87_v3 : Ref sig .tc := ⟨.hbm, 1535, rfl⟩
abbrev main_call87_v4 : Ref sig .tc := ⟨.hbm, 1536, rfl⟩
abbrev main_v581 : Ref sig .tc := ⟨.hbm, 1537, rfl⟩
abbrev main_call88_c : Ref sig .tc := ⟨.hbm, 1538, rfl⟩
abbrev main_call88_v0 : Ref sig .tc := ⟨.hbm, 1539, rfl⟩
abbrev main_call88_v1 : Ref sig .tc := ⟨.hbm, 1540, rfl⟩
abbrev main_call88_c_0 : Ref sig .tc := ⟨.hbm, 1541, rfl⟩
abbrev main_call88_v2 : Ref sig .tc := ⟨.hbm, 1542, rfl⟩
abbrev main_call88_v3 : Ref sig .tc := ⟨.hbm, 1543, rfl⟩
abbrev main_call88_v4 : Ref sig .tc := ⟨.hbm, 1544, rfl⟩
abbrev main_call88_v5 : Ref sig .tc := ⟨.hbm, 1545, rfl⟩
abbrev main_call88_c_1 : Ref sig .tc := ⟨.hbm, 1546, rfl⟩
abbrev main_call88_c_2 : Ref sig .tc := ⟨.hbm, 1547, rfl⟩
abbrev main_call88_v6 : Ref sig .tc := ⟨.hbm, 1548, rfl⟩
abbrev main_call88_v7 : Ref sig .tc := ⟨.hbm, 1549, rfl⟩
abbrev main_call88_v8 : Ref sig .tc := ⟨.hbm, 1550, rfl⟩
abbrev main_call88_v9 : Ref sig .tc := ⟨.hbm, 1551, rfl⟩
abbrev main_call88_v10 : Ref sig .tc := ⟨.hbm, 1552, rfl⟩
abbrev main_call88_v11 : Ref sig .tc := ⟨.hbm, 1553, rfl⟩
abbrev main_call88_c_3 : Ref sig .tc := ⟨.hbm, 1554, rfl⟩
abbrev main_call88_v12 : Ref sig .tc := ⟨.hbm, 1555, rfl⟩
abbrev main_call88_v13 : Ref sig .tc := ⟨.hbm, 1556, rfl⟩
abbrev main_call88_v14 : Ref sig .tc := ⟨.hbm, 1557, rfl⟩
abbrev main_call88_cst : Ref sig .tc := ⟨.hbm, 1558, rfl⟩
abbrev main_call88_v15 : Ref sig .tc := ⟨.hbm, 1559, rfl⟩
abbrev main_v582 : Ref sig .tc := ⟨.hbm, 1560, rfl⟩
abbrev main_cst_247 : Ref sig .tc := ⟨.hbm, 1561, rfl⟩
abbrev main_call89_v0 : Ref sig .tc := ⟨.hbm, 1562, rfl⟩
abbrev main_call89_v1 : Ref sig .tc := ⟨.hbm, 1563, rfl⟩
abbrev main_call89_v2 : Ref sig .tc := ⟨.hbm, 1564, rfl⟩
abbrev main_v583 : Ref sig .tc := ⟨.hbm, 1565, rfl⟩
abbrev main_v584 : Ref sig .tc := ⟨.hbm, 1566, rfl⟩
abbrev main_v585 : Ref sig .tc := ⟨.hbm, 1567, rfl⟩
abbrev main_v586 : Ref sig .tc := ⟨.hbm, 1568, rfl⟩
abbrev main_v587 : Ref sig .tc := ⟨.hbm, 1569, rfl⟩
abbrev main_v588 : Ref sig .tc := ⟨.hbm, 1570, rfl⟩
abbrev main_v589 : Ref sig .tc := ⟨.hbm, 1571, rfl⟩
abbrev main_v590 : Ref sig .tc := ⟨.hbm, 1572, rfl⟩
abbrev main_v591 : Ref sig .tc := ⟨.hbm, 1573, rfl⟩
abbrev main_v592 : Ref sig .tc := ⟨.hbm, 1574, rfl⟩
abbrev main_v593 : Ref sig .tc := ⟨.hbm, 1575, rfl⟩
abbrev main_v594 : Ref sig .tc := ⟨.hbm, 1576, rfl⟩
abbrev main_v595 : Ref sig .tc := ⟨.hbm, 1577, rfl⟩
abbrev main_v596 : Ref sig .tc := ⟨.hbm, 1578, rfl⟩
abbrev main_v597 : Ref sig .tc := ⟨.hbm, 1579, rfl⟩
abbrev main_v598 : Ref sig .tc := ⟨.hbm, 1580, rfl⟩
abbrev main_v599 : Ref sig .tc := ⟨.hbm, 1581, rfl⟩
abbrev main_v600 : Ref sig .tc := ⟨.hbm, 1582, rfl⟩
abbrev main_v601 : Ref sig .tc := ⟨.hbm, 1583, rfl⟩
abbrev main_v602 : Ref sig .tc := ⟨.hbm, 1584, rfl⟩
abbrev main_v603 : Ref sig .tc := ⟨.hbm, 1585, rfl⟩
abbrev main_v604 : Ref sig .tc := ⟨.hbm, 1586, rfl⟩
abbrev main_v605 : Ref sig .tc := ⟨.hbm, 1587, rfl⟩
abbrev main_v606 : Ref sig .tc := ⟨.hbm, 1588, rfl⟩
abbrev main_v607 : Ref sig .tc := ⟨.hbm, 1589, rfl⟩
abbrev main_v608 : Ref sig .tc := ⟨.hbm, 1590, rfl⟩
abbrev main_v609 : Ref sig .tc := ⟨.hbm, 1591, rfl⟩
abbrev main_v610 : Ref sig .tc := ⟨.hbm, 1592, rfl⟩
abbrev main_v611 : Ref sig .tc := ⟨.hbm, 1593, rfl⟩
abbrev main_v612 : Ref sig .tc := ⟨.hbm, 1594, rfl⟩
abbrev main_v613 : Ref sig .tc := ⟨.hbm, 1595, rfl⟩
abbrev main_v614 : Ref sig .tc := ⟨.hbm, 1596, rfl⟩
abbrev main_v615 : Ref sig .tc := ⟨.hbm, 1597, rfl⟩
abbrev main_v616 : Ref sig .tc := ⟨.hbm, 1598, rfl⟩
abbrev main_cst_248 : Ref sig .tc := ⟨.hbm, 1599, rfl⟩
abbrev main_v617 : Ref sig .tc := ⟨.hbm, 1600, rfl⟩
abbrev main_v618 : Ref sig .tc := ⟨.hbm, 1601, rfl⟩
abbrev main_cst_249 : Ref sig .tc := ⟨.hbm, 1602, rfl⟩
abbrev main_v619 : Ref sig .tc := ⟨.hbm, 1603, rfl⟩
abbrev main_cst_250 : Ref sig .tc := ⟨.hbm, 1604, rfl⟩
abbrev main_v620 : Ref sig .tc := ⟨.hbm, 1605, rfl⟩
abbrev main_v621 : Ref sig .tc := ⟨.hbm, 1606, rfl⟩
abbrev main_v622 : Ref sig .tc := ⟨.hbm, 1607, rfl⟩
abbrev main_v623 : Ref sig .tc := ⟨.hbm, 1608, rfl⟩
abbrev main_v624 : Ref sig .tc := ⟨.hbm, 1609, rfl⟩
abbrev main_v625 : Ref sig .tc := ⟨.hbm, 1610, rfl⟩
abbrev main_cst_251 : Ref sig .tc := ⟨.hbm, 1611, rfl⟩
abbrev main_v626 : Ref sig .tc := ⟨.hbm, 1612, rfl⟩
abbrev main_v627 : Ref sig .tc := ⟨.hbm, 1613, rfl⟩
abbrev main_v628 : Ref sig .tc := ⟨.hbm, 1614, rfl⟩
abbrev main_v629 : Ref sig .tc := ⟨.hbm, 1615, rfl⟩
abbrev main_v630 : Ref sig .tc := ⟨.hbm, 1616, rfl⟩
abbrev main_v631 : Ref sig .tc := ⟨.hbm, 1617, rfl⟩
abbrev main_v632 : Ref sig .tc := ⟨.hbm, 1618, rfl⟩
abbrev main_v633 : Ref sig .tc := ⟨.hbm, 1619, rfl⟩
abbrev main_v634 : Ref sig .tc := ⟨.hbm, 1620, rfl⟩
abbrev main_v635 : Ref sig .tc := ⟨.hbm, 1621, rfl⟩
abbrev main_v636 : Ref sig .tc := ⟨.hbm, 1622, rfl⟩
abbrev main_c_252 : Ref sig .tc := ⟨.hbm, 1623, rfl⟩
abbrev main_v637 : Ref sig .tc := ⟨.hbm, 1624, rfl⟩
abbrev main_v638 : Ref sig .tc := ⟨.hbm, 1625, rfl⟩
abbrev main_v639 : Ref sig .tc := ⟨.hbm, 1626, rfl⟩
abbrev main_v640 : Ref sig .tc := ⟨.hbm, 1627, rfl⟩
abbrev main_v641 : Ref sig .tc := ⟨.hbm, 1628, rfl⟩
abbrev main_cst_253 : Ref sig .tc := ⟨.hbm, 1629, rfl⟩
abbrev main_v642 : Ref sig .tc := ⟨.hbm, 1630, rfl⟩
abbrev main_v643 : Ref sig .tc := ⟨.hbm, 1631, rfl⟩
abbrev main_c_254 : Ref sig .tc := ⟨.hbm, 1632, rfl⟩
abbrev main_v644 : Ref sig .tc := ⟨.hbm, 1633, rfl⟩
abbrev main_v645 : Ref sig .tc := ⟨.hbm, 1634, rfl⟩
abbrev main_c_255 : Ref sig .tc := ⟨.hbm, 1635, rfl⟩
abbrev main_v646 : Ref sig .tc := ⟨.hbm, 1636, rfl⟩
abbrev main_v647 : Ref sig .tc := ⟨.hbm, 1637, rfl⟩
abbrev main_v648 : Ref sig .tc := ⟨.hbm, 1638, rfl⟩
abbrev main_v649 : Ref sig .tc := ⟨.hbm, 1639, rfl⟩
abbrev main_v650 : Ref sig .tc := ⟨.hbm, 1640, rfl⟩
abbrev main_v651 : Ref sig .tc := ⟨.hbm, 1641, rfl⟩
abbrev main_v652 : Ref sig .tc := ⟨.hbm, 1642, rfl⟩
abbrev main_v653 : Ref sig .tc := ⟨.hbm, 1643, rfl⟩
abbrev main_v654 : Ref sig .tc := ⟨.hbm, 1644, rfl⟩
abbrev main_v655 : Ref sig .tc := ⟨.hbm, 1645, rfl⟩
abbrev main_v656 : Ref sig .tc := ⟨.hbm, 1646, rfl⟩
abbrev main_v657 : Ref sig .tc := ⟨.hbm, 1647, rfl⟩
abbrev main_v658 : Ref sig .tc := ⟨.hbm, 1648, rfl⟩
abbrev main_v659 : Ref sig .tc := ⟨.hbm, 1649, rfl⟩
abbrev main_v660 : Ref sig .tc := ⟨.hbm, 1650, rfl⟩
abbrev main_v661 : Ref sig .tc := ⟨.hbm, 1651, rfl⟩
abbrev main_c_256 : Ref sig .tc := ⟨.hbm, 1652, rfl⟩
abbrev main_v662 : Ref sig .tc := ⟨.hbm, 1653, rfl⟩
abbrev main_v663 : Ref sig .tc := ⟨.hbm, 1654, rfl⟩
abbrev main_v664 : Ref sig .tc := ⟨.hbm, 1655, rfl⟩
abbrev main_v665 : Ref sig .tc := ⟨.hbm, 1656, rfl⟩
abbrev main_v666 : Ref sig .tc := ⟨.hbm, 1657, rfl⟩
abbrev main_c_257 : Ref sig .tc := ⟨.hbm, 1658, rfl⟩
abbrev main_v667 : Ref sig .tc := ⟨.hbm, 1659, rfl⟩
abbrev main_v668 : Ref sig .tc := ⟨.hbm, 1660, rfl⟩
abbrev main_c_258 : Ref sig .tc := ⟨.hbm, 1661, rfl⟩
abbrev main_v669 : Ref sig .tc := ⟨.hbm, 1662, rfl⟩
abbrev main_v670 : Ref sig .tc := ⟨.hbm, 1663, rfl⟩
abbrev main_c_259 : Ref sig .tc := ⟨.hbm, 1664, rfl⟩
abbrev main_v671 : Ref sig .tc := ⟨.hbm, 1665, rfl⟩
abbrev main_v672 : Ref sig .tc := ⟨.hbm, 1666, rfl⟩
abbrev main_v673 : Ref sig .tc := ⟨.hbm, 1667, rfl⟩
abbrev main_v674 : Ref sig .tc := ⟨.hbm, 1668, rfl⟩
abbrev main_v675 : Ref sig .tc := ⟨.hbm, 1669, rfl⟩
abbrev main_v676 : Ref sig .tc := ⟨.hbm, 1670, rfl⟩
abbrev main_v677 : Ref sig .tc := ⟨.hbm, 1671, rfl⟩
abbrev main_c_260 : Ref sig .tc := ⟨.hbm, 1672, rfl⟩
abbrev main_v678 : Ref sig .tc := ⟨.hbm, 1673, rfl⟩
abbrev main_v679 : Ref sig .tc := ⟨.hbm, 1674, rfl⟩
abbrev main_c_261 : Ref sig .tc := ⟨.hbm, 1675, rfl⟩
abbrev main_c_262 : Ref sig .tc := ⟨.hbm, 1676, rfl⟩
abbrev main_call90_v0 : Ref sig .tc := ⟨.hbm, 1677, rfl⟩
abbrev main_call90_v1 : Ref sig .tc := ⟨.hbm, 1678, rfl⟩
abbrev main_call90_v2 : Ref sig .tc := ⟨.hbm, 1679, rfl⟩
abbrev main_call90_v3 : Ref sig .tc := ⟨.hbm, 1680, rfl⟩
abbrev main_call90_v4 : Ref sig .tc := ⟨.hbm, 1681, rfl⟩
abbrev main_v680 : Ref sig .tc := ⟨.hbm, 1682, rfl⟩
abbrev main_v681 : Ref sig .tc := ⟨.hbm, 1683, rfl⟩
abbrev main_v682 : Ref sig .tc := ⟨.hbm, 1684, rfl⟩
abbrev main_c_263 : Ref sig .tc := ⟨.hbm, 1685, rfl⟩
abbrev main_v683 : Ref sig .tc := ⟨.hbm, 1686, rfl⟩
abbrev main_v684 : Ref sig .tc := ⟨.hbm, 1687, rfl⟩
abbrev main_c_264 : Ref sig .tc := ⟨.hbm, 1688, rfl⟩
abbrev main_c_265 : Ref sig .tc := ⟨.hbm, 1689, rfl⟩
abbrev main_call91_v0 : Ref sig .tc := ⟨.hbm, 1690, rfl⟩
abbrev main_call91_v1 : Ref sig .tc := ⟨.hbm, 1691, rfl⟩
abbrev main_call91_v2 : Ref sig .tc := ⟨.hbm, 1692, rfl⟩
abbrev main_call91_v3 : Ref sig .tc := ⟨.hbm, 1693, rfl⟩
abbrev main_call91_v4 : Ref sig .tc := ⟨.hbm, 1694, rfl⟩
abbrev main_v685 : Ref sig .tc := ⟨.hbm, 1695, rfl⟩
abbrev main_c_266 : Ref sig .tc := ⟨.hbm, 1696, rfl⟩
abbrev main_v686 : Ref sig .tc := ⟨.hbm, 1697, rfl⟩
abbrev main_v687 : Ref sig .tc := ⟨.hbm, 1698, rfl⟩
abbrev main_v688 : Ref sig .tc := ⟨.hbm, 1699, rfl⟩
abbrev main_c_267 : Ref sig .tc := ⟨.hbm, 1700, rfl⟩
abbrev main_v689 : Ref sig .tc := ⟨.hbm, 1701, rfl⟩
abbrev main_v690 : Ref sig .tc := ⟨.hbm, 1702, rfl⟩
abbrev main_c_268 : Ref sig .tc := ⟨.hbm, 1703, rfl⟩
abbrev main_v691 : Ref sig .tc := ⟨.hbm, 1704, rfl⟩
abbrev main_v692 : Ref sig .tc := ⟨.hbm, 1705, rfl⟩
abbrev main_v693 : Ref sig .tc := ⟨.hbm, 1706, rfl⟩
abbrev main_v694 : Ref sig .tc := ⟨.hbm, 1707, rfl⟩
abbrev main_v695 : Ref sig .tc := ⟨.hbm, 1708, rfl⟩
abbrev main_c_269 : Ref sig .tc := ⟨.hbm, 1709, rfl⟩
abbrev main_v696 : Ref sig .tc := ⟨.hbm, 1710, rfl⟩
abbrev main_v697 : Ref sig .tc := ⟨.hbm, 1711, rfl⟩
abbrev main_v698 : Ref sig .tc := ⟨.hbm, 1712, rfl⟩
abbrev main_c_270 : Ref sig .tc := ⟨.hbm, 1713, rfl⟩
abbrev main_c_271 : Ref sig .tc := ⟨.hbm, 1714, rfl⟩
abbrev main_call92_v0 : Ref sig .tc := ⟨.hbm, 1715, rfl⟩
abbrev main_call92_v1 : Ref sig .tc := ⟨.hbm, 1716, rfl⟩
abbrev main_call92_v2 : Ref sig .tc := ⟨.hbm, 1717, rfl⟩
abbrev main_call92_v3 : Ref sig .tc := ⟨.hbm, 1718, rfl⟩
abbrev main_call92_v4 : Ref sig .tc := ⟨.hbm, 1719, rfl⟩
abbrev main_v699 : Ref sig .tc := ⟨.hbm, 1720, rfl⟩
abbrev main_call93_c : Ref sig .tc := ⟨.hbm, 1721, rfl⟩
abbrev main_call93_v0 : Ref sig .tc := ⟨.hbm, 1722, rfl⟩
abbrev main_call93_v1 : Ref sig .tc := ⟨.hbm, 1723, rfl⟩
abbrev main_call93_c_0 : Ref sig .tc := ⟨.hbm, 1724, rfl⟩
abbrev main_call93_v2 : Ref sig .tc := ⟨.hbm, 1725, rfl⟩
abbrev main_call93_v3 : Ref sig .tc := ⟨.hbm, 1726, rfl⟩
abbrev main_call93_v4 : Ref sig .tc := ⟨.hbm, 1727, rfl⟩
abbrev main_call93_v5 : Ref sig .tc := ⟨.hbm, 1728, rfl⟩
abbrev main_call93_c_1 : Ref sig .tc := ⟨.hbm, 1729, rfl⟩
abbrev main_call93_c_2 : Ref sig .tc := ⟨.hbm, 1730, rfl⟩
abbrev main_call93_v6 : Ref sig .tc := ⟨.hbm, 1731, rfl⟩
abbrev main_call93_v7 : Ref sig .tc := ⟨.hbm, 1732, rfl⟩
abbrev main_call93_v8 : Ref sig .tc := ⟨.hbm, 1733, rfl⟩
abbrev main_call93_v9 : Ref sig .tc := ⟨.hbm, 1734, rfl⟩
abbrev main_call93_v10 : Ref sig .tc := ⟨.hbm, 1735, rfl⟩
abbrev main_call93_v11 : Ref sig .tc := ⟨.hbm, 1736, rfl⟩
abbrev main_call93_c_3 : Ref sig .tc := ⟨.hbm, 1737, rfl⟩
abbrev main_call93_v12 : Ref sig .tc := ⟨.hbm, 1738, rfl⟩
abbrev main_call93_v13 : Ref sig .tc := ⟨.hbm, 1739, rfl⟩
abbrev main_call93_v14 : Ref sig .tc := ⟨.hbm, 1740, rfl⟩
abbrev main_call93_cst : Ref sig .tc := ⟨.hbm, 1741, rfl⟩
abbrev main_call93_v15 : Ref sig .tc := ⟨.hbm, 1742, rfl⟩
abbrev main_v700 : Ref sig .tc := ⟨.hbm, 1743, rfl⟩
abbrev main_cst_272 : Ref sig .tc := ⟨.hbm, 1744, rfl⟩
abbrev main_call94_v0 : Ref sig .tc := ⟨.hbm, 1745, rfl⟩
abbrev main_call94_v1 : Ref sig .tc := ⟨.hbm, 1746, rfl⟩
abbrev main_call94_v2 : Ref sig .tc := ⟨.hbm, 1747, rfl⟩
abbrev main_v701 : Ref sig .tc := ⟨.hbm, 1748, rfl⟩
abbrev main_v702 : Ref sig .tc := ⟨.hbm, 1749, rfl⟩
abbrev main_v703 : Ref sig .tc := ⟨.hbm, 1750, rfl⟩
abbrev main_c_273 : Ref sig .tc := ⟨.hbm, 1751, rfl⟩
abbrev main_v704 : Ref sig .tc := ⟨.hbm, 1752, rfl⟩
abbrev main_v705 : Ref sig .tc := ⟨.hbm, 1753, rfl⟩
abbrev main_c_274 : Ref sig .tc := ⟨.hbm, 1754, rfl⟩
abbrev main_c_275 : Ref sig .tc := ⟨.hbm, 1755, rfl⟩
abbrev main_call95_v0 : Ref sig .tc := ⟨.hbm, 1756, rfl⟩
abbrev main_call95_v1 : Ref sig .tc := ⟨.hbm, 1757, rfl⟩
abbrev main_call95_v2 : Ref sig .tc := ⟨.hbm, 1758, rfl⟩
abbrev main_call95_v3 : Ref sig .tc := ⟨.hbm, 1759, rfl⟩
abbrev main_call95_v4 : Ref sig .tc := ⟨.hbm, 1760, rfl⟩
abbrev main_v706 : Ref sig .tc := ⟨.hbm, 1761, rfl⟩
abbrev main_v707 : Ref sig .tc := ⟨.hbm, 1762, rfl⟩
abbrev main_v708 : Ref sig .tc := ⟨.hbm, 1763, rfl⟩
abbrev main_c_276 : Ref sig .tc := ⟨.hbm, 1764, rfl⟩
abbrev main_v709 : Ref sig .tc := ⟨.hbm, 1765, rfl⟩
abbrev main_v710 : Ref sig .tc := ⟨.hbm, 1766, rfl⟩
abbrev main_c_277 : Ref sig .tc := ⟨.hbm, 1767, rfl⟩
abbrev main_c_278 : Ref sig .tc := ⟨.hbm, 1768, rfl⟩
abbrev main_call96_v0 : Ref sig .tc := ⟨.hbm, 1769, rfl⟩
abbrev main_call96_v1 : Ref sig .tc := ⟨.hbm, 1770, rfl⟩
abbrev main_call96_v2 : Ref sig .tc := ⟨.hbm, 1771, rfl⟩
abbrev main_call96_v3 : Ref sig .tc := ⟨.hbm, 1772, rfl⟩
abbrev main_call96_v4 : Ref sig .tc := ⟨.hbm, 1773, rfl⟩
abbrev main_v711 : Ref sig .tc := ⟨.hbm, 1774, rfl⟩
abbrev main_c_279 : Ref sig .tc := ⟨.hbm, 1775, rfl⟩
abbrev main_v712 : Ref sig .tc := ⟨.hbm, 1776, rfl⟩
abbrev main_v713 : Ref sig .tc := ⟨.hbm, 1777, rfl⟩
abbrev main_v714 : Ref sig .tc := ⟨.hbm, 1778, rfl⟩
abbrev main_c_280 : Ref sig .tc := ⟨.hbm, 1779, rfl⟩
abbrev main_v715 : Ref sig .tc := ⟨.hbm, 1780, rfl⟩
abbrev main_v716 : Ref sig .tc := ⟨.hbm, 1781, rfl⟩
abbrev main_c_281 : Ref sig .tc := ⟨.hbm, 1782, rfl⟩
abbrev main_v717 : Ref sig .tc := ⟨.hbm, 1783, rfl⟩
abbrev main_v718 : Ref sig .tc := ⟨.hbm, 1784, rfl⟩
abbrev main_v719 : Ref sig .tc := ⟨.hbm, 1785, rfl⟩
abbrev main_v720 : Ref sig .tc := ⟨.hbm, 1786, rfl⟩
abbrev main_v721 : Ref sig .tc := ⟨.hbm, 1787, rfl⟩
abbrev main_c_282 : Ref sig .tc := ⟨.hbm, 1788, rfl⟩
abbrev main_v722 : Ref sig .tc := ⟨.hbm, 1789, rfl⟩
abbrev main_v723 : Ref sig .tc := ⟨.hbm, 1790, rfl⟩
abbrev main_v724 : Ref sig .tc := ⟨.hbm, 1791, rfl⟩
abbrev main_c_283 : Ref sig .tc := ⟨.hbm, 1792, rfl⟩
abbrev main_c_284 : Ref sig .tc := ⟨.hbm, 1793, rfl⟩
abbrev main_call97_v0 : Ref sig .tc := ⟨.hbm, 1794, rfl⟩
abbrev main_call97_v1 : Ref sig .tc := ⟨.hbm, 1795, rfl⟩
abbrev main_call97_v2 : Ref sig .tc := ⟨.hbm, 1796, rfl⟩
abbrev main_call97_v3 : Ref sig .tc := ⟨.hbm, 1797, rfl⟩
abbrev main_call97_v4 : Ref sig .tc := ⟨.hbm, 1798, rfl⟩
abbrev main_v725 : Ref sig .tc := ⟨.hbm, 1799, rfl⟩
abbrev main_call98_c : Ref sig .tc := ⟨.hbm, 1800, rfl⟩
abbrev main_call98_v0 : Ref sig .tc := ⟨.hbm, 1801, rfl⟩
abbrev main_call98_v1 : Ref sig .tc := ⟨.hbm, 1802, rfl⟩
abbrev main_call98_c_0 : Ref sig .tc := ⟨.hbm, 1803, rfl⟩
abbrev main_call98_v2 : Ref sig .tc := ⟨.hbm, 1804, rfl⟩
abbrev main_call98_v3 : Ref sig .tc := ⟨.hbm, 1805, rfl⟩
abbrev main_call98_v4 : Ref sig .tc := ⟨.hbm, 1806, rfl⟩
abbrev main_call98_v5 : Ref sig .tc := ⟨.hbm, 1807, rfl⟩
abbrev main_call98_c_1 : Ref sig .tc := ⟨.hbm, 1808, rfl⟩
abbrev main_call98_c_2 : Ref sig .tc := ⟨.hbm, 1809, rfl⟩
abbrev main_call98_v6 : Ref sig .tc := ⟨.hbm, 1810, rfl⟩
abbrev main_call98_v7 : Ref sig .tc := ⟨.hbm, 1811, rfl⟩
abbrev main_call98_v8 : Ref sig .tc := ⟨.hbm, 1812, rfl⟩
abbrev main_call98_v9 : Ref sig .tc := ⟨.hbm, 1813, rfl⟩
abbrev main_call98_v10 : Ref sig .tc := ⟨.hbm, 1814, rfl⟩
abbrev main_call98_v11 : Ref sig .tc := ⟨.hbm, 1815, rfl⟩
abbrev main_call98_c_3 : Ref sig .tc := ⟨.hbm, 1816, rfl⟩
abbrev main_call98_v12 : Ref sig .tc := ⟨.hbm, 1817, rfl⟩
abbrev main_call98_v13 : Ref sig .tc := ⟨.hbm, 1818, rfl⟩
abbrev main_call98_v14 : Ref sig .tc := ⟨.hbm, 1819, rfl⟩
abbrev main_call98_cst : Ref sig .tc := ⟨.hbm, 1820, rfl⟩
abbrev main_call98_v15 : Ref sig .tc := ⟨.hbm, 1821, rfl⟩
abbrev main_v726 : Ref sig .tc := ⟨.hbm, 1822, rfl⟩
abbrev main_cst_285 : Ref sig .tc := ⟨.hbm, 1823, rfl⟩
abbrev main_call99_v0 : Ref sig .tc := ⟨.hbm, 1824, rfl⟩
abbrev main_call99_v1 : Ref sig .tc := ⟨.hbm, 1825, rfl⟩
abbrev main_call99_v2 : Ref sig .tc := ⟨.hbm, 1826, rfl⟩
abbrev main_v727 : Ref sig .tc := ⟨.hbm, 1827, rfl⟩
abbrev main_v728 : Ref sig .tc := ⟨.hbm, 1828, rfl⟩
abbrev main_v729 : Ref sig .tc := ⟨.hbm, 1829, rfl⟩
abbrev main_c_286 : Ref sig .tc := ⟨.hbm, 1830, rfl⟩
abbrev main_v730 : Ref sig .tc := ⟨.hbm, 1831, rfl⟩
abbrev main_v731 : Ref sig .tc := ⟨.hbm, 1832, rfl⟩
abbrev main_c_287 : Ref sig .tc := ⟨.hbm, 1833, rfl⟩
abbrev main_c_288 : Ref sig .tc := ⟨.hbm, 1834, rfl⟩
abbrev main_call100_v0 : Ref sig .tc := ⟨.hbm, 1835, rfl⟩
abbrev main_call100_v1 : Ref sig .tc := ⟨.hbm, 1836, rfl⟩
abbrev main_call100_v2 : Ref sig .tc := ⟨.hbm, 1837, rfl⟩
abbrev main_call100_v3 : Ref sig .tc := ⟨.hbm, 1838, rfl⟩
abbrev main_call100_v4 : Ref sig .tc := ⟨.hbm, 1839, rfl⟩
abbrev main_v732 : Ref sig .tc := ⟨.hbm, 1840, rfl⟩
abbrev main_v733 : Ref sig .tc := ⟨.hbm, 1841, rfl⟩
abbrev main_v734 : Ref sig .tc := ⟨.hbm, 1842, rfl⟩
abbrev main_c_289 : Ref sig .tc := ⟨.hbm, 1843, rfl⟩
abbrev main_v735 : Ref sig .tc := ⟨.hbm, 1844, rfl⟩
abbrev main_v736 : Ref sig .tc := ⟨.hbm, 1845, rfl⟩
abbrev main_c_290 : Ref sig .tc := ⟨.hbm, 1846, rfl⟩
abbrev main_c_291 : Ref sig .tc := ⟨.hbm, 1847, rfl⟩
abbrev main_call101_v0 : Ref sig .tc := ⟨.hbm, 1848, rfl⟩
abbrev main_call101_v1 : Ref sig .tc := ⟨.hbm, 1849, rfl⟩
abbrev main_call101_v2 : Ref sig .tc := ⟨.hbm, 1850, rfl⟩
abbrev main_call101_v3 : Ref sig .tc := ⟨.hbm, 1851, rfl⟩
abbrev main_call101_v4 : Ref sig .tc := ⟨.hbm, 1852, rfl⟩
abbrev main_v737 : Ref sig .tc := ⟨.hbm, 1853, rfl⟩
abbrev main_c_292 : Ref sig .tc := ⟨.hbm, 1854, rfl⟩
abbrev main_v738 : Ref sig .tc := ⟨.hbm, 1855, rfl⟩
abbrev main_v739 : Ref sig .tc := ⟨.hbm, 1856, rfl⟩
abbrev main_v740 : Ref sig .tc := ⟨.hbm, 1857, rfl⟩
abbrev main_c_293 : Ref sig .tc := ⟨.hbm, 1858, rfl⟩
abbrev main_v741 : Ref sig .tc := ⟨.hbm, 1859, rfl⟩
abbrev main_v742 : Ref sig .tc := ⟨.hbm, 1860, rfl⟩
abbrev main_c_294 : Ref sig .tc := ⟨.hbm, 1861, rfl⟩
abbrev main_v743 : Ref sig .tc := ⟨.hbm, 1862, rfl⟩
abbrev main_v744 : Ref sig .tc := ⟨.hbm, 1863, rfl⟩
abbrev main_v745 : Ref sig .tc := ⟨.hbm, 1864, rfl⟩
abbrev main_v746 : Ref sig .tc := ⟨.hbm, 1865, rfl⟩
abbrev main_v747 : Ref sig .tc := ⟨.hbm, 1866, rfl⟩
abbrev main_c_295 : Ref sig .tc := ⟨.hbm, 1867, rfl⟩
abbrev main_v748 : Ref sig .tc := ⟨.hbm, 1868, rfl⟩
abbrev main_v749 : Ref sig .tc := ⟨.hbm, 1869, rfl⟩
abbrev main_v750 : Ref sig .tc := ⟨.hbm, 1870, rfl⟩
abbrev main_c_296 : Ref sig .tc := ⟨.hbm, 1871, rfl⟩
abbrev main_c_297 : Ref sig .tc := ⟨.hbm, 1872, rfl⟩
abbrev main_call102_v0 : Ref sig .tc := ⟨.hbm, 1873, rfl⟩
abbrev main_call102_v1 : Ref sig .tc := ⟨.hbm, 1874, rfl⟩
abbrev main_call102_v2 : Ref sig .tc := ⟨.hbm, 1875, rfl⟩
abbrev main_call102_v3 : Ref sig .tc := ⟨.hbm, 1876, rfl⟩
abbrev main_call102_v4 : Ref sig .tc := ⟨.hbm, 1877, rfl⟩
abbrev main_v751 : Ref sig .tc := ⟨.hbm, 1878, rfl⟩
abbrev main_call103_c : Ref sig .tc := ⟨.hbm, 1879, rfl⟩
abbrev main_call103_v0 : Ref sig .tc := ⟨.hbm, 1880, rfl⟩
abbrev main_call103_v1 : Ref sig .tc := ⟨.hbm, 1881, rfl⟩
abbrev main_call103_c_0 : Ref sig .tc := ⟨.hbm, 1882, rfl⟩
abbrev main_call103_v2 : Ref sig .tc := ⟨.hbm, 1883, rfl⟩
abbrev main_call103_v3 : Ref sig .tc := ⟨.hbm, 1884, rfl⟩
abbrev main_call103_v4 : Ref sig .tc := ⟨.hbm, 1885, rfl⟩
abbrev main_call103_v5 : Ref sig .tc := ⟨.hbm, 1886, rfl⟩
abbrev main_call103_c_1 : Ref sig .tc := ⟨.hbm, 1887, rfl⟩
abbrev main_call103_c_2 : Ref sig .tc := ⟨.hbm, 1888, rfl⟩
abbrev main_call103_v6 : Ref sig .tc := ⟨.hbm, 1889, rfl⟩
abbrev main_call103_v7 : Ref sig .tc := ⟨.hbm, 1890, rfl⟩
abbrev main_call103_v8 : Ref sig .tc := ⟨.hbm, 1891, rfl⟩
abbrev main_call103_v9 : Ref sig .tc := ⟨.hbm, 1892, rfl⟩
abbrev main_call103_v10 : Ref sig .tc := ⟨.hbm, 1893, rfl⟩
abbrev main_call103_v11 : Ref sig .tc := ⟨.hbm, 1894, rfl⟩
abbrev main_call103_c_3 : Ref sig .tc := ⟨.hbm, 1895, rfl⟩
abbrev main_call103_v12 : Ref sig .tc := ⟨.hbm, 1896, rfl⟩
abbrev main_call103_v13 : Ref sig .tc := ⟨.hbm, 1897, rfl⟩
abbrev main_call103_v14 : Ref sig .tc := ⟨.hbm, 1898, rfl⟩
abbrev main_call103_cst : Ref sig .tc := ⟨.hbm, 1899, rfl⟩
abbrev main_call103_v15 : Ref sig .tc := ⟨.hbm, 1900, rfl⟩
abbrev main_v752 : Ref sig .tc := ⟨.hbm, 1901, rfl⟩
abbrev main_cst_298 : Ref sig .tc := ⟨.hbm, 1902, rfl⟩
abbrev main_call104_v0 : Ref sig .tc := ⟨.hbm, 1903, rfl⟩
abbrev main_call104_v1 : Ref sig .tc := ⟨.hbm, 1904, rfl⟩
abbrev main_call104_v2 : Ref sig .tc := ⟨.hbm, 1905, rfl⟩
abbrev main_v753 : Ref sig .tc := ⟨.hbm, 1906, rfl⟩
abbrev main_v754 : Ref sig .tc := ⟨.hbm, 1907, rfl⟩
abbrev main_v755 : Ref sig .tc := ⟨.hbm, 1908, rfl⟩
abbrev main_c_299 : Ref sig .tc := ⟨.hbm, 1909, rfl⟩
abbrev main_v756 : Ref sig .tc := ⟨.hbm, 1910, rfl⟩
abbrev main_v757 : Ref sig .tc := ⟨.hbm, 1911, rfl⟩
abbrev main_c_300 : Ref sig .tc := ⟨.hbm, 1912, rfl⟩
abbrev main_c_301 : Ref sig .tc := ⟨.hbm, 1913, rfl⟩
abbrev main_call105_v0 : Ref sig .tc := ⟨.hbm, 1914, rfl⟩
abbrev main_call105_v1 : Ref sig .tc := ⟨.hbm, 1915, rfl⟩
abbrev main_call105_v2 : Ref sig .tc := ⟨.hbm, 1916, rfl⟩
abbrev main_call105_v3 : Ref sig .tc := ⟨.hbm, 1917, rfl⟩
abbrev main_call105_v4 : Ref sig .tc := ⟨.hbm, 1918, rfl⟩
abbrev main_v758 : Ref sig .tc := ⟨.hbm, 1919, rfl⟩
abbrev main_v759 : Ref sig .tc := ⟨.hbm, 1920, rfl⟩
abbrev main_v760 : Ref sig .tc := ⟨.hbm, 1921, rfl⟩
abbrev main_c_302 : Ref sig .tc := ⟨.hbm, 1922, rfl⟩
abbrev main_v761 : Ref sig .tc := ⟨.hbm, 1923, rfl⟩
abbrev main_v762 : Ref sig .tc := ⟨.hbm, 1924, rfl⟩
abbrev main_c_303 : Ref sig .tc := ⟨.hbm, 1925, rfl⟩
abbrev main_c_304 : Ref sig .tc := ⟨.hbm, 1926, rfl⟩
abbrev main_call106_v0 : Ref sig .tc := ⟨.hbm, 1927, rfl⟩
abbrev main_call106_v1 : Ref sig .tc := ⟨.hbm, 1928, rfl⟩
abbrev main_call106_v2 : Ref sig .tc := ⟨.hbm, 1929, rfl⟩
abbrev main_call106_v3 : Ref sig .tc := ⟨.hbm, 1930, rfl⟩
abbrev main_call106_v4 : Ref sig .tc := ⟨.hbm, 1931, rfl⟩
abbrev main_v763 : Ref sig .tc := ⟨.hbm, 1932, rfl⟩
abbrev main_c_305 : Ref sig .tc := ⟨.hbm, 1933, rfl⟩
abbrev main_v764 : Ref sig .tc := ⟨.hbm, 1934, rfl⟩
abbrev main_v765 : Ref sig .tc := ⟨.hbm, 1935, rfl⟩
abbrev main_v766 : Ref sig .tc := ⟨.hbm, 1936, rfl⟩
abbrev main_c_306 : Ref sig .tc := ⟨.hbm, 1937, rfl⟩
abbrev main_v767 : Ref sig .tc := ⟨.hbm, 1938, rfl⟩
abbrev main_v768 : Ref sig .tc := ⟨.hbm, 1939, rfl⟩
abbrev main_c_307 : Ref sig .tc := ⟨.hbm, 1940, rfl⟩
abbrev main_v769 : Ref sig .tc := ⟨.hbm, 1941, rfl⟩
abbrev main_v770 : Ref sig .tc := ⟨.hbm, 1942, rfl⟩
abbrev main_v771 : Ref sig .tc := ⟨.hbm, 1943, rfl⟩
abbrev main_v772 : Ref sig .tc := ⟨.hbm, 1944, rfl⟩
abbrev main_v773 : Ref sig .tc := ⟨.hbm, 1945, rfl⟩
abbrev main_c_308 : Ref sig .tc := ⟨.hbm, 1946, rfl⟩
abbrev main_v774 : Ref sig .tc := ⟨.hbm, 1947, rfl⟩
abbrev main_v775 : Ref sig .tc := ⟨.hbm, 1948, rfl⟩
abbrev main_v776 : Ref sig .tc := ⟨.hbm, 1949, rfl⟩
abbrev main_c_309 : Ref sig .tc := ⟨.hbm, 1950, rfl⟩
abbrev main_c_310 : Ref sig .tc := ⟨.hbm, 1951, rfl⟩
abbrev main_call107_v0 : Ref sig .tc := ⟨.hbm, 1952, rfl⟩
abbrev main_call107_v1 : Ref sig .tc := ⟨.hbm, 1953, rfl⟩
abbrev main_call107_v2 : Ref sig .tc := ⟨.hbm, 1954, rfl⟩
abbrev main_call107_v3 : Ref sig .tc := ⟨.hbm, 1955, rfl⟩
abbrev main_call107_v4 : Ref sig .tc := ⟨.hbm, 1956, rfl⟩
abbrev main_v777 : Ref sig .tc := ⟨.hbm, 1957, rfl⟩
abbrev main_call108_c : Ref sig .tc := ⟨.hbm, 1958, rfl⟩
abbrev main_call108_v0 : Ref sig .tc := ⟨.hbm, 1959, rfl⟩
abbrev main_call108_v1 : Ref sig .tc := ⟨.hbm, 1960, rfl⟩
abbrev main_call108_c_0 : Ref sig .tc := ⟨.hbm, 1961, rfl⟩
abbrev main_call108_v2 : Ref sig .tc := ⟨.hbm, 1962, rfl⟩
abbrev main_call108_v3 : Ref sig .tc := ⟨.hbm, 1963, rfl⟩
abbrev main_call108_v4 : Ref sig .tc := ⟨.hbm, 1964, rfl⟩
abbrev main_call108_v5 : Ref sig .tc := ⟨.hbm, 1965, rfl⟩
abbrev main_call108_c_1 : Ref sig .tc := ⟨.hbm, 1966, rfl⟩
abbrev main_call108_c_2 : Ref sig .tc := ⟨.hbm, 1967, rfl⟩
abbrev main_call108_v6 : Ref sig .tc := ⟨.hbm, 1968, rfl⟩
abbrev main_call108_v7 : Ref sig .tc := ⟨.hbm, 1969, rfl⟩
abbrev main_call108_v8 : Ref sig .tc := ⟨.hbm, 1970, rfl⟩
abbrev main_call108_v9 : Ref sig .tc := ⟨.hbm, 1971, rfl⟩
abbrev main_call108_v10 : Ref sig .tc := ⟨.hbm, 1972, rfl⟩
abbrev main_call108_v11 : Ref sig .tc := ⟨.hbm, 1973, rfl⟩
abbrev main_call108_c_3 : Ref sig .tc := ⟨.hbm, 1974, rfl⟩
abbrev main_call108_v12 : Ref sig .tc := ⟨.hbm, 1975, rfl⟩
abbrev main_call108_v13 : Ref sig .tc := ⟨.hbm, 1976, rfl⟩
abbrev main_call108_v14 : Ref sig .tc := ⟨.hbm, 1977, rfl⟩
abbrev main_call108_cst : Ref sig .tc := ⟨.hbm, 1978, rfl⟩
abbrev main_call108_v15 : Ref sig .tc := ⟨.hbm, 1979, rfl⟩
abbrev main_v778 : Ref sig .tc := ⟨.hbm, 1980, rfl⟩
abbrev main_cst_311 : Ref sig .tc := ⟨.hbm, 1981, rfl⟩
abbrev main_call109_v0 : Ref sig .tc := ⟨.hbm, 1982, rfl⟩
abbrev main_call109_v1 : Ref sig .tc := ⟨.hbm, 1983, rfl⟩
abbrev main_call109_v2 : Ref sig .tc := ⟨.hbm, 1984, rfl⟩
abbrev main_v779 : Ref sig .tc := ⟨.hbm, 1985, rfl⟩
abbrev main_v780 : Ref sig .tc := ⟨.hbm, 1986, rfl⟩
abbrev main_v781 : Ref sig .tc := ⟨.hbm, 1987, rfl⟩
abbrev main_c_312 : Ref sig .tc := ⟨.hbm, 1988, rfl⟩
abbrev main_v782 : Ref sig .tc := ⟨.hbm, 1989, rfl⟩
abbrev main_v783 : Ref sig .tc := ⟨.hbm, 1990, rfl⟩
abbrev main_c_313 : Ref sig .tc := ⟨.hbm, 1991, rfl⟩
abbrev main_c_314 : Ref sig .tc := ⟨.hbm, 1992, rfl⟩
abbrev main_call110_v0 : Ref sig .tc := ⟨.hbm, 1993, rfl⟩
abbrev main_call110_v1 : Ref sig .tc := ⟨.hbm, 1994, rfl⟩
abbrev main_call110_v2 : Ref sig .tc := ⟨.hbm, 1995, rfl⟩
abbrev main_call110_v3 : Ref sig .tc := ⟨.hbm, 1996, rfl⟩
abbrev main_call110_v4 : Ref sig .tc := ⟨.hbm, 1997, rfl⟩
abbrev main_v784 : Ref sig .tc := ⟨.hbm, 1998, rfl⟩
abbrev main_v785 : Ref sig .tc := ⟨.hbm, 1999, rfl⟩
abbrev main_v786 : Ref sig .tc := ⟨.hbm, 2000, rfl⟩
abbrev main_c_315 : Ref sig .tc := ⟨.hbm, 2001, rfl⟩
abbrev main_v787 : Ref sig .tc := ⟨.hbm, 2002, rfl⟩
abbrev main_v788 : Ref sig .tc := ⟨.hbm, 2003, rfl⟩
abbrev main_c_316 : Ref sig .tc := ⟨.hbm, 2004, rfl⟩
abbrev main_c_317 : Ref sig .tc := ⟨.hbm, 2005, rfl⟩
abbrev main_call111_v0 : Ref sig .tc := ⟨.hbm, 2006, rfl⟩
abbrev main_call111_v1 : Ref sig .tc := ⟨.hbm, 2007, rfl⟩
abbrev main_call111_v2 : Ref sig .tc := ⟨.hbm, 2008, rfl⟩
abbrev main_call111_v3 : Ref sig .tc := ⟨.hbm, 2009, rfl⟩
abbrev main_call111_v4 : Ref sig .tc := ⟨.hbm, 2010, rfl⟩
abbrev main_v789 : Ref sig .tc := ⟨.hbm, 2011, rfl⟩
abbrev main_c_318 : Ref sig .tc := ⟨.hbm, 2012, rfl⟩
abbrev main_v790 : Ref sig .tc := ⟨.hbm, 2013, rfl⟩
abbrev main_v791 : Ref sig .tc := ⟨.hbm, 2014, rfl⟩
abbrev main_v792 : Ref sig .tc := ⟨.hbm, 2015, rfl⟩
abbrev main_c_319 : Ref sig .tc := ⟨.hbm, 2016, rfl⟩
abbrev main_v793 : Ref sig .tc := ⟨.hbm, 2017, rfl⟩
abbrev main_v794 : Ref sig .tc := ⟨.hbm, 2018, rfl⟩
abbrev main_c_320 : Ref sig .tc := ⟨.hbm, 2019, rfl⟩
abbrev main_v795 : Ref sig .tc := ⟨.hbm, 2020, rfl⟩
abbrev main_v796 : Ref sig .tc := ⟨.hbm, 2021, rfl⟩
abbrev main_v797 : Ref sig .tc := ⟨.hbm, 2022, rfl⟩
abbrev main_v798 : Ref sig .tc := ⟨.hbm, 2023, rfl⟩
abbrev main_v799 : Ref sig .tc := ⟨.hbm, 2024, rfl⟩
abbrev main_c_321 : Ref sig .tc := ⟨.hbm, 2025, rfl⟩
abbrev main_v800 : Ref sig .tc := ⟨.hbm, 2026, rfl⟩
abbrev main_v801 : Ref sig .tc := ⟨.hbm, 2027, rfl⟩
abbrev main_v802 : Ref sig .tc := ⟨.hbm, 2028, rfl⟩
abbrev main_c_322 : Ref sig .tc := ⟨.hbm, 2029, rfl⟩
abbrev main_c_323 : Ref sig .tc := ⟨.hbm, 2030, rfl⟩
abbrev main_call112_v0 : Ref sig .tc := ⟨.hbm, 2031, rfl⟩
abbrev main_call112_v1 : Ref sig .tc := ⟨.hbm, 2032, rfl⟩
abbrev main_call112_v2 : Ref sig .tc := ⟨.hbm, 2033, rfl⟩
abbrev main_call112_v3 : Ref sig .tc := ⟨.hbm, 2034, rfl⟩
abbrev main_call112_v4 : Ref sig .tc := ⟨.hbm, 2035, rfl⟩
abbrev main_v803 : Ref sig .tc := ⟨.hbm, 2036, rfl⟩
abbrev main_call113_c : Ref sig .tc := ⟨.hbm, 2037, rfl⟩
abbrev main_call113_v0 : Ref sig .tc := ⟨.hbm, 2038, rfl⟩
abbrev main_call113_v1 : Ref sig .tc := ⟨.hbm, 2039, rfl⟩
abbrev main_call113_c_0 : Ref sig .tc := ⟨.hbm, 2040, rfl⟩
abbrev main_call113_v2 : Ref sig .tc := ⟨.hbm, 2041, rfl⟩
abbrev main_call113_v3 : Ref sig .tc := ⟨.hbm, 2042, rfl⟩
abbrev main_call113_v4 : Ref sig .tc := ⟨.hbm, 2043, rfl⟩
abbrev main_call113_v5 : Ref sig .tc := ⟨.hbm, 2044, rfl⟩
abbrev main_call113_c_1 : Ref sig .tc := ⟨.hbm, 2045, rfl⟩
abbrev main_call113_c_2 : Ref sig .tc := ⟨.hbm, 2046, rfl⟩
abbrev main_call113_v6 : Ref sig .tc := ⟨.hbm, 2047, rfl⟩
abbrev main_call113_v7 : Ref sig .tc := ⟨.hbm, 2048, rfl⟩
abbrev main_call113_v8 : Ref sig .tc := ⟨.hbm, 2049, rfl⟩
abbrev main_call113_v9 : Ref sig .tc := ⟨.hbm, 2050, rfl⟩
abbrev main_call113_v10 : Ref sig .tc := ⟨.hbm, 2051, rfl⟩
abbrev main_call113_v11 : Ref sig .tc := ⟨.hbm, 2052, rfl⟩
abbrev main_call113_c_3 : Ref sig .tc := ⟨.hbm, 2053, rfl⟩
abbrev main_call113_v12 : Ref sig .tc := ⟨.hbm, 2054, rfl⟩
abbrev main_call113_v13 : Ref sig .tc := ⟨.hbm, 2055, rfl⟩
abbrev main_call113_v14 : Ref sig .tc := ⟨.hbm, 2056, rfl⟩
abbrev main_call113_cst : Ref sig .tc := ⟨.hbm, 2057, rfl⟩
abbrev main_call113_v15 : Ref sig .tc := ⟨.hbm, 2058, rfl⟩
abbrev main_v804 : Ref sig .tc := ⟨.hbm, 2059, rfl⟩
abbrev main_cst_324 : Ref sig .tc := ⟨.hbm, 2060, rfl⟩
abbrev main_call114_v0 : Ref sig .tc := ⟨.hbm, 2061, rfl⟩
abbrev main_call114_v1 : Ref sig .tc := ⟨.hbm, 2062, rfl⟩
abbrev main_call114_v2 : Ref sig .tc := ⟨.hbm, 2063, rfl⟩
abbrev main_v805 : Ref sig .tc := ⟨.hbm, 2064, rfl⟩
abbrev main_v806 : Ref sig .tc := ⟨.hbm, 2065, rfl⟩
abbrev main_v807 : Ref sig .tc := ⟨.hbm, 2066, rfl⟩
abbrev main_c_325 : Ref sig .tc := ⟨.hbm, 2067, rfl⟩
abbrev main_v808 : Ref sig .tc := ⟨.hbm, 2068, rfl⟩
abbrev main_v809 : Ref sig .tc := ⟨.hbm, 2069, rfl⟩
abbrev main_c_326 : Ref sig .tc := ⟨.hbm, 2070, rfl⟩
abbrev main_c_327 : Ref sig .tc := ⟨.hbm, 2071, rfl⟩
abbrev main_call115_v0 : Ref sig .tc := ⟨.hbm, 2072, rfl⟩
abbrev main_call115_v1 : Ref sig .tc := ⟨.hbm, 2073, rfl⟩
abbrev main_call115_v2 : Ref sig .tc := ⟨.hbm, 2074, rfl⟩
abbrev main_call115_v3 : Ref sig .tc := ⟨.hbm, 2075, rfl⟩
abbrev main_call115_v4 : Ref sig .tc := ⟨.hbm, 2076, rfl⟩
abbrev main_v810 : Ref sig .tc := ⟨.hbm, 2077, rfl⟩
abbrev main_v811 : Ref sig .tc := ⟨.hbm, 2078, rfl⟩
abbrev main_v812 : Ref sig .tc := ⟨.hbm, 2079, rfl⟩
abbrev main_c_328 : Ref sig .tc := ⟨.hbm, 2080, rfl⟩
abbrev main_v813 : Ref sig .tc := ⟨.hbm, 2081, rfl⟩
abbrev main_v814 : Ref sig .tc := ⟨.hbm, 2082, rfl⟩
abbrev main_c_329 : Ref sig .tc := ⟨.hbm, 2083, rfl⟩
abbrev main_c_330 : Ref sig .tc := ⟨.hbm, 2084, rfl⟩
abbrev main_call116_v0 : Ref sig .tc := ⟨.hbm, 2085, rfl⟩
abbrev main_call116_v1 : Ref sig .tc := ⟨.hbm, 2086, rfl⟩
abbrev main_call116_v2 : Ref sig .tc := ⟨.hbm, 2087, rfl⟩
abbrev main_call116_v3 : Ref sig .tc := ⟨.hbm, 2088, rfl⟩
abbrev main_call116_v4 : Ref sig .tc := ⟨.hbm, 2089, rfl⟩
abbrev main_v815 : Ref sig .tc := ⟨.hbm, 2090, rfl⟩
abbrev main_c_331 : Ref sig .tc := ⟨.hbm, 2091, rfl⟩
abbrev main_v816 : Ref sig .tc := ⟨.hbm, 2092, rfl⟩
abbrev main_v817 : Ref sig .tc := ⟨.hbm, 2093, rfl⟩
abbrev main_v818 : Ref sig .tc := ⟨.hbm, 2094, rfl⟩
abbrev main_c_332 : Ref sig .tc := ⟨.hbm, 2095, rfl⟩
abbrev main_v819 : Ref sig .tc := ⟨.hbm, 2096, rfl⟩
abbrev main_v820 : Ref sig .tc := ⟨.hbm, 2097, rfl⟩
abbrev main_c_333 : Ref sig .tc := ⟨.hbm, 2098, rfl⟩
abbrev main_v821 : Ref sig .tc := ⟨.hbm, 2099, rfl⟩
abbrev main_v822 : Ref sig .tc := ⟨.hbm, 2100, rfl⟩
abbrev main_v823 : Ref sig .tc := ⟨.hbm, 2101, rfl⟩
abbrev main_v824 : Ref sig .tc := ⟨.hbm, 2102, rfl⟩
abbrev main_v825 : Ref sig .tc := ⟨.hbm, 2103, rfl⟩
abbrev main_c_334 : Ref sig .tc := ⟨.hbm, 2104, rfl⟩
abbrev main_v826 : Ref sig .tc := ⟨.hbm, 2105, rfl⟩
abbrev main_v827 : Ref sig .tc := ⟨.hbm, 2106, rfl⟩
abbrev main_v828 : Ref sig .tc := ⟨.hbm, 2107, rfl⟩
abbrev main_c_335 : Ref sig .tc := ⟨.hbm, 2108, rfl⟩
abbrev main_c_336 : Ref sig .tc := ⟨.hbm, 2109, rfl⟩
abbrev main_call117_v0 : Ref sig .tc := ⟨.hbm, 2110, rfl⟩
abbrev main_call117_v1 : Ref sig .tc := ⟨.hbm, 2111, rfl⟩
abbrev main_call117_v2 : Ref sig .tc := ⟨.hbm, 2112, rfl⟩
abbrev main_call117_v3 : Ref sig .tc := ⟨.hbm, 2113, rfl⟩
abbrev main_call117_v4 : Ref sig .tc := ⟨.hbm, 2114, rfl⟩
abbrev main_v829 : Ref sig .tc := ⟨.hbm, 2115, rfl⟩
abbrev main_call118_c : Ref sig .tc := ⟨.hbm, 2116, rfl⟩
abbrev main_call118_v0 : Ref sig .tc := ⟨.hbm, 2117, rfl⟩
abbrev main_call118_v1 : Ref sig .tc := ⟨.hbm, 2118, rfl⟩
abbrev main_call118_c_0 : Ref sig .tc := ⟨.hbm, 2119, rfl⟩
abbrev main_call118_v2 : Ref sig .tc := ⟨.hbm, 2120, rfl⟩
abbrev main_call118_v3 : Ref sig .tc := ⟨.hbm, 2121, rfl⟩
abbrev main_call118_v4 : Ref sig .tc := ⟨.hbm, 2122, rfl⟩
abbrev main_call118_v5 : Ref sig .tc := ⟨.hbm, 2123, rfl⟩
abbrev main_call118_c_1 : Ref sig .tc := ⟨.hbm, 2124, rfl⟩
abbrev main_call118_c_2 : Ref sig .tc := ⟨.hbm, 2125, rfl⟩
abbrev main_call118_v6 : Ref sig .tc := ⟨.hbm, 2126, rfl⟩
abbrev main_call118_v7 : Ref sig .tc := ⟨.hbm, 2127, rfl⟩
abbrev main_call118_v8 : Ref sig .tc := ⟨.hbm, 2128, rfl⟩
abbrev main_call118_v9 : Ref sig .tc := ⟨.hbm, 2129, rfl⟩
abbrev main_call118_v10 : Ref sig .tc := ⟨.hbm, 2130, rfl⟩
abbrev main_call118_v11 : Ref sig .tc := ⟨.hbm, 2131, rfl⟩
abbrev main_call118_c_3 : Ref sig .tc := ⟨.hbm, 2132, rfl⟩
abbrev main_call118_v12 : Ref sig .tc := ⟨.hbm, 2133, rfl⟩
abbrev main_call118_v13 : Ref sig .tc := ⟨.hbm, 2134, rfl⟩
abbrev main_call118_v14 : Ref sig .tc := ⟨.hbm, 2135, rfl⟩
abbrev main_call118_cst : Ref sig .tc := ⟨.hbm, 2136, rfl⟩
abbrev main_call118_v15 : Ref sig .tc := ⟨.hbm, 2137, rfl⟩
abbrev main_v830 : Ref sig .tc := ⟨.hbm, 2138, rfl⟩
abbrev main_cst_337 : Ref sig .tc := ⟨.hbm, 2139, rfl⟩
abbrev main_call119_v0 : Ref sig .tc := ⟨.hbm, 2140, rfl⟩
abbrev main_call119_v1 : Ref sig .tc := ⟨.hbm, 2141, rfl⟩
abbrev main_call119_v2 : Ref sig .tc := ⟨.hbm, 2142, rfl⟩
abbrev main_v831 : Ref sig .tc := ⟨.hbm, 2143, rfl⟩
abbrev main_v832 : Ref sig .tc := ⟨.hbm, 2144, rfl⟩
abbrev main_v833 : Ref sig .tc := ⟨.hbm, 2145, rfl⟩
abbrev main_c_338 : Ref sig .tc := ⟨.hbm, 2146, rfl⟩
abbrev main_v834 : Ref sig .tc := ⟨.hbm, 2147, rfl⟩
abbrev main_v835 : Ref sig .tc := ⟨.hbm, 2148, rfl⟩
abbrev main_c_339 : Ref sig .tc := ⟨.hbm, 2149, rfl⟩
abbrev main_c_340 : Ref sig .tc := ⟨.hbm, 2150, rfl⟩
abbrev main_call120_v0 : Ref sig .tc := ⟨.hbm, 2151, rfl⟩
abbrev main_call120_v1 : Ref sig .tc := ⟨.hbm, 2152, rfl⟩
abbrev main_call120_v2 : Ref sig .tc := ⟨.hbm, 2153, rfl⟩
abbrev main_call120_v3 : Ref sig .tc := ⟨.hbm, 2154, rfl⟩
abbrev main_call120_v4 : Ref sig .tc := ⟨.hbm, 2155, rfl⟩
abbrev main_v836 : Ref sig .tc := ⟨.hbm, 2156, rfl⟩
abbrev main_v837 : Ref sig .tc := ⟨.hbm, 2157, rfl⟩
abbrev main_v838 : Ref sig .tc := ⟨.hbm, 2158, rfl⟩
abbrev main_c_341 : Ref sig .tc := ⟨.hbm, 2159, rfl⟩
abbrev main_v839 : Ref sig .tc := ⟨.hbm, 2160, rfl⟩
abbrev main_v840 : Ref sig .tc := ⟨.hbm, 2161, rfl⟩
abbrev main_c_342 : Ref sig .tc := ⟨.hbm, 2162, rfl⟩
abbrev main_c_343 : Ref sig .tc := ⟨.hbm, 2163, rfl⟩
abbrev main_call121_v0 : Ref sig .tc := ⟨.hbm, 2164, rfl⟩
abbrev main_call121_v1 : Ref sig .tc := ⟨.hbm, 2165, rfl⟩
abbrev main_call121_v2 : Ref sig .tc := ⟨.hbm, 2166, rfl⟩
abbrev main_call121_v3 : Ref sig .tc := ⟨.hbm, 2167, rfl⟩
abbrev main_call121_v4 : Ref sig .tc := ⟨.hbm, 2168, rfl⟩
abbrev main_v841 : Ref sig .tc := ⟨.hbm, 2169, rfl⟩
abbrev main_c_344 : Ref sig .tc := ⟨.hbm, 2170, rfl⟩
abbrev main_v842 : Ref sig .tc := ⟨.hbm, 2171, rfl⟩
abbrev main_v843 : Ref sig .tc := ⟨.hbm, 2172, rfl⟩
abbrev main_v844 : Ref sig .tc := ⟨.hbm, 2173, rfl⟩
abbrev main_c_345 : Ref sig .tc := ⟨.hbm, 2174, rfl⟩
abbrev main_v845 : Ref sig .tc := ⟨.hbm, 2175, rfl⟩
abbrev main_v846 : Ref sig .tc := ⟨.hbm, 2176, rfl⟩
abbrev main_c_346 : Ref sig .tc := ⟨.hbm, 2177, rfl⟩
abbrev main_v847 : Ref sig .tc := ⟨.hbm, 2178, rfl⟩
abbrev main_v848 : Ref sig .tc := ⟨.hbm, 2179, rfl⟩
abbrev main_v849 : Ref sig .tc := ⟨.hbm, 2180, rfl⟩
abbrev main_v850 : Ref sig .tc := ⟨.hbm, 2181, rfl⟩
abbrev main_v851 : Ref sig .tc := ⟨.hbm, 2182, rfl⟩
abbrev main_c_347 : Ref sig .tc := ⟨.hbm, 2183, rfl⟩
abbrev main_v852 : Ref sig .tc := ⟨.hbm, 2184, rfl⟩
abbrev main_v853 : Ref sig .tc := ⟨.hbm, 2185, rfl⟩
abbrev main_v854 : Ref sig .tc := ⟨.hbm, 2186, rfl⟩
abbrev main_c_348 : Ref sig .tc := ⟨.hbm, 2187, rfl⟩
abbrev main_c_349 : Ref sig .tc := ⟨.hbm, 2188, rfl⟩
abbrev main_call122_v0 : Ref sig .tc := ⟨.hbm, 2189, rfl⟩
abbrev main_call122_v1 : Ref sig .tc := ⟨.hbm, 2190, rfl⟩
abbrev main_call122_v2 : Ref sig .tc := ⟨.hbm, 2191, rfl⟩
abbrev main_call122_v3 : Ref sig .tc := ⟨.hbm, 2192, rfl⟩
abbrev main_call122_v4 : Ref sig .tc := ⟨.hbm, 2193, rfl⟩
abbrev main_v855 : Ref sig .tc := ⟨.hbm, 2194, rfl⟩
abbrev main_call123_c : Ref sig .tc := ⟨.hbm, 2195, rfl⟩
abbrev main_call123_v0 : Ref sig .tc := ⟨.hbm, 2196, rfl⟩
abbrev main_call123_v1 : Ref sig .tc := ⟨.hbm, 2197, rfl⟩
abbrev main_call123_c_0 : Ref sig .tc := ⟨.hbm, 2198, rfl⟩
abbrev main_call123_v2 : Ref sig .tc := ⟨.hbm, 2199, rfl⟩
abbrev main_call123_v3 : Ref sig .tc := ⟨.hbm, 2200, rfl⟩
abbrev main_call123_v4 : Ref sig .tc := ⟨.hbm, 2201, rfl⟩
abbrev main_call123_v5 : Ref sig .tc := ⟨.hbm, 2202, rfl⟩
abbrev main_call123_c_1 : Ref sig .tc := ⟨.hbm, 2203, rfl⟩
abbrev main_call123_c_2 : Ref sig .tc := ⟨.hbm, 2204, rfl⟩
abbrev main_call123_v6 : Ref sig .tc := ⟨.hbm, 2205, rfl⟩
abbrev main_call123_v7 : Ref sig .tc := ⟨.hbm, 2206, rfl⟩
abbrev main_call123_v8 : Ref sig .tc := ⟨.hbm, 2207, rfl⟩
abbrev main_call123_v9 : Ref sig .tc := ⟨.hbm, 2208, rfl⟩
abbrev main_call123_v10 : Ref sig .tc := ⟨.hbm, 2209, rfl⟩
abbrev main_call123_v11 : Ref sig .tc := ⟨.hbm, 2210, rfl⟩
abbrev main_call123_c_3 : Ref sig .tc := ⟨.hbm, 2211, rfl⟩
abbrev main_call123_v12 : Ref sig .tc := ⟨.hbm, 2212, rfl⟩
abbrev main_call123_v13 : Ref sig .tc := ⟨.hbm, 2213, rfl⟩
abbrev main_call123_v14 : Ref sig .tc := ⟨.hbm, 2214, rfl⟩
abbrev main_call123_cst : Ref sig .tc := ⟨.hbm, 2215, rfl⟩
abbrev main_call123_v15 : Ref sig .tc := ⟨.hbm, 2216, rfl⟩
abbrev main_v856 : Ref sig .tc := ⟨.hbm, 2217, rfl⟩
abbrev main_cst_350 : Ref sig .tc := ⟨.hbm, 2218, rfl⟩
abbrev main_call124_v0 : Ref sig .tc := ⟨.hbm, 2219, rfl⟩
abbrev main_call124_v1 : Ref sig .tc := ⟨.hbm, 2220, rfl⟩
abbrev main_call124_v2 : Ref sig .tc := ⟨.hbm, 2221, rfl⟩
abbrev main_v857 : Ref sig .tc := ⟨.hbm, 2222, rfl⟩
abbrev main_v858 : Ref sig .tc := ⟨.hbm, 2223, rfl⟩
abbrev main_v859 : Ref sig .tc := ⟨.hbm, 2224, rfl⟩
abbrev main_c_351 : Ref sig .tc := ⟨.hbm, 2225, rfl⟩
abbrev main_v860 : Ref sig .tc := ⟨.hbm, 2226, rfl⟩
abbrev main_v861 : Ref sig .tc := ⟨.hbm, 2227, rfl⟩
abbrev main_c_352 : Ref sig .tc := ⟨.hbm, 2228, rfl⟩
abbrev main_c_353 : Ref sig .tc := ⟨.hbm, 2229, rfl⟩
abbrev main_call125_v0 : Ref sig .tc := ⟨.hbm, 2230, rfl⟩
abbrev main_call125_v1 : Ref sig .tc := ⟨.hbm, 2231, rfl⟩
abbrev main_call125_v2 : Ref sig .tc := ⟨.hbm, 2232, rfl⟩
abbrev main_call125_v3 : Ref sig .tc := ⟨.hbm, 2233, rfl⟩
abbrev main_call125_v4 : Ref sig .tc := ⟨.hbm, 2234, rfl⟩
abbrev main_v862 : Ref sig .tc := ⟨.hbm, 2235, rfl⟩
abbrev main_v863 : Ref sig .tc := ⟨.hbm, 2236, rfl⟩
abbrev main_v864 : Ref sig .tc := ⟨.hbm, 2237, rfl⟩
abbrev main_c_354 : Ref sig .tc := ⟨.hbm, 2238, rfl⟩
abbrev main_v865 : Ref sig .tc := ⟨.hbm, 2239, rfl⟩
abbrev main_v866 : Ref sig .tc := ⟨.hbm, 2240, rfl⟩
abbrev main_c_355 : Ref sig .tc := ⟨.hbm, 2241, rfl⟩
abbrev main_c_356 : Ref sig .tc := ⟨.hbm, 2242, rfl⟩
abbrev main_call126_v0 : Ref sig .tc := ⟨.hbm, 2243, rfl⟩
abbrev main_call126_v1 : Ref sig .tc := ⟨.hbm, 2244, rfl⟩
abbrev main_call126_v2 : Ref sig .tc := ⟨.hbm, 2245, rfl⟩
abbrev main_call126_v3 : Ref sig .tc := ⟨.hbm, 2246, rfl⟩
abbrev main_call126_v4 : Ref sig .tc := ⟨.hbm, 2247, rfl⟩
abbrev main_v867 : Ref sig .tc := ⟨.hbm, 2248, rfl⟩
abbrev main_c_357 : Ref sig .tc := ⟨.hbm, 2249, rfl⟩
abbrev main_v868 : Ref sig .tc := ⟨.hbm, 2250, rfl⟩
abbrev main_v869 : Ref sig .tc := ⟨.hbm, 2251, rfl⟩
abbrev main_v870 : Ref sig .tc := ⟨.hbm, 2252, rfl⟩
abbrev main_c_358 : Ref sig .tc := ⟨.hbm, 2253, rfl⟩
abbrev main_v871 : Ref sig .tc := ⟨.hbm, 2254, rfl⟩
abbrev main_v872 : Ref sig .tc := ⟨.hbm, 2255, rfl⟩
abbrev main_c_359 : Ref sig .tc := ⟨.hbm, 2256, rfl⟩
abbrev main_v873 : Ref sig .tc := ⟨.hbm, 2257, rfl⟩
abbrev main_v874 : Ref sig .tc := ⟨.hbm, 2258, rfl⟩
abbrev main_v875 : Ref sig .tc := ⟨.hbm, 2259, rfl⟩
abbrev main_v876 : Ref sig .tc := ⟨.hbm, 2260, rfl⟩
abbrev main_v877 : Ref sig .tc := ⟨.hbm, 2261, rfl⟩
abbrev main_c_360 : Ref sig .tc := ⟨.hbm, 2262, rfl⟩
abbrev main_v878 : Ref sig .tc := ⟨.hbm, 2263, rfl⟩
abbrev main_v879 : Ref sig .tc := ⟨.hbm, 2264, rfl⟩
abbrev main_v880 : Ref sig .tc := ⟨.hbm, 2265, rfl⟩
abbrev main_c_361 : Ref sig .tc := ⟨.hbm, 2266, rfl⟩
abbrev main_c_362 : Ref sig .tc := ⟨.hbm, 2267, rfl⟩
abbrev main_call127_v0 : Ref sig .tc := ⟨.hbm, 2268, rfl⟩
abbrev main_call127_v1 : Ref sig .tc := ⟨.hbm, 2269, rfl⟩
abbrev main_call127_v2 : Ref sig .tc := ⟨.hbm, 2270, rfl⟩
abbrev main_call127_v3 : Ref sig .tc := ⟨.hbm, 2271, rfl⟩
abbrev main_call127_v4 : Ref sig .tc := ⟨.hbm, 2272, rfl⟩
abbrev main_v881 : Ref sig .tc := ⟨.hbm, 2273, rfl⟩
abbrev main_call128_c : Ref sig .tc := ⟨.hbm, 2274, rfl⟩
abbrev main_call128_v0 : Ref sig .tc := ⟨.hbm, 2275, rfl⟩
abbrev main_call128_v1 : Ref sig .tc := ⟨.hbm, 2276, rfl⟩
abbrev main_call128_c_0 : Ref sig .tc := ⟨.hbm, 2277, rfl⟩
abbrev main_call128_v2 : Ref sig .tc := ⟨.hbm, 2278, rfl⟩
abbrev main_call128_v3 : Ref sig .tc := ⟨.hbm, 2279, rfl⟩
abbrev main_call128_v4 : Ref sig .tc := ⟨.hbm, 2280, rfl⟩
abbrev main_call128_v5 : Ref sig .tc := ⟨.hbm, 2281, rfl⟩
abbrev main_call128_c_1 : Ref sig .tc := ⟨.hbm, 2282, rfl⟩
abbrev main_call128_c_2 : Ref sig .tc := ⟨.hbm, 2283, rfl⟩
abbrev main_call128_v6 : Ref sig .tc := ⟨.hbm, 2284, rfl⟩
abbrev main_call128_v7 : Ref sig .tc := ⟨.hbm, 2285, rfl⟩
abbrev main_call128_v8 : Ref sig .tc := ⟨.hbm, 2286, rfl⟩
abbrev main_call128_v9 : Ref sig .tc := ⟨.hbm, 2287, rfl⟩
abbrev main_call128_v10 : Ref sig .tc := ⟨.hbm, 2288, rfl⟩
abbrev main_call128_v11 : Ref sig .tc := ⟨.hbm, 2289, rfl⟩
abbrev main_call128_c_3 : Ref sig .tc := ⟨.hbm, 2290, rfl⟩
abbrev main_call128_v12 : Ref sig .tc := ⟨.hbm, 2291, rfl⟩
abbrev main_call128_v13 : Ref sig .tc := ⟨.hbm, 2292, rfl⟩
abbrev main_call128_v14 : Ref sig .tc := ⟨.hbm, 2293, rfl⟩
abbrev main_call128_cst : Ref sig .tc := ⟨.hbm, 2294, rfl⟩
abbrev main_call128_v15 : Ref sig .tc := ⟨.hbm, 2295, rfl⟩
abbrev main_v882 : Ref sig .tc := ⟨.hbm, 2296, rfl⟩
abbrev main_cst_363 : Ref sig .tc := ⟨.hbm, 2297, rfl⟩
abbrev main_call129_v0 : Ref sig .tc := ⟨.hbm, 2298, rfl⟩
abbrev main_call129_v1 : Ref sig .tc := ⟨.hbm, 2299, rfl⟩
abbrev main_call129_v2 : Ref sig .tc := ⟨.hbm, 2300, rfl⟩
abbrev main_v883 : Ref sig .tc := ⟨.hbm, 2301, rfl⟩
abbrev main_v884 : Ref sig .tc := ⟨.hbm, 2302, rfl⟩
abbrev main_v885 : Ref sig .tc := ⟨.hbm, 2303, rfl⟩
abbrev main_c_364 : Ref sig .tc := ⟨.hbm, 2304, rfl⟩
abbrev main_v886 : Ref sig .tc := ⟨.hbm, 2305, rfl⟩
abbrev main_v887 : Ref sig .tc := ⟨.hbm, 2306, rfl⟩
abbrev main_c_365 : Ref sig .tc := ⟨.hbm, 2307, rfl⟩
abbrev main_c_366 : Ref sig .tc := ⟨.hbm, 2308, rfl⟩
abbrev main_call130_v0 : Ref sig .tc := ⟨.hbm, 2309, rfl⟩
abbrev main_call130_v1 : Ref sig .tc := ⟨.hbm, 2310, rfl⟩
abbrev main_call130_v2 : Ref sig .tc := ⟨.hbm, 2311, rfl⟩
abbrev main_call130_v3 : Ref sig .tc := ⟨.hbm, 2312, rfl⟩
abbrev main_call130_v4 : Ref sig .tc := ⟨.hbm, 2313, rfl⟩
abbrev main_v888 : Ref sig .tc := ⟨.hbm, 2314, rfl⟩
abbrev main_v889 : Ref sig .tc := ⟨.hbm, 2315, rfl⟩
abbrev main_v890 : Ref sig .tc := ⟨.hbm, 2316, rfl⟩
abbrev main_c_367 : Ref sig .tc := ⟨.hbm, 2317, rfl⟩
abbrev main_v891 : Ref sig .tc := ⟨.hbm, 2318, rfl⟩
abbrev main_v892 : Ref sig .tc := ⟨.hbm, 2319, rfl⟩
abbrev main_c_368 : Ref sig .tc := ⟨.hbm, 2320, rfl⟩
abbrev main_c_369 : Ref sig .tc := ⟨.hbm, 2321, rfl⟩
abbrev main_call131_v0 : Ref sig .tc := ⟨.hbm, 2322, rfl⟩
abbrev main_call131_v1 : Ref sig .tc := ⟨.hbm, 2323, rfl⟩
abbrev main_call131_v2 : Ref sig .tc := ⟨.hbm, 2324, rfl⟩
abbrev main_call131_v3 : Ref sig .tc := ⟨.hbm, 2325, rfl⟩
abbrev main_call131_v4 : Ref sig .tc := ⟨.hbm, 2326, rfl⟩
abbrev main_v893 : Ref sig .tc := ⟨.hbm, 2327, rfl⟩
abbrev main_c_370 : Ref sig .tc := ⟨.hbm, 2328, rfl⟩
abbrev main_v894 : Ref sig .tc := ⟨.hbm, 2329, rfl⟩
abbrev main_v895 : Ref sig .tc := ⟨.hbm, 2330, rfl⟩
abbrev main_v896 : Ref sig .tc := ⟨.hbm, 2331, rfl⟩
abbrev main_c_371 : Ref sig .tc := ⟨.hbm, 2332, rfl⟩
abbrev main_v897 : Ref sig .tc := ⟨.hbm, 2333, rfl⟩
abbrev main_v898 : Ref sig .tc := ⟨.hbm, 2334, rfl⟩
abbrev main_c_372 : Ref sig .tc := ⟨.hbm, 2335, rfl⟩
abbrev main_v899 : Ref sig .tc := ⟨.hbm, 2336, rfl⟩
abbrev main_v900 : Ref sig .tc := ⟨.hbm, 2337, rfl⟩
abbrev main_v901 : Ref sig .tc := ⟨.hbm, 2338, rfl⟩
abbrev main_v902 : Ref sig .tc := ⟨.hbm, 2339, rfl⟩
abbrev main_v903 : Ref sig .tc := ⟨.hbm, 2340, rfl⟩
abbrev main_c_373 : Ref sig .tc := ⟨.hbm, 2341, rfl⟩
abbrev main_v904 : Ref sig .tc := ⟨.hbm, 2342, rfl⟩
abbrev main_v905 : Ref sig .tc := ⟨.hbm, 2343, rfl⟩
abbrev main_v906 : Ref sig .tc := ⟨.hbm, 2344, rfl⟩
abbrev main_c_374 : Ref sig .tc := ⟨.hbm, 2345, rfl⟩
abbrev main_c_375 : Ref sig .tc := ⟨.hbm, 2346, rfl⟩
abbrev main_call132_v0 : Ref sig .tc := ⟨.hbm, 2347, rfl⟩
abbrev main_call132_v1 : Ref sig .tc := ⟨.hbm, 2348, rfl⟩
abbrev main_call132_v2 : Ref sig .tc := ⟨.hbm, 2349, rfl⟩
abbrev main_call132_v3 : Ref sig .tc := ⟨.hbm, 2350, rfl⟩
abbrev main_call132_v4 : Ref sig .tc := ⟨.hbm, 2351, rfl⟩
abbrev main_v907 : Ref sig .tc := ⟨.hbm, 2352, rfl⟩
abbrev main_call133_c : Ref sig .tc := ⟨.hbm, 2353, rfl⟩
abbrev main_call133_v0 : Ref sig .tc := ⟨.hbm, 2354, rfl⟩
abbrev main_call133_v1 : Ref sig .tc := ⟨.hbm, 2355, rfl⟩
abbrev main_call133_c_0 : Ref sig .tc := ⟨.hbm, 2356, rfl⟩
abbrev main_call133_v2 : Ref sig .tc := ⟨.hbm, 2357, rfl⟩
abbrev main_call133_v3 : Ref sig .tc := ⟨.hbm, 2358, rfl⟩
abbrev main_call133_v4 : Ref sig .tc := ⟨.hbm, 2359, rfl⟩
abbrev main_call133_v5 : Ref sig .tc := ⟨.hbm, 2360, rfl⟩
abbrev main_call133_c_1 : Ref sig .tc := ⟨.hbm, 2361, rfl⟩
abbrev main_call133_c_2 : Ref sig .tc := ⟨.hbm, 2362, rfl⟩
abbrev main_call133_v6 : Ref sig .tc := ⟨.hbm, 2363, rfl⟩
abbrev main_call133_v7 : Ref sig .tc := ⟨.hbm, 2364, rfl⟩
abbrev main_call133_v8 : Ref sig .tc := ⟨.hbm, 2365, rfl⟩
abbrev main_call133_v9 : Ref sig .tc := ⟨.hbm, 2366, rfl⟩
abbrev main_call133_v10 : Ref sig .tc := ⟨.hbm, 2367, rfl⟩
abbrev main_call133_v11 : Ref sig .tc := ⟨.hbm, 2368, rfl⟩
abbrev main_call133_c_3 : Ref sig .tc := ⟨.hbm, 2369, rfl⟩
abbrev main_call133_v12 : Ref sig .tc := ⟨.hbm, 2370, rfl⟩
abbrev main_call133_v13 : Ref sig .tc := ⟨.hbm, 2371, rfl⟩
abbrev main_call133_v14 : Ref sig .tc := ⟨.hbm, 2372, rfl⟩
abbrev main_call133_cst : Ref sig .tc := ⟨.hbm, 2373, rfl⟩
abbrev main_call133_v15 : Ref sig .tc := ⟨.hbm, 2374, rfl⟩
abbrev main_v908 : Ref sig .tc := ⟨.hbm, 2375, rfl⟩
abbrev main_cst_376 : Ref sig .tc := ⟨.hbm, 2376, rfl⟩
abbrev main_call134_v0 : Ref sig .tc := ⟨.hbm, 2377, rfl⟩
abbrev main_call134_v1 : Ref sig .tc := ⟨.hbm, 2378, rfl⟩
abbrev main_call134_v2 : Ref sig .tc := ⟨.hbm, 2379, rfl⟩
abbrev main_v909 : Ref sig .tc := ⟨.hbm, 2380, rfl⟩
abbrev main_v910 : Ref sig .tc := ⟨.hbm, 2381, rfl⟩
abbrev main_v911 : Ref sig .tc := ⟨.hbm, 2382, rfl⟩
abbrev main_v912 : Ref sig .tc := ⟨.hbm, 2383, rfl⟩
abbrev main_v913 : Ref sig .tc := ⟨.hbm, 2384, rfl⟩
abbrev main_v914 : Ref sig .tc := ⟨.hbm, 2385, rfl⟩
abbrev main_v915 : Ref sig .tc := ⟨.hbm, 2386, rfl⟩
abbrev main_v916 : Ref sig .tc := ⟨.hbm, 2387, rfl⟩
abbrev main_v917 : Ref sig .tc := ⟨.hbm, 2388, rfl⟩
abbrev main_v918 : Ref sig .tc := ⟨.hbm, 2389, rfl⟩
abbrev main_v919 : Ref sig .tc := ⟨.hbm, 2390, rfl⟩
abbrev main_v920 : Ref sig .tc := ⟨.hbm, 2391, rfl⟩
abbrev main_v921 : Ref sig .tc := ⟨.hbm, 2392, rfl⟩
abbrev main_v922 : Ref sig .tc := ⟨.hbm, 2393, rfl⟩
abbrev main_v923 : Ref sig .tc := ⟨.hbm, 2394, rfl⟩
abbrev main_v924 : Ref sig .tc := ⟨.hbm, 2395, rfl⟩
abbrev main_v925 : Ref sig .tc := ⟨.hbm, 2396, rfl⟩
abbrev main_v926 : Ref sig .tc := ⟨.hbm, 2397, rfl⟩
abbrev main_v927 : Ref sig .tc := ⟨.hbm, 2398, rfl⟩
abbrev main_v928 : Ref sig .tc := ⟨.hbm, 2399, rfl⟩
abbrev main_v929 : Ref sig .tc := ⟨.hbm, 2400, rfl⟩
abbrev main_v930 : Ref sig .tc := ⟨.hbm, 2401, rfl⟩
abbrev main_v931 : Ref sig .tc := ⟨.hbm, 2402, rfl⟩
abbrev main_v932 : Ref sig .tc := ⟨.hbm, 2403, rfl⟩
abbrev main_v933 : Ref sig .tc := ⟨.hbm, 2404, rfl⟩
abbrev main_v934 : Ref sig .tc := ⟨.hbm, 2405, rfl⟩
abbrev main_v935 : Ref sig .tc := ⟨.hbm, 2406, rfl⟩
abbrev main_v936 : Ref sig .tc := ⟨.hbm, 2407, rfl⟩
abbrev main_v937 : Ref sig .tc := ⟨.hbm, 2408, rfl⟩
abbrev main_v938 : Ref sig .tc := ⟨.hbm, 2409, rfl⟩
abbrev main_v939 : Ref sig .tc := ⟨.hbm, 2410, rfl⟩
abbrev main_v940 : Ref sig .tc := ⟨.hbm, 2411, rfl⟩
abbrev main_v941 : Ref sig .tc := ⟨.hbm, 2412, rfl⟩
abbrev main_v942 : Ref sig .tc := ⟨.hbm, 2413, rfl⟩
abbrev main_cst_377 : Ref sig .tc := ⟨.hbm, 2414, rfl⟩
abbrev main_v943 : Ref sig .tc := ⟨.hbm, 2415, rfl⟩
abbrev main_v944 : Ref sig .tc := ⟨.hbm, 2416, rfl⟩
abbrev main_cst_378 : Ref sig .tc := ⟨.hbm, 2417, rfl⟩
abbrev main_v945 : Ref sig .tc := ⟨.hbm, 2418, rfl⟩
abbrev main_cst_379 : Ref sig .tc := ⟨.hbm, 2419, rfl⟩
abbrev main_v946 : Ref sig .tc := ⟨.hbm, 2420, rfl⟩
abbrev main_v947 : Ref sig .tc := ⟨.hbm, 2421, rfl⟩
abbrev main_v948 : Ref sig .tc := ⟨.hbm, 2422, rfl⟩
abbrev main_v949 : Ref sig .tc := ⟨.hbm, 2423, rfl⟩
abbrev main_v950 : Ref sig .tc := ⟨.hbm, 2424, rfl⟩
abbrev main_v951 : Ref sig .tc := ⟨.hbm, 2425, rfl⟩
abbrev main_cst_380 : Ref sig .tc := ⟨.hbm, 2426, rfl⟩
abbrev main_v952 : Ref sig .tc := ⟨.hbm, 2427, rfl⟩
abbrev main_v953 : Ref sig .tc := ⟨.hbm, 2428, rfl⟩
abbrev main_v954 : Ref sig .tc := ⟨.hbm, 2429, rfl⟩
abbrev main_v955 : Ref sig .tc := ⟨.hbm, 2430, rfl⟩
abbrev main_v956 : Ref sig .tc := ⟨.hbm, 2431, rfl⟩
abbrev main_v957 : Ref sig .tc := ⟨.hbm, 2432, rfl⟩
abbrev main_v958 : Ref sig .tc := ⟨.hbm, 2433, rfl⟩
abbrev main_v959 : Ref sig .tc := ⟨.hbm, 2434, rfl⟩
abbrev main_v960 : Ref sig .tc := ⟨.hbm, 2435, rfl⟩
abbrev main_v961 : Ref sig .tc := ⟨.hbm, 2436, rfl⟩
abbrev main_v962 : Ref sig .tc := ⟨.hbm, 2437, rfl⟩
abbrev main_c_381 : Ref sig .tc := ⟨.hbm, 2438, rfl⟩
abbrev main_v963 : Ref sig .tc := ⟨.hbm, 2439, rfl⟩
abbrev main_v964 : Ref sig .tc := ⟨.hbm, 2440, rfl⟩
abbrev main_v965 : Ref sig .tc := ⟨.hbm, 2441, rfl⟩
abbrev main_v966 : Ref sig .tc := ⟨.hbm, 2442, rfl⟩
abbrev main_v967 : Ref sig .tc := ⟨.hbm, 2443, rfl⟩
abbrev main_cst_382 : Ref sig .tc := ⟨.hbm, 2444, rfl⟩
abbrev main_v968 : Ref sig .tc := ⟨.hbm, 2445, rfl⟩
abbrev main_v969 : Ref sig .tc := ⟨.hbm, 2446, rfl⟩
abbrev main_c_383 : Ref sig .tc := ⟨.hbm, 2447, rfl⟩
abbrev main_v970 : Ref sig .tc := ⟨.hbm, 2448, rfl⟩
abbrev main_v971 : Ref sig .tc := ⟨.hbm, 2449, rfl⟩
abbrev main_c_384 : Ref sig .tc := ⟨.hbm, 2450, rfl⟩
abbrev main_v972 : Ref sig .tc := ⟨.hbm, 2451, rfl⟩
abbrev main_v973 : Ref sig .tc := ⟨.hbm, 2452, rfl⟩
abbrev main_v974 : Ref sig .tc := ⟨.hbm, 2453, rfl⟩
abbrev main_v975 : Ref sig .tc := ⟨.hbm, 2454, rfl⟩
abbrev main_v976 : Ref sig .tc := ⟨.hbm, 2455, rfl⟩
abbrev main_v977 : Ref sig .tc := ⟨.hbm, 2456, rfl⟩
abbrev main_v978 : Ref sig .tc := ⟨.hbm, 2457, rfl⟩
abbrev main_v979 : Ref sig .tc := ⟨.hbm, 2458, rfl⟩
abbrev main_v980 : Ref sig .tc := ⟨.hbm, 2459, rfl⟩
abbrev main_v981 : Ref sig .tc := ⟨.hbm, 2460, rfl⟩
abbrev main_v982 : Ref sig .tc := ⟨.hbm, 2461, rfl⟩
abbrev main_v983 : Ref sig .tc := ⟨.hbm, 2462, rfl⟩
abbrev main_v984 : Ref sig .tc := ⟨.hbm, 2463, rfl⟩
abbrev main_v985 : Ref sig .tc := ⟨.hbm, 2464, rfl⟩
abbrev main_v986 : Ref sig .tc := ⟨.hbm, 2465, rfl⟩
abbrev main_v987 : Ref sig .tc := ⟨.hbm, 2466, rfl⟩
abbrev main_c_385 : Ref sig .tc := ⟨.hbm, 2467, rfl⟩
abbrev main_v988 : Ref sig .tc := ⟨.hbm, 2468, rfl⟩
abbrev main_v989 : Ref sig .tc := ⟨.hbm, 2469, rfl⟩
abbrev main_v990 : Ref sig .tc := ⟨.hbm, 2470, rfl⟩
abbrev main_v991 : Ref sig .tc := ⟨.hbm, 2471, rfl⟩
abbrev main_v992 : Ref sig .tc := ⟨.hbm, 2472, rfl⟩
abbrev main_c_386 : Ref sig .tc := ⟨.hbm, 2473, rfl⟩
abbrev main_v993 : Ref sig .tc := ⟨.hbm, 2474, rfl⟩
abbrev main_v994 : Ref sig .tc := ⟨.hbm, 2475, rfl⟩
abbrev main_c_387 : Ref sig .tc := ⟨.hbm, 2476, rfl⟩
abbrev main_v995 : Ref sig .tc := ⟨.hbm, 2477, rfl⟩
abbrev main_v996 : Ref sig .tc := ⟨.hbm, 2478, rfl⟩
abbrev main_c_388 : Ref sig .tc := ⟨.hbm, 2479, rfl⟩
abbrev main_v997 : Ref sig .tc := ⟨.hbm, 2480, rfl⟩
abbrev main_v998 : Ref sig .tc := ⟨.hbm, 2481, rfl⟩
abbrev main_v999 : Ref sig .tc := ⟨.hbm, 2482, rfl⟩
abbrev main_v1000 : Ref sig .tc := ⟨.hbm, 2483, rfl⟩
abbrev main_v1001 : Ref sig .tc := ⟨.hbm, 2484, rfl⟩
abbrev main_v1002 : Ref sig .tc := ⟨.hbm, 2485, rfl⟩
abbrev main_v1003 : Ref sig .tc := ⟨.hbm, 2486, rfl⟩
abbrev main_c_389 : Ref sig .tc := ⟨.hbm, 2487, rfl⟩
abbrev main_v1004 : Ref sig .tc := ⟨.hbm, 2488, rfl⟩
abbrev main_v1005 : Ref sig .tc := ⟨.hbm, 2489, rfl⟩
abbrev main_c_390 : Ref sig .tc := ⟨.hbm, 2490, rfl⟩
abbrev main_c_391 : Ref sig .tc := ⟨.hbm, 2491, rfl⟩
abbrev main_call135_v0 : Ref sig .tc := ⟨.hbm, 2492, rfl⟩
abbrev main_call135_v1 : Ref sig .tc := ⟨.hbm, 2493, rfl⟩
abbrev main_call135_v2 : Ref sig .tc := ⟨.hbm, 2494, rfl⟩
abbrev main_call135_v3 : Ref sig .tc := ⟨.hbm, 2495, rfl⟩
abbrev main_call135_v4 : Ref sig .tc := ⟨.hbm, 2496, rfl⟩
abbrev main_v1006 : Ref sig .tc := ⟨.hbm, 2497, rfl⟩
abbrev main_v1007 : Ref sig .tc := ⟨.hbm, 2498, rfl⟩
abbrev main_v1008 : Ref sig .tc := ⟨.hbm, 2499, rfl⟩
abbrev main_c_392 : Ref sig .tc := ⟨.hbm, 2500, rfl⟩
abbrev main_v1009 : Ref sig .tc := ⟨.hbm, 2501, rfl⟩
abbrev main_v1010 : Ref sig .tc := ⟨.hbm, 2502, rfl⟩
abbrev main_c_393 : Ref sig .tc := ⟨.hbm, 2503, rfl⟩
abbrev main_c_394 : Ref sig .tc := ⟨.hbm, 2504, rfl⟩
abbrev main_call136_v0 : Ref sig .tc := ⟨.hbm, 2505, rfl⟩
abbrev main_call136_v1 : Ref sig .tc := ⟨.hbm, 2506, rfl⟩
abbrev main_call136_v2 : Ref sig .tc := ⟨.hbm, 2507, rfl⟩
abbrev main_call136_v3 : Ref sig .tc := ⟨.hbm, 2508, rfl⟩
abbrev main_call136_v4 : Ref sig .tc := ⟨.hbm, 2509, rfl⟩
abbrev main_v1011 : Ref sig .tc := ⟨.hbm, 2510, rfl⟩
abbrev main_c_395 : Ref sig .tc := ⟨.hbm, 2511, rfl⟩
abbrev main_v1012 : Ref sig .tc := ⟨.hbm, 2512, rfl⟩
abbrev main_v1013 : Ref sig .tc := ⟨.hbm, 2513, rfl⟩
abbrev main_v1014 : Ref sig .tc := ⟨.hbm, 2514, rfl⟩
abbrev main_c_396 : Ref sig .tc := ⟨.hbm, 2515, rfl⟩
abbrev main_v1015 : Ref sig .tc := ⟨.hbm, 2516, rfl⟩
abbrev main_v1016 : Ref sig .tc := ⟨.hbm, 2517, rfl⟩
abbrev main_c_397 : Ref sig .tc := ⟨.hbm, 2518, rfl⟩
abbrev main_v1017 : Ref sig .tc := ⟨.hbm, 2519, rfl⟩
abbrev main_v1018 : Ref sig .tc := ⟨.hbm, 2520, rfl⟩
abbrev main_v1019 : Ref sig .tc := ⟨.hbm, 2521, rfl⟩
abbrev main_v1020 : Ref sig .tc := ⟨.hbm, 2522, rfl⟩
abbrev main_v1021 : Ref sig .tc := ⟨.hbm, 2523, rfl⟩
abbrev main_c_398 : Ref sig .tc := ⟨.hbm, 2524, rfl⟩
abbrev main_v1022 : Ref sig .tc := ⟨.hbm, 2525, rfl⟩
abbrev main_v1023 : Ref sig .tc := ⟨.hbm, 2526, rfl⟩
abbrev main_v1024 : Ref sig .tc := ⟨.hbm, 2527, rfl⟩
abbrev main_c_399 : Ref sig .tc := ⟨.hbm, 2528, rfl⟩
abbrev main_c_400 : Ref sig .tc := ⟨.hbm, 2529, rfl⟩
abbrev main_call137_v0 : Ref sig .tc := ⟨.hbm, 2530, rfl⟩
abbrev main_call137_v1 : Ref sig .tc := ⟨.hbm, 2531, rfl⟩
abbrev main_call137_v2 : Ref sig .tc := ⟨.hbm, 2532, rfl⟩
abbrev main_call137_v3 : Ref sig .tc := ⟨.hbm, 2533, rfl⟩
abbrev main_call137_v4 : Ref sig .tc := ⟨.hbm, 2534, rfl⟩
abbrev main_v1025 : Ref sig .tc := ⟨.hbm, 2535, rfl⟩
abbrev main_call138_c : Ref sig .tc := ⟨.hbm, 2536, rfl⟩
abbrev main_call138_v0 : Ref sig .tc := ⟨.hbm, 2537, rfl⟩
abbrev main_call138_v1 : Ref sig .tc := ⟨.hbm, 2538, rfl⟩
abbrev main_call138_c_0 : Ref sig .tc := ⟨.hbm, 2539, rfl⟩
abbrev main_call138_v2 : Ref sig .tc := ⟨.hbm, 2540, rfl⟩
abbrev main_call138_v3 : Ref sig .tc := ⟨.hbm, 2541, rfl⟩
abbrev main_call138_v4 : Ref sig .tc := ⟨.hbm, 2542, rfl⟩
abbrev main_call138_v5 : Ref sig .tc := ⟨.hbm, 2543, rfl⟩
abbrev main_call138_c_1 : Ref sig .tc := ⟨.hbm, 2544, rfl⟩
abbrev main_call138_c_2 : Ref sig .tc := ⟨.hbm, 2545, rfl⟩
abbrev main_call138_v6 : Ref sig .tc := ⟨.hbm, 2546, rfl⟩
abbrev main_call138_v7 : Ref sig .tc := ⟨.hbm, 2547, rfl⟩
abbrev main_call138_v8 : Ref sig .tc := ⟨.hbm, 2548, rfl⟩
abbrev main_call138_v9 : Ref sig .tc := ⟨.hbm, 2549, rfl⟩
abbrev main_call138_v10 : Ref sig .tc := ⟨.hbm, 2550, rfl⟩
abbrev main_call138_v11 : Ref sig .tc := ⟨.hbm, 2551, rfl⟩
abbrev main_call138_c_3 : Ref sig .tc := ⟨.hbm, 2552, rfl⟩
abbrev main_call138_v12 : Ref sig .tc := ⟨.hbm, 2553, rfl⟩
abbrev main_call138_v13 : Ref sig .tc := ⟨.hbm, 2554, rfl⟩
abbrev main_call138_v14 : Ref sig .tc := ⟨.hbm, 2555, rfl⟩
abbrev main_call138_cst : Ref sig .tc := ⟨.hbm, 2556, rfl⟩
abbrev main_call138_v15 : Ref sig .tc := ⟨.hbm, 2557, rfl⟩
abbrev main_v1026 : Ref sig .tc := ⟨.hbm, 2558, rfl⟩
abbrev main_cst_401 : Ref sig .tc := ⟨.hbm, 2559, rfl⟩
abbrev main_call139_v0 : Ref sig .tc := ⟨.hbm, 2560, rfl⟩
abbrev main_call139_v1 : Ref sig .tc := ⟨.hbm, 2561, rfl⟩
abbrev main_call139_v2 : Ref sig .tc := ⟨.hbm, 2562, rfl⟩
abbrev main_v1027 : Ref sig .tc := ⟨.hbm, 2563, rfl⟩
abbrev main_v1028 : Ref sig .tc := ⟨.hbm, 2564, rfl⟩
abbrev main_v1029 : Ref sig .tc := ⟨.hbm, 2565, rfl⟩
abbrev main_c_402 : Ref sig .tc := ⟨.hbm, 2566, rfl⟩
abbrev main_v1030 : Ref sig .tc := ⟨.hbm, 2567, rfl⟩
abbrev main_v1031 : Ref sig .tc := ⟨.hbm, 2568, rfl⟩
abbrev main_c_403 : Ref sig .tc := ⟨.hbm, 2569, rfl⟩
abbrev main_c_404 : Ref sig .tc := ⟨.hbm, 2570, rfl⟩
abbrev main_call140_v0 : Ref sig .tc := ⟨.hbm, 2571, rfl⟩
abbrev main_call140_v1 : Ref sig .tc := ⟨.hbm, 2572, rfl⟩
abbrev main_call140_v2 : Ref sig .tc := ⟨.hbm, 2573, rfl⟩
abbrev main_call140_v3 : Ref sig .tc := ⟨.hbm, 2574, rfl⟩
abbrev main_call140_v4 : Ref sig .tc := ⟨.hbm, 2575, rfl⟩
abbrev main_v1032 : Ref sig .tc := ⟨.hbm, 2576, rfl⟩
abbrev main_v1033 : Ref sig .tc := ⟨.hbm, 2577, rfl⟩
abbrev main_v1034 : Ref sig .tc := ⟨.hbm, 2578, rfl⟩
abbrev main_c_405 : Ref sig .tc := ⟨.hbm, 2579, rfl⟩
abbrev main_v1035 : Ref sig .tc := ⟨.hbm, 2580, rfl⟩
abbrev main_v1036 : Ref sig .tc := ⟨.hbm, 2581, rfl⟩
abbrev main_c_406 : Ref sig .tc := ⟨.hbm, 2582, rfl⟩
abbrev main_c_407 : Ref sig .tc := ⟨.hbm, 2583, rfl⟩
abbrev main_call141_v0 : Ref sig .tc := ⟨.hbm, 2584, rfl⟩
abbrev main_call141_v1 : Ref sig .tc := ⟨.hbm, 2585, rfl⟩
abbrev main_call141_v2 : Ref sig .tc := ⟨.hbm, 2586, rfl⟩
abbrev main_call141_v3 : Ref sig .tc := ⟨.hbm, 2587, rfl⟩
abbrev main_call141_v4 : Ref sig .tc := ⟨.hbm, 2588, rfl⟩
abbrev main_v1037 : Ref sig .tc := ⟨.hbm, 2589, rfl⟩
abbrev main_c_408 : Ref sig .tc := ⟨.hbm, 2590, rfl⟩
abbrev main_v1038 : Ref sig .tc := ⟨.hbm, 2591, rfl⟩
abbrev main_v1039 : Ref sig .tc := ⟨.hbm, 2592, rfl⟩
abbrev main_v1040 : Ref sig .tc := ⟨.hbm, 2593, rfl⟩
abbrev main_c_409 : Ref sig .tc := ⟨.hbm, 2594, rfl⟩
abbrev main_v1041 : Ref sig .tc := ⟨.hbm, 2595, rfl⟩
abbrev main_v1042 : Ref sig .tc := ⟨.hbm, 2596, rfl⟩
abbrev main_c_410 : Ref sig .tc := ⟨.hbm, 2597, rfl⟩
abbrev main_v1043 : Ref sig .tc := ⟨.hbm, 2598, rfl⟩
abbrev main_v1044 : Ref sig .tc := ⟨.hbm, 2599, rfl⟩
abbrev main_v1045 : Ref sig .tc := ⟨.hbm, 2600, rfl⟩
abbrev main_v1046 : Ref sig .tc := ⟨.hbm, 2601, rfl⟩
abbrev main_v1047 : Ref sig .tc := ⟨.hbm, 2602, rfl⟩
abbrev main_c_411 : Ref sig .tc := ⟨.hbm, 2603, rfl⟩
abbrev main_v1048 : Ref sig .tc := ⟨.hbm, 2604, rfl⟩
abbrev main_v1049 : Ref sig .tc := ⟨.hbm, 2605, rfl⟩
abbrev main_v1050 : Ref sig .tc := ⟨.hbm, 2606, rfl⟩
abbrev main_c_412 : Ref sig .tc := ⟨.hbm, 2607, rfl⟩
abbrev main_c_413 : Ref sig .tc := ⟨.hbm, 2608, rfl⟩
abbrev main_call142_v0 : Ref sig .tc := ⟨.hbm, 2609, rfl⟩
abbrev main_call142_v1 : Ref sig .tc := ⟨.hbm, 2610, rfl⟩
abbrev main_call142_v2 : Ref sig .tc := ⟨.hbm, 2611, rfl⟩
abbrev main_call142_v3 : Ref sig .tc := ⟨.hbm, 2612, rfl⟩
abbrev main_call142_v4 : Ref sig .tc := ⟨.hbm, 2613, rfl⟩
abbrev main_v1051 : Ref sig .tc := ⟨.hbm, 2614, rfl⟩
abbrev main_call143_c : Ref sig .tc := ⟨.hbm, 2615, rfl⟩
abbrev main_call143_v0 : Ref sig .tc := ⟨.hbm, 2616, rfl⟩
abbrev main_call143_v1 : Ref sig .tc := ⟨.hbm, 2617, rfl⟩
abbrev main_call143_c_0 : Ref sig .tc := ⟨.hbm, 2618, rfl⟩
abbrev main_call143_v2 : Ref sig .tc := ⟨.hbm, 2619, rfl⟩
abbrev main_call143_v3 : Ref sig .tc := ⟨.hbm, 2620, rfl⟩
abbrev main_call143_v4 : Ref sig .tc := ⟨.hbm, 2621, rfl⟩
abbrev main_call143_v5 : Ref sig .tc := ⟨.hbm, 2622, rfl⟩
abbrev main_call143_c_1 : Ref sig .tc := ⟨.hbm, 2623, rfl⟩
abbrev main_call143_c_2 : Ref sig .tc := ⟨.hbm, 2624, rfl⟩
abbrev main_call143_v6 : Ref sig .tc := ⟨.hbm, 2625, rfl⟩
abbrev main_call143_v7 : Ref sig .tc := ⟨.hbm, 2626, rfl⟩
abbrev main_call143_v8 : Ref sig .tc := ⟨.hbm, 2627, rfl⟩
abbrev main_call143_v9 : Ref sig .tc := ⟨.hbm, 2628, rfl⟩
abbrev main_call143_v10 : Ref sig .tc := ⟨.hbm, 2629, rfl⟩
abbrev main_call143_v11 : Ref sig .tc := ⟨.hbm, 2630, rfl⟩
abbrev main_call143_c_3 : Ref sig .tc := ⟨.hbm, 2631, rfl⟩
abbrev main_call143_v12 : Ref sig .tc := ⟨.hbm, 2632, rfl⟩
abbrev main_call143_v13 : Ref sig .tc := ⟨.hbm, 2633, rfl⟩
abbrev main_call143_v14 : Ref sig .tc := ⟨.hbm, 2634, rfl⟩
abbrev main_call143_cst : Ref sig .tc := ⟨.hbm, 2635, rfl⟩
abbrev main_call143_v15 : Ref sig .tc := ⟨.hbm, 2636, rfl⟩
abbrev main_v1052 : Ref sig .tc := ⟨.hbm, 2637, rfl⟩
abbrev main_cst_414 : Ref sig .tc := ⟨.hbm, 2638, rfl⟩
abbrev main_call144_v0 : Ref sig .tc := ⟨.hbm, 2639, rfl⟩
abbrev main_call144_v1 : Ref sig .tc := ⟨.hbm, 2640, rfl⟩
abbrev main_call144_v2 : Ref sig .tc := ⟨.hbm, 2641, rfl⟩
abbrev main_v1053 : Ref sig .tc := ⟨.hbm, 2642, rfl⟩
abbrev main_v1054 : Ref sig .tc := ⟨.hbm, 2643, rfl⟩
abbrev main_v1055 : Ref sig .tc := ⟨.hbm, 2644, rfl⟩
abbrev main_c_415 : Ref sig .tc := ⟨.hbm, 2645, rfl⟩
abbrev main_v1056 : Ref sig .tc := ⟨.hbm, 2646, rfl⟩
abbrev main_v1057 : Ref sig .tc := ⟨.hbm, 2647, rfl⟩
abbrev main_c_416 : Ref sig .tc := ⟨.hbm, 2648, rfl⟩
abbrev main_c_417 : Ref sig .tc := ⟨.hbm, 2649, rfl⟩
abbrev main_call145_v0 : Ref sig .tc := ⟨.hbm, 2650, rfl⟩
abbrev main_call145_v1 : Ref sig .tc := ⟨.hbm, 2651, rfl⟩
abbrev main_call145_v2 : Ref sig .tc := ⟨.hbm, 2652, rfl⟩
abbrev main_call145_v3 : Ref sig .tc := ⟨.hbm, 2653, rfl⟩
abbrev main_call145_v4 : Ref sig .tc := ⟨.hbm, 2654, rfl⟩
abbrev main_v1058 : Ref sig .tc := ⟨.hbm, 2655, rfl⟩
abbrev main_v1059 : Ref sig .tc := ⟨.hbm, 2656, rfl⟩
abbrev main_v1060 : Ref sig .tc := ⟨.hbm, 2657, rfl⟩
abbrev main_c_418 : Ref sig .tc := ⟨.hbm, 2658, rfl⟩
abbrev main_v1061 : Ref sig .tc := ⟨.hbm, 2659, rfl⟩
abbrev main_v1062 : Ref sig .tc := ⟨.hbm, 2660, rfl⟩
abbrev main_c_419 : Ref sig .tc := ⟨.hbm, 2661, rfl⟩
abbrev main_c_420 : Ref sig .tc := ⟨.hbm, 2662, rfl⟩
abbrev main_call146_v0 : Ref sig .tc := ⟨.hbm, 2663, rfl⟩
abbrev main_call146_v1 : Ref sig .tc := ⟨.hbm, 2664, rfl⟩
abbrev main_call146_v2 : Ref sig .tc := ⟨.hbm, 2665, rfl⟩
abbrev main_call146_v3 : Ref sig .tc := ⟨.hbm, 2666, rfl⟩
abbrev main_call146_v4 : Ref sig .tc := ⟨.hbm, 2667, rfl⟩
abbrev main_v1063 : Ref sig .tc := ⟨.hbm, 2668, rfl⟩
abbrev main_c_421 : Ref sig .tc := ⟨.hbm, 2669, rfl⟩
abbrev main_v1064 : Ref sig .tc := ⟨.hbm, 2670, rfl⟩
abbrev main_v1065 : Ref sig .tc := ⟨.hbm, 2671, rfl⟩
abbrev main_v1066 : Ref sig .tc := ⟨.hbm, 2672, rfl⟩
abbrev main_c_422 : Ref sig .tc := ⟨.hbm, 2673, rfl⟩
abbrev main_v1067 : Ref sig .tc := ⟨.hbm, 2674, rfl⟩
abbrev main_v1068 : Ref sig .tc := ⟨.hbm, 2675, rfl⟩
abbrev main_c_423 : Ref sig .tc := ⟨.hbm, 2676, rfl⟩
abbrev main_v1069 : Ref sig .tc := ⟨.hbm, 2677, rfl⟩
abbrev main_v1070 : Ref sig .tc := ⟨.hbm, 2678, rfl⟩
abbrev main_v1071 : Ref sig .tc := ⟨.hbm, 2679, rfl⟩
abbrev main_v1072 : Ref sig .tc := ⟨.hbm, 2680, rfl⟩
abbrev main_v1073 : Ref sig .tc := ⟨.hbm, 2681, rfl⟩
abbrev main_c_424 : Ref sig .tc := ⟨.hbm, 2682, rfl⟩
abbrev main_v1074 : Ref sig .tc := ⟨.hbm, 2683, rfl⟩
abbrev main_v1075 : Ref sig .tc := ⟨.hbm, 2684, rfl⟩
abbrev main_v1076 : Ref sig .tc := ⟨.hbm, 2685, rfl⟩
abbrev main_c_425 : Ref sig .tc := ⟨.hbm, 2686, rfl⟩
abbrev main_c_426 : Ref sig .tc := ⟨.hbm, 2687, rfl⟩
abbrev main_call147_v0 : Ref sig .tc := ⟨.hbm, 2688, rfl⟩
abbrev main_call147_v1 : Ref sig .tc := ⟨.hbm, 2689, rfl⟩
abbrev main_call147_v2 : Ref sig .tc := ⟨.hbm, 2690, rfl⟩
abbrev main_call147_v3 : Ref sig .tc := ⟨.hbm, 2691, rfl⟩
abbrev main_call147_v4 : Ref sig .tc := ⟨.hbm, 2692, rfl⟩
abbrev main_v1077 : Ref sig .tc := ⟨.hbm, 2693, rfl⟩
abbrev main_call148_c : Ref sig .tc := ⟨.hbm, 2694, rfl⟩
abbrev main_call148_v0 : Ref sig .tc := ⟨.hbm, 2695, rfl⟩
abbrev main_call148_v1 : Ref sig .tc := ⟨.hbm, 2696, rfl⟩
abbrev main_call148_c_0 : Ref sig .tc := ⟨.hbm, 2697, rfl⟩
abbrev main_call148_v2 : Ref sig .tc := ⟨.hbm, 2698, rfl⟩
abbrev main_call148_v3 : Ref sig .tc := ⟨.hbm, 2699, rfl⟩
abbrev main_call148_v4 : Ref sig .tc := ⟨.hbm, 2700, rfl⟩
abbrev main_call148_v5 : Ref sig .tc := ⟨.hbm, 2701, rfl⟩
abbrev main_call148_c_1 : Ref sig .tc := ⟨.hbm, 2702, rfl⟩
abbrev main_call148_c_2 : Ref sig .tc := ⟨.hbm, 2703, rfl⟩
abbrev main_call148_v6 : Ref sig .tc := ⟨.hbm, 2704, rfl⟩
abbrev main_call148_v7 : Ref sig .tc := ⟨.hbm, 2705, rfl⟩
abbrev main_call148_v8 : Ref sig .tc := ⟨.hbm, 2706, rfl⟩
abbrev main_call148_v9 : Ref sig .tc := ⟨.hbm, 2707, rfl⟩
abbrev main_call148_v10 : Ref sig .tc := ⟨.hbm, 2708, rfl⟩
abbrev main_call148_v11 : Ref sig .tc := ⟨.hbm, 2709, rfl⟩
abbrev main_call148_c_3 : Ref sig .tc := ⟨.hbm, 2710, rfl⟩
abbrev main_call148_v12 : Ref sig .tc := ⟨.hbm, 2711, rfl⟩
abbrev main_call148_v13 : Ref sig .tc := ⟨.hbm, 2712, rfl⟩
abbrev main_call148_v14 : Ref sig .tc := ⟨.hbm, 2713, rfl⟩
abbrev main_call148_cst : Ref sig .tc := ⟨.hbm, 2714, rfl⟩
abbrev main_call148_v15 : Ref sig .tc := ⟨.hbm, 2715, rfl⟩
abbrev main_v1078 : Ref sig .tc := ⟨.hbm, 2716, rfl⟩
abbrev main_cst_427 : Ref sig .tc := ⟨.hbm, 2717, rfl⟩
abbrev main_call149_v0 : Ref sig .tc := ⟨.hbm, 2718, rfl⟩
abbrev main_call149_v1 : Ref sig .tc := ⟨.hbm, 2719, rfl⟩
abbrev main_call149_v2 : Ref sig .tc := ⟨.hbm, 2720, rfl⟩
abbrev main_v1079 : Ref sig .tc := ⟨.hbm, 2721, rfl⟩
abbrev main_v1080 : Ref sig .tc := ⟨.hbm, 2722, rfl⟩
abbrev main_v1081 : Ref sig .tc := ⟨.hbm, 2723, rfl⟩
abbrev main_c_428 : Ref sig .tc := ⟨.hbm, 2724, rfl⟩
abbrev main_v1082 : Ref sig .tc := ⟨.hbm, 2725, rfl⟩
abbrev main_v1083 : Ref sig .tc := ⟨.hbm, 2726, rfl⟩
abbrev main_c_429 : Ref sig .tc := ⟨.hbm, 2727, rfl⟩
abbrev main_c_430 : Ref sig .tc := ⟨.hbm, 2728, rfl⟩
abbrev main_call150_v0 : Ref sig .tc := ⟨.hbm, 2729, rfl⟩
abbrev main_call150_v1 : Ref sig .tc := ⟨.hbm, 2730, rfl⟩
abbrev main_call150_v2 : Ref sig .tc := ⟨.hbm, 2731, rfl⟩
abbrev main_call150_v3 : Ref sig .tc := ⟨.hbm, 2732, rfl⟩
abbrev main_call150_v4 : Ref sig .tc := ⟨.hbm, 2733, rfl⟩
abbrev main_v1084 : Ref sig .tc := ⟨.hbm, 2734, rfl⟩
abbrev main_v1085 : Ref sig .tc := ⟨.hbm, 2735, rfl⟩
abbrev main_v1086 : Ref sig .tc := ⟨.hbm, 2736, rfl⟩
abbrev main_c_431 : Ref sig .tc := ⟨.hbm, 2737, rfl⟩
abbrev main_v1087 : Ref sig .tc := ⟨.hbm, 2738, rfl⟩
abbrev main_v1088 : Ref sig .tc := ⟨.hbm, 2739, rfl⟩
abbrev main_c_432 : Ref sig .tc := ⟨.hbm, 2740, rfl⟩
abbrev main_c_433 : Ref sig .tc := ⟨.hbm, 2741, rfl⟩
abbrev main_call151_v0 : Ref sig .tc := ⟨.hbm, 2742, rfl⟩
abbrev main_call151_v1 : Ref sig .tc := ⟨.hbm, 2743, rfl⟩
abbrev main_call151_v2 : Ref sig .tc := ⟨.hbm, 2744, rfl⟩
abbrev main_call151_v3 : Ref sig .tc := ⟨.hbm, 2745, rfl⟩
abbrev main_call151_v4 : Ref sig .tc := ⟨.hbm, 2746, rfl⟩
abbrev main_v1089 : Ref sig .tc := ⟨.hbm, 2747, rfl⟩
abbrev main_c_434 : Ref sig .tc := ⟨.hbm, 2748, rfl⟩
abbrev main_v1090 : Ref sig .tc := ⟨.hbm, 2749, rfl⟩
abbrev main_v1091 : Ref sig .tc := ⟨.hbm, 2750, rfl⟩
abbrev main_v1092 : Ref sig .tc := ⟨.hbm, 2751, rfl⟩
abbrev main_c_435 : Ref sig .tc := ⟨.hbm, 2752, rfl⟩
abbrev main_v1093 : Ref sig .tc := ⟨.hbm, 2753, rfl⟩
abbrev main_v1094 : Ref sig .tc := ⟨.hbm, 2754, rfl⟩
abbrev main_c_436 : Ref sig .tc := ⟨.hbm, 2755, rfl⟩
abbrev main_v1095 : Ref sig .tc := ⟨.hbm, 2756, rfl⟩
abbrev main_v1096 : Ref sig .tc := ⟨.hbm, 2757, rfl⟩
abbrev main_v1097 : Ref sig .tc := ⟨.hbm, 2758, rfl⟩
abbrev main_v1098 : Ref sig .tc := ⟨.hbm, 2759, rfl⟩
abbrev main_v1099 : Ref sig .tc := ⟨.hbm, 2760, rfl⟩
abbrev main_c_437 : Ref sig .tc := ⟨.hbm, 2761, rfl⟩
abbrev main_v1100 : Ref sig .tc := ⟨.hbm, 2762, rfl⟩
abbrev main_v1101 : Ref sig .tc := ⟨.hbm, 2763, rfl⟩
abbrev main_v1102 : Ref sig .tc := ⟨.hbm, 2764, rfl⟩
abbrev main_c_438 : Ref sig .tc := ⟨.hbm, 2765, rfl⟩
abbrev main_c_439 : Ref sig .tc := ⟨.hbm, 2766, rfl⟩
abbrev main_call152_v0 : Ref sig .tc := ⟨.hbm, 2767, rfl⟩
abbrev main_call152_v1 : Ref sig .tc := ⟨.hbm, 2768, rfl⟩
abbrev main_call152_v2 : Ref sig .tc := ⟨.hbm, 2769, rfl⟩
abbrev main_call152_v3 : Ref sig .tc := ⟨.hbm, 2770, rfl⟩
abbrev main_call152_v4 : Ref sig .tc := ⟨.hbm, 2771, rfl⟩
abbrev main_v1103 : Ref sig .tc := ⟨.hbm, 2772, rfl⟩
abbrev main_call153_c : Ref sig .tc := ⟨.hbm, 2773, rfl⟩
abbrev main_call153_v0 : Ref sig .tc := ⟨.hbm, 2774, rfl⟩
abbrev main_call153_v1 : Ref sig .tc := ⟨.hbm, 2775, rfl⟩
abbrev main_call153_c_0 : Ref sig .tc := ⟨.hbm, 2776, rfl⟩
abbrev main_call153_v2 : Ref sig .tc := ⟨.hbm, 2777, rfl⟩
abbrev main_call153_v3 : Ref sig .tc := ⟨.hbm, 2778, rfl⟩
abbrev main_call153_v4 : Ref sig .tc := ⟨.hbm, 2779, rfl⟩
abbrev main_call153_v5 : Ref sig .tc := ⟨.hbm, 2780, rfl⟩
abbrev main_call153_c_1 : Ref sig .tc := ⟨.hbm, 2781, rfl⟩
abbrev main_call153_c_2 : Ref sig .tc := ⟨.hbm, 2782, rfl⟩
abbrev main_call153_v6 : Ref sig .tc := ⟨.hbm, 2783, rfl⟩
abbrev main_call153_v7 : Ref sig .tc := ⟨.hbm, 2784, rfl⟩
abbrev main_call153_v8 : Ref sig .tc := ⟨.hbm, 2785, rfl⟩
abbrev main_call153_v9 : Ref sig .tc := ⟨.hbm, 2786, rfl⟩
abbrev main_call153_v10 : Ref sig .tc := ⟨.hbm, 2787, rfl⟩
abbrev main_call153_v11 : Ref sig .tc := ⟨.hbm, 2788, rfl⟩
abbrev main_call153_c_3 : Ref sig .tc := ⟨.hbm, 2789, rfl⟩
abbrev main_call153_v12 : Ref sig .tc := ⟨.hbm, 2790, rfl⟩
abbrev main_call153_v13 : Ref sig .tc := ⟨.hbm, 2791, rfl⟩
abbrev main_call153_v14 : Ref sig .tc := ⟨.hbm, 2792, rfl⟩
abbrev main_call153_cst : Ref sig .tc := ⟨.hbm, 2793, rfl⟩
abbrev main_call153_v15 : Ref sig .tc := ⟨.hbm, 2794, rfl⟩
abbrev main_v1104 : Ref sig .tc := ⟨.hbm, 2795, rfl⟩
abbrev main_cst_440 : Ref sig .tc := ⟨.hbm, 2796, rfl⟩
abbrev main_call154_v0 : Ref sig .tc := ⟨.hbm, 2797, rfl⟩
abbrev main_call154_v1 : Ref sig .tc := ⟨.hbm, 2798, rfl⟩
abbrev main_call154_v2 : Ref sig .tc := ⟨.hbm, 2799, rfl⟩
abbrev main_v1105 : Ref sig .tc := ⟨.hbm, 2800, rfl⟩
abbrev main_v1106 : Ref sig .tc := ⟨.hbm, 2801, rfl⟩
abbrev main_v1107 : Ref sig .tc := ⟨.hbm, 2802, rfl⟩
abbrev main_c_441 : Ref sig .tc := ⟨.hbm, 2803, rfl⟩
abbrev main_v1108 : Ref sig .tc := ⟨.hbm, 2804, rfl⟩
abbrev main_v1109 : Ref sig .tc := ⟨.hbm, 2805, rfl⟩
abbrev main_c_442 : Ref sig .tc := ⟨.hbm, 2806, rfl⟩
abbrev main_c_443 : Ref sig .tc := ⟨.hbm, 2807, rfl⟩
abbrev main_call155_v0 : Ref sig .tc := ⟨.hbm, 2808, rfl⟩
abbrev main_call155_v1 : Ref sig .tc := ⟨.hbm, 2809, rfl⟩
abbrev main_call155_v2 : Ref sig .tc := ⟨.hbm, 2810, rfl⟩
abbrev main_call155_v3 : Ref sig .tc := ⟨.hbm, 2811, rfl⟩
abbrev main_call155_v4 : Ref sig .tc := ⟨.hbm, 2812, rfl⟩
abbrev main_v1110 : Ref sig .tc := ⟨.hbm, 2813, rfl⟩
abbrev main_v1111 : Ref sig .tc := ⟨.hbm, 2814, rfl⟩
abbrev main_v1112 : Ref sig .tc := ⟨.hbm, 2815, rfl⟩
abbrev main_c_444 : Ref sig .tc := ⟨.hbm, 2816, rfl⟩
abbrev main_v1113 : Ref sig .tc := ⟨.hbm, 2817, rfl⟩
abbrev main_v1114 : Ref sig .tc := ⟨.hbm, 2818, rfl⟩
abbrev main_c_445 : Ref sig .tc := ⟨.hbm, 2819, rfl⟩
abbrev main_c_446 : Ref sig .tc := ⟨.hbm, 2820, rfl⟩
abbrev main_call156_v0 : Ref sig .tc := ⟨.hbm, 2821, rfl⟩
abbrev main_call156_v1 : Ref sig .tc := ⟨.hbm, 2822, rfl⟩
abbrev main_call156_v2 : Ref sig .tc := ⟨.hbm, 2823, rfl⟩
abbrev main_call156_v3 : Ref sig .tc := ⟨.hbm, 2824, rfl⟩
abbrev main_call156_v4 : Ref sig .tc := ⟨.hbm, 2825, rfl⟩
abbrev main_v1115 : Ref sig .tc := ⟨.hbm, 2826, rfl⟩
abbrev main_c_447 : Ref sig .tc := ⟨.hbm, 2827, rfl⟩
abbrev main_v1116 : Ref sig .tc := ⟨.hbm, 2828, rfl⟩
abbrev main_v1117 : Ref sig .tc := ⟨.hbm, 2829, rfl⟩
abbrev main_v1118 : Ref sig .tc := ⟨.hbm, 2830, rfl⟩
abbrev main_c_448 : Ref sig .tc := ⟨.hbm, 2831, rfl⟩
abbrev main_v1119 : Ref sig .tc := ⟨.hbm, 2832, rfl⟩
abbrev main_v1120 : Ref sig .tc := ⟨.hbm, 2833, rfl⟩
abbrev main_c_449 : Ref sig .tc := ⟨.hbm, 2834, rfl⟩
abbrev main_v1121 : Ref sig .tc := ⟨.hbm, 2835, rfl⟩
abbrev main_v1122 : Ref sig .tc := ⟨.hbm, 2836, rfl⟩
abbrev main_v1123 : Ref sig .tc := ⟨.hbm, 2837, rfl⟩
abbrev main_v1124 : Ref sig .tc := ⟨.hbm, 2838, rfl⟩
abbrev main_v1125 : Ref sig .tc := ⟨.hbm, 2839, rfl⟩
abbrev main_c_450 : Ref sig .tc := ⟨.hbm, 2840, rfl⟩
abbrev main_v1126 : Ref sig .tc := ⟨.hbm, 2841, rfl⟩
abbrev main_v1127 : Ref sig .tc := ⟨.hbm, 2842, rfl⟩
abbrev main_v1128 : Ref sig .tc := ⟨.hbm, 2843, rfl⟩
abbrev main_c_451 : Ref sig .tc := ⟨.hbm, 2844, rfl⟩
abbrev main_c_452 : Ref sig .tc := ⟨.hbm, 2845, rfl⟩
abbrev main_call157_v0 : Ref sig .tc := ⟨.hbm, 2846, rfl⟩
abbrev main_call157_v1 : Ref sig .tc := ⟨.hbm, 2847, rfl⟩
abbrev main_call157_v2 : Ref sig .tc := ⟨.hbm, 2848, rfl⟩
abbrev main_call157_v3 : Ref sig .tc := ⟨.hbm, 2849, rfl⟩
abbrev main_call157_v4 : Ref sig .tc := ⟨.hbm, 2850, rfl⟩
abbrev main_v1129 : Ref sig .tc := ⟨.hbm, 2851, rfl⟩
abbrev main_call158_c : Ref sig .tc := ⟨.hbm, 2852, rfl⟩
abbrev main_call158_v0 : Ref sig .tc := ⟨.hbm, 2853, rfl⟩
abbrev main_call158_v1 : Ref sig .tc := ⟨.hbm, 2854, rfl⟩
abbrev main_call158_c_0 : Ref sig .tc := ⟨.hbm, 2855, rfl⟩
abbrev main_call158_v2 : Ref sig .tc := ⟨.hbm, 2856, rfl⟩
abbrev main_call158_v3 : Ref sig .tc := ⟨.hbm, 2857, rfl⟩
abbrev main_call158_v4 : Ref sig .tc := ⟨.hbm, 2858, rfl⟩
abbrev main_call158_v5 : Ref sig .tc := ⟨.hbm, 2859, rfl⟩
abbrev main_call158_c_1 : Ref sig .tc := ⟨.hbm, 2860, rfl⟩
abbrev main_call158_c_2 : Ref sig .tc := ⟨.hbm, 2861, rfl⟩
abbrev main_call158_v6 : Ref sig .tc := ⟨.hbm, 2862, rfl⟩
abbrev main_call158_v7 : Ref sig .tc := ⟨.hbm, 2863, rfl⟩
abbrev main_call158_v8 : Ref sig .tc := ⟨.hbm, 2864, rfl⟩
abbrev main_call158_v9 : Ref sig .tc := ⟨.hbm, 2865, rfl⟩
abbrev main_call158_v10 : Ref sig .tc := ⟨.hbm, 2866, rfl⟩
abbrev main_call158_v11 : Ref sig .tc := ⟨.hbm, 2867, rfl⟩
abbrev main_call158_c_3 : Ref sig .tc := ⟨.hbm, 2868, rfl⟩
abbrev main_call158_v12 : Ref sig .tc := ⟨.hbm, 2869, rfl⟩
abbrev main_call158_v13 : Ref sig .tc := ⟨.hbm, 2870, rfl⟩
abbrev main_call158_v14 : Ref sig .tc := ⟨.hbm, 2871, rfl⟩
abbrev main_call158_cst : Ref sig .tc := ⟨.hbm, 2872, rfl⟩
abbrev main_call158_v15 : Ref sig .tc := ⟨.hbm, 2873, rfl⟩
abbrev main_v1130 : Ref sig .tc := ⟨.hbm, 2874, rfl⟩
abbrev main_cst_453 : Ref sig .tc := ⟨.hbm, 2875, rfl⟩
abbrev main_call159_v0 : Ref sig .tc := ⟨.hbm, 2876, rfl⟩
abbrev main_call159_v1 : Ref sig .tc := ⟨.hbm, 2877, rfl⟩
abbrev main_call159_v2 : Ref sig .tc := ⟨.hbm, 2878, rfl⟩
abbrev main_v1131 : Ref sig .tc := ⟨.hbm, 2879, rfl⟩
abbrev main_v1132 : Ref sig .tc := ⟨.hbm, 2880, rfl⟩
abbrev main_v1133 : Ref sig .tc := ⟨.hbm, 2881, rfl⟩
abbrev main_c_454 : Ref sig .tc := ⟨.hbm, 2882, rfl⟩
abbrev main_v1134 : Ref sig .tc := ⟨.hbm, 2883, rfl⟩
abbrev main_v1135 : Ref sig .tc := ⟨.hbm, 2884, rfl⟩
abbrev main_c_455 : Ref sig .tc := ⟨.hbm, 2885, rfl⟩
abbrev main_c_456 : Ref sig .tc := ⟨.hbm, 2886, rfl⟩
abbrev main_call160_v0 : Ref sig .tc := ⟨.hbm, 2887, rfl⟩
abbrev main_call160_v1 : Ref sig .tc := ⟨.hbm, 2888, rfl⟩
abbrev main_call160_v2 : Ref sig .tc := ⟨.hbm, 2889, rfl⟩
abbrev main_call160_v3 : Ref sig .tc := ⟨.hbm, 2890, rfl⟩
abbrev main_call160_v4 : Ref sig .tc := ⟨.hbm, 2891, rfl⟩
abbrev main_v1136 : Ref sig .tc := ⟨.hbm, 2892, rfl⟩
abbrev main_v1137 : Ref sig .tc := ⟨.hbm, 2893, rfl⟩
abbrev main_v1138 : Ref sig .tc := ⟨.hbm, 2894, rfl⟩
abbrev main_c_457 : Ref sig .tc := ⟨.hbm, 2895, rfl⟩
abbrev main_v1139 : Ref sig .tc := ⟨.hbm, 2896, rfl⟩
abbrev main_v1140 : Ref sig .tc := ⟨.hbm, 2897, rfl⟩
abbrev main_c_458 : Ref sig .tc := ⟨.hbm, 2898, rfl⟩
abbrev main_c_459 : Ref sig .tc := ⟨.hbm, 2899, rfl⟩
abbrev main_call161_v0 : Ref sig .tc := ⟨.hbm, 2900, rfl⟩
abbrev main_call161_v1 : Ref sig .tc := ⟨.hbm, 2901, rfl⟩
abbrev main_call161_v2 : Ref sig .tc := ⟨.hbm, 2902, rfl⟩
abbrev main_call161_v3 : Ref sig .tc := ⟨.hbm, 2903, rfl⟩
abbrev main_call161_v4 : Ref sig .tc := ⟨.hbm, 2904, rfl⟩
abbrev main_v1141 : Ref sig .tc := ⟨.hbm, 2905, rfl⟩
abbrev main_c_460 : Ref sig .tc := ⟨.hbm, 2906, rfl⟩
abbrev main_v1142 : Ref sig .tc := ⟨.hbm, 2907, rfl⟩
abbrev main_v1143 : Ref sig .tc := ⟨.hbm, 2908, rfl⟩
abbrev main_v1144 : Ref sig .tc := ⟨.hbm, 2909, rfl⟩
abbrev main_c_461 : Ref sig .tc := ⟨.hbm, 2910, rfl⟩
abbrev main_v1145 : Ref sig .tc := ⟨.hbm, 2911, rfl⟩
abbrev main_v1146 : Ref sig .tc := ⟨.hbm, 2912, rfl⟩
abbrev main_c_462 : Ref sig .tc := ⟨.hbm, 2913, rfl⟩
abbrev main_v1147 : Ref sig .tc := ⟨.hbm, 2914, rfl⟩
abbrev main_v1148 : Ref sig .tc := ⟨.hbm, 2915, rfl⟩
abbrev main_v1149 : Ref sig .tc := ⟨.hbm, 2916, rfl⟩
abbrev main_v1150 : Ref sig .tc := ⟨.hbm, 2917, rfl⟩
abbrev main_v1151 : Ref sig .tc := ⟨.hbm, 2918, rfl⟩
abbrev main_c_463 : Ref sig .tc := ⟨.hbm, 2919, rfl⟩
abbrev main_v1152 : Ref sig .tc := ⟨.hbm, 2920, rfl⟩
abbrev main_v1153 : Ref sig .tc := ⟨.hbm, 2921, rfl⟩
abbrev main_v1154 : Ref sig .tc := ⟨.hbm, 2922, rfl⟩
abbrev main_c_464 : Ref sig .tc := ⟨.hbm, 2923, rfl⟩
abbrev main_c_465 : Ref sig .tc := ⟨.hbm, 2924, rfl⟩
abbrev main_call162_v0 : Ref sig .tc := ⟨.hbm, 2925, rfl⟩
abbrev main_call162_v1 : Ref sig .tc := ⟨.hbm, 2926, rfl⟩
abbrev main_call162_v2 : Ref sig .tc := ⟨.hbm, 2927, rfl⟩
abbrev main_call162_v3 : Ref sig .tc := ⟨.hbm, 2928, rfl⟩
abbrev main_call162_v4 : Ref sig .tc := ⟨.hbm, 2929, rfl⟩
abbrev main_v1155 : Ref sig .tc := ⟨.hbm, 2930, rfl⟩
abbrev main_call163_c : Ref sig .tc := ⟨.hbm, 2931, rfl⟩
abbrev main_call163_v0 : Ref sig .tc := ⟨.hbm, 2932, rfl⟩
abbrev main_call163_v1 : Ref sig .tc := ⟨.hbm, 2933, rfl⟩
abbrev main_call163_c_0 : Ref sig .tc := ⟨.hbm, 2934, rfl⟩
abbrev main_call163_v2 : Ref sig .tc := ⟨.hbm, 2935, rfl⟩
abbrev main_call163_v3 : Ref sig .tc := ⟨.hbm, 2936, rfl⟩
abbrev main_call163_v4 : Ref sig .tc := ⟨.hbm, 2937, rfl⟩
abbrev main_call163_v5 : Ref sig .tc := ⟨.hbm, 2938, rfl⟩
abbrev main_call163_c_1 : Ref sig .tc := ⟨.hbm, 2939, rfl⟩
abbrev main_call163_c_2 : Ref sig .tc := ⟨.hbm, 2940, rfl⟩
abbrev main_call163_v6 : Ref sig .tc := ⟨.hbm, 2941, rfl⟩
abbrev main_call163_v7 : Ref sig .tc := ⟨.hbm, 2942, rfl⟩
abbrev main_call163_v8 : Ref sig .tc := ⟨.hbm, 2943, rfl⟩
abbrev main_call163_v9 : Ref sig .tc := ⟨.hbm, 2944, rfl⟩
abbrev main_call163_v10 : Ref sig .tc := ⟨.hbm, 2945, rfl⟩
abbrev main_call163_v11 : Ref sig .tc := ⟨.hbm, 2946, rfl⟩
abbrev main_call163_c_3 : Ref sig .tc := ⟨.hbm, 2947, rfl⟩
abbrev main_call163_v12 : Ref sig .tc := ⟨.hbm, 2948, rfl⟩
abbrev main_call163_v13 : Ref sig .tc := ⟨.hbm, 2949, rfl⟩
abbrev main_call163_v14 : Ref sig .tc := ⟨.hbm, 2950, rfl⟩
abbrev main_call163_cst : Ref sig .tc := ⟨.hbm, 2951, rfl⟩
abbrev main_call163_v15 : Ref sig .tc := ⟨.hbm, 2952, rfl⟩
abbrev main_v1156 : Ref sig .tc := ⟨.hbm, 2953, rfl⟩
abbrev main_cst_466 : Ref sig .tc := ⟨.hbm, 2954, rfl⟩
abbrev main_call164_v0 : Ref sig .tc := ⟨.hbm, 2955, rfl⟩
abbrev main_call164_v1 : Ref sig .tc := ⟨.hbm, 2956, rfl⟩
abbrev main_call164_v2 : Ref sig .tc := ⟨.hbm, 2957, rfl⟩
abbrev main_v1157 : Ref sig .tc := ⟨.hbm, 2958, rfl⟩
abbrev main_v1158 : Ref sig .tc := ⟨.hbm, 2959, rfl⟩
abbrev main_v1159 : Ref sig .tc := ⟨.hbm, 2960, rfl⟩
abbrev main_c_467 : Ref sig .tc := ⟨.hbm, 2961, rfl⟩
abbrev main_v1160 : Ref sig .tc := ⟨.hbm, 2962, rfl⟩
abbrev main_v1161 : Ref sig .tc := ⟨.hbm, 2963, rfl⟩
abbrev main_c_468 : Ref sig .tc := ⟨.hbm, 2964, rfl⟩
abbrev main_c_469 : Ref sig .tc := ⟨.hbm, 2965, rfl⟩
abbrev main_call165_v0 : Ref sig .tc := ⟨.hbm, 2966, rfl⟩
abbrev main_call165_v1 : Ref sig .tc := ⟨.hbm, 2967, rfl⟩
abbrev main_call165_v2 : Ref sig .tc := ⟨.hbm, 2968, rfl⟩
abbrev main_call165_v3 : Ref sig .tc := ⟨.hbm, 2969, rfl⟩
abbrev main_call165_v4 : Ref sig .tc := ⟨.hbm, 2970, rfl⟩
abbrev main_v1162 : Ref sig .tc := ⟨.hbm, 2971, rfl⟩
abbrev main_v1163 : Ref sig .tc := ⟨.hbm, 2972, rfl⟩
abbrev main_v1164 : Ref sig .tc := ⟨.hbm, 2973, rfl⟩
abbrev main_c_470 : Ref sig .tc := ⟨.hbm, 2974, rfl⟩
abbrev main_v1165 : Ref sig .tc := ⟨.hbm, 2975, rfl⟩
abbrev main_v1166 : Ref sig .tc := ⟨.hbm, 2976, rfl⟩
abbrev main_c_471 : Ref sig .tc := ⟨.hbm, 2977, rfl⟩
abbrev main_c_472 : Ref sig .tc := ⟨.hbm, 2978, rfl⟩
abbrev main_call166_v0 : Ref sig .tc := ⟨.hbm, 2979, rfl⟩
abbrev main_call166_v1 : Ref sig .tc := ⟨.hbm, 2980, rfl⟩
abbrev main_call166_v2 : Ref sig .tc := ⟨.hbm, 2981, rfl⟩
abbrev main_call166_v3 : Ref sig .tc := ⟨.hbm, 2982, rfl⟩
abbrev main_call166_v4 : Ref sig .tc := ⟨.hbm, 2983, rfl⟩
abbrev main_v1167 : Ref sig .tc := ⟨.hbm, 2984, rfl⟩
abbrev main_c_473 : Ref sig .tc := ⟨.hbm, 2985, rfl⟩
abbrev main_v1168 : Ref sig .tc := ⟨.hbm, 2986, rfl⟩
abbrev main_v1169 : Ref sig .tc := ⟨.hbm, 2987, rfl⟩
abbrev main_v1170 : Ref sig .tc := ⟨.hbm, 2988, rfl⟩
abbrev main_c_474 : Ref sig .tc := ⟨.hbm, 2989, rfl⟩
abbrev main_v1171 : Ref sig .tc := ⟨.hbm, 2990, rfl⟩
abbrev main_v1172 : Ref sig .tc := ⟨.hbm, 2991, rfl⟩
abbrev main_c_475 : Ref sig .tc := ⟨.hbm, 2992, rfl⟩
abbrev main_v1173 : Ref sig .tc := ⟨.hbm, 2993, rfl⟩
abbrev main_v1174 : Ref sig .tc := ⟨.hbm, 2994, rfl⟩
abbrev main_v1175 : Ref sig .tc := ⟨.hbm, 2995, rfl⟩
abbrev main_v1176 : Ref sig .tc := ⟨.hbm, 2996, rfl⟩
abbrev main_v1177 : Ref sig .tc := ⟨.hbm, 2997, rfl⟩
abbrev main_c_476 : Ref sig .tc := ⟨.hbm, 2998, rfl⟩
abbrev main_v1178 : Ref sig .tc := ⟨.hbm, 2999, rfl⟩
abbrev main_v1179 : Ref sig .tc := ⟨.hbm, 3000, rfl⟩
abbrev main_v1180 : Ref sig .tc := ⟨.hbm, 3001, rfl⟩
abbrev main_c_477 : Ref sig .tc := ⟨.hbm, 3002, rfl⟩
abbrev main_c_478 : Ref sig .tc := ⟨.hbm, 3003, rfl⟩
abbrev main_call167_v0 : Ref sig .tc := ⟨.hbm, 3004, rfl⟩
abbrev main_call167_v1 : Ref sig .tc := ⟨.hbm, 3005, rfl⟩
abbrev main_call167_v2 : Ref sig .tc := ⟨.hbm, 3006, rfl⟩
abbrev main_call167_v3 : Ref sig .tc := ⟨.hbm, 3007, rfl⟩
abbrev main_call167_v4 : Ref sig .tc := ⟨.hbm, 3008, rfl⟩
abbrev main_v1181 : Ref sig .tc := ⟨.hbm, 3009, rfl⟩
abbrev main_call168_c : Ref sig .tc := ⟨.hbm, 3010, rfl⟩
abbrev main_call168_v0 : Ref sig .tc := ⟨.hbm, 3011, rfl⟩
abbrev main_call168_v1 : Ref sig .tc := ⟨.hbm, 3012, rfl⟩
abbrev main_call168_c_0 : Ref sig .tc := ⟨.hbm, 3013, rfl⟩
abbrev main_call168_v2 : Ref sig .tc := ⟨.hbm, 3014, rfl⟩
abbrev main_call168_v3 : Ref sig .tc := ⟨.hbm, 3015, rfl⟩
abbrev main_call168_v4 : Ref sig .tc := ⟨.hbm, 3016, rfl⟩
abbrev main_call168_v5 : Ref sig .tc := ⟨.hbm, 3017, rfl⟩
abbrev main_call168_c_1 : Ref sig .tc := ⟨.hbm, 3018, rfl⟩
abbrev main_call168_c_2 : Ref sig .tc := ⟨.hbm, 3019, rfl⟩
abbrev main_call168_v6 : Ref sig .tc := ⟨.hbm, 3020, rfl⟩
abbrev main_call168_v7 : Ref sig .tc := ⟨.hbm, 3021, rfl⟩
abbrev main_call168_v8 : Ref sig .tc := ⟨.hbm, 3022, rfl⟩
abbrev main_call168_v9 : Ref sig .tc := ⟨.hbm, 3023, rfl⟩
abbrev main_call168_v10 : Ref sig .tc := ⟨.hbm, 3024, rfl⟩
abbrev main_call168_v11 : Ref sig .tc := ⟨.hbm, 3025, rfl⟩
abbrev main_call168_c_3 : Ref sig .tc := ⟨.hbm, 3026, rfl⟩
abbrev main_call168_v12 : Ref sig .tc := ⟨.hbm, 3027, rfl⟩
abbrev main_call168_v13 : Ref sig .tc := ⟨.hbm, 3028, rfl⟩
abbrev main_call168_v14 : Ref sig .tc := ⟨.hbm, 3029, rfl⟩
abbrev main_call168_cst : Ref sig .tc := ⟨.hbm, 3030, rfl⟩
abbrev main_call168_v15 : Ref sig .tc := ⟨.hbm, 3031, rfl⟩
abbrev main_v1182 : Ref sig .tc := ⟨.hbm, 3032, rfl⟩
abbrev main_cst_479 : Ref sig .tc := ⟨.hbm, 3033, rfl⟩
abbrev main_call169_v0 : Ref sig .tc := ⟨.hbm, 3034, rfl⟩
abbrev main_call169_v1 : Ref sig .tc := ⟨.hbm, 3035, rfl⟩
abbrev main_call169_v2 : Ref sig .tc := ⟨.hbm, 3036, rfl⟩
abbrev main_v1183 : Ref sig .tc := ⟨.hbm, 3037, rfl⟩
abbrev main_v1184 : Ref sig .tc := ⟨.hbm, 3038, rfl⟩
abbrev main_v1185 : Ref sig .tc := ⟨.hbm, 3039, rfl⟩
abbrev main_c_480 : Ref sig .tc := ⟨.hbm, 3040, rfl⟩
abbrev main_v1186 : Ref sig .tc := ⟨.hbm, 3041, rfl⟩
abbrev main_v1187 : Ref sig .tc := ⟨.hbm, 3042, rfl⟩
abbrev main_c_481 : Ref sig .tc := ⟨.hbm, 3043, rfl⟩
abbrev main_c_482 : Ref sig .tc := ⟨.hbm, 3044, rfl⟩
abbrev main_call170_v0 : Ref sig .tc := ⟨.hbm, 3045, rfl⟩
abbrev main_call170_v1 : Ref sig .tc := ⟨.hbm, 3046, rfl⟩
abbrev main_call170_v2 : Ref sig .tc := ⟨.hbm, 3047, rfl⟩
abbrev main_call170_v3 : Ref sig .tc := ⟨.hbm, 3048, rfl⟩
abbrev main_call170_v4 : Ref sig .tc := ⟨.hbm, 3049, rfl⟩
abbrev main_v1188 : Ref sig .tc := ⟨.hbm, 3050, rfl⟩
abbrev main_v1189 : Ref sig .tc := ⟨.hbm, 3051, rfl⟩
abbrev main_v1190 : Ref sig .tc := ⟨.hbm, 3052, rfl⟩
abbrev main_c_483 : Ref sig .tc := ⟨.hbm, 3053, rfl⟩
abbrev main_v1191 : Ref sig .tc := ⟨.hbm, 3054, rfl⟩
abbrev main_v1192 : Ref sig .tc := ⟨.hbm, 3055, rfl⟩
abbrev main_c_484 : Ref sig .tc := ⟨.hbm, 3056, rfl⟩
abbrev main_c_485 : Ref sig .tc := ⟨.hbm, 3057, rfl⟩
abbrev main_call171_v0 : Ref sig .tc := ⟨.hbm, 3058, rfl⟩
abbrev main_call171_v1 : Ref sig .tc := ⟨.hbm, 3059, rfl⟩
abbrev main_call171_v2 : Ref sig .tc := ⟨.hbm, 3060, rfl⟩
abbrev main_call171_v3 : Ref sig .tc := ⟨.hbm, 3061, rfl⟩
abbrev main_call171_v4 : Ref sig .tc := ⟨.hbm, 3062, rfl⟩
abbrev main_v1193 : Ref sig .tc := ⟨.hbm, 3063, rfl⟩
abbrev main_c_486 : Ref sig .tc := ⟨.hbm, 3064, rfl⟩
abbrev main_v1194 : Ref sig .tc := ⟨.hbm, 3065, rfl⟩
abbrev main_v1195 : Ref sig .tc := ⟨.hbm, 3066, rfl⟩
abbrev main_v1196 : Ref sig .tc := ⟨.hbm, 3067, rfl⟩
abbrev main_c_487 : Ref sig .tc := ⟨.hbm, 3068, rfl⟩
abbrev main_v1197 : Ref sig .tc := ⟨.hbm, 3069, rfl⟩
abbrev main_v1198 : Ref sig .tc := ⟨.hbm, 3070, rfl⟩
abbrev main_c_488 : Ref sig .tc := ⟨.hbm, 3071, rfl⟩
abbrev main_v1199 : Ref sig .tc := ⟨.hbm, 3072, rfl⟩
abbrev main_v1200 : Ref sig .tc := ⟨.hbm, 3073, rfl⟩
abbrev main_v1201 : Ref sig .tc := ⟨.hbm, 3074, rfl⟩
abbrev main_v1202 : Ref sig .tc := ⟨.hbm, 3075, rfl⟩
abbrev main_v1203 : Ref sig .tc := ⟨.hbm, 3076, rfl⟩
abbrev main_c_489 : Ref sig .tc := ⟨.hbm, 3077, rfl⟩
abbrev main_v1204 : Ref sig .tc := ⟨.hbm, 3078, rfl⟩
abbrev main_v1205 : Ref sig .tc := ⟨.hbm, 3079, rfl⟩
abbrev main_v1206 : Ref sig .tc := ⟨.hbm, 3080, rfl⟩
abbrev main_c_490 : Ref sig .tc := ⟨.hbm, 3081, rfl⟩
abbrev main_c_491 : Ref sig .tc := ⟨.hbm, 3082, rfl⟩
abbrev main_call172_v0 : Ref sig .tc := ⟨.hbm, 3083, rfl⟩
abbrev main_call172_v1 : Ref sig .tc := ⟨.hbm, 3084, rfl⟩
abbrev main_call172_v2 : Ref sig .tc := ⟨.hbm, 3085, rfl⟩
abbrev main_call172_v3 : Ref sig .tc := ⟨.hbm, 3086, rfl⟩
abbrev main_call172_v4 : Ref sig .tc := ⟨.hbm, 3087, rfl⟩
abbrev main_v1207 : Ref sig .tc := ⟨.hbm, 3088, rfl⟩
abbrev main_call173_c : Ref sig .tc := ⟨.hbm, 3089, rfl⟩
abbrev main_call173_v0 : Ref sig .tc := ⟨.hbm, 3090, rfl⟩
abbrev main_call173_v1 : Ref sig .tc := ⟨.hbm, 3091, rfl⟩
abbrev main_call173_c_0 : Ref sig .tc := ⟨.hbm, 3092, rfl⟩
abbrev main_call173_v2 : Ref sig .tc := ⟨.hbm, 3093, rfl⟩
abbrev main_call173_v3 : Ref sig .tc := ⟨.hbm, 3094, rfl⟩
abbrev main_call173_v4 : Ref sig .tc := ⟨.hbm, 3095, rfl⟩
abbrev main_call173_v5 : Ref sig .tc := ⟨.hbm, 3096, rfl⟩
abbrev main_call173_c_1 : Ref sig .tc := ⟨.hbm, 3097, rfl⟩
abbrev main_call173_c_2 : Ref sig .tc := ⟨.hbm, 3098, rfl⟩
abbrev main_call173_v6 : Ref sig .tc := ⟨.hbm, 3099, rfl⟩
abbrev main_call173_v7 : Ref sig .tc := ⟨.hbm, 3100, rfl⟩
abbrev main_call173_v8 : Ref sig .tc := ⟨.hbm, 3101, rfl⟩
abbrev main_call173_v9 : Ref sig .tc := ⟨.hbm, 3102, rfl⟩
abbrev main_call173_v10 : Ref sig .tc := ⟨.hbm, 3103, rfl⟩
abbrev main_call173_v11 : Ref sig .tc := ⟨.hbm, 3104, rfl⟩
abbrev main_call173_c_3 : Ref sig .tc := ⟨.hbm, 3105, rfl⟩
abbrev main_call173_v12 : Ref sig .tc := ⟨.hbm, 3106, rfl⟩
abbrev main_call173_v13 : Ref sig .tc := ⟨.hbm, 3107, rfl⟩
abbrev main_call173_v14 : Ref sig .tc := ⟨.hbm, 3108, rfl⟩
abbrev main_call173_cst : Ref sig .tc := ⟨.hbm, 3109, rfl⟩
abbrev main_call173_v15 : Ref sig .tc := ⟨.hbm, 3110, rfl⟩
abbrev main_v1208 : Ref sig .tc := ⟨.hbm, 3111, rfl⟩
abbrev main_cst_492 : Ref sig .tc := ⟨.hbm, 3112, rfl⟩
abbrev main_call174_v0 : Ref sig .tc := ⟨.hbm, 3113, rfl⟩
abbrev main_call174_v1 : Ref sig .tc := ⟨.hbm, 3114, rfl⟩
abbrev main_call174_v2 : Ref sig .tc := ⟨.hbm, 3115, rfl⟩
abbrev main_v1209 : Ref sig .tc := ⟨.hbm, 3116, rfl⟩
abbrev main_v1210 : Ref sig .tc := ⟨.hbm, 3117, rfl⟩
abbrev main_v1211 : Ref sig .tc := ⟨.hbm, 3118, rfl⟩
abbrev main_c_493 : Ref sig .tc := ⟨.hbm, 3119, rfl⟩
abbrev main_v1212 : Ref sig .tc := ⟨.hbm, 3120, rfl⟩
abbrev main_v1213 : Ref sig .tc := ⟨.hbm, 3121, rfl⟩
abbrev main_c_494 : Ref sig .tc := ⟨.hbm, 3122, rfl⟩
abbrev main_c_495 : Ref sig .tc := ⟨.hbm, 3123, rfl⟩
abbrev main_call175_v0 : Ref sig .tc := ⟨.hbm, 3124, rfl⟩
abbrev main_call175_v1 : Ref sig .tc := ⟨.hbm, 3125, rfl⟩
abbrev main_call175_v2 : Ref sig .tc := ⟨.hbm, 3126, rfl⟩
abbrev main_call175_v3 : Ref sig .tc := ⟨.hbm, 3127, rfl⟩
abbrev main_call175_v4 : Ref sig .tc := ⟨.hbm, 3128, rfl⟩
abbrev main_v1214 : Ref sig .tc := ⟨.hbm, 3129, rfl⟩
abbrev main_v1215 : Ref sig .tc := ⟨.hbm, 3130, rfl⟩
abbrev main_v1216 : Ref sig .tc := ⟨.hbm, 3131, rfl⟩
abbrev main_c_496 : Ref sig .tc := ⟨.hbm, 3132, rfl⟩
abbrev main_v1217 : Ref sig .tc := ⟨.hbm, 3133, rfl⟩
abbrev main_v1218 : Ref sig .tc := ⟨.hbm, 3134, rfl⟩
abbrev main_c_497 : Ref sig .tc := ⟨.hbm, 3135, rfl⟩
abbrev main_c_498 : Ref sig .tc := ⟨.hbm, 3136, rfl⟩
abbrev main_call176_v0 : Ref sig .tc := ⟨.hbm, 3137, rfl⟩
abbrev main_call176_v1 : Ref sig .tc := ⟨.hbm, 3138, rfl⟩
abbrev main_call176_v2 : Ref sig .tc := ⟨.hbm, 3139, rfl⟩
abbrev main_call176_v3 : Ref sig .tc := ⟨.hbm, 3140, rfl⟩
abbrev main_call176_v4 : Ref sig .tc := ⟨.hbm, 3141, rfl⟩
abbrev main_v1219 : Ref sig .tc := ⟨.hbm, 3142, rfl⟩
abbrev main_c_499 : Ref sig .tc := ⟨.hbm, 3143, rfl⟩
abbrev main_v1220 : Ref sig .tc := ⟨.hbm, 3144, rfl⟩
abbrev main_v1221 : Ref sig .tc := ⟨.hbm, 3145, rfl⟩
abbrev main_v1222 : Ref sig .tc := ⟨.hbm, 3146, rfl⟩
abbrev main_c_500 : Ref sig .tc := ⟨.hbm, 3147, rfl⟩
abbrev main_v1223 : Ref sig .tc := ⟨.hbm, 3148, rfl⟩
abbrev main_v1224 : Ref sig .tc := ⟨.hbm, 3149, rfl⟩
abbrev main_c_501 : Ref sig .tc := ⟨.hbm, 3150, rfl⟩
abbrev main_v1225 : Ref sig .tc := ⟨.hbm, 3151, rfl⟩
abbrev main_v1226 : Ref sig .tc := ⟨.hbm, 3152, rfl⟩
abbrev main_v1227 : Ref sig .tc := ⟨.hbm, 3153, rfl⟩
abbrev main_v1228 : Ref sig .tc := ⟨.hbm, 3154, rfl⟩
abbrev main_v1229 : Ref sig .tc := ⟨.hbm, 3155, rfl⟩
abbrev main_c_502 : Ref sig .tc := ⟨.hbm, 3156, rfl⟩
abbrev main_v1230 : Ref sig .tc := ⟨.hbm, 3157, rfl⟩
abbrev main_v1231 : Ref sig .tc := ⟨.hbm, 3158, rfl⟩
abbrev main_v1232 : Ref sig .tc := ⟨.hbm, 3159, rfl⟩
abbrev main_c_503 : Ref sig .tc := ⟨.hbm, 3160, rfl⟩
abbrev main_c_504 : Ref sig .tc := ⟨.hbm, 3161, rfl⟩
abbrev main_call177_v0 : Ref sig .tc := ⟨.hbm, 3162, rfl⟩
abbrev main_call177_v1 : Ref sig .tc := ⟨.hbm, 3163, rfl⟩
abbrev main_call177_v2 : Ref sig .tc := ⟨.hbm, 3164, rfl⟩
abbrev main_call177_v3 : Ref sig .tc := ⟨.hbm, 3165, rfl⟩
abbrev main_call177_v4 : Ref sig .tc := ⟨.hbm, 3166, rfl⟩
abbrev main_v1233 : Ref sig .tc := ⟨.hbm, 3167, rfl⟩
abbrev main_call178_c : Ref sig .tc := ⟨.hbm, 3168, rfl⟩
abbrev main_call178_v0 : Ref sig .tc := ⟨.hbm, 3169, rfl⟩
abbrev main_call178_v1 : Ref sig .tc := ⟨.hbm, 3170, rfl⟩
abbrev main_call178_c_0 : Ref sig .tc := ⟨.hbm, 3171, rfl⟩
abbrev main_call178_v2 : Ref sig .tc := ⟨.hbm, 3172, rfl⟩
abbrev main_call178_v3 : Ref sig .tc := ⟨.hbm, 3173, rfl⟩
abbrev main_call178_v4 : Ref sig .tc := ⟨.hbm, 3174, rfl⟩
abbrev main_call178_v5 : Ref sig .tc := ⟨.hbm, 3175, rfl⟩
abbrev main_call178_c_1 : Ref sig .tc := ⟨.hbm, 3176, rfl⟩
abbrev main_call178_c_2 : Ref sig .tc := ⟨.hbm, 3177, rfl⟩
abbrev main_call178_v6 : Ref sig .tc := ⟨.hbm, 3178, rfl⟩
abbrev main_call178_v7 : Ref sig .tc := ⟨.hbm, 3179, rfl⟩
abbrev main_call178_v8 : Ref sig .tc := ⟨.hbm, 3180, rfl⟩
abbrev main_call178_v9 : Ref sig .tc := ⟨.hbm, 3181, rfl⟩
abbrev main_call178_v10 : Ref sig .tc := ⟨.hbm, 3182, rfl⟩
abbrev main_call178_v11 : Ref sig .tc := ⟨.hbm, 3183, rfl⟩
abbrev main_call178_c_3 : Ref sig .tc := ⟨.hbm, 3184, rfl⟩
abbrev main_call178_v12 : Ref sig .tc := ⟨.hbm, 3185, rfl⟩
abbrev main_call178_v13 : Ref sig .tc := ⟨.hbm, 3186, rfl⟩
abbrev main_call178_v14 : Ref sig .tc := ⟨.hbm, 3187, rfl⟩
abbrev main_call178_cst : Ref sig .tc := ⟨.hbm, 3188, rfl⟩
abbrev main_call178_v15 : Ref sig .tc := ⟨.hbm, 3189, rfl⟩
abbrev main_v1234 : Ref sig .tc := ⟨.hbm, 3190, rfl⟩
abbrev main_cst_505 : Ref sig .tc := ⟨.hbm, 3191, rfl⟩
abbrev main_call179_v0 : Ref sig .tc := ⟨.hbm, 3192, rfl⟩
abbrev main_call179_v1 : Ref sig .tc := ⟨.hbm, 3193, rfl⟩
abbrev main_call179_v2 : Ref sig .tc := ⟨.hbm, 3194, rfl⟩
abbrev main_v1235 : Ref sig .tc := ⟨.hbm, 3195, rfl⟩
abbrev main_v1236 : Ref sig .tc := ⟨.hbm, 3196, rfl⟩
abbrev main_v1237 : Ref sig .tc := ⟨.hbm, 3197, rfl⟩
abbrev main_v1238 : Ref sig .tc := ⟨.hbm, 3198, rfl⟩
abbrev main_v1239 : Ref sig .tc := ⟨.hbm, 3199, rfl⟩
abbrev main_v1240 : Ref sig .tc := ⟨.hbm, 3200, rfl⟩
abbrev main_v1241 : Ref sig .tc := ⟨.hbm, 3201, rfl⟩
abbrev main_v1242 : Ref sig .tc := ⟨.hbm, 3202, rfl⟩
abbrev main_v1243 : Ref sig .tc := ⟨.hbm, 3203, rfl⟩
abbrev main_v1244 : Ref sig .tc := ⟨.hbm, 3204, rfl⟩
abbrev main_v1245 : Ref sig .tc := ⟨.hbm, 3205, rfl⟩
abbrev main_v1246 : Ref sig .tc := ⟨.hbm, 3206, rfl⟩
abbrev main_v1247 : Ref sig .tc := ⟨.hbm, 3207, rfl⟩
abbrev main_v1248 : Ref sig .tc := ⟨.hbm, 3208, rfl⟩
abbrev main_v1249 : Ref sig .tc := ⟨.hbm, 3209, rfl⟩
abbrev main_v1250 : Ref sig .tc := ⟨.hbm, 3210, rfl⟩
abbrev main_v1251 : Ref sig .tc := ⟨.hbm, 3211, rfl⟩
abbrev main_v1252 : Ref sig .tc := ⟨.hbm, 3212, rfl⟩
abbrev main_v1253 : Ref sig .tc := ⟨.hbm, 3213, rfl⟩
abbrev main_v1254 : Ref sig .tc := ⟨.hbm, 3214, rfl⟩
abbrev main_v1255 : Ref sig .tc := ⟨.hbm, 3215, rfl⟩
abbrev main_v1256 : Ref sig .tc := ⟨.hbm, 3216, rfl⟩
abbrev main_v1257 : Ref sig .tc := ⟨.hbm, 3217, rfl⟩
abbrev main_v1258 : Ref sig .tc := ⟨.hbm, 3218, rfl⟩
abbrev main_v1259 : Ref sig .tc := ⟨.hbm, 3219, rfl⟩
abbrev main_v1260 : Ref sig .tc := ⟨.hbm, 3220, rfl⟩
abbrev main_v1261 : Ref sig .tc := ⟨.hbm, 3221, rfl⟩
abbrev main_v1262 : Ref sig .tc := ⟨.hbm, 3222, rfl⟩
abbrev main_v1263 : Ref sig .tc := ⟨.hbm, 3223, rfl⟩
abbrev main_v1264 : Ref sig .tc := ⟨.hbm, 3224, rfl⟩
abbrev main_v1265 : Ref sig .tc := ⟨.hbm, 3225, rfl⟩
abbrev main_v1266 : Ref sig .tc := ⟨.hbm, 3226, rfl⟩
abbrev main_v1267 : Ref sig .tc := ⟨.hbm, 3227, rfl⟩
abbrev main_v1268 : Ref sig .tc := ⟨.hbm, 3228, rfl⟩
abbrev main_cst_506 : Ref sig .tc := ⟨.hbm, 3229, rfl⟩
abbrev main_v1269 : Ref sig .tc := ⟨.hbm, 3230, rfl⟩
abbrev main_v1270 : Ref sig .tc := ⟨.hbm, 3231, rfl⟩
abbrev main_cst_507 : Ref sig .tc := ⟨.hbm, 3232, rfl⟩
abbrev main_v1271 : Ref sig .tc := ⟨.hbm, 3233, rfl⟩
abbrev main_cst_508 : Ref sig .tc := ⟨.hbm, 3234, rfl⟩
abbrev main_v1272 : Ref sig .tc := ⟨.hbm, 3235, rfl⟩
abbrev main_v1273 : Ref sig .tc := ⟨.hbm, 3236, rfl⟩
abbrev main_v1274 : Ref sig .tc := ⟨.hbm, 3237, rfl⟩
abbrev main_v1275 : Ref sig .tc := ⟨.hbm, 3238, rfl⟩
abbrev main_v1276 : Ref sig .tc := ⟨.hbm, 3239, rfl⟩
abbrev main_v1277 : Ref sig .tc := ⟨.hbm, 3240, rfl⟩
abbrev main_cst_509 : Ref sig .tc := ⟨.hbm, 3241, rfl⟩
abbrev main_v1278 : Ref sig .tc := ⟨.hbm, 3242, rfl⟩
abbrev main_v1279 : Ref sig .tc := ⟨.hbm, 3243, rfl⟩
abbrev main_v1280 : Ref sig .tc := ⟨.hbm, 3244, rfl⟩
abbrev main_v1281 : Ref sig .tc := ⟨.hbm, 3245, rfl⟩
abbrev main_v1282 : Ref sig .tc := ⟨.hbm, 3246, rfl⟩
abbrev main_v1283 : Ref sig .tc := ⟨.hbm, 3247, rfl⟩
abbrev main_v1284 : Ref sig .tc := ⟨.hbm, 3248, rfl⟩
abbrev main_v1285 : Ref sig .tc := ⟨.hbm, 3249, rfl⟩
abbrev main_v1286 : Ref sig .tc := ⟨.hbm, 3250, rfl⟩
abbrev main_v1287 : Ref sig .tc := ⟨.hbm, 3251, rfl⟩
abbrev main_v1288 : Ref sig .tc := ⟨.hbm, 3252, rfl⟩
abbrev main_c_510 : Ref sig .tc := ⟨.hbm, 3253, rfl⟩
abbrev main_v1289 : Ref sig .tc := ⟨.hbm, 3254, rfl⟩
abbrev main_v1290 : Ref sig .tc := ⟨.hbm, 3255, rfl⟩
abbrev main_v1291 : Ref sig .tc := ⟨.hbm, 3256, rfl⟩
abbrev main_v1292 : Ref sig .tc := ⟨.hbm, 3257, rfl⟩
abbrev main_v1293 : Ref sig .tc := ⟨.hbm, 3258, rfl⟩
abbrev main_cst_511 : Ref sig .tc := ⟨.hbm, 3259, rfl⟩
abbrev main_v1294 : Ref sig .tc := ⟨.hbm, 3260, rfl⟩
abbrev main_v1295 : Ref sig .tc := ⟨.hbm, 3261, rfl⟩
abbrev main_c_512 : Ref sig .tc := ⟨.hbm, 3262, rfl⟩
abbrev main_v1296 : Ref sig .tc := ⟨.hbm, 3263, rfl⟩
abbrev main_v1297 : Ref sig .tc := ⟨.hbm, 3264, rfl⟩
abbrev main_c_513 : Ref sig .tc := ⟨.hbm, 3265, rfl⟩
abbrev main_v1298 : Ref sig .tc := ⟨.hbm, 3266, rfl⟩
abbrev main_v1299 : Ref sig .tc := ⟨.hbm, 3267, rfl⟩
abbrev main_v1300 : Ref sig .tc := ⟨.hbm, 3268, rfl⟩
abbrev main_v1301 : Ref sig .tc := ⟨.hbm, 3269, rfl⟩
abbrev main_v1302 : Ref sig .tc := ⟨.hbm, 3270, rfl⟩
abbrev main_v1303 : Ref sig .tc := ⟨.hbm, 3271, rfl⟩
abbrev main_v1304 : Ref sig .tc := ⟨.hbm, 3272, rfl⟩
abbrev main_v1305 : Ref sig .tc := ⟨.hbm, 3273, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg3_1 : Ref sig .tc := ⟨.vmem, 65, rfl⟩
abbrev cc11_stg0_0 : Ref sig .tc := ⟨.vmem, 66, rfl⟩
abbrev cc11_stg0_1 : Ref sig .tc := ⟨.vmem, 67, rfl⟩
abbrev cc11_stg1_0 : Ref sig .tc := ⟨.vmem, 68, rfl⟩
abbrev cc11_stg2_0 : Ref sig .tc := ⟨.vmem, 69, rfl⟩
abbrev cc11_stg3_0 : Ref sig .tc := ⟨.vmem, 70, rfl⟩
abbrev cc11_stg3_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg2_0 : Ref sig .tc := ⟨.vmem, 75, rfl⟩
abbrev cc12_stg3_0 : Ref sig .tc := ⟨.vmem, 76, rfl⟩
abbrev cc12_stg3_1 : Ref sig .tc := ⟨.vmem, 77, rfl⟩
abbrev cc13_stg0_0 : Ref sig .tc := ⟨.vmem, 78, rfl⟩
abbrev cc13_stg0_1 : Ref sig .tc := ⟨.vmem, 79, rfl⟩
abbrev cc13_stg1_0 : Ref sig .tc := ⟨.vmem, 80, rfl⟩
abbrev cc13_stg2_0 : Ref sig .tc := ⟨.vmem, 81, rfl⟩
abbrev cc13_stg3_0 : Ref sig .tc := ⟨.vmem, 82, rfl⟩
abbrev cc13_stg3_1 : Ref sig .tc := ⟨.vmem, 83, rfl⟩
abbrev cc14_stg0_0 : Ref sig .tc := ⟨.vmem, 84, rfl⟩
abbrev cc14_stg0_1 : Ref sig .tc := ⟨.vmem, 85, rfl⟩
abbrev cc14_stg1_0 : Ref sig .tc := ⟨.vmem, 86, rfl⟩
abbrev cc14_stg2_0 : Ref sig .tc := ⟨.vmem, 87, rfl⟩
abbrev cc14_stg3_0 : Ref sig .tc := ⟨.vmem, 88, rfl⟩
abbrev cc14_stg3_1 : Ref sig .tc := ⟨.vmem, 89, rfl⟩
abbrev cc15_stg0_0 : Ref sig .tc := ⟨.vmem, 90, rfl⟩
abbrev cc15_stg0_1 : Ref sig .tc := ⟨.vmem, 91, rfl⟩
abbrev cc15_stg1_0 : Ref sig .tc := ⟨.vmem, 92, rfl⟩
abbrev cc15_stg2_0 : Ref sig .tc := ⟨.vmem, 93, rfl⟩
abbrev cc15_stg3_0 : Ref sig .tc := ⟨.vmem, 94, rfl⟩
abbrev cc15_stg3_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem3_1 : DmaSem sig := 53
abbrev cc9_sem0_0 : DmaSem sig := 54
abbrev cc9_sem0_1 : DmaSem sig := 55
abbrev cc9_sem1_0 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem3_0 : DmaSem sig := 64
abbrev cc10_sem3_1 : DmaSem sig := 65
abbrev cc11_sem0_0 : DmaSem sig := 66
abbrev cc11_sem0_1 : DmaSem sig := 67
abbrev cc11_sem1_0 : DmaSem sig := 68
abbrev cc11_sem2_0 : DmaSem sig := 69
abbrev cc11_sem3_0 : DmaSem sig := 70
abbrev cc11_sem3_1 : DmaSem sig := 71
abbrev cc12_sem0_0 : DmaSem sig := 72
abbrev cc12_sem0_1 : DmaSem sig := 73
abbrev cc12_sem1_0 : DmaSem sig := 74
abbrev cc12_sem2_0 : DmaSem sig := 75
abbrev cc12_sem3_0 : DmaSem sig := 76
abbrev cc12_sem3_1 : DmaSem sig := 77
abbrev cc13_sem0_0 : DmaSem sig := 78
abbrev cc13_sem0_1 : DmaSem sig := 79
abbrev cc13_sem1_0 : DmaSem sig := 80
abbrev cc13_sem2_0 : DmaSem sig := 81
abbrev cc13_sem3_0 : DmaSem sig := 82
abbrev cc13_sem3_1 : DmaSem sig := 83
abbrev cc14_sem0_0 : DmaSem sig := 84
abbrev cc14_sem0_1 : DmaSem sig := 85
abbrev cc14_sem1_0 : DmaSem sig := 86
abbrev cc14_sem2_0 : DmaSem sig := 87
abbrev cc14_sem3_0 : DmaSem sig := 88
abbrev cc14_sem3_1 : DmaSem sig := 89
abbrev cc15_sem0_0 : DmaSem sig := 90
abbrev cc15_sem0_1 : DmaSem sig := 91
abbrev cc15_sem1_0 : DmaSem sig := 92
abbrev cc15_sem2_0 : DmaSem sig := 93
abbrev cc15_sem3_0 : DmaSem sig := 94
abbrev cc15_sem3_1 : DmaSem sig := 95

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![45], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![45], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![45], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![45], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![45], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![45], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S4000x32 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S32x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4000x32 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S32x32 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x32 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S4000x32 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![45], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S32x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x32 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S4000x32 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![45], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S32x32 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x32 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S4000x32 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4000x32 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S32x32 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x32 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S4000x32 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]
-- ==== ReferenceIdeal.lean ====
abbrev S2x20000x32 : Shape := ⟨3, ![2, 20000, 32]⟩
abbrev S2x20000x2 : Shape := ⟨3, ![2, 20000, 2]⟩
abbrev S96x32 : Shape := ⟨2, ![96, 32]⟩
abbrev S96 : Shape := ⟨1, ![96]⟩
abbrev S32x32 : Shape := ⟨2, ![32, 32]⟩
abbrev S32 : Shape := ⟨1, ![32]⟩
abbrev S9x2 : Shape := ⟨2, ![9, 2]⟩
abbrev S1x20000x32 : Shape := ⟨3, ![1, 20000, 32]⟩
abbrev S20000x32 : Shape := ⟨2, ![20000, 32]⟩
abbrev S1x20000x2 : Shape := ⟨3, ![1, 20000, 2]⟩
abbrev S20000x2 : Shape := ⟨2, ![20000, 2]⟩
abbrev S20000x1 : Shape := ⟨2, ![20000, 1]⟩
abbrev S20000 : Shape := ⟨1, ![20000]⟩
abbrev S_ : Shape := ⟨0, ![]⟩
abbrev S214272 : Shape := ⟨1, ![214272]⟩
abbrev S9x1 : Shape := ⟨2, ![9, 1]⟩
abbrev S9 : Shape := ⟨1, ![9]⟩
abbrev S1x9 : Shape := ⟨2, ![1, 9]⟩
abbrev S20000x9 : Shape := ⟨2, ![20000, 9]⟩
abbrev S20000x9x1 : Shape := ⟨3, ![20000, 9, 1]⟩
abbrev S1 : Shape := ⟨1, ![1]⟩
abbrev S1x1x1 : Shape := ⟨3, ![1, 1, 1]⟩
abbrev S20000x9x32 : Shape := ⟨3, ![20000, 9, 32]⟩
abbrev S20000x1x32 : Shape := ⟨3, ![20000, 1, 32]⟩
abbrev S1x1x32 : Shape := ⟨3, ![1, 1, 32]⟩
abbrev S20000x1x2x16 : Shape := ⟨4, ![20000, 1, 2, 16]⟩
abbrev S20000x2x1x16 : Shape := ⟨4, ![20000, 2, 1, 16]⟩
abbrev S20000x9x2x16 : Shape := ⟨4, ![20000, 9, 2, 16]⟩
abbrev S20000x2x9x16 : Shape := ⟨4, ![20000, 2, 9, 16]⟩
abbrev S20000x2x16x9 : Shape := ⟨4, ![20000, 2, 16, 9]⟩
abbrev S20000x2x1x9 : Shape := ⟨4, ![20000, 2, 1, 9]⟩
abbrev S20000x2x1 : Shape := ⟨3, ![20000, 2, 1]⟩
abbrev S20000x2x1x1 : Shape := ⟨4, ![20000, 2, 1, 1]⟩
abbrev S32x214272 : Shape := ⟨2, ![32, 214272]⟩
abbrev S32x20000 : Shape := ⟨2, ![32, 20000]⟩
abbrev S1x32x496x432 : Shape := ⟨4, ![1, 32, 496, 432]⟩
abbrev S2x32x496x432 : Shape := ⟨4, ![2, 32, 496, 432]⟩

abbrev nBuf : Space → Nat
  | .hbm => 774
  | .vmem => 0
  | .smem => 0
  | _ => 0

abbrev hbmTy0_0 (i : Nat) : BufTy := match i % 128 with
  | 0 => ⟨S2x20000x32, .f32⟩
  | 1 => ⟨S2x20000x2, .i32⟩
  | 2 => ⟨S2x20000x32, .f32⟩
  | 3 => ⟨S2x20000x2, .i32⟩
  | 4 => ⟨S96x32, .f32⟩
  | 5 => ⟨S96, .f32⟩
  | 6 => ⟨S32x32, .f32⟩
  | 7 => ⟨S32, .f32⟩
  | 8 => ⟨S96x32, .f32⟩
  | 9 => ⟨S96, .f32⟩
  | 10 => ⟨S32x32, .f32⟩
  | 11 => ⟨S32, .f32⟩
  | 12 => ⟨S9x2, .i32⟩
  | 13 => ⟨S9x2, .i32⟩
  | 14 => ⟨S9x2, .i32⟩
  | 15 => ⟨S9x2, .i32⟩
  | 16 => ⟨S1x20000x32, .f32⟩
  | 17 => ⟨S20000x32, .f32⟩
  | 18 => ⟨S1x20000x2, .i32⟩
  | 19 => ⟨S20000x2, .i32⟩
  | 20 => ⟨S1x20000x32, .f32⟩
  | 21 => ⟨S20000x32, .f32⟩
  | 22 => ⟨S1x20000x2, .i32⟩
  | 23 => ⟨S20000x2, .i32⟩
  | 24 => ⟨S20000x1, .i32⟩
  | 25 => ⟨S20000, .i32⟩
  | 26 => ⟨S_, .i32⟩
  | 27 => ⟨S20000, .i32⟩
  | 28 => ⟨S20000, .i32⟩
  | 29 => ⟨S20000x1, .i32⟩
  | 30 => ⟨S20000, .i32⟩
  | 31 => ⟨S20000, .i32⟩
  | 32 => ⟨S_, .i32⟩
  | 33 => ⟨S214272, .i32⟩
  | 34 => ⟨S20000, .i32⟩
  | 35 => ⟨S_, .i32⟩
  | 36 => ⟨S20000, .i32⟩
  | 37 => ⟨S20000, .i1⟩
  | 38 => ⟨S_, .i32⟩
  | 39 => ⟨S20000, .i32⟩
  | 40 => ⟨S20000, .i32⟩
  | 41 => ⟨S20000, .i32⟩
  | 42 => ⟨S20000x1, .i32⟩
  | 43 => ⟨S214272, .i32⟩
  | 44 => ⟨S20000x1, .i32⟩
  | 45 => ⟨S9x1, .i32⟩
  | 46 => ⟨S9, .i32⟩
  | 47 => ⟨S1x9, .i32⟩
  | 48 => ⟨S20000x9, .i32⟩
  | 49 => ⟨S20000x9, .i32⟩
  | 50 => ⟨S20000x9, .i32⟩
  | 51 => ⟨S_, .i32⟩
  | 52 => ⟨S_, .i32⟩
  | 53 => ⟨S_, .i32⟩
  | 54 => ⟨S20000x9, .i32⟩
  | 55 => ⟨S20000x9, .i32⟩
  | 56 => ⟨S_, .i32⟩
  | 57 => ⟨S20000x9, .i32⟩
  | 58 => ⟨S20000x9, .i32⟩
  | 59 => ⟨S20000x1, .i32⟩
  | 60 => ⟨S9x1, .i32⟩
  | 61 => ⟨S9, .i32⟩
  | 62 => ⟨S1x9, .i32⟩
  | 63 => ⟨S20000x9, .i32⟩
  | 64 => ⟨S20000x9, .i32⟩
  | 65 => ⟨S20000x9, .i32⟩
  | 66 => ⟨S_, .i32⟩
  | 67 => ⟨S_, .i32⟩
  | 68 => ⟨S_, .i32⟩
  | 69 => ⟨S20000x9, .i32⟩
  | 70 => ⟨S20000x9, .i32⟩
  | 71 => ⟨S_, .i32⟩
  | 72 => ⟨S20000x9, .i32⟩
  | 73 => ⟨S20000x9, .i32⟩
  | 74 => ⟨S_, .i32⟩
  | 75 => ⟨S20000x9, .i32⟩
  | 76 => ⟨S20000x9, .i32⟩
  | 77 => ⟨S20000x9, .i32⟩
  | 78 => ⟨S_, .i32⟩
  | 79 => ⟨S20000x9, .i32⟩
  | 80 => ⟨S20000x9, .i1⟩
  | 81 => ⟨S_, .i32⟩
  | 82 => ⟨S20000x9, .i32⟩
  | 83 => ⟨S20000x9, .i32⟩
  | 84 => ⟨S20000x9, .i32⟩
  | 85 => ⟨S20000x9x1, .i32⟩
  | 86 => ⟨S20000x9, .i32⟩
  | 87 => ⟨S_, .i32⟩
  | 88 => ⟨S20000x9, .i32⟩
  | 89 => ⟨S20000x9, .i1⟩
  | 90 => ⟨S20000x9x1, .i1⟩
  | 91 => ⟨S_, .i32⟩
  | 92 => ⟨S_, .i32⟩
  | 93 => ⟨S_, .i32⟩
  | 94 => ⟨S20000x9, .i32⟩
  | 95 => ⟨S20000x9, .i32⟩
  | 96 => ⟨S_, .i32⟩
  | 97 => ⟨S20000x9, .i32⟩
  | 98 => ⟨S20000x9, .i32⟩
  | 99 => ⟨S_, .i32⟩
  | 100 => ⟨S20000x9, .i32⟩
  | 101 => ⟨S20000x9, .i1⟩
  | 102 => ⟨S_, .i32⟩
  | 103 => ⟨S20000x9, .i32⟩
  | 104 => ⟨S20000x9, .i32⟩
  | 105 => ⟨S20000x9, .i32⟩
  | 106 => ⟨S20000x9x1, .i32⟩
  | 107 => ⟨S1, .i32⟩
  | 108 => ⟨S_, .i32⟩
  | 109 => ⟨S20000x9x1, .i32⟩
  | 110 => ⟨S20000x9x1, .i1⟩
  | 111 => ⟨S1x1x1, .i32⟩
  | 112 => ⟨S20000x9x1, .i32⟩
  | 113 => ⟨S20000x9x1, .i1⟩
  | 114 => ⟨S20000x9x1, .i1⟩
  | 115 => ⟨S_, .i1⟩
  | 116 => ⟨S20000x9, .i1⟩
  | 117 => ⟨S20000x9x32, .f32⟩
  | 118 => ⟨S20000x9x32, .i1⟩
  | 119 => ⟨S_, .f32⟩
  | 120 => ⟨S20000x9x32, .f32⟩
  | 121 => ⟨S20000x9x32, .f32⟩
  | 122 => ⟨S_, .f32⟩
  | 123 => ⟨S_, .f32⟩
  | 124 => ⟨S20000x9x32, .i1⟩
  | 125 => ⟨S20000x9x32, .f32⟩
  | 126 => ⟨S20000x9x32, .f32⟩
  | 127 => ⟨S20000x1x32, .f32⟩
  | _ => ⟨S2x20000x32, .f32⟩

abbrev hbmTy0_1 (i : Nat) : BufTy := match i % 128 with
  | 0 => ⟨S32x32, .f32⟩
  | 1 => ⟨S32x32, .f32⟩
  | 2 => ⟨S32x32, .f32⟩
  | 3 => ⟨S32, .f32⟩
  | 4 => ⟨S32, .f32⟩
  | 5 => ⟨S32, .f32⟩
  | 6 => ⟨S32x32, .f32⟩
  | 7 => ⟨S20000x1x32, .f32⟩
  | 8 => ⟨S1x1x32, .f32⟩
  | 9 => ⟨S20000x1x32, .f32⟩
  | 10 => ⟨S20000x1x32, .f32⟩
  | 11 => ⟨S32x32, .f32⟩
  | 12 => ⟨S20000x9x32, .f32⟩
  | 13 => ⟨S1x1x32, .f32⟩
  | 14 => ⟨S20000x9x32, .f32⟩
  | 15 => ⟨S20000x9x32, .f32⟩
  | 16 => ⟨S32x32, .f32⟩
  | 17 => ⟨S20000x9x32, .f32⟩
  | 18 => ⟨S1x1x32, .f32⟩
  | 19 => ⟨S20000x9x32, .f32⟩
  | 20 => ⟨S20000x9x32, .f32⟩
  | 21 => ⟨S20000x1x2x16, .f32⟩
  | 22 => ⟨S20000x2x1x16, .f32⟩
  | 23 => ⟨S20000x9x2x16, .f32⟩
  | 24 => ⟨S20000x2x9x16, .f32⟩
  | 25 => ⟨S20000x9x2x16, .f32⟩
  | 26 => ⟨S20000x2x9x16, .f32⟩
  | 27 => ⟨S20000x2x16x9, .f32⟩
  | 28 => ⟨S20000x2x1x9, .f32⟩
  | 29 => ⟨S_, .f32⟩
  | 30 => ⟨S20000x2x1x9, .f32⟩
  | 31 => ⟨S20000x2x1x9, .f32⟩
  | 32 => ⟨S_, .f32⟩
  | 33 => ⟨S20000x2x1, .f32⟩
  | 34 => ⟨S_, .f32⟩
  | 35 => ⟨S20000x2x1, .f32⟩
  | 36 => ⟨S20000x2x1, .f32⟩
  | 37 => ⟨S20000x2x1x1, .f32⟩
  | 38 => ⟨S20000x2x1x9, .f32⟩
  | 39 => ⟨S20000x2x1x9, .f32⟩
  | 40 => ⟨S20000x2x1x9, .f32⟩
  | 41 => ⟨S_, .f32⟩
  | 42 => ⟨S20000x2x1, .f32⟩
  | 43 => ⟨S20000x2x1x1, .f32⟩
  | 44 => ⟨S20000x2x1x9, .f32⟩
  | 45 => ⟨S20000x2x1x9, .f32⟩
  | 46 => ⟨S20000x2x1x16, .f32⟩
  | 47 => ⟨S20000x1x2x16, .f32⟩
  | 48 => ⟨S20000x1x32, .f32⟩
  | 49 => ⟨S32x32, .f32⟩
  | 50 => ⟨S20000x1x32, .f32⟩
  | 51 => ⟨S1x1x32, .f32⟩
  | 52 => ⟨S20000x1x32, .f32⟩
  | 53 => ⟨S20000x1x32, .f32⟩
  | 54 => ⟨S20000x32, .f32⟩
  | 55 => ⟨S20000x32, .f32⟩
  | 56 => ⟨S20000x1, .i32⟩
  | 57 => ⟨S20000, .i32⟩
  | 58 => ⟨S_, .i32⟩
  | 59 => ⟨S20000, .i32⟩
  | 60 => ⟨S20000, .i32⟩
  | 61 => ⟨S20000x1, .i32⟩
  | 62 => ⟨S20000, .i32⟩
  | 63 => ⟨S20000, .i32⟩
  | 64 => ⟨S_, .f32⟩
  | 65 => ⟨S32x214272, .f32⟩
  | 66 => ⟨S32x20000, .f32⟩
  | 67 => ⟨S_, .i32⟩
  | 68 => ⟨S20000, .i32⟩
  | 69 => ⟨S20000, .i1⟩
  | 70 => ⟨S_, .i32⟩
  | 71 => ⟨S20000, .i32⟩
  | 72 => ⟨S20000, .i32⟩
  | 73 => ⟨S20000, .i32⟩
  | 74 => ⟨S20000x1, .i32⟩
  | 75 => ⟨S32x214272, .f32⟩
  | 76 => ⟨S1x32x496x432, .f32⟩
  | 77 => ⟨S1x20000x32, .f32⟩
  | 78 => ⟨S20000x32, .f32⟩
  | 79 => ⟨S1x20000x2, .i32⟩
  | 80 => ⟨S20000x2, .i32⟩
  | 81 => ⟨S1x20000x32, .f32⟩
  | 82 => ⟨S20000x32, .f32⟩
  | 83 => ⟨S1x20000x2, .i32⟩
  | 84 => ⟨S20000x2, .i32⟩
  | 85 => ⟨S20000x1, .i32⟩
  | 86 => ⟨S20000, .i32⟩
  | 87 => ⟨S_, .i32⟩
  | 88 => ⟨S20000, .i32⟩
  | 89 => ⟨S20000, .i32⟩
  | 90 => ⟨S20000x1, .i32⟩
  | 91 => ⟨S20000, .i32⟩
  | 92 => ⟨S20000, .i32⟩
  | 93 => ⟨S_, .i32⟩
  | 94 => ⟨S214272, .i32⟩
  | 95 => ⟨S20000, .i32⟩
  | 96 => ⟨S_, .i32⟩
  | 97 => ⟨S20000, .i32⟩
  | 98 => ⟨S20000, .i1⟩
  | 99 => ⟨S_, .i32⟩
  | 100 => ⟨S20000, .i32⟩
  | 101 => ⟨S20000, .i32⟩
  | 102 => ⟨S20000, .i32⟩
  | 103 => ⟨S20000x1, .i32⟩
  | 104 => ⟨S214272, .i32⟩
  | 105 => ⟨S20000x1, .i32⟩
  | 106 => ⟨S9x1, .i32⟩
  | 107 => ⟨S9, .i32⟩
  | 108 => ⟨S1x9, .i32⟩
  | 109 => ⟨S20000x9, .i32⟩
  | 110 => ⟨S20000x9, .i32⟩
  | 111 => ⟨S20000x9, .i32⟩
  | 112 => ⟨S_, .i32⟩
  | 113 => ⟨S_, .i32⟩
  | 114 => ⟨S_, .i32⟩
  | 115 => ⟨S20000x9, .i32⟩
  | 116 => ⟨S20000x9, .i32⟩
  | 117 => ⟨S_, .i32⟩
  | 118 => ⟨S20000x9, .i32⟩
  | 119 => ⟨S20000x9, .i32⟩
  | 120 => ⟨S20000x1, .i32⟩
  | 121 => ⟨S9x1, .i32⟩
  | 122 => ⟨S9, .i32⟩
  | 123 => ⟨S1x9, .i32⟩
  | 124 => ⟨S20000x9, .i32⟩
  | 125 => ⟨S20000x9, .i32⟩
  | 126 => ⟨S20000x9, .i32⟩
  | 127 => ⟨S_, .i32⟩
  | _ => ⟨S2x20000x32, .f32⟩

abbrev hbmTy0_2 (i : Nat) : BufTy := match i % 128 with
  | 0 => ⟨S_, .i32⟩
  | 1 => ⟨S_, .i32⟩
  | 2 => ⟨S20000x9, .i32⟩
  | 3 => ⟨S20000x9, .i32⟩
  | 4 => ⟨S_, .i32⟩
  | 5 => ⟨S20000x9, .i32⟩
  | 6 => ⟨S20000x9, .i32⟩
  | 7 => ⟨S_, .i32⟩
  | 8 => ⟨S20000x9, .i32⟩
  | 9 => ⟨S20000x9, .i32⟩
  | 10 => ⟨S20000x9, .i32⟩
  | 11 => ⟨S_, .i32⟩
  | 12 => ⟨S20000x9, .i32⟩
  | 13 => ⟨S20000x9, .i1⟩
  | 14 => ⟨S_, .i32⟩
  | 15 => ⟨S20000x9, .i32⟩
  | 16 => ⟨S20000x9, .i32⟩
  | 17 => ⟨S20000x9, .i32⟩
  | 18 => ⟨S20000x9x1, .i32⟩
  | 19 => ⟨S20000x9, .i32⟩
  | 20 => ⟨S_, .i32⟩
  | 21 => ⟨S20000x9, .i32⟩
  | 22 => ⟨S20000x9, .i1⟩
  | 23 => ⟨S20000x9x1, .i1⟩
  | 24 => ⟨S_, .i32⟩
  | 25 => ⟨S_, .i32⟩
  | 26 => ⟨S_, .i32⟩
  | 27 => ⟨S20000x9, .i32⟩
  | 28 => ⟨S20000x9, .i32⟩
  | 29 => ⟨S_, .i32⟩
  | 30 => ⟨S20000x9, .i32⟩
  | 31 => ⟨S20000x9, .i32⟩
  | 32 => ⟨S_, .i32⟩
  | 33 => ⟨S20000x9, .i32⟩
  | 34 => ⟨S20000x9, .i1⟩
  | 35 => ⟨S_, .i32⟩
  | 36 => ⟨S20000x9, .i32⟩
  | 37 => ⟨S20000x9, .i32⟩
  | 38 => ⟨S20000x9, .i32⟩
  | 39 => ⟨S20000x9x1, .i32⟩
  | 40 => ⟨S1, .i32⟩
  | 41 => ⟨S_, .i32⟩
  | 42 => ⟨S20000x9x1, .i32⟩
  | 43 => ⟨S20000x9x1, .i1⟩
  | 44 => ⟨S1x1x1, .i32⟩
  | 45 => ⟨S20000x9x1, .i32⟩
  | 46 => ⟨S20000x9x1, .i1⟩
  | 47 => ⟨S20000x9x1, .i1⟩
  | 48 => ⟨S_, .i1⟩
  | 49 => ⟨S20000x9, .i1⟩
  | 50 => ⟨S20000x9x32, .f32⟩
  | 51 => ⟨S20000x9x32, .i1⟩
  | 52 => ⟨S_, .f32⟩
  | 53 => ⟨S20000x9x32, .f32⟩
  | 54 => ⟨S20000x9x32, .f32⟩
  | 55 => ⟨S_, .f32⟩
  | 56 => ⟨S_, .f32⟩
  | 57 => ⟨S20000x9x32, .i1⟩
  | 58 => ⟨S20000x9x32, .f32⟩
  | 59 => ⟨S20000x9x32, .f32⟩
  | 60 => ⟨S20000x1x32, .f32⟩
  | 61 => ⟨S32x32, .f32⟩
  | 62 => ⟨S32x32, .f32⟩
  | 63 => ⟨S32x32, .f32⟩
  | 64 => ⟨S32, .f32⟩
  | 65 => ⟨S32, .f32⟩
  | 66 => ⟨S32, .f32⟩
  | 67 => ⟨S32x32, .f32⟩
  | 68 => ⟨S20000x1x32, .f32⟩
  | 69 => ⟨S1x1x32, .f32⟩
  | 70 => ⟨S20000x1x32, .f32⟩
  | 71 => ⟨S20000x1x32, .f32⟩
  | 72 => ⟨S32x32, .f32⟩
  | 73 => ⟨S20000x9x32, .f32⟩
  | 74 => ⟨S1x1x32, .f32⟩
  | 75 => ⟨S20000x9x32, .f32⟩
  | 76 => ⟨S20000x9x32, .f32⟩
  | 77 => ⟨S32x32, .f32⟩
  | 78 => ⟨S20000x9x32, .f32⟩
  | 79 => ⟨S1x1x32, .f32⟩
  | 80 => ⟨S20000x9x32, .f32⟩
  | 81 => ⟨S20000x9x32, .f32⟩
  | 82 => ⟨S20000x1x2x16, .f32⟩
  | 83 => ⟨S20000x2x1x16, .f32⟩
  | 84 => ⟨S20000x9x2x16, .f32⟩
  | 85 => ⟨S20000x2x9x16, .f32⟩
  | 86 => ⟨S20000x9x2x16, .f32⟩
  | 87 => ⟨S20000x2x9x16, .f32⟩
  | 88 => ⟨S20000x2x16x9, .f32⟩
  | 89 => ⟨S20000x2x1x9, .f32⟩
  | 90 => ⟨S_, .f32⟩
  | 91 => ⟨S20000x2x1x9, .f32⟩
  | 92 => ⟨S20000x2x1x9, .f32⟩
  | 93 => ⟨S_, .f32⟩
  | 94 => ⟨S20000x2x1, .f32⟩
  | 95 => ⟨S_, .f32⟩
  | 96 => ⟨S20000x2x1, .f32⟩
  | 97 => ⟨S20000x2x1, .f32⟩
  | 98 => ⟨S20000x2x1x1, .f32⟩
  | 99 => ⟨S20000x2x1x9, .f32⟩
  | 100 => ⟨S20000x2x1x9, .f32⟩
  | 101 => ⟨S20000x2x1x9, .f32⟩
  | 102 => ⟨S_, .f32⟩
  | 103 => ⟨S20000x2x1, .f32⟩
  | 104 => ⟨S20000x2x1x1, .f32⟩
  | 105 => ⟨S20000x2x1x9, .f32⟩
  | 106 => ⟨S20000x2x1x9, .f32⟩
  | 107 => ⟨S20000x2x1x16, .f32⟩
  | 108 => ⟨S20000x1x2x16, .f32⟩
  | 109 => ⟨S20000x1x32, .f32⟩
  | 110 => ⟨S32x32, .f32⟩
  | 111 => ⟨S20000x1x32, .f32⟩
  | 112 => ⟨S1x1x32, .f32⟩
  | 113 => ⟨S20000x1x32, .f32⟩
  | 114 => ⟨S20000x1x32, .f32⟩
  | 115 => ⟨S20000x32, .f32⟩
  | 116 => ⟨S20000x32, .f32⟩
  | 117 => ⟨S20000x1, .i32⟩
  | 118 => ⟨S20000, .i32⟩
  | 119 => ⟨S_, .i32⟩
  | 120 => ⟨S20000, .i32⟩
  | 121 => ⟨S20000, .i32⟩
  | 122 => ⟨S20000x1, .i32⟩
  | 123 => ⟨S20000, .i32⟩
  | 124 => ⟨S20000, .i32⟩
  | 125 => ⟨S_, .f32⟩
  | 126 => ⟨S32x214272, .f32⟩
  | 127 => ⟨S32x20000, .f32⟩
  | _ => ⟨S2x20000x32, .f32⟩

abbrev hbmTy0_3 (i : Nat) : BufTy := match i % 128 with
  | 0 => ⟨S_, .i32⟩
  | 1 => ⟨S20000, .i32⟩
  | 2 => ⟨S20000, .i1⟩
  | 3 => ⟨S_, .i32⟩
  | 4 => ⟨S20000, .i32⟩
  | 5 => ⟨S20000, .i32⟩
  | 6 => ⟨S20000, .i32⟩
  | 7 => ⟨S20000x1, .i32⟩
  | 8 => ⟨S32x214272, .f32⟩
  | 9 => ⟨S1x32x496x432, .f32⟩
  | 10 => ⟨S1x20000x32, .f32⟩
  | 11 => ⟨S20000x32, .f32⟩
  | 12 => ⟨S1x20000x2, .i32⟩
  | 13 => ⟨S20000x2, .i32⟩
  | 14 => ⟨S1x20000x32, .f32⟩
  | 15 => ⟨S20000x32, .f32⟩
  | 16 => ⟨S1x20000x2, .i32⟩
  | 17 => ⟨S20000x2, .i32⟩
  | 18 => ⟨S20000x1, .i32⟩
  | 19 => ⟨S20000, .i32⟩
  | 20 => ⟨S_, .i32⟩
  | 21 => ⟨S20000, .i32⟩
  | 22 => ⟨S20000, .i32⟩
  | 23 => ⟨S20000x1, .i32⟩
  | 24 => ⟨S20000, .i32⟩
  | 25 => ⟨S20000, .i32⟩
  | 26 => ⟨S_, .i32⟩
  | 27 => ⟨S214272, .i32⟩
  | 28 => ⟨S20000, .i32⟩
  | 29 => ⟨S_, .i32⟩
  | 30 => ⟨S20000, .i32⟩
  | 31 => ⟨S20000, .i1⟩
  | 32 => ⟨S_, .i32⟩
  | 33 => ⟨S20000, .i32⟩
  | 34 => ⟨S20000, .i32⟩
  | 35 => ⟨S20000, .i32⟩
  | 36 => ⟨S20000x1, .i32⟩
  | 37 => ⟨S214272, .i32⟩
  | 38 => ⟨S20000x1, .i32⟩
  | 39 => ⟨S9x1, .i32⟩
  | 40 => ⟨S9, .i32⟩
  | 41 => ⟨S1x9, .i32⟩
  | 42 => ⟨S20000x9, .i32⟩
  | 43 => ⟨S20000x9, .i32⟩
  | 44 => ⟨S20000x9, .i32⟩
  | 45 => ⟨S_, .i32⟩
  | 46 => ⟨S_, .i32⟩
  | 47 => ⟨S_, .i32⟩
  | 48 => ⟨S20000x9, .i32⟩
  | 49 => ⟨S20000x9, .i32⟩
  | 50 => ⟨S_, .i32⟩
  | 51 => ⟨S20000x9, .i32⟩
  | 52 => ⟨S20000x9, .i32⟩
  | 53 => ⟨S20000x1, .i32⟩
  | 54 => ⟨S9x1, .i32⟩
  | 55 => ⟨S9, .i32⟩
  | 56 => ⟨S1x9, .i32⟩
  | 57 => ⟨S20000x9, .i32⟩
  | 58 => ⟨S20000x9, .i32⟩
  | 59 => ⟨S20000x9, .i32⟩
  | 60 => ⟨S_, .i32⟩
  | 61 => ⟨S_, .i32⟩
  | 62 => ⟨S_, .i32⟩
  | 63 => ⟨S20000x9, .i32⟩
  | 64 => ⟨S20000x9, .i32⟩
  | 65 => ⟨S_, .i32⟩
  | 66 => ⟨S20000x9, .i32⟩
  | 67 => ⟨S20000x9, .i32⟩
  | 68 => ⟨S_, .i32⟩
  | 69 => ⟨S20000x9, .i32⟩
  | 70 => ⟨S20000x9, .i32⟩
  | 71 => ⟨S20000x9, .i32⟩
  | 72 => ⟨S_, .i32⟩
  | 73 => ⟨S20000x9, .i32⟩
  | 74 => ⟨S20000x9, .i1⟩
  | 75 => ⟨S_, .i32⟩
  | 76 => ⟨S20000x9, .i32⟩
  | 77 => ⟨S20000x9, .i32⟩
  | 78 => ⟨S20000x9, .i32⟩
  | 79 => ⟨S20000x9x1, .i32⟩
  | 80 => ⟨S20000x9, .i32⟩
  | 81 => ⟨S_, .i32⟩
  | 82 => ⟨S20000x9, .i32⟩
  | 83 => ⟨S20000x9, .i1⟩
  | 84 => ⟨S20000x9x1, .i1⟩
  | 85 => ⟨S_, .i32⟩
  | 86 => ⟨S_, .i32⟩
  | 87 => ⟨S_, .i32⟩
  | 88 => ⟨S20000x9, .i32⟩
  | 89 => ⟨S20000x9, .i32⟩
  | 90 => ⟨S_, .i32⟩
  | 91 => ⟨S20000x9, .i32⟩
  | 92 => ⟨S20000x9, .i32⟩
  | 93 => ⟨S_, .i32⟩
  | 94 => ⟨S20000x9, .i32⟩
  | 95 => ⟨S20000x9, .i1⟩
  | 96 => ⟨S_, .i32⟩
  | 97 => ⟨S20000x9, .i32⟩
  | 98 => ⟨S20000x9, .i32⟩
  | 99 => ⟨S20000x9, .i32⟩
  | 100 => ⟨S20000x9x1, .i32⟩
  | 101 => ⟨S1, .i32⟩
  | 102 => ⟨S_, .i32⟩
  | 103 => ⟨S20000x9x1, .i32⟩
  | 104 => ⟨S20000x9x1, .i1⟩
  | 105 => ⟨S1x1x1, .i32⟩
  | 106 => ⟨S20000x9x1, .i32⟩
  | 107 => ⟨S20000x9x1, .i1⟩
  | 108 => ⟨S20000x9x1, .i1⟩
  | 109 => ⟨S_, .i1⟩
  | 110 => ⟨S20000x9, .i1⟩
  | 111 => ⟨S20000x9x32, .f32⟩
  | 112 => ⟨S20000x9x32, .i1⟩
  | 113 => ⟨S_, .f32⟩
  | 114 => ⟨S20000x9x32, .f32⟩
  | 115 => ⟨S20000x9x32, .f32⟩
  | 116 => ⟨S_, .f32⟩
  | 117 => ⟨S_, .f32⟩
  | 118 => ⟨S20000x9x32, .i1⟩
  | 119 => ⟨S20000x9x32, .f32⟩
  | 120 => ⟨S20000x9x32, .f32⟩
  | 121 => ⟨S20000x1x32, .f32⟩
  | 122 => ⟨S32x32, .f32⟩
  | 123 => ⟨S32x32, .f32⟩
  | 124 => ⟨S32x32, .f32⟩
  | 125 => ⟨S32, .f32⟩
  | 126 => ⟨S32, .f32⟩
  | 127 => ⟨S32, .f32⟩
  | _ => ⟨S2x20000x32, .f32⟩

abbrev hbmTy0_4 (i : Nat) : BufTy := match i % 128 with
  | 0 => ⟨S32x32, .f32⟩
  | 1 => ⟨S20000x1x32, .f32⟩
  | 2 => ⟨S1x1x32, .f32⟩
  | 3 => ⟨S20000x1x32, .f32⟩
  | 4 => ⟨S20000x1x32, .f32⟩
  | 5 => ⟨S32x32, .f32⟩
  | 6 => ⟨S20000x9x32, .f32⟩
  | 7 => ⟨S1x1x32, .f32⟩
  | 8 => ⟨S20000x9x32, .f32⟩
  | 9 => ⟨S20000x9x32, .f32⟩
  | 10 => ⟨S32x32, .f32⟩
  | 11 => ⟨S20000x9x32, .f32⟩
  | 12 => ⟨S1x1x32, .f32⟩
  | 13 => ⟨S20000x9x32, .f32⟩
  | 14 => ⟨S20000x9x32, .f32⟩
  | 15 => ⟨S20000x1x2x16, .f32⟩
  | 16 => ⟨S20000x2x1x16, .f32⟩
  | 17 => ⟨S20000x9x2x16, .f32⟩
  | 18 => ⟨S20000x2x9x16, .f32⟩
  | 19 => ⟨S20000x9x2x16, .f32⟩
  | 20 => ⟨S20000x2x9x16, .f32⟩
  | 21 => ⟨S20000x2x16x9, .f32⟩
  | 22 => ⟨S20000x2x1x9, .f32⟩
  | 23 => ⟨S_, .f32⟩
  | 24 => ⟨S20000x2x1x9, .f32⟩
  | 25 => ⟨S20000x2x1x9, .f32⟩
  | 26 => ⟨S_, .f32⟩
  | 27 => ⟨S20000x2x1, .f32⟩
  | 28 => ⟨S_, .f32⟩
  | 29 => ⟨S20000x2x1, .f32⟩
  | 30 => ⟨S20000x2x1, .f32⟩
  | 31 => ⟨S20000x2x1x1, .f32⟩
  | 32 => ⟨S20000x2x1x9, .f32⟩
  | 33 => ⟨S20000x2x1x9, .f32⟩
  | 34 => ⟨S20000x2x1x9, .f32⟩
  | 35 => ⟨S_, .f32⟩
  | 36 => ⟨S20000x2x1, .f32⟩
  | 37 => ⟨S20000x2x1x1, .f32⟩
  | 38 => ⟨S20000x2x1x9, .f32⟩
  | 39 => ⟨S20000x2x1x9, .f32⟩
  | 40 => ⟨S20000x2x1x16, .f32⟩
  | 41 => ⟨S20000x1x2x16, .f32⟩
  | 42 => ⟨S20000x1x32, .f32⟩
  | 43 => ⟨S32x32, .f32⟩
  | 44 => ⟨S20000x1x32, .f32⟩
  | 45 => ⟨S1x1x32, .f32⟩
  | 46 => ⟨S20000x1x32, .f32⟩
  | 47 => ⟨S20000x1x32, .f32⟩
  | 48 => ⟨S20000x32, .f32⟩
  | 49 => ⟨S20000x32, .f32⟩
  | 50 => ⟨S20000x1, .i32⟩
  | 51 => ⟨S20000, .i32⟩
  | 52 => ⟨S_, .i32⟩
  | 53 => ⟨S20000, .i32⟩
  | 54 => ⟨S20000, .i32⟩
  | 55 => ⟨S20000x1, .i32⟩
  | 56 => ⟨S20000, .i32⟩
  | 57 => ⟨S20000, .i32⟩
  | 58 => ⟨S_, .f32⟩
  | 59 => ⟨S32x214272, .f32⟩
  | 60 => ⟨S32x20000, .f32⟩
  | 61 => ⟨S_, .i32⟩
  | 62 => ⟨S20000, .i32⟩
  | 63 => ⟨S20000, .i1⟩
  | 64 => ⟨S_, .i32⟩
  | 65 => ⟨S20000, .i32⟩
  | 66 => ⟨S20000, .i32⟩
  | 67 => ⟨S20000, .i32⟩
  | 68 => ⟨S20000x1, .i32⟩
  | 69 => ⟨S32x214272, .f32⟩
  | 70 => ⟨S1x32x496x432, .f32⟩
  | 71 => ⟨S1x20000x32, .f32⟩
  | 72 => ⟨S20000x32, .f32⟩
  | 73 => ⟨S1x20000x2, .i32⟩
  | 74 => ⟨S20000x2, .i32⟩
  | 75 => ⟨S1x20000x32, .f32⟩
  | 76 => ⟨S20000x32, .f32⟩
  | 77 => ⟨S1x20000x2, .i32⟩
  | 78 => ⟨S20000x2, .i32⟩
  | 79 => ⟨S20000x1, .i32⟩
  | 80 => ⟨S20000, .i32⟩
  | 81 => ⟨S_, .i32⟩
  | 82 => ⟨S20000, .i32⟩
  | 83 => ⟨S20000, .i32⟩
  | 84 => ⟨S20000x1, .i32⟩
  | 85 => ⟨S20000, .i32⟩
  | 86 => ⟨S20000, .i32⟩
  | 87 => ⟨S_, .i32⟩
  | 88 => ⟨S214272, .i32⟩
  | 89 => ⟨S20000, .i32⟩
  | 90 => ⟨S_, .i32⟩
  | 91 => ⟨S20000, .i32⟩
  | 92 => ⟨S20000, .i1⟩
  | 93 => ⟨S_, .i32⟩
  | 94 => ⟨S20000, .i32⟩
  | 95 => ⟨S20000, .i32⟩
  | 96 => ⟨S20000, .i32⟩
  | 97 => ⟨S20000x1, .i32⟩
  | 98 => ⟨S214272, .i32⟩
  | 99 => ⟨S20000x1, .i32⟩
  | 100 => ⟨S9x1, .i32⟩
  | 101 => ⟨S9, .i32⟩
  | 102 => ⟨S1x9, .i32⟩
  | 103 => ⟨S20000x9, .i32⟩
  | 104 => ⟨S20000x9, .i32⟩
  | 105 => ⟨S20000x9, .i32⟩
  | 106 => ⟨S_, .i32⟩
  | 107 => ⟨S_, .i32⟩
  | 108 => ⟨S_, .i32⟩
  | 109 => ⟨S20000x9, .i32⟩
  | 110 => ⟨S20000x9, .i32⟩
  | 111 => ⟨S_, .i32⟩
  | 112 => ⟨S20000x9, .i32⟩
  | 113 => ⟨S20000x9, .i32⟩
  | 114 => ⟨S20000x1, .i32⟩
  | 115 => ⟨S9x1, .i32⟩
  | 116 => ⟨S9, .i32⟩
  | 117 => ⟨S1x9, .i32⟩
  | 118 => ⟨S20000x9, .i32⟩
  | 119 => ⟨S20000x9, .i32⟩
  | 120 => ⟨S20000x9, .i32⟩
  | 121 => ⟨S_, .i32⟩
  | 122 => ⟨S_, .i32⟩
  | 123 => ⟨S_, .i32⟩
  | 124 => ⟨S20000x9, .i32⟩
  | 125 => ⟨S20000x9, .i32⟩
  | 126 => ⟨S_, .i32⟩
  | 127 => ⟨S20000x9, .i32⟩
  | _ => ⟨S2x20000x32, .f32⟩

abbrev hbmTy0_5 (i : Nat) : BufTy := match i % 128 with
  | 0 => ⟨S20000x9, .i32⟩
  | 1 => ⟨S_, .i32⟩
  | 2 => ⟨S20000x9, .i32⟩
  | 3 => ⟨S20000x9, .i32⟩
  | 4 => ⟨S20000x9, .i32⟩
  | 5 => ⟨S_, .i32⟩
  | 6 => ⟨S20000x9, .i32⟩
  | 7 => ⟨S20000x9, .i1⟩
  | 8 => ⟨S_, .i32⟩
  | 9 => ⟨S20000x9, .i32⟩
  | 10 => ⟨S20000x9, .i32⟩
  | 11 => ⟨S20000x9, .i32⟩
  | 12 => ⟨S20000x9x1, .i32⟩
  | 13 => ⟨S20000x9, .i32⟩
  | 14 => ⟨S_, .i32⟩
  | 15 => ⟨S20000x9, .i32⟩
  | 16 => ⟨S20000x9, .i1⟩
  | 17 => ⟨S20000x9x1, .i1⟩
  | 18 => ⟨S_, .i32⟩
  | 19 => ⟨S_, .i32⟩
  | 20 => ⟨S_, .i32⟩
  | 21 => ⟨S20000x9, .i32⟩
  | 22 => ⟨S20000x9, .i32⟩
  | 23 => ⟨S_, .i32⟩
  | 24 => ⟨S20000x9, .i32⟩
  | 25 => ⟨S20000x9, .i32⟩
  | 26 => ⟨S_, .i32⟩
  | 27 => ⟨S20000x9, .i32⟩
  | 28 => ⟨S20000x9, .i1⟩
  | 29 => ⟨S_, .i32⟩
  | 30 => ⟨S20000x9, .i32⟩
  | 31 => ⟨S20000x9, .i32⟩
  | 32 => ⟨S20000x9, .i32⟩
  | 33 => ⟨S20000x9x1, .i32⟩
  | 34 => ⟨S1, .i32⟩
  | 35 => ⟨S_, .i32⟩
  | 36 => ⟨S20000x9x1, .i32⟩
  | 37 => ⟨S20000x9x1, .i1⟩
  | 38 => ⟨S1x1x1, .i32⟩
  | 39 => ⟨S20000x9x1, .i32⟩
  | 40 => ⟨S20000x9x1, .i1⟩
  | 41 => ⟨S20000x9x1, .i1⟩
  | 42 => ⟨S_, .i1⟩
  | 43 => ⟨S20000x9, .i1⟩
  | 44 => ⟨S20000x9x32, .f32⟩
  | 45 => ⟨S20000x9x32, .i1⟩
  | 46 => ⟨S_, .f32⟩
  | 47 => ⟨S20000x9x32, .f32⟩
  | 48 => ⟨S20000x9x32, .f32⟩
  | 49 => ⟨S_, .f32⟩
  | 50 => ⟨S_, .f32⟩
  | 51 => ⟨S20000x9x32, .i1⟩
  | 52 => ⟨S20000x9x32, .f32⟩
  | 53 => ⟨S20000x9x32, .f32⟩
  | 54 => ⟨S20000x1x32, .f32⟩
  | 55 => ⟨S32x32, .f32⟩
  | 56 => ⟨S32x32, .f32⟩
  | 57 => ⟨S32x32, .f32⟩
  | 58 => ⟨S32, .f32⟩
  | 59 => ⟨S32, .f32⟩
  | 60 => ⟨S32, .f32⟩
  | 61 => ⟨S32x32, .f32⟩
  | 62 => ⟨S20000x1x32, .f32⟩
  | 63 => ⟨S1x1x32, .f32⟩
  | 64 => ⟨S20000x1x32, .f32⟩
  | 65 => ⟨S20000x1x32, .f32⟩
  | 66 => ⟨S32x32, .f32⟩
  | 67 => ⟨S20000x9x32, .f32⟩
  | 68 => ⟨S1x1x32, .f32⟩
  | 69 => ⟨S20000x9x32, .f32⟩
  | 70 => ⟨S20000x9x32, .f32⟩
  | 71 => ⟨S32x32, .f32⟩
  | 72 => ⟨S20000x9x32, .f32⟩
  | 73 => ⟨S1x1x32, .f32⟩
  | 74 => ⟨S20000x9x32, .f32⟩
  | 75 => ⟨S20000x9x32, .f32⟩
  | 76 => ⟨S20000x1x2x16, .f32⟩
  | 77 => ⟨S20000x2x1x16, .f32⟩
  | 78 => ⟨S20000x9x2x16, .f32⟩
  | 79 => ⟨S20000x2x9x16, .f32⟩
  | 80 => ⟨S20000x9x2x16, .f32⟩
  | 81 => ⟨S20000x2x9x16, .f32⟩
  | 82 => ⟨S20000x2x16x9, .f32⟩
  | 83 => ⟨S20000x2x1x9, .f32⟩
  | 84 => ⟨S_, .f32⟩
  | 85 => ⟨S20000x2x1x9, .f32⟩
  | 86 => ⟨S20000x2x1x9, .f32⟩
  | 87 => ⟨S_, .f32⟩
  | 88 => ⟨S20000x2x1, .f32⟩
  | 89 => ⟨S_, .f32⟩
  | 90 => ⟨S20000x2x1, .f32⟩
  | 91 => ⟨S20000x2x1, .f32⟩
  | 92 => ⟨S20000x2x1x1, .f32⟩
  | 93 => ⟨S20000x2x1x9, .f32⟩
  | 94 => ⟨S20000x2x1x9, .f32⟩
  | 95 => ⟨S20000x2x1x9, .f32⟩
  | 96 => ⟨S_, .f32⟩
  | 97 => ⟨S20000x2x1, .f32⟩
  | 98 => ⟨S20000x2x1x1, .f32⟩
  | 99 => ⟨S20000x2x1x9, .f32⟩
  | 100 => ⟨S20000x2x1x9, .f32⟩
  | 101 => ⟨S20000x2x1x16, .f32⟩
  | 102 => ⟨S20000x1x2x16, .f32⟩
  | 103 => ⟨S20000x1x32, .f32⟩
  | 104 => ⟨S32x32, .f32⟩
  | 105 => ⟨S20000x1x32, .f32⟩
  | 106 => ⟨S1x1x32, .f32⟩
  | 107 => ⟨S20000x1x32, .f32⟩
  | 108 => ⟨S20000x1x32, .f32⟩
  | 109 => ⟨S20000x32, .f32⟩
  | 110 => ⟨S20000x32, .f32⟩
  | 111 => ⟨S20000x1, .i32⟩
  | 112 => ⟨S20000, .i32⟩
  | 113 => ⟨S_, .i32⟩
  | 114 => ⟨S20000, .i32⟩
  | 115 => ⟨S20000, .i32⟩
  | 116 => ⟨S20000x1, .i32⟩
  | 117 => ⟨S20000, .i32⟩
  | 118 => ⟨S20000, .i32⟩
  | 119 => ⟨S_, .f32⟩
  | 120 => ⟨S32x214272, .f32⟩
  | 121 => ⟨S32x20000, .f32⟩
  | 122 => ⟨S_, .i32⟩
  | 123 => ⟨S20000, .i32⟩
  | 124 => ⟨S20000, .i1⟩
  | 125 => ⟨S_, .i32⟩
  | 126 => ⟨S20000, .i32⟩
  | 127 => ⟨S20000, .i32⟩
  | _ => ⟨S2x20000x32, .f32⟩

abbrev hbmTy0_6 (i : Nat) : BufTy := match i % 128 with
  | 0 => ⟨S20000, .i32⟩
  | 1 => ⟨S20000x1, .i32⟩
  | 2 => ⟨S32x214272, .f32⟩
  | 3 => ⟨S1x32x496x432, .f32⟩
  | 4 => ⟨S2x32x496x432, .f32⟩
  | 5 => ⟨S2x32x496x432, .f32⟩
  | _ => ⟨S2x20000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2x20000x32, .f32⟩

abbrev bufTy : (tb : Table) → Fin (tcTables nBuf tb) → BufTy
  | .hbm, ⟨i, _⟩ => hbmTy i
  | _, _ => ⟨S2x20000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_c_8 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_c_10 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v39 : Ref sig .tc := ⟨.hbm, 73, rfl⟩
abbrev main_c_11 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_12 : Ref sig .tc := ⟨.hbm, 78, rfl⟩
abbrev main_v43 : Ref sig .tc := ⟨.hbm, 79, rfl⟩
abbrev main_v44 : Ref sig .tc := ⟨.hbm, 80, rfl⟩
abbrev main_c_13 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_14 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_15 : Ref sig .tc := ⟨.hbm, 91, rfl⟩
abbrev main_c_16 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v53 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v54 : Ref sig .tc := ⟨.hbm, 121, rfl⟩
abbrev main_cst : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_cst_17 : Ref sig .tc := ⟨.hbm, 157, rfl⟩
abbrev main_v86 : Ref sig .tc := ⟨.hbm, 158, rfl⟩
abbrev main_v87 : Ref sig .tc := ⟨.hbm, 159, rfl⟩
abbrev main_cst_18 : Ref sig .tc := ⟨.hbm, 160, rfl⟩
abbrev main_v88 : Ref sig .tc := ⟨.hbm, 161, rfl⟩
abbrev main_cst_19 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_20 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_c_21 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_cst_22 : Ref sig .tc := ⟨.hbm, 192, rfl⟩
abbrev main_v116 : Ref sig .tc := ⟨.hbm, 193, rfl⟩
abbrev main_v117 : Ref sig .tc := ⟨.hbm, 194, rfl⟩
abbrev main_c_23 : Ref sig .tc := ⟨.hbm, 195, rfl⟩
abbrev main_v118 : Ref sig .tc := ⟨.hbm, 196, rfl⟩
abbrev main_v119 : Ref sig .tc := ⟨.hbm, 197, rfl⟩
abbrev main_c_24 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_c_25 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_c_26 : Ref sig .tc := ⟨.hbm, 221, rfl⟩
abbrev main_v141 : Ref sig .tc := ⟨.hbm, 222, rfl⟩
abbrev main_v142 : Ref sig .tc := ⟨.hbm, 223, rfl⟩
abbrev main_c_27 : Ref sig .tc := ⟨.hbm, 224, rfl⟩
abbrev main_v143 : Ref sig .tc := ⟨.hbm, 225, rfl⟩
abbrev main_v144 : Ref sig .tc := ⟨.hbm, 226, rfl⟩
abbrev main_c_28 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_c_29 : Ref sig .tc := ⟨.hbm, 240, rfl⟩
abbrev main_c_30 : Ref sig .tc := ⟨.hbm, 241, rfl⟩
abbrev main_call5_v0 : Ref sig .tc := ⟨.hbm, 242, rfl⟩
abbrev main_call5_v1 : Ref sig .tc := ⟨.hbm, 243, rfl⟩
abbrev main_call5_v2 : Ref sig .tc := ⟨.hbm, 244, rfl⟩
abbrev main_call5_v3 : Ref sig .tc := ⟨.hbm, 245, rfl⟩
abbrev main_call5_v4 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_c_31 : Ref sig .tc := ⟨.hbm, 255, rfl⟩
abbrev main_c_32 : Ref sig .tc := ⟨.hbm, 256, rfl⟩
abbrev main_call6_v0 : Ref sig .tc := ⟨.hbm, 257, rfl⟩
abbrev main_call6_v1 : Ref sig .tc := ⟨.hbm, 258, rfl⟩
abbrev main_call6_v2 : Ref sig .tc := ⟨.hbm, 259, rfl⟩
abbrev main_call6_v3 : Ref sig .tc := ⟨.hbm, 260, rfl⟩
abbrev main_call6_v4 : Ref sig .tc := ⟨.hbm, 261, rfl⟩
abbrev main_v165 : Ref sig .tc := ⟨.hbm, 262, rfl⟩
abbrev main_c_33 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_c_34 : Ref sig .tc := ⟨.hbm, 267, rfl⟩
abbrev main_v169 : Ref sig .tc := ⟨.hbm, 268, rfl⟩
abbrev main_v170 : Ref sig .tc := ⟨.hbm, 269, rfl⟩
abbrev main_c_35 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_c_36 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_c_37 : Ref sig .tc := ⟨.hbm, 280, rfl⟩
abbrev main_c_38 : Ref sig .tc := ⟨.hbm, 281, rfl⟩
abbrev main_call7_v0 : Ref sig .tc := ⟨.hbm, 282, rfl⟩
abbrev main_call7_v1 : Ref sig .tc := ⟨.hbm, 283, rfl⟩
abbrev main_call7_v2 : Ref sig .tc := ⟨.hbm, 284, rfl⟩
abbrev main_call7_v3 : Ref sig .tc := ⟨.hbm, 285, rfl⟩
abbrev main_call7_v4 : Ref sig .tc := ⟨.hbm, 286, rfl⟩
abbrev main_v179 : Ref sig .tc := ⟨.hbm, 287, rfl⟩
abbrev main_call8_c : Ref sig .tc := ⟨.hbm, 288, rfl⟩
abbrev main_call8_v0 : Ref sig .tc := ⟨.hbm, 289, rfl⟩
abbrev main_call8_v1 : Ref sig .tc := ⟨.hbm, 290, rfl⟩
abbrev main_call8_c_0 : Ref sig .tc := ⟨.hbm, 291, rfl⟩
abbrev main_call8_v2 : Ref sig .tc := ⟨.hbm, 292, rfl⟩
abbrev main_call8_v3 : Ref sig .tc := ⟨.hbm, 293, rfl⟩
abbrev main_call8_v4 : Ref sig .tc := ⟨.hbm, 294, rfl⟩
abbrev main_call8_v5 : Ref sig .tc := ⟨.hbm, 295, rfl⟩
abbrev main_call8_c_1 : Ref sig .tc := ⟨.hbm, 296, rfl⟩
abbrev main_call8_c_2 : Ref sig .tc := ⟨.hbm, 297, rfl⟩
abbrev main_call8_v6 : Ref sig .tc := ⟨.hbm, 298, rfl⟩
abbrev main_call8_v7 : Ref sig .tc := ⟨.hbm, 299, rfl⟩
abbrev main_call8_v8 : Ref sig .tc := ⟨.hbm, 300, rfl⟩
abbrev main_call8_v9 : Ref sig .tc := ⟨.hbm, 301, rfl⟩
abbrev main_call8_v10 : Ref sig .tc := ⟨.hbm, 302, rfl⟩
abbrev main_call8_v11 : Ref sig .tc := ⟨.hbm, 303, rfl⟩
abbrev main_call8_c_3 : Ref sig .tc := ⟨.hbm, 304, rfl⟩
abbrev main_call8_v12 : Ref sig .tc := ⟨.hbm, 305, rfl⟩
abbrev main_call8_v13 : Ref sig .tc := ⟨.hbm, 306, rfl⟩
abbrev main_call8_v14 : Ref sig .tc := ⟨.hbm, 307, rfl⟩
abbrev main_call8_cst : Ref sig .tc := ⟨.hbm, 308, rfl⟩
abbrev main_call8_v15 : Ref sig .tc := ⟨.hbm, 309, rfl⟩
abbrev main_v180 : Ref sig .tc := ⟨.hbm, 310, rfl⟩
abbrev main_cst_39 : Ref sig .tc := ⟨.hbm, 311, rfl⟩
abbrev main_call9_v0 : Ref sig .tc := ⟨.hbm, 312, rfl⟩
abbrev main_call9_v1 : Ref sig .tc := ⟨.hbm, 313, rfl⟩
abbrev main_call9_v2 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_cst_40 : Ref sig .tc := ⟨.hbm, 346, rfl⟩
abbrev main_v212 : Ref sig .tc := ⟨.hbm, 347, rfl⟩
abbrev main_v213 : Ref sig .tc := ⟨.hbm, 348, rfl⟩
abbrev main_cst_41 : Ref sig .tc := ⟨.hbm, 349, rfl⟩
abbrev main_v214 : Ref sig .tc := ⟨.hbm, 350, rfl⟩
abbrev main_cst_42 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_cst_43 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_v227 : Ref sig .tc := ⟨.hbm, 365, rfl⟩
abbrev main_v228 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_c_44 : Ref sig .tc := ⟨.hbm, 375, rfl⟩
abbrev main_v237 : Ref sig .tc := ⟨.hbm, 376, rfl⟩
abbrev main_v238 : Ref sig .tc := ⟨.hbm, 377, rfl⟩
abbrev main_v239 : Ref sig .tc := ⟨.hbm, 378, rfl⟩
abbrev main_v240 : Ref sig .tc := ⟨.hbm, 379, rfl⟩
abbrev main_v241 : Ref sig .tc := ⟨.hbm, 380, rfl⟩
abbrev main_cst_45 : Ref sig .tc := ⟨.hbm, 381, rfl⟩
abbrev main_v242 : Ref sig .tc := ⟨.hbm, 382, rfl⟩
abbrev main_v243 : Ref sig .tc := ⟨.hbm, 383, rfl⟩
abbrev main_c_46 : Ref sig .tc := ⟨.hbm, 384, rfl⟩
abbrev main_v244 : Ref sig .tc := ⟨.hbm, 385, rfl⟩
abbrev main_v245 : Ref sig .tc := ⟨.hbm, 386, rfl⟩
abbrev main_c_47 : Ref sig .tc := ⟨.hbm, 387, rfl⟩
abbrev main_v246 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_v251 : Ref sig .tc := ⟨.hbm, 393, rfl⟩
abbrev main_v252 : Ref sig .tc := ⟨.hbm, 394, rfl⟩
abbrev main_v253 : Ref sig .tc := ⟨.hbm, 395, rfl⟩
abbrev main_v254 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_c_48 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_c_49 : Ref sig .tc := ⟨.hbm, 410, rfl⟩
abbrev main_v267 : Ref sig .tc := ⟨.hbm, 411, rfl⟩
abbrev main_v268 : Ref sig .tc := ⟨.hbm, 412, rfl⟩
abbrev main_c_50 : Ref sig .tc := ⟨.hbm, 413, rfl⟩
abbrev main_v269 : Ref sig .tc := ⟨.hbm, 414, rfl⟩
abbrev main_v270 : Ref sig .tc := ⟨.hbm, 415, rfl⟩
abbrev main_c_51 : Ref sig .tc := ⟨.hbm, 416, rfl⟩
abbrev main_v271 : Ref sig .tc := ⟨.hbm, 417, rfl⟩
abbrev main_v272 : Ref sig .tc := ⟨.hbm, 418, rfl⟩
abbrev main_v273 : Ref sig .tc := ⟨.hbm, 419, rfl⟩
abbrev main_v274 : Ref sig .tc := ⟨.hbm, 420, rfl⟩
abbrev main_v275 : Ref sig .tc := ⟨.hbm, 421, rfl⟩
abbrev main_v276 : Ref sig .tc := ⟨.hbm, 422, rfl⟩
abbrev main_v277 : Ref sig .tc := ⟨.hbm, 423, rfl⟩
abbrev main_v278 : Ref sig .tc := ⟨.hbm, 424, rfl⟩
abbrev main_v279 : Ref sig .tc := ⟨.hbm, 425, rfl⟩
abbrev main_v280 : Ref sig .tc := ⟨.hbm, 426, rfl⟩
abbrev main_v281 : Ref sig .tc := ⟨.hbm, 427, rfl⟩
abbrev main_v282 : Ref sig .tc := ⟨.hbm, 428, rfl⟩
abbrev main_c_52 : Ref sig .tc := ⟨.hbm, 429, rfl⟩
abbrev main_c_53 : Ref sig .tc := ⟨.hbm, 430, rfl⟩
abbrev main_call10_v0 : Ref sig .tc := ⟨.hbm, 431, rfl⟩
abbrev main_call10_v1 : Ref sig .tc := ⟨.hbm, 432, rfl⟩
abbrev main_call10_v2 : Ref sig .tc := ⟨.hbm, 433, rfl⟩
abbrev main_call10_v3 : Ref sig .tc := ⟨.hbm, 434, rfl⟩
abbrev main_call10_v4 : Ref sig .tc := ⟨.hbm, 435, rfl⟩
abbrev main_v283 : Ref sig .tc := ⟨.hbm, 436, rfl⟩
abbrev main_v284 : Ref sig .tc := ⟨.hbm, 437, rfl⟩
abbrev main_v285 : Ref sig .tc := ⟨.hbm, 438, rfl⟩
abbrev main_v286 : Ref sig .tc := ⟨.hbm, 439, rfl⟩
abbrev main_v287 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_c_54 : Ref sig .tc := ⟨.hbm, 444, rfl⟩
abbrev main_c_55 : Ref sig .tc := ⟨.hbm, 445, rfl⟩
abbrev main_call11_v0 : Ref sig .tc := ⟨.hbm, 446, rfl⟩
abbrev main_call11_v1 : Ref sig .tc := ⟨.hbm, 447, rfl⟩
abbrev main_call11_v2 : Ref sig .tc := ⟨.hbm, 448, rfl⟩
abbrev main_call11_v3 : Ref sig .tc := ⟨.hbm, 449, rfl⟩
abbrev main_call11_v4 : Ref sig .tc := ⟨.hbm, 450, rfl⟩
abbrev main_v291 : Ref sig .tc := ⟨.hbm, 451, rfl⟩
abbrev main_c_56 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_c_57 : Ref sig .tc := ⟨.hbm, 456, rfl⟩
abbrev main_v295 : Ref sig .tc := ⟨.hbm, 457, rfl⟩
abbrev main_v296 : Ref sig .tc := ⟨.hbm, 458, rfl⟩
abbrev main_c_58 : Ref sig .tc := ⟨.hbm, 459, rfl⟩
abbrev main_v297 : Ref sig .tc := ⟨.hbm, 460, rfl⟩
abbrev main_v298 : Ref sig .tc := ⟨.hbm, 461, rfl⟩
abbrev main_v299 : Ref sig .tc := ⟨.hbm, 462, rfl⟩
abbrev main_v300 : Ref sig .tc := ⟨.hbm, 463, rfl⟩
abbrev main_v301 : Ref sig .tc := ⟨.hbm, 464, rfl⟩
abbrev main_c_59 : Ref sig .tc := ⟨.hbm, 465, rfl⟩
abbrev main_v302 : Ref sig .tc := ⟨.hbm, 466, rfl⟩
abbrev main_v303 : Ref sig .tc := ⟨.hbm, 467, rfl⟩
abbrev main_v304 : Ref sig .tc := ⟨.hbm, 468, rfl⟩
abbrev main_c_60 : Ref sig .tc := ⟨.hbm, 469, rfl⟩
abbrev main_c_61 : Ref sig .tc := ⟨.hbm, 470, rfl⟩
abbrev main_call12_v0 : Ref sig .tc := ⟨.hbm, 471, rfl⟩
abbrev main_call12_v1 : Ref sig .tc := ⟨.hbm, 472, rfl⟩
abbrev main_call12_v2 : Ref sig .tc := ⟨.hbm, 473, rfl⟩
abbrev main_call12_v3 : Ref sig .tc := ⟨.hbm, 474, rfl⟩
abbrev main_call12_v4 : Ref sig .tc := ⟨.hbm, 475, rfl⟩
abbrev main_v305 : Ref sig .tc := ⟨.hbm, 476, rfl⟩
abbrev main_call13_c : Ref sig .tc := ⟨.hbm, 477, rfl⟩
abbrev main_call13_v0 : Ref sig .tc := ⟨.hbm, 478, rfl⟩
abbrev main_call13_v1 : Ref sig .tc := ⟨.hbm, 479, rfl⟩
abbrev main_call13_c_0 : Ref sig .tc := ⟨.hbm, 480, rfl⟩
abbrev main_call13_v2 : Ref sig .tc := ⟨.hbm, 481, rfl⟩
abbrev main_call13_v3 : Ref sig .tc := ⟨.hbm, 482, rfl⟩
abbrev main_call13_v4 : Ref sig .tc := ⟨.hbm, 483, rfl⟩
abbrev main_call13_v5 : Ref sig .tc := ⟨.hbm, 484, rfl⟩
abbrev main_call13_c_1 : Ref sig .tc := ⟨.hbm, 485, rfl⟩
abbrev main_call13_c_2 : Ref sig .tc := ⟨.hbm, 486, rfl⟩
abbrev main_call13_v6 : Ref sig .tc := ⟨.hbm, 487, rfl⟩
abbrev main_call13_v7 : Ref sig .tc := ⟨.hbm, 488, rfl⟩
abbrev main_call13_v8 : Ref sig .tc := ⟨.hbm, 489, rfl⟩
abbrev main_call13_v9 : Ref sig .tc := ⟨.hbm, 490, rfl⟩
abbrev main_call13_v10 : Ref sig .tc := ⟨.hbm, 491, rfl⟩
abbrev main_call13_v11 : Ref sig .tc := ⟨.hbm, 492, rfl⟩
abbrev main_call13_c_3 : Ref sig .tc := ⟨.hbm, 493, rfl⟩
abbrev main_call13_v12 : Ref sig .tc := ⟨.hbm, 494, rfl⟩
abbrev main_call13_v13 : Ref sig .tc := ⟨.hbm, 495, rfl⟩
abbrev main_call13_v14 : Ref sig .tc := ⟨.hbm, 496, rfl⟩
abbrev main_call13_cst : Ref sig .tc := ⟨.hbm, 497, rfl⟩
abbrev main_call13_v15 : Ref sig .tc := ⟨.hbm, 498, rfl⟩
abbrev main_v306 : Ref sig .tc := ⟨.hbm, 499, rfl⟩
abbrev main_cst_62 : Ref sig .tc := ⟨.hbm, 500, rfl⟩
abbrev main_call14_v0 : Ref sig .tc := ⟨.hbm, 501, rfl⟩
abbrev main_call14_v1 : Ref sig .tc := ⟨.hbm, 502, rfl⟩
abbrev main_call14_v2 : Ref sig .tc := ⟨.hbm, 503, rfl⟩
abbrev main_v307 : Ref sig .tc := ⟨.hbm, 504, rfl⟩
abbrev main_v308 : Ref sig .tc := ⟨.hbm, 505, rfl⟩
abbrev main_v309 : Ref sig .tc := ⟨.hbm, 506, rfl⟩
abbrev main_v310 : Ref sig .tc := ⟨.hbm, 507, rfl⟩
abbrev main_v311 : Ref sig .tc := ⟨.hbm, 508, rfl⟩
abbrev main_v312 : Ref sig .tc := ⟨.hbm, 509, rfl⟩
abbrev main_v313 : Ref sig .tc := ⟨.hbm, 510, rfl⟩
abbrev main_v314 : Ref sig .tc := ⟨.hbm, 511, rfl⟩
abbrev main_v315 : Ref sig .tc := ⟨.hbm, 512, rfl⟩
abbrev main_v316 : Ref sig .tc := ⟨.hbm, 513, rfl⟩
abbrev main_v317 : Ref sig .tc := ⟨.hbm, 514, rfl⟩
abbrev main_v318 : Ref sig .tc := ⟨.hbm, 515, rfl⟩
abbrev main_v319 : Ref sig .tc := ⟨.hbm, 516, rfl⟩
abbrev main_v320 : Ref sig .tc := ⟨.hbm, 517, rfl⟩
abbrev main_v321 : Ref sig .tc := ⟨.hbm, 518, rfl⟩
abbrev main_v322 : Ref sig .tc := ⟨.hbm, 519, rfl⟩
abbrev main_v323 : Ref sig .tc := ⟨.hbm, 520, rfl⟩
abbrev main_v324 : Ref sig .tc := ⟨.hbm, 521, rfl⟩
abbrev main_v325 : Ref sig .tc := ⟨.hbm, 522, rfl⟩
abbrev main_v326 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_v330 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_v334 : Ref sig .tc := ⟨.hbm, 531, rfl⟩
abbrev main_v335 : Ref sig .tc := ⟨.hbm, 532, rfl⟩
abbrev main_v336 : Ref sig .tc := ⟨.hbm, 533, rfl⟩
abbrev main_v337 : Ref sig .tc := ⟨.hbm, 534, rfl⟩
abbrev main_cst_63 : Ref sig .tc := ⟨.hbm, 535, rfl⟩
abbrev main_v338 : Ref sig .tc := ⟨.hbm, 536, rfl⟩
abbrev main_v339 : Ref sig .tc := ⟨.hbm, 537, rfl⟩
abbrev main_cst_64 : Ref sig .tc := ⟨.hbm, 538, rfl⟩
abbrev main_v340 : Ref sig .tc := ⟨.hbm, 539, rfl⟩
abbrev main_cst_65 : Ref sig .tc := ⟨.hbm, 540, rfl⟩
abbrev main_v341 : Ref sig .tc := ⟨.hbm, 541, rfl⟩
abbrev main_v342 : Ref sig .tc := ⟨.hbm, 542, rfl⟩
abbrev main_v343 : Ref sig .tc := ⟨.hbm, 543, rfl⟩
abbrev main_v344 : Ref sig .tc := ⟨.hbm, 544, rfl⟩
abbrev main_v345 : Ref sig .tc := ⟨.hbm, 545, rfl⟩
abbrev main_v346 : Ref sig .tc := ⟨.hbm, 546, rfl⟩
abbrev main_cst_66 : Ref sig .tc := ⟨.hbm, 547, rfl⟩
abbrev main_v347 : Ref sig .tc := ⟨.hbm, 548, rfl⟩
abbrev main_v348 : Ref sig .tc := ⟨.hbm, 549, rfl⟩
abbrev main_v349 : Ref sig .tc := ⟨.hbm, 550, rfl⟩
abbrev main_v350 : Ref sig .tc := ⟨.hbm, 551, rfl⟩
abbrev main_v351 : Ref sig .tc := ⟨.hbm, 552, rfl⟩
abbrev main_v352 : Ref sig .tc := ⟨.hbm, 553, rfl⟩
abbrev main_v353 : Ref sig .tc := ⟨.hbm, 554, rfl⟩
abbrev main_v354 : Ref sig .tc := ⟨.hbm, 555, rfl⟩
abbrev main_v355 : Ref sig .tc := ⟨.hbm, 556, rfl⟩
abbrev main_v356 : Ref sig .tc := ⟨.hbm, 557, rfl⟩
abbrev main_v357 : Ref sig .tc := ⟨.hbm, 558, rfl⟩
abbrev main_v358 : Ref sig .tc := ⟨.hbm, 559, rfl⟩
abbrev main_v359 : Ref sig .tc := ⟨.hbm, 560, rfl⟩
abbrev main_v360 : Ref sig .tc := ⟨.hbm, 561, rfl⟩
abbrev main_v361 : Ref sig .tc := ⟨.hbm, 562, rfl⟩
abbrev main_v362 : Ref sig .tc := ⟨.hbm, 563, rfl⟩
abbrev main_c_67 : Ref sig .tc := ⟨.hbm, 564, rfl⟩
abbrev main_v363 : Ref sig .tc := ⟨.hbm, 565, rfl⟩
abbrev main_v364 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_cst_68 : Ref sig .tc := ⟨.hbm, 570, rfl⟩
abbrev main_v368 : Ref sig .tc := ⟨.hbm, 571, rfl⟩
abbrev main_v369 : Ref sig .tc := ⟨.hbm, 572, rfl⟩
abbrev main_c_69 : Ref sig .tc := ⟨.hbm, 573, rfl⟩
abbrev main_v370 : Ref sig .tc := ⟨.hbm, 574, rfl⟩
abbrev main_v371 : Ref sig .tc := ⟨.hbm, 575, rfl⟩
abbrev main_c_70 : Ref sig .tc := ⟨.hbm, 576, rfl⟩
abbrev main_v372 : Ref sig .tc := ⟨.hbm, 577, rfl⟩
abbrev main_v373 : Ref sig .tc := ⟨.hbm, 578, rfl⟩
abbrev main_v374 : Ref sig .tc := ⟨.hbm, 579, rfl⟩
abbrev main_v375 : Ref sig .tc := ⟨.hbm, 580, rfl⟩
abbrev main_v376 : Ref sig .tc := ⟨.hbm, 581, rfl⟩
abbrev main_v377 : Ref sig .tc := ⟨.hbm, 582, rfl⟩
abbrev main_v378 : Ref sig .tc := ⟨.hbm, 583, rfl⟩
abbrev main_v379 : Ref sig .tc := ⟨.hbm, 584, rfl⟩
abbrev main_v380 : Ref sig .tc := ⟨.hbm, 585, rfl⟩
abbrev main_v381 : Ref sig .tc := ⟨.hbm, 586, rfl⟩
abbrev main_v382 : Ref sig .tc := ⟨.hbm, 587, rfl⟩
abbrev main_v383 : Ref sig .tc := ⟨.hbm, 588, rfl⟩
abbrev main_v384 : Ref sig .tc := ⟨.hbm, 589, rfl⟩
abbrev main_v385 : Ref sig .tc := ⟨.hbm, 590, rfl⟩
abbrev main_v386 : Ref sig .tc := ⟨.hbm, 591, rfl⟩
abbrev main_v387 : Ref sig .tc := ⟨.hbm, 592, rfl⟩
abbrev main_c_71 : Ref sig .tc := ⟨.hbm, 593, rfl⟩
abbrev main_v388 : Ref sig .tc := ⟨.hbm, 594, rfl⟩
abbrev main_v389 : Ref sig .tc := ⟨.hbm, 595, rfl⟩
abbrev main_v390 : Ref sig .tc := ⟨.hbm, 596, rfl⟩
abbrev main_v391 : Ref sig .tc := ⟨.hbm, 597, rfl⟩
abbrev main_v392 : Ref sig .tc := ⟨.hbm, 598, rfl⟩
abbrev main_c_72 : Ref sig .tc := ⟨.hbm, 599, rfl⟩
abbrev main_v393 : Ref sig .tc := ⟨.hbm, 600, rfl⟩
abbrev main_v394 : Ref sig .tc := ⟨.hbm, 601, rfl⟩
abbrev main_c_73 : Ref sig .tc := ⟨.hbm, 602, rfl⟩
abbrev main_v395 : Ref sig .tc := ⟨.hbm, 603, rfl⟩
abbrev main_v396 : Ref sig .tc := ⟨.hbm, 604, rfl⟩
abbrev main_c_74 : Ref sig .tc := ⟨.hbm, 605, rfl⟩
abbrev main_v397 : Ref sig .tc := ⟨.hbm, 606, rfl⟩
abbrev main_v398 : Ref sig .tc := ⟨.hbm, 607, rfl⟩
abbrev main_v399 : Ref sig .tc := ⟨.hbm, 608, rfl⟩
abbrev main_v400 : Ref sig .tc := ⟨.hbm, 609, rfl⟩
abbrev main_v401 : Ref sig .tc := ⟨.hbm, 610, rfl⟩
abbrev main_v402 : Ref sig .tc := ⟨.hbm, 611, rfl⟩
abbrev main_v403 : Ref sig .tc := ⟨.hbm, 612, rfl⟩
abbrev main_v404 : Ref sig .tc := ⟨.hbm, 613, rfl⟩
abbrev main_v405 : Ref sig .tc := ⟨.hbm, 614, rfl⟩
abbrev main_v406 : Ref sig .tc := ⟨.hbm, 615, rfl⟩
abbrev main_v407 : Ref sig .tc := ⟨.hbm, 616, rfl⟩
abbrev main_v408 : Ref sig .tc := ⟨.hbm, 617, rfl⟩
abbrev main_c_75 : Ref sig .tc := ⟨.hbm, 618, rfl⟩
abbrev main_c_76 : Ref sig .tc := ⟨.hbm, 619, rfl⟩
abbrev main_call15_v0 : Ref sig .tc := ⟨.hbm, 620, rfl⟩
abbrev main_call15_v1 : Ref sig .tc := ⟨.hbm, 621, rfl⟩
abbrev main_call15_v2 : Ref sig .tc := ⟨.hbm, 622, rfl⟩
abbrev main_call15_v3 : Ref sig .tc := ⟨.hbm, 623, rfl⟩
abbrev main_call15_v4 : Ref sig .tc := ⟨.hbm, 624, rfl⟩
abbrev main_v409 : Ref sig .tc := ⟨.hbm, 625, rfl⟩
abbrev main_v410 : Ref sig .tc := ⟨.hbm, 626, rfl⟩
abbrev main_v411 : Ref sig .tc := ⟨.hbm, 627, rfl⟩
abbrev main_v412 : Ref sig .tc := ⟨.hbm, 628, rfl⟩
abbrev main_v413 : Ref sig .tc := ⟨.hbm, 629, rfl⟩
abbrev main_v414 : Ref sig .tc := ⟨.hbm, 630, rfl⟩
abbrev main_v415 : Ref sig .tc := ⟨.hbm, 631, rfl⟩
abbrev main_v416 : Ref sig .tc := ⟨.hbm, 632, rfl⟩
abbrev main_c_77 : Ref sig .tc := ⟨.hbm, 633, rfl⟩
abbrev main_c_78 : Ref sig .tc := ⟨.hbm, 634, rfl⟩
abbrev main_call16_v0 : Ref sig .tc := ⟨.hbm, 635, rfl⟩
abbrev main_call16_v1 : Ref sig .tc := ⟨.hbm, 636, rfl⟩
abbrev main_call16_v2 : Ref sig .tc := ⟨.hbm, 637, rfl⟩
abbrev main_call16_v3 : Ref sig .tc := ⟨.hbm, 638, rfl⟩
abbrev main_call16_v4 : Ref sig .tc := ⟨.hbm, 639, rfl⟩
abbrev main_v417 : Ref sig .tc := ⟨.hbm, 640, rfl⟩
abbrev main_c_79 : Ref sig .tc := ⟨.hbm, 641, rfl⟩
abbrev main_v418 : Ref sig .tc := ⟨.hbm, 642, rfl⟩
abbrev main_v419 : Ref sig .tc := ⟨.hbm, 643, rfl⟩
abbrev main_v420 : Ref sig .tc := ⟨.hbm, 644, rfl⟩
abbrev main_c_80 : Ref sig .tc := ⟨.hbm, 645, rfl⟩
abbrev main_v421 : Ref sig .tc := ⟨.hbm, 646, rfl⟩
abbrev main_v422 : Ref sig .tc := ⟨.hbm, 647, rfl⟩
abbrev main_c_81 : Ref sig .tc := ⟨.hbm, 648, rfl⟩
abbrev main_v423 : Ref sig .tc := ⟨.hbm, 649, rfl⟩
abbrev main_v424 : Ref sig .tc := ⟨.hbm, 650, rfl⟩
abbrev main_v425 : Ref sig .tc := ⟨.hbm, 651, rfl⟩
abbrev main_v426 : Ref sig .tc := ⟨.hbm, 652, rfl⟩
abbrev main_v427 : Ref sig .tc := ⟨.hbm, 653, rfl⟩
abbrev main_c_82 : Ref sig .tc := ⟨.hbm, 654, rfl⟩
abbrev main_v428 : Ref sig .tc := ⟨.hbm, 655, rfl⟩
abbrev main_v429 : Ref sig .tc := ⟨.hbm, 656, rfl⟩
abbrev main_v430 : Ref sig .tc := ⟨.hbm, 657, rfl⟩
abbrev main_c_83 : Ref sig .tc := ⟨.hbm, 658, rfl⟩
abbrev main_c_84 : Ref sig .tc := ⟨.hbm, 659, rfl⟩
abbrev main_call17_v0 : Ref sig .tc := ⟨.hbm, 660, rfl⟩
abbrev main_call17_v1 : Ref sig .tc := ⟨.hbm, 661, rfl⟩
abbrev main_call17_v2 : Ref sig .tc := ⟨.hbm, 662, rfl⟩
abbrev main_call17_v3 : Ref sig .tc := ⟨.hbm, 663, rfl⟩
abbrev main_call17_v4 : Ref sig .tc := ⟨.hbm, 664, rfl⟩
abbrev main_v431 : Ref sig .tc := ⟨.hbm, 665, rfl⟩
abbrev main_call18_c : Ref sig .tc := ⟨.hbm, 666, rfl⟩
abbrev main_call18_v0 : Ref sig .tc := ⟨.hbm, 667, rfl⟩
abbrev main_call18_v1 : Ref sig .tc := ⟨.hbm, 668, rfl⟩
abbrev main_call18_c_0 : Ref sig .tc := ⟨.hbm, 669, rfl⟩
abbrev main_call18_v2 : Ref sig .tc := ⟨.hbm, 670, rfl⟩
abbrev main_call18_v3 : Ref sig .tc := ⟨.hbm, 671, rfl⟩
abbrev main_call18_v4 : Ref sig .tc := ⟨.hbm, 672, rfl⟩
abbrev main_call18_v5 : Ref sig .tc := ⟨.hbm, 673, rfl⟩
abbrev main_call18_c_1 : Ref sig .tc := ⟨.hbm, 674, rfl⟩
abbrev main_call18_c_2 : Ref sig .tc := ⟨.hbm, 675, rfl⟩
abbrev main_call18_v6 : Ref sig .tc := ⟨.hbm, 676, rfl⟩
abbrev main_call18_v7 : Ref sig .tc := ⟨.hbm, 677, rfl⟩
abbrev main_call18_v8 : Ref sig .tc := ⟨.hbm, 678, rfl⟩
abbrev main_call18_v9 : Ref sig .tc := ⟨.hbm, 679, rfl⟩
abbrev main_call18_v10 : Ref sig .tc := ⟨.hbm, 680, rfl⟩
abbrev main_call18_v11 : Ref sig .tc := ⟨.hbm, 681, rfl⟩
abbrev main_call18_c_3 : Ref sig .tc := ⟨.hbm, 682, rfl⟩
abbrev main_call18_v12 : Ref sig .tc := ⟨.hbm, 683, rfl⟩
abbrev main_call18_v13 : Ref sig .tc := ⟨.hbm, 684, rfl⟩
abbrev main_call18_v14 : Ref sig .tc := ⟨.hbm, 685, rfl⟩
abbrev main_call18_cst : Ref sig .tc := ⟨.hbm, 686, rfl⟩
abbrev main_call18_v15 : Ref sig .tc := ⟨.hbm, 687, rfl⟩
abbrev main_v432 : Ref sig .tc := ⟨.hbm, 688, rfl⟩
abbrev main_cst_85 : Ref sig .tc := ⟨.hbm, 689, rfl⟩
abbrev main_call19_v0 : Ref sig .tc := ⟨.hbm, 690, rfl⟩
abbrev main_call19_v1 : Ref sig .tc := ⟨.hbm, 691, rfl⟩
abbrev main_call19_v2 : Ref sig .tc := ⟨.hbm, 692, rfl⟩
abbrev main_v433 : Ref sig .tc := ⟨.hbm, 693, rfl⟩
abbrev main_v434 : Ref sig .tc := ⟨.hbm, 694, rfl⟩
abbrev main_v435 : Ref sig .tc := ⟨.hbm, 695, rfl⟩
abbrev main_v436 : Ref sig .tc := ⟨.hbm, 696, rfl⟩
abbrev main_v437 : Ref sig .tc := ⟨.hbm, 697, rfl⟩
abbrev main_v438 : Ref sig .tc := ⟨.hbm, 698, rfl⟩
abbrev main_v439 : Ref sig .tc := ⟨.hbm, 699, rfl⟩
abbrev main_v440 : Ref sig .tc := ⟨.hbm, 700, rfl⟩
abbrev main_v441 : Ref sig .tc := ⟨.hbm, 701, rfl⟩
abbrev main_v442 : Ref sig .tc := ⟨.hbm, 702, rfl⟩
abbrev main_v443 : Ref sig .tc := ⟨.hbm, 703, rfl⟩
abbrev main_v444 : Ref sig .tc := ⟨.hbm, 704, rfl⟩
abbrev main_v445 : Ref sig .tc := ⟨.hbm, 705, rfl⟩
abbrev main_v446 : Ref sig .tc := ⟨.hbm, 706, rfl⟩
abbrev main_v447 : Ref sig .tc := ⟨.hbm, 707, rfl⟩
abbrev main_v448 : Ref sig .tc := ⟨.hbm, 708, rfl⟩
abbrev main_v449 : Ref sig .tc := ⟨.hbm, 709, rfl⟩
abbrev main_v450 : Ref sig .tc := ⟨.hbm, 710, rfl⟩
abbrev main_v451 : Ref sig .tc := ⟨.hbm, 711, rfl⟩
abbrev main_v452 : Ref sig .tc := ⟨.hbm, 712, rfl⟩
abbrev main_v453 : Ref sig .tc := ⟨.hbm, 713, rfl⟩
abbrev main_v454 : Ref sig .tc := ⟨.hbm, 714, rfl⟩
abbrev main_v455 : Ref sig .tc := ⟨.hbm, 715, rfl⟩
abbrev main_v456 : Ref sig .tc := ⟨.hbm, 716, rfl⟩
abbrev main_v457 : Ref sig .tc := ⟨.hbm, 717, rfl⟩
abbrev main_v458 : Ref sig .tc := ⟨.hbm, 718, rfl⟩
abbrev main_v459 : Ref sig .tc := ⟨.hbm, 719, rfl⟩
abbrev main_v460 : Ref sig .tc := ⟨.hbm, 720, rfl⟩
abbrev main_v461 : Ref sig .tc := ⟨.hbm, 721, rfl⟩
abbrev main_v462 : Ref sig .tc := ⟨.hbm, 722, rfl⟩
abbrev main_v463 : Ref sig .tc := ⟨.hbm, 723, rfl⟩
abbrev main_cst_86 : Ref sig .tc := ⟨.hbm, 724, rfl⟩
abbrev main_v464 : Ref sig .tc := ⟨.hbm, 725, rfl⟩
abbrev main_v465 : Ref sig .tc := ⟨.hbm, 726, rfl⟩
abbrev main_cst_87 : Ref sig .tc := ⟨.hbm, 727, rfl⟩
abbrev main_v466 : Ref sig .tc := ⟨.hbm, 728, rfl⟩
abbrev main_cst_88 : Ref sig .tc := ⟨.hbm, 729, rfl⟩
abbrev main_v467 : Ref sig .tc := ⟨.hbm, 730, rfl⟩
abbrev main_v468 : Ref sig .tc := ⟨.hbm, 731, rfl⟩
abbrev main_v469 : Ref sig .tc := ⟨.hbm, 732, rfl⟩
abbrev main_v470 : Ref sig .tc := ⟨.hbm, 733, rfl⟩
abbrev main_v471 : Ref sig .tc := ⟨.hbm, 734, rfl⟩
abbrev main_v472 : Ref sig .tc := ⟨.hbm, 735, rfl⟩
abbrev main_cst_89 : Ref sig .tc := ⟨.hbm, 736, rfl⟩
abbrev main_v473 : Ref sig .tc := ⟨.hbm, 737, rfl⟩
abbrev main_v474 : Ref sig .tc := ⟨.hbm, 738, rfl⟩
abbrev main_v475 : Ref sig .tc := ⟨.hbm, 739, rfl⟩
abbrev main_v476 : Ref sig .tc := ⟨.hbm, 740, rfl⟩
abbrev main_v477 : Ref sig .tc := ⟨.hbm, 741, rfl⟩
abbrev main_v478 : Ref sig .tc := ⟨.hbm, 742, rfl⟩
abbrev main_v479 : Ref sig .tc := ⟨.hbm, 743, rfl⟩
abbrev main_v480 : Ref sig .tc := ⟨.hbm, 744, rfl⟩
abbrev main_v481 : Ref sig .tc := ⟨.hbm, 745, rfl⟩
abbrev main_v482 : Ref sig .tc := ⟨.hbm, 746, rfl⟩
abbrev main_v483 : Ref sig .tc := ⟨.hbm, 747, rfl⟩
abbrev main_v484 : Ref sig .tc := ⟨.hbm, 748, rfl⟩
abbrev main_v485 : Ref sig .tc := ⟨.hbm, 749, rfl⟩
abbrev main_v486 : Ref sig .tc := ⟨.hbm, 750, rfl⟩
abbrev main_v487 : Ref sig .tc := ⟨.hbm, 751, rfl⟩
abbrev main_v488 : Ref sig .tc := ⟨.hbm, 752, rfl⟩
abbrev main_c_90 : Ref sig .tc := ⟨.hbm, 753, rfl⟩
abbrev main_v489 : Ref sig .tc := ⟨.hbm, 754, rfl⟩
abbrev main_v490 : Ref sig .tc := ⟨.hbm, 755, rfl⟩
abbrev main_v491 : Ref sig .tc := ⟨.hbm, 756, rfl⟩
abbrev main_v492 : Ref sig .tc := ⟨.hbm, 757, rfl⟩
abbrev main_v493 : Ref sig .tc := ⟨.hbm, 758, rfl⟩
abbrev main_cst_91 : Ref sig .tc := ⟨.hbm, 759, rfl⟩
abbrev main_v494 : Ref sig .tc := ⟨.hbm, 760, rfl⟩
abbrev main_v495 : Ref sig .tc := ⟨.hbm, 761, rfl⟩
abbrev main_c_92 : Ref sig .tc := ⟨.hbm, 762, rfl⟩
abbrev main_v496 : Ref sig .tc := ⟨.hbm, 763, rfl⟩
abbrev main_v497 : Ref sig .tc := ⟨.hbm, 764, rfl⟩
abbrev main_c_93 : Ref sig .tc := ⟨.hbm, 765, rfl⟩
abbrev main_v498 : Ref sig .tc := ⟨.hbm, 766, rfl⟩
abbrev main_v499 : Ref sig .tc := ⟨.hbm, 767, rfl⟩
abbrev main_v500 : Ref sig .tc := ⟨.hbm, 768, rfl⟩
abbrev main_v501 : Ref sig .tc := ⟨.hbm, 769, rfl⟩
abbrev main_v502 : Ref sig .tc := ⟨.hbm, 770, rfl⟩
abbrev main_v503 : Ref sig .tc := ⟨.hbm, 771, rfl⟩
abbrev main_v504 : Ref sig .tc := ⟨.hbm, 772, rfl⟩
abbrev main_v505 : Ref sig .tc := ⟨.hbm, 773, rfl⟩

abbrev nD : Nat := 1
abbrev τ : Topo := Topo.v7x

variable {F : FTy → Type} [FloatOps F]
-- ==== Proof.Stages.lean ====
/-
  The stages of one cross attention that both programs run alike, as functions of arrays: the hash table from a
  cell of the bird's-eye grid to the pillar that lies there, the pillar found in a shifted cell, the nine gathered
  neighbours of each query pillar, and the scatter of the pillars' features onto the grid. Nothing is proved here: both
  programs' runs are read as these functions, so a proof never opens a gather or a scatter.
-/
module

public import proofs.«01_k».proof.Proof.Gen.KernelIdeal

@[expose] public section

noncomputable section

namespace Cert.KernelIdeal.Bev

open Cert.KernelIdeal Cert.KernelIdeal.Gen Idealize.ShloMosaic Idealize.ShloMosaic.TcCoe Idealize.SL.Sem

variable {F : FTy → Type} [FloatOps F]

/-- An array of 32-bit integers of shape `S`. -/
abbrev Ints (F : FTy → Type) (S : Shape) : Type := (⟨S, .i32⟩ : BufTy).Contents (Elt F)
/-- An array of floats of shape `S`. -/
abbrev Floats (F : FTy → Type) (S : Shape) : Type := (⟨S, .f32⟩ : BufTy).Contents (Elt F)

/-- One integer at every pillar. -/
abbrev all (F : FTy → Type) [FloatOps F] (n : BitVec 32) : Ints F S20000 := broadcastInDim S20000 ![] bcast_S_S20000 (constantI S_ 32 n)

/-- Features of the pillars of the first scene. -/
def feats0 (x : Floats F S2x20000x32) : Floats F S20000x32 :=
  shapeCast _ (extractStridedSlice S1x20000x32 ![0, 0, 0] x slices_S2x20000x32_S1x20000x32_0_0_0) shapeCasts_S1x20000x32_S20000x32
/-- Features of the pillars of the second scene. -/
def feats1 (x : Floats F S2x20000x32) : Floats F S20000x32 :=
  shapeCast _ (extractStridedSlice S1x20000x32 ![1, 0, 0] x slices_S2x20000x32_S1x20000x32_1_0_0) shapeCasts_S1x20000x32_S20000x32
/-- Cell coordinates of the pillars of the first scene. -/
def coors0 (x : Ints F S2x20000x2) : Ints F S20000x2 :=
  shapeCast _ (extractStridedSlice S1x20000x2 ![0, 0, 0] x slices_S2x20000x2_S1x20000x2_0_0_0) shapeCasts_S1x20000x2_S20000x2
/-- Cell coordinates of the pillars of the second scene. -/
def coors1 (x : Ints F S2x20000x2) : Ints F S20000x2 :=
  shapeCast _ (extractStridedSlice S1x20000x2 ![1, 0, 0] x slices_S2x20000x2_S1x20000x2_1_0_0) shapeCasts_S1x20000x2_S20000x2

/-- The grid row of each pillar. -/
def rowOf (q : Ints F S20000x2) : Ints F S20000 :=
  shapeCast _ (extractStridedSlice S20000x1 ![0, 0] q slices_S20000x2_S20000x1_0_0) shapeCasts_S20000x1_S20000
/-- The grid column of each pillar. -/
def colOf (q : Ints F S20000x2) : Ints F S20000 :=
  shapeCast _ (extractStridedSlice S20000x1 ![0, 1] q slices_S20000x2_S20000x1_0_1) shapeCasts_S20000x1_S20000
/-- The number of the cell at a row and a column. -/
def flat (y x : Ints F S20000) : Ints F S20000 := addi (muli y (all F 432#32)) x
/-- The number of each pillar's own cell. -/
def cellOf (q : Ints F S20000x2) : Ints F S20000 := flat (rowOf q) (colOf q)
/-- An integer index into an axis of `n` entries, counted from the end where it is negative. -/
def wrap (n : BitVec 32) (i : Ints F S20000) : Ints F S20000x1 :=
  broadcastInDim S20000x1 ![0] bcast_S20000_S20000x1_0 (select (cmpi .slt i (all F 0#32)) (addi i (all F n)) i)
/-- An integer clipped to `[lo, hi]`. -/
def clip (lo hi : BitVec 32) (x : Ints F S20000) : Ints F S20000 :=
  minsi (broadcastInDim S20000 ![] bcast_S_S20000 (id (constantI S_ 32 hi)))
    (maxsi (broadcastInDim S20000 ![] bcast_S_S20000 (id (constantI S_ 32 lo))) x)

/-- The table from a cell to the pillar in it, `-1` where there is none. -/
def table (k : Ints F S20000x2) : Ints F S214272 :=
  Host.scatter scatter_S214272_S20000x1_S20000_n_0_0_1 (fun _ b => b)
    (broadcastInDim S214272 ![] bcast_S_S214272 (constantI S_ 32 4294967295#32)) (wrap 214272#32 (cellOf k)) (iotaInDim S20000 32 0)
/-- The cell `(dy, dx)` away from each pillar's own, clipped to the grid. -/
def cellAt (dy dx : BitVec 32) (q : Ints F S20000x2) : Ints F S20000 :=
  flat (clip 0#32 495#32 (addi (rowOf q) (all F dy))) (clip 0#32 431#32 (addi (colOf q) (all F dx)))
/-- The pillar in the cell `(dy, dx)` away, `-1` where there is none. -/
def found (dy dx : BitVec 32) (t : Ints F S214272) (q : Ints F S20000x2) : Ints F S20000 :=
  Host.gather gather_S214272_S20000x1_S20000_n_0_n_n_0_1_1 t (wrap 214272#32 (cellAt dy dx q))
/-- The rows of `x` at the indices `j`, a row of the not-a-number pattern where an index is out of range. -/
def takeRows (x : Floats F S20000x32) (j : Ints F S20000x1) : Floats F S20000x32 :=
  select (broadcastInDim S20000x32 ![0] bcast_S20000_S20000x32_0
      (Host.reduce IntOp.andi
        (andi (cmpi .sge j (broadcastInDim S20000x1 ![] bcast_S_S20000x1 (constantI S_ 32 0#32)))
          (cmpi .sle j (broadcastInDim S20000x1 ![0, 1] bcast_S1x1_S20000x1_0_1
            (broadcastInDim S1x1 ![1] bcast_S1_S1x1_1 (constantI S1 32 19999#32)))))
        (constantI S_ 1 1#1) reducesTo_S20000x1_S20000_d1 h_S_))
    (Host.gather gather_S20000x32_S20000x1_S20000x32_1_0_n_n_0_1_132 x j)
    (broadcastInDim S20000x32 ![] bcast_S_S20000x32 (constant S_ .f32 0x7FC00000#32))
/-- The features of the pillars `s`, zeros where `s` names none. -/
def rowsAt (x : Floats F S20000x32) (s : Ints F S20000) : Floats F S20000x32 :=
  select (broadcastInDim S20000x32 ![0, 1] bcast_S20000x1_S20000x32_0_1
      (broadcastInDim S20000x1 ![0] bcast_S20000_S20000x1_0 (cmpi .sge s (all F 0#32))))
    (takeRows x (wrap 20000#32 (clip 0#32 19999#32 s)))
    (broadcastInDim S20000x32 ![] bcast_S_S20000x32 (id (constant S_ .f32 0x00000000#32)))
/-- The features of the pillar in the cell `(dy, dx)` away from each query pillar, zeros where there is none. -/
def neighbour (dy dx : BitVec 32) (t : Ints F S214272) (q : Ints F S20000x2) (x : Floats F S20000x32) : Floats F S20000x32 :=
  rowsAt x (found dy dx t q)
/-- An array as one layer of a stack. -/
def layer (x : Floats F S20000x32) : Floats F S1x20000x32 :=
  broadcastInDim S1x20000x32 ![1, 2] bcast_S20000x32_S1x20000x32_1_2 x
/-- Nine layers stacked. -/
def pile (a b c d e f g h i : Floats F S1x20000x32) : Floats F S9x20000x32 :=
  concatenate S9x20000x32 0 [⟨S1x20000x32, a⟩, ⟨S1x20000x32, b⟩, ⟨S1x20000x32, c⟩, ⟨S1x20000x32, d⟩,
      ⟨S1x20000x32, e⟩, ⟨S1x20000x32, f⟩, ⟨S1x20000x32, g⟩, ⟨S1x20000x32, h⟩, ⟨S1x20000x32, i⟩]
    concatenates_S1x20000x32_S1x20000x32_S1x20000x32_S1x20000x32_S1x20000x32_S1x20000x32_S1x20000x32_S1x20000x32_S1x20000x32_S9x20000x32_d0
/-- Nine arrays stacked, the stack's axis second. -/
def stack (a b c d e f g h i : Floats F S20000x32) : Floats F S20000x9x32 :=
  transpose S20000x9x32 [1, 0, 2] (pile (layer a) (layer b) (layer c) (layer d) (layer e) (layer f) (layer g) (layer h) (layer i))
    transposes_S9x20000x32_S20000x9x32_1_0_2
/-- The nine neighbours of each query pillar, in the order of the shifts. -/
def keys (t : Ints F S214272) (q : Ints F S20000x2) (x : Floats F S20000x32) : Floats F S20000x9x32 :=
  stack (neighbour 0#32 0#32 t q x) (neighbour 4294967295#32 0#32 t q x) (neighbour 1#32 0#32 t q x)
    (neighbour 0#32 1#32 t q x) (neighbour 4294967295#32 1#32 t q x) (neighbour 1#32 1#32 t q x)
    (neighbour 0#32 4294967295#32 t q x) (neighbour 4294967295#32 4294967295#32 t q x) (neighbour 1#32 4294967295#32 t q x)

/-- The pillars' features scattered onto an empty grid. -/
def canvas (q : Ints F S20000x2) (x : Floats F S20000x32) : Floats F S1x32x496x432 :=
  shapeCast _ (Host.scatter scatter_S32x214272_S20000x1_S32x20000_0_1_1_1 (fun _ b => b)
    (broadcastInDim S32x214272 ![] bcast_S_S32x214272 (constant S_ .f32 0x00000000#32)) (wrap 214272#32 (cellOf q))
    (transpose S32x20000 [1, 0] x transposes_S20000x32_S32x20000_1_0)) shapeCasts_S32x214272_S1x32x496x432

end Cert.KernelIdeal.Bev

end
-- ==== Proof.Proj.lean ====
/- Hand-written: WHAT ONE LAUNCH COMPUTES. Every one of the sixteen launches is an affine map applied row by row,
   `x ↦ x Wᵀ + b`, taken 4000 rows at a time. Here: the map on arrays of any number of rows (`proj`), one block's
   payload as that map (`pay_eq`, `pay_out_eq`), and why blocks of rows of the map are the map of blocks of rows (`proj_rows`). -/
module

public import proofs.«01_k».proof.Proof.Gen.KernelIdeal.Skeleton
public import Idealize.ShloMosaic.Lib.Pointwise

@[expose] public section

set_option maxRecDepth 16384

noncomputable section

namespace Cert.KernelIdeal.Bev

open Cert.KernelIdeal Cert.KernelIdeal.Gen Idealize.ShloMosaic Idealize.ShloMosaic.TcCoe Idealize.SL.Sem

/-- An array of `R` rows of 32 features. -/
abbrev Rows (R : ℕ) := FVec Ideal (⟨2, ![R, 32]⟩ : Shape) .f32

/-- The affine map `x Wᵀ + b`, row by row. -/
def proj {R : ℕ} (x : Rows R) (W : Rows 32) (b : Rows 1) : Rows R :=
  fun i => (∑ k : Fin 32, x (ix2 (i 0) k) * W (ix2 (i 1) k)) + b (ix2 0 (i 1))

/-- The payload of the query, key and value launches is the affine map of its block. -/
theorem pay_eq (x : Rows 4000) (W : Rows 32) (b : Rows 1) : k0_pay1 x W b = proj x W b := by
  funext j
  unfold k0_pay1 proj
  simp only [pointwise, zero_add]
  rfl

/-- So is the payload of the output launches. -/
theorem pay_out_eq (x : Rows 4000) (W : Rows 32) (b : Rows 1) : k3_pay1 x W b = proj x W b := by
  funext j
  unfold k3_pay1 proj
  simp only [pointwise, zero_add]
  rfl

/-- Row `m` of block `n`. -/
theorem row_at {a n m : ℕ} (h : a = n) : a * 4000 + 1 * m = n * 4000 + m := by rw [h, Nat.one_mul]
/-- A place on an axis that one block spans. -/
theorem col_at {a s m : ℕ} (h : a = 0) : a * s + 1 * m = m := by rw [h, Nat.zero_mul, Nat.zero_add, Nat.one_mul]

/-- The affine map of block `n` of the rows of `x` is block `n` of the rows of the map of `x`: `e` and `e'` place block
    `n` in the operand and in the result, `eW` and `eb` place the whole matrix and the whole bias. -/
theorem proj_rows {R : ℕ} (n : ℕ) (x : Rows R) (W : Rows 32) (b : Rows 1)
    (e : S4000x32.Idx → (⟨2, ![R, 32]⟩ : Shape).Idx) (eW : S32x32.Idx → S32x32.Idx) (eb : S1x32.Idx → S1x32.Idx)
    (e' : S4000x32.Idx → (⟨2, ![R, 32]⟩ : Shape).Idx)
    (h0 : ∀ j, (e j 0).val = n * 4000 + (j 0).val) (h1 : ∀ j, (e j 1).val = (j 1).val)
    (hW0 : ∀ j, (eW j 0).val = (j 0).val) (hW1 : ∀ j, (eW j 1).val = (j 1).val)
    (hb0 : ∀ j, (eb j 0).val = (j 0).val) (hb1 : ∀ j, (eb j 1).val = (j 1).val)
    (h0' : ∀ j, (e' j 0).val = n * 4000 + (j 0).val) (h1' : ∀ j, (e' j 1).val = (j 1).val) (j : S4000x32.Idx) :
    proj (R := 4000) (fun i => x (e i)) (fun i => W (eW i)) (fun i => b (eb i)) j = proj x W b (e' j) := by
  have hW : ∀ i, eW i = i := fun i => by
    funext a; apply Fin.ext
    match a with
    | ⟨0, _⟩ => exact hW0 i
    | ⟨1, _⟩ => exact hW1 i
  have hb : ∀ i, eb i = i := fun i => by
    funext a; apply Fin.ext
    match a with
    | ⟨0, _⟩ => exact hb0 i
    | ⟨1, _⟩ => exact hb1 i
  have he : ∀ k : Fin 32, e (ix2 (j 0) k) = ix2 (e' j 0) k := fun k => by
    funext a; apply Fin.ext
    match a with
    | ⟨0, _⟩ => exact (h0 (ix2 (j 0) k)).trans (h0' j).symm
    | ⟨1, _⟩ => exact h1 (ix2 (j 0) k)
  have hj : e' j 1 = j 1 := Fin.ext (h1' j)
  unfold proj
  simp only [hW, hb, he, hj]
  rfl

/-- The origin of a block, as a constant. -/
theorem origin : (![0, 0] : Fin 2 → Nat) = fun _ => 0 := funext fun a => by fin_cases a <;> rfl

end Cert.KernelIdeal.Bev

end
-- ==== Proof.KernelAttn.lean ====
/- Hand-written: the attention that the kernel computes between its launches, as functions of the arrays of projected
   queries, keys and values. Nothing is proved here. -/
module

public import proofs.«01_k».proof.Proof.Stages
public import proofs.«01_k».proof.Proof.Proj

@[expose] public section

noncomputable section

namespace Cert.KernelIdeal.Bev

open Cert.KernelIdeal Cert.KernelIdeal.Gen Idealize.ShloMosaic Idealize.ShloMosaic.TcCoe Idealize.SL.Sem

variable {F : FTy → Type} [FloatOps F]

/-- The neighbours of all pillars, one row each. -/
def flatKeys (k : Floats F S20000x9x32) : Floats F S180000x32 := shapeCast S180000x32 k shapeCasts_S20000x9x32_S180000x32
/-- The rows of all pillars' neighbours, nine to a pillar. -/
def unflat (k : Floats F S180000x32) : Floats F S20000x9x32 := shapeCast S20000x9x32 k shapeCasts_S180000x32_S20000x9x32
/-- Projected keys or values, one head after the other. -/
def heads (k : Floats F S20000x9x32) : Floats F S20000x2x9x16 :=
  transpose S20000x2x9x16 [0, 2, 1, 3] (shapeCast S20000x9x2x16 k shapeCasts_S20000x9x32_S20000x9x2x16)
    transposes_S20000x9x2x16_S20000x2x9x16_0_2_1_3
/-- The scores: of each pillar and head, the query against each of the nine keys, over four. -/
def scores (q : Floats F S20000x32) (k : Floats F S20000x9x32) : Floats F S20000x2x9 :=
  Host.divf (Host.dotGeneral dot_S20000x2x16_S20000x2x9x16_S20000x2x9_2_3_n_2_01_01 none
      (shapeCast S20000x2x16 q shapeCasts_S20000x32_S20000x2x16) (heads k))
    (broadcastInDim S20000x2x9 ![] bcast_S_S20000x2x9 (constant S_ .f32 0x40800000#32))
/-- The exponentials of the scores less their largest. -/
def exps (s : Floats F S20000x2x9) : Floats F S20000x2x9 :=
  Host.exp (subf s (broadcastInDim S20000x2x9 ![0, 1, 2] bcast_S20000x2x1_S20000x2x9_0_1_2
    (broadcastInDim S20000x2x1 ![0, 1] bcast_S20000x2_S20000x2x1_0_1
      (maximumf (broadcastInDim S20000x2 ![] bcast_S_S20000x2 (constant S_ .f32 0xFF800000#32))
        (Host.reduce FloatOps.maximumf s (constant S_ .f32 0xFF800000#32) reducesTo_S20000x2x9_S20000x2_d2 h_S_)))))
/-- The exponentials over their sum. -/
def weights (e : Floats F S20000x2x9) : Floats F S20000x2x9 :=
  Host.divf e (broadcastInDim S20000x2x9 ![0, 1, 2] bcast_S20000x2x1_S20000x2x9_0_1_2
    (broadcastInDim S20000x2x1 ![0, 1] bcast_S20000x2_S20000x2x1_0_1
      (Host.reduceAdd e (constant S_ .f32 0x00000000#32) reducesTo_S20000x2x9_S20000x2_d2 h_S_)))
/-- The values weighted and summed, the heads side by side. -/
def mix (w : Floats F S20000x2x9) (v : Floats F S20000x9x32) : Floats F S20000x32 :=
  shapeCast S20000x32 (Host.dotGeneral dot_S20000x2x9_S20000x2x9x16_S20000x2x16_2_2_n_3_01_01 none w (heads v))
    shapeCasts_S20000x2x16_S20000x32
/-- The attention of projected queries over projected keys and values. -/
def attend (q : Floats F S20000x32) (k v : Floats F S20000x9x32) : Floats F S20000x32 :=
  mix (weights (exps (scores q k))) v

/-- The three weight matrices: rows 0–31 for queries, 32–63 for keys, 64–95 for values. -/
def matQ (W : Floats F S96x32) : Floats F S32x32 := extractStridedSlice S32x32 ![0, 0] W slices_S96x32_S32x32_0_0
def matK (W : Floats F S96x32) : Floats F S32x32 := extractStridedSlice S32x32 ![32, 0] W slices_S96x32_S32x32_32_0
def matV (W : Floats F S96x32) : Floats F S32x32 := extractStridedSlice S32x32 ![64, 0] W slices_S96x32_S32x32_64_0
/-- A bias as a row. -/
def biasRow (b : Floats F S32) : Floats F S1x32 := shapeCast S1x32 b shapeCasts_S32_S1x32
/-- The three biases, likewise. -/
def biasQ (b : Floats F S96) : Floats F S1x32 := biasRow (extractStridedSlice S32 ![0] b slices_S96_S32_0)
def biasK (b : Floats F S96) : Floats F S1x32 := biasRow (extractStridedSlice S32 ![32] b slices_S96_S32_32)
def biasV (b : Floats F S96) : Floats F S1x32 := biasRow (extractStridedSlice S32 ![64] b slices_S96_S32_64)
/-- The kernel's attention: the four launches' affine maps with the attention between the third and the fourth. -/
def kernelMha (x : Rows 20000) (key : Floats Ideal S20000x9x32) (W : Floats Ideal S96x32) (b : Floats Ideal S96)
    (Wo : Rows 32) (bo : Floats Ideal S32) : Rows 20000 :=
  proj (attend (F := Ideal) (proj x (matQ W) (biasQ b)) (unflat (F := Ideal) (proj (flatKeys key) (matK W) (biasK b)))
    (unflat (F := Ideal) (proj (flatKeys key) (matV W) (biasV b)))) Wo (biasRow bo)

end Cert.KernelIdeal.Bev

end
-- ==== Proof.RefAttn.lean ====
/- Hand-written: the attention that the reference computes, as functions of the arrays of query features, neighbours
   and weights. Nothing is proved here. -/
module

public import proofs.«01_k».proof.Proof.Gen.ReferenceIdeal

@[expose] public section

noncomputable section

namespace Cert.ReferenceIdeal.Bev

open Cert.ReferenceIdeal Cert.ReferenceIdeal.Gen Idealize.ShloMosaic Idealize.ShloMosaic.TcCoe Idealize.SL.Sem

variable {F : FTy → Type} [FloatOps F]

/-- An array of floats of shape `S`. -/
abbrev Floats (F : FTy → Type) (S : Shape) : Type := (⟨S, .f32⟩ : BufTy).Contents (Elt F)

/-- The affine map of one query row per pillar. -/
def affine1 (x : Floats F S20000x1x32) (W : Floats F S32x32) (b : Floats F S32) : Floats F S20000x1x32 :=
  addf (Host.dotGeneral dot_S20000x1x32_S32x32_S20000x1x32_2_0_01_1_n_n none x
      (transpose S32x32 [1, 0] W transposes_S32x32_S32x32_1_0))
    (broadcastInDim S20000x1x32 ![0, 1, 2] bcast_S1x1x32_S20000x1x32_0_1_2 (broadcastInDim S1x1x32 ![2] bcast_S32_S1x1x32_2 b))
/-- The affine map of the nine neighbours of each pillar, its heads one after the other. -/
def affine9 (x : Floats F S20000x9x32) (W : Floats F S32x32) (b : Floats F S32) : Floats F S20000x2x9x16 :=
  transpose S20000x2x9x16 [0, 2, 1, 3] (shapeCast S20000x9x2x16
    (addf (Host.dotGeneral dot_S20000x9x32_S32x32_S20000x9x32_2_0_01_1_n_n none x
      (transpose S32x32 [1, 0] W transposes_S32x32_S32x32_1_0))
      (broadcastInDim S20000x9x32 ![0, 1, 2] bcast_S1x1x32_S20000x9x32_0_1_2 (broadcastInDim S1x1x32 ![2] bcast_S32_S1x1x32_2 b)))
    shapeCasts_S20000x9x32_S20000x9x2x16) transposes_S20000x9x2x16_S20000x2x9x16_0_2_1_3
/-- The scores. -/
def scores (x : Floats F S20000x32) (key : Floats F S20000x9x32) (W : Floats F S96x32) (b : Floats F S96) :
    Floats F S20000x2x1x9 :=
  Host.divf (Host.dotGeneral dot_S20000x2x1x16_S20000x2x16x9_S20000x2x1x9_3_2_2_3_01_01 none
      (transpose S20000x2x1x16 [0, 2, 1, 3]
        (shapeCast S20000x1x2x16 (affine1 (broadcastInDim S20000x1x32 ![0, 2] bcast_S20000x32_S20000x1x32_0_2 x)
          (extractStridedSlice S32x32 ![0, 0] W slices_S96x32_S32x32_0_0) (extractStridedSlice S32 ![0] b slices_S96_S32_0))
          shapeCasts_S20000x1x32_S20000x1x2x16) transposes_S20000x1x2x16_S20000x2x1x16_0_2_1_3)
      (transpose S20000x2x16x9 [0, 1, 3, 2]
        (affine9 key (extractStridedSlice S32x32 ![32, 0] W slices_S96x32_S32x32_32_0)
          (extractStridedSlice S32 ![32] b slices_S96_S32_32)) transposes_S20000x2x9x16_S20000x2x16x9_0_1_3_2))
    (broadcastInDim S20000x2x1x9 ![] bcast_S_S20000x2x1x9 (constant S_ .f32 0x40800000#32))
/-- The exponentials of the scores less their largest. -/
def exps (s : Floats F S20000x2x1x9) : Floats F S20000x2x1x9 :=
  Host.exp (subf s (broadcastInDim S20000x2x1x9 ![0, 1, 2, 3] bcast_S20000x2x1x1_S20000x2x1x9_0_1_2_3
    (broadcastInDim S20000x2x1x1 ![0, 1, 2] bcast_S20000x2x1_S20000x2x1x1_0_1_2
      (maximumf (broadcastInDim S20000x2x1 ![] bcast_S_S20000x2x1 (constant S_ .f32 0xFF800000#32))
        (Host.reduce FloatOps.maximumf s (constant S_ .f32 0xFF800000#32) reducesTo_S20000x2x1x9_S20000x2x1_d3 h_S_)))))
/-- The exponentials over their sum. -/
def weights (e : Floats F S20000x2x1x9) : Floats F S20000x2x1x9 :=
  Host.divf e (broadcastInDim S20000x2x1x9 ![0, 1, 2, 3] bcast_S20000x2x1x1_S20000x2x1x9_0_1_2_3
    (broadcastInDim S20000x2x1x1 ![0, 1, 2] bcast_S20000x2x1_S20000x2x1x1_0_1_2
      (Host.reduceAdd e (constant S_ .f32 0x00000000#32) reducesTo_S20000x2x1x9_S20000x2x1_d3 h_S_)))
/-- The values weighted and summed, the heads side by side. -/
def mix (w : Floats F S20000x2x1x9) (key : Floats F S20000x9x32) (W : Floats F S96x32) (b : Floats F S96) :
    Floats F S20000x1x32 :=
  shapeCast S20000x1x32 (transpose S20000x1x2x16 [0, 2, 1, 3]
    (Host.dotGeneral dot_S20000x2x1x9_S20000x2x9x16_S20000x2x1x16_3_2_2_3_01_01 none w
      (affine9 key (extractStridedSlice S32x32 ![64, 0] W slices_S96x32_S32x32_64_0)
        (extractStridedSlice S32 ![64] b slices_S96_S32_64)))
    transposes_S20000x2x1x16_S20000x1x2x16_0_2_1_3) shapeCasts_S20000x1x2x16_S20000x1x32
/-- The reference's attention of each pillar over its nine neighbours. -/
def mha (x : Floats F S20000x32) (key : Floats F S20000x9x32) (W : Floats F S96x32) (b : Floats F S96)
    (Wo : Floats F S32x32) (bo : Floats F S32) : Floats F S20000x32 :=
  shapeCast S20000x32 (affine1 (mix (weights (exps (scores x key W b))) key W b) Wo bo) shapeCasts_S20000x1x32_S20000x32

end Cert.ReferenceIdeal.Bev

end
-- ==== Proof.RefKeys.lean ====
/- Hand-written: the neighbours that the reference gathers, all nine shifts at once, as functions of the arrays of
   shifts, cells and features. Nothing is proved here. -/
module

public import proofs.«01_k».proof.Proof.RefAttn

@[expose] public section

noncomputable section

namespace Cert.ReferenceIdeal.Bev

open Cert.ReferenceIdeal Cert.ReferenceIdeal.Gen Idealize.ShloMosaic Idealize.ShloMosaic.TcCoe Idealize.SL.Sem

variable {F : FTy → Type} [FloatOps F]

/-- An array of 32-bit integers of shape `S`. -/
abbrev Ints (F : FTy → Type) (S : Shape) : Type := (⟨S, .i32⟩ : BufTy).Contents (Elt F)

/-- One integer at every pillar and shift. -/
abbrev all9 (F : FTy → Type) [FloatOps F] (n : BitVec 32) : Ints F S20000x9 :=
  broadcastInDim S20000x9 ![] bcast_S_S20000x9 (constantI S_ 32 n)
/-- An integer clipped to `[lo, hi]`. -/
def clip9 (lo hi : BitVec 32) (x : Ints F S20000x9) : Ints F S20000x9 :=
  minsi (broadcastInDim S20000x9 ![] bcast_S_S20000x9 (id (constantI S_ 32 hi)))
    (maxsi (broadcastInDim S20000x9 ![] bcast_S_S20000x9 (id (constantI S_ 32 lo))) x)
/-- An integer index into an axis of `n` entries, counted from the end where it is negative. -/
def wrap9 (n : BitVec 32) (i : Ints F S20000x9) : Ints F S20000x9x1 :=
  broadcastInDim S20000x9x1 ![0, 1] bcast_S20000x9_S20000x9x1_0_1 (select (cmpi .slt i (all9 F 0#32)) (addi i (all9 F n)) i)
/-- The rows of the nine cells around each pillar. -/
def rows9 (s : Ints F S9x2) (q : Ints F S20000x2) : Ints F S20000x9 :=
  addi (broadcastInDim S20000x9 ![0, 1] bcast_S20000x1_S20000x9_0_1 (extractStridedSlice S20000x1 ![0, 0] q slices_S20000x2_S20000x1_0_0))
    (broadcastInDim S20000x9 ![0, 1] bcast_S1x9_S20000x9_0_1 (broadcastInDim S1x9 ![1] bcast_S9_S1x9_1
      (shapeCast _ (extractStridedSlice S9x1 ![0, 0] s slices_S9x2_S9x1_0_0) shapeCasts_S9x1_S9)))
/-- The columns of the nine cells around each pillar. -/
def cols9 (s : Ints F S9x2) (q : Ints F S20000x2) : Ints F S20000x9 :=
  addi (broadcastInDim S20000x9 ![0, 1] bcast_S20000x1_S20000x9_0_1 (extractStridedSlice S20000x1 ![0, 1] q slices_S20000x2_S20000x1_0_1))
    (broadcastInDim S20000x9 ![0, 1] bcast_S1x9_S20000x9_0_1 (broadcastInDim S1x9 ![1] bcast_S9_S1x9_1
      (shapeCast _ (extractStridedSlice S9x1 ![0, 1] s slices_S9x2_S9x1_0_1) shapeCasts_S9x1_S9)))
/-- The numbers of the nine cells around each pillar, clipped to the grid. -/
def cells9 (s : Ints F S9x2) (q : Ints F S20000x2) : Ints F S20000x9 :=
  addi (muli (clip9 0#32 495#32 (rows9 s q)) (all9 F 432#32)) (clip9 0#32 431#32 (cols9 s q))
/-- The pillars in the nine cells around each pillar, `-1` where there is none. -/
def found9 (s : Ints F S9x2) (t : Ints F S214272) (q : Ints F S20000x2) : Ints F S20000x9 :=
  Host.gather gather_S214272_S20000x9x1_S20000x9_n_0_n_n_0_2_1 t (wrap9 214272#32 (cells9 s q))
/-- Whether each index lies within an axis of 20000 entries. -/
def within9 (j : Ints F S20000x9x1) : (⟨S20000x9, .i1⟩ : BufTy).Contents (Elt F) :=
  Host.reduce IntOp.andi
    (andi (cmpi .sge j (broadcastInDim S20000x9x1 ![] bcast_S_S20000x9x1 (constantI S_ 32 0#32)))
      (cmpi .sle j (broadcastInDim S20000x9x1 ![0, 1, 2] bcast_S1x1x1_S20000x9x1_0_1_2
        (broadcastInDim S1x1x1 ![2] bcast_S1_S1x1x1_2 (constantI S1 32 19999#32)))))
    (constantI S_ 1 1#1) reducesTo_S20000x9x1_S20000x9_d2 h_S_
/-- The rows of `x` at the indices `j`, a row of the not-a-number pattern where an index is out of range. -/
def takeRows9 (x : Floats F S20000x32) (j : Ints F S20000x9x1) : Floats F S20000x9x32 :=
  select (broadcastInDim S20000x9x32 ![0, 1] bcast_S20000x9_S20000x9x32_0_1 (within9 j))
    (Host.gather gather_S20000x32_S20000x9x1_S20000x9x32_2_0_n_n_0_2_132 x j)
    (broadcastInDim S20000x9x32 ![] bcast_S_S20000x9x32 (constant S_ .f32 0x7FC00000#32))
/-- The features of the pillars `s`, zeros where `s` names none. -/
def rowsAt9 (x : Floats F S20000x32) (s : Ints F S20000x9) : Floats F S20000x9x32 :=
  select (broadcastInDim S20000x9x32 ![0, 1, 2] bcast_S20000x9x1_S20000x9x32_0_1_2
      (broadcastInDim S20000x9x1 ![0, 1] bcast_S20000x9_S20000x9x1_0_1 (cmpi .sge s (all9 F 0#32))))
    (takeRows9 x (wrap9 20000#32 (clip9 0#32 19999#32 s)))
    (broadcastInDim S20000x9x32 ![] bcast_S_S20000x9x32 (id (constant S_ .f32 0x00000000#32)))
/-- The nine neighbours of each query pillar. -/
def keys9 (s : Ints F S9x2) (t : Ints F S214272) (q : Ints F S20000x2) (x : Floats F S20000x32) : Floats F S20000x9x32 :=
  rowsAt9 x (found9 s t q)

end Cert.ReferenceIdeal.Bev

end
-- ==== Proof.KeysEq.lean ====
/- Hand-written: THE TWO PROGRAMS GATHER THE SAME NEIGHBOURS. The reference finds the nine cells around every pillar in
   one array, the kernel shift by shift; at every pillar, shift and feature they read the same row of the same table. -/
module

public import proofs.«01_k».proof.Proof.KernelAttn
public import proofs.«01_k».proof.Proof.RefKeys

@[expose] public section

set_option maxRecDepth 16384
set_option maxHeartbeats 4000000

noncomputable section

namespace Cert.Bev

open Idealize.ShloMosaic Idealize.ShloMosaic.TcCoe Idealize.SL.Sem
open Cert.KernelIdeal.Bev (Ints Floats)
open Cert.KernelIdeal (S20000 S20000x1 S20000x2 S20000x32 S20000x9x32 S214272)
open Cert.ReferenceIdeal (S9x2 S20000x9 S20000x9x1)

/-- Equal integers, equal wrapped indices. -/
theorem wrap_eq (n : BitVec 32) (a : Ints Ideal S20000x9) (b : Ints Ideal S20000) (i : Fin 20000) (s : Fin 9)
    (h : a (ix2 i s) = b (ix1 i)) :
    Cert.ReferenceIdeal.Bev.wrap9 (F := Ideal) n a (ix3 i s 0) = Cert.KernelIdeal.Bev.wrap (F := Ideal) n b (ix2 i 0) := by
  unfold Cert.ReferenceIdeal.Bev.wrap9 Cert.KernelIdeal.Bev.wrap
  simp only [pointwise]
  simp [h]

/-- Equal integers, equal clipped integers. -/
theorem clip_eq (lo hi : BitVec 32) (a : Ints Ideal S20000x9) (b : Ints Ideal S20000) (i : Fin 20000) (s : Fin 9)
    (h : a (ix2 i s) = b (ix1 i)) :
    Cert.ReferenceIdeal.Bev.clip9 (F := Ideal) lo hi a (ix2 i s) = Cert.KernelIdeal.Bev.clip (F := Ideal) lo hi b (ix1 i) := by
  unfold Cert.ReferenceIdeal.Bev.clip9 Cert.KernelIdeal.Bev.clip
  simp only [pointwise]
  simp [h]

/-- The two programs' shifted rows agree. -/
theorem rows_eq (sh : Ints Ideal S9x2) (q : Ints Ideal S20000x2) (dy : BitVec 32) (i : Fin 20000) (s : Fin 9)
    (h : sh (ix2 s 0) = dy) :
    Cert.ReferenceIdeal.Bev.rows9 (F := Ideal) sh q (ix2 i s)
      = addi (Cert.KernelIdeal.Bev.rowOf (F := Ideal) q) (Cert.KernelIdeal.Bev.all Ideal dy) (ix1 i) := by
  unfold Cert.ReferenceIdeal.Bev.rows9 Cert.KernelIdeal.Bev.rowOf
  simp only [pointwise]
  simp [← h]

/-- The two programs' shifted columns agree. -/
theorem cols_eq (sh : Ints Ideal S9x2) (q : Ints Ideal S20000x2) (dx : BitVec 32) (i : Fin 20000) (s : Fin 9)
    (h : sh (ix2 s 1) = dx) :
    Cert.ReferenceIdeal.Bev.cols9 (F := Ideal) sh q (ix2 i s)
      = addi (Cert.KernelIdeal.Bev.colOf (F := Ideal) q) (Cert.KernelIdeal.Bev.all Ideal dx) (ix1 i) := by
  unfold Cert.ReferenceIdeal.Bev.cols9 Cert.KernelIdeal.Bev.colOf
  simp only [pointwise]
  simp [← h]

/-- The two programs' shifted cells agree. -/
theorem cells_eq (sh : Ints Ideal S9x2) (q : Ints Ideal S20000x2) (dy dx : BitVec 32) (i : Fin 20000) (s : Fin 9)
    (h0 : sh (ix2 s 0) = dy) (h1 : sh (ix2 s 1) = dx) :
    Cert.ReferenceIdeal.Bev.cells9 (F := Ideal) sh q (ix2 i s) = Cert.KernelIdeal.Bev.cellAt (F := Ideal) dy dx q (ix1 i) := by
  unfold Cert.ReferenceIdeal.Bev.cells9 Cert.KernelIdeal.Bev.cellAt Cert.KernelIdeal.Bev.flat
  have e0 := clip_eq 0#32 495#32 _ _ i s (rows_eq sh q dy i s h0)
  have e1 := clip_eq 0#32 431#32 _ _ i s (cols_eq sh q dx i s h1)
  simp only [pointwise]
  rw [e0, e1]

/-- The kernel's look-up in the table, at a pillar: the entry at the index read signed and held within the table. -/
theorem look_up (t : Ints Ideal S214272) (j : Ints Ideal S20000x1) (i : Fin 20000) :
    Host.gather Cert.KernelIdeal.gather_S214272_S20000x1_S20000_n_0_n_n_0_1_1 t j (ix1 i)
      = t (ix1 ⟨min (j (ix2 i 0)).toInt.toNat 214271, by omega⟩) := by
  refine congrArg t (funext fun a => Fin.ext ?_)
  match a with
  | ⟨0, _⟩ =>
    refine congrArg (fun k => min (j k).toInt.toNat 214271 + 0 + 0) (?_ : _ = ix2 i 0)
    funext b
    match b with
    | ⟨0, _⟩ => rfl
    | ⟨1, _⟩ => rfl

/-- The reference's look-up in the table, at a pillar and a shift. -/
theorem look_up9 (t : Ints Ideal S214272) (j : Ints Ideal S20000x9x1) (i : Fin 20000) (s : Fin 9) :
    Host.gather Cert.ReferenceIdeal.gather_S214272_S20000x9x1_S20000x9_n_0_n_n_0_2_1 t j (ix2 i s)
      = t (ix1 ⟨min (j (ix3 i s 0)).toInt.toNat 214271, by omega⟩) := by
  refine congrArg t (funext fun a => Fin.ext ?_)
  match a with
  | ⟨0, _⟩ =>
    refine congrArg (fun k => min (j k).toInt.toNat 214271 + 0 + 0) (?_ : _ = ix3 i s 0)
    funext b
    match b with
    | ⟨0, _⟩ => rfl
    | ⟨1, _⟩ => rfl
    | ⟨2, _⟩ => rfl

/-- The kernel's row gather, at a pillar and a feature. -/
theorem row_at (x : Floats Ideal S20000x32) (j : Ints Ideal S20000x1) (i : Fin 20000) (e : Fin 32) :
    Host.gather Cert.KernelIdeal.gather_S20000x32_S20000x1_S20000x32_1_0_n_n_0_1_132 x j (ix2 i e)
      = x (ix2 ⟨min (j (ix2 i 0)).toInt.toNat 19999, by omega⟩ e) := by
  refine congrArg x (funext fun a => Fin.ext ?_)
  match a with
  | ⟨0, _⟩ =>
    refine congrArg (fun k => min (j k).toInt.toNat 19999 + 0 + 0) (?_ : _ = ix2 i 0)
    funext b
    match b with
    | ⟨0, _⟩ => rfl
    | ⟨1, _⟩ => rfl
  | ⟨1, _⟩ => exact Nat.zero_add e.val

/-- The reference's row gather, at a pillar, a shift and a feature. -/
theorem row_at9 (x : Floats Ideal S20000x32) (j : Ints Ideal S20000x9x1) (i : Fin 20000) (s : Fin 9) (e : Fin 32) :
    Host.gather Cert.ReferenceIdeal.gather_S20000x32_S20000x9x1_S20000x9x32_2_0_n_n_0_2_132 x j (ix3 i s e)
      = x (ix2 ⟨min (j (ix3 i s 0)).toInt.toNat 19999, by omega⟩ e) := by
  refine congrArg x (funext fun a => Fin.ext ?_)
  match a with
  | ⟨0, _⟩ =>
    refine congrArg (fun k => min (j k).toInt.toNat 19999 + 0 + 0) (?_ : _ = ix3 i s 0)
    funext b
    match b with
    | ⟨0, _⟩ => rfl
    | ⟨1, _⟩ => rfl
    | ⟨2, _⟩ => rfl
  | ⟨1, _⟩ => exact Nat.zero_add e.val

/-- The two programs find the same pillar in each cell. -/
theorem found_eq (sh : Ints Ideal S9x2) (t : Ints Ideal S214272) (q : Ints Ideal S20000x2) (dy dx : BitVec 32) (i : Fin 20000)
    (s : Fin 9) (h0 : sh (ix2 s 0) = dy) (h1 : sh (ix2 s 1) = dx) :
    Cert.ReferenceIdeal.Bev.found9 (F := Ideal) sh t q (ix2 i s) = Cert.KernelIdeal.Bev.found (F := Ideal) dy dx t q (ix1 i) := by
  unfold Cert.ReferenceIdeal.Bev.found9 Cert.KernelIdeal.Bev.found
  rw [look_up9, look_up]
  simp only [wrap_eq 214272#32 _ _ i s (cells_eq sh q dy dx i s h0 h1)]

/-- The kernel's range check of an index, folded over its axis of one entry, at a pillar. -/
theorem within_at (A : IVec S20000x1 1) (i : Fin 20000) :
    Host.reduce IntOp.andi A (constantI Cert.KernelIdeal.S_ 1 1#1) Cert.KernelIdeal.Gen.reducesTo_S20000x1_S20000_d1 Cert.KernelIdeal.Gen.h_S_ (ix1 i)
      = IntOp.andi (A (ix2 i 0)) 1#1 := by
  rw [Host.reduce_eq_fold]
  have hf : (Finset.univ.filter fun k : S20000x1.Idx => Shape.ReducesTo.drop Cert.KernelIdeal.Gen.reducesTo_S20000x1_S20000_d1 k = ix1 i) = {ix2 i 0} := by
    ext k
    simp only [Finset.mem_filter, Finset.mem_univ, true_and, Finset.mem_singleton]
    constructor
    · intro e
      funext b
      match b with
      | ⟨0, _⟩ => exact congrFun e 0
      | ⟨1, _⟩ => exact Subsingleton.elim (α := Fin 1) _ _
    · rintro rfl
      funext b
      match b with
      | ⟨0, _⟩ => rfl
  rw [hf, Finset.fold_singleton]
  rfl

/-- The reference's range check of an index, folded over its axis of one entry, at a pillar and a shift. -/
theorem within_at9 (A : IVec S20000x9x1 1) (i : Fin 20000) (s : Fin 9) :
    Host.reduce IntOp.andi A (constantI Cert.ReferenceIdeal.S_ 1 1#1) Cert.ReferenceIdeal.Gen.reducesTo_S20000x9x1_S20000x9_d2 Cert.ReferenceIdeal.Gen.h_S_ (ix2 i s)
      = IntOp.andi (A (ix3 i s 0)) 1#1 := by
  rw [Host.reduce_eq_fold]
  have hf : (Finset.univ.filter fun k : S20000x9x1.Idx => Shape.ReducesTo.drop Cert.ReferenceIdeal.Gen.reducesTo_S20000x9x1_S20000x9_d2 k = ix2 i s) = {ix3 i s 0} := by
    ext k
    simp only [Finset.mem_filter, Finset.mem_univ, true_and, Finset.mem_singleton]
    constructor
    · intro e
      funext b
      match b with
      | ⟨0, _⟩ => exact congrFun e 0
      | ⟨1, _⟩ => exact congrFun e 1
      | ⟨2, _⟩ => exact Subsingleton.elim (α := Fin 1) _ _
    · rintro rfl
      funext b
      match b with
      | ⟨0, _⟩ => rfl
      | ⟨1, _⟩ => rfl
  rw [hf, Finset.fold_singleton]
  rfl

/-- Equal indices, equal rows taken. -/
theorem take_eq (x : Floats Ideal S20000x32) (a : Ints Ideal S20000x9x1) (b : Ints Ideal S20000x1) (i : Fin 20000) (s : Fin 9)
    (e : Fin 32) (h : a (ix3 i s 0) = b (ix2 i 0)) :
    Cert.ReferenceIdeal.Bev.takeRows9 (F := Ideal) x a (ix3 i s e) = Cert.KernelIdeal.Bev.takeRows (F := Ideal) x b (ix2 i e) := by
  unfold Cert.ReferenceIdeal.Bev.takeRows9 Cert.ReferenceIdeal.Bev.within9 Cert.KernelIdeal.Bev.takeRows
  simp only [pointwise]
  rw [row_at, row_at9]
  simp [within_at, within_at9, h]

/-- Equal pillars, equal features. -/
theorem rowsAt_eq (x : Floats Ideal S20000x32) (a : Ints Ideal S20000x9) (b : Ints Ideal S20000) (i : Fin 20000) (s : Fin 9)
    (e : Fin 32) (h : a (ix2 i s) = b (ix1 i)) :
    Cert.ReferenceIdeal.Bev.rowsAt9 (F := Ideal) x a (ix3 i s e) = Cert.KernelIdeal.Bev.rowsAt (F := Ideal) x b (ix2 i e) := by
  have ht := take_eq x _ _ i s e (wrap_eq 20000#32 _ _ i s (clip_eq 0#32 19999#32 a b i s h))
  unfold Cert.ReferenceIdeal.Bev.rowsAt9 Cert.KernelIdeal.Bev.rowsAt
  simp only [pointwise]
  rw [ht]
  simp [h]

/-- A layer of a stack, at a pillar and a feature. -/
theorem stack_at (y : Fin 9 → Floats Ideal S20000x32) (i : Fin 20000) (s : Fin 9) (e : Fin 32) :
    Cert.KernelIdeal.Bev.stack (F := Ideal) (y 0) (y 1) (y 2) (y 3) (y 4) (y 5) (y 6) (y 7) (y 8) (ix3 i s e) = y s (ix2 i e) := by
  unfold Cert.KernelIdeal.Bev.stack Cert.KernelIdeal.Bev.pile Cert.KernelIdeal.Bev.layer
  fin_cases s <;>
    · refine congrArg (y _) (funext fun b => ?_)
      match b with
      | ⟨0, _⟩ => rfl
      | ⟨1, _⟩ => rfl

/-- The row offset of each shift. -/
abbrev shiftRow : Fin 9 → BitVec 32 :=
  ![0#32, 4294967295#32, 1#32, 0#32, 4294967295#32, 1#32, 0#32, 4294967295#32, 1#32]
/-- The column offset of each shift. -/
abbrev shiftCol : Fin 9 → BitVec 32 :=
  ![0#32, 0#32, 0#32, 1#32, 1#32, 1#32, 4294967295#32, 4294967295#32, 4294967295#32]

/-- An array holding the nine shifts, row by row, gives the reference the kernel's neighbours. -/
theorem keys_eq (sh : Ints Ideal S9x2) (h0 : ∀ s, sh (ix2 s 0) = shiftRow s) (h1 : ∀ s, sh (ix2 s 1) = shiftCol s)
    (t : Ints Ideal S214272) (q : Ints Ideal S20000x2) (x : Floats Ideal S20000x32) :
    Cert.ReferenceIdeal.Bev.keys9 (F := Ideal) sh t q x = Cert.KernelIdeal.Bev.keys (F := Ideal) t q x := by
  funext k
  obtain ⟨i, s, e, rfl⟩ : ∃ (i : Fin 20000) (s : Fin 9) (e : Fin 32), k = ix3 i s e := ⟨k 0, k 1, k 2, by
    funext b
    match b with
    | ⟨0, _⟩ => rfl
    | ⟨1, _⟩ => rfl
    | ⟨2, _⟩ => rfl⟩
  refine Eq.trans ?_ (stack_at (fun s => Cert.KernelIdeal.Bev.neighbour (F := Ideal) (shiftRow s) (shiftCol s) t q x) i s e).symm
  exact rowsAt_eq x _ _ i s e (found_eq sh t q _ _ i s (h0 s) (h1 s))

end Cert.Bev

end
-- ==== Proof.Attn.lean ====
/- Hand-written: THE TWO ATTENTIONS ARE ONE FUNCTION. Entry by entry, the reference's attention (queries with a unit
   axis, batched products) is the kernel's (affine maps of flattened rows, products over pillar and head): the same
   sums of the same products, the same largest score, the same exponentials and quotients. -/
module

public import proofs.«01_k».proof.Proof.KernelAttn
public import proofs.«01_k».proof.Proof.RefAttn

@[expose] public section

set_option maxRecDepth 16384
set_option maxHeartbeats 4000000

noncomputable section

namespace Cert.Bev

open Idealize.ShloMosaic Idealize.ShloMosaic.TcCoe Idealize.SL.Sem
open Cert.KernelIdeal.Bev (Rows proj kernelMha)

/-- The two programs' scores agree. -/
theorem scores_eq (x : Rows 20000) (key : FVec Ideal (⟨3, ![20000, 9, 32]⟩ : Shape) .f32)
    (W : FVec Ideal (⟨2, ![96, 32]⟩ : Shape) .f32) (b : FVec Ideal (⟨1, ![96]⟩ : Shape) .f32) (n : Fin 20000) (h : Fin 2) (j : Fin 9) :
    Cert.ReferenceIdeal.Bev.scores (F := Ideal) x key W b (ix4 n h 0 j)
      = Cert.KernelIdeal.Bev.scores (F := Ideal) (proj x (Cert.KernelIdeal.Bev.matQ (F := Ideal) W) (Cert.KernelIdeal.Bev.biasQ (F := Ideal) b))
          (Cert.KernelIdeal.Bev.unflat (F := Ideal) (proj (Cert.KernelIdeal.Bev.flatKeys (F := Ideal) key) (Cert.KernelIdeal.Bev.matK (F := Ideal) W) (Cert.KernelIdeal.Bev.biasK (F := Ideal) b))) (ix3 n h j) := by
  unfold Cert.ReferenceIdeal.Bev.scores Cert.KernelIdeal.Bev.scores Cert.KernelIdeal.Bev.heads Cert.ReferenceIdeal.Bev.affine1 Cert.ReferenceIdeal.Bev.affine9
  unfold Cert.KernelIdeal.Bev.matQ  Cert.KernelIdeal.Bev.matK Cert.KernelIdeal.Bev.biasQ Cert.KernelIdeal.Bev.biasK Cert.KernelIdeal.Bev.biasRow Cert.KernelIdeal.Bev.flatKeys Cert.KernelIdeal.Bev.unflat
  simp only [pointwise, proj]
  simp

/-- Of equal scores the two programs' exponentials are equal. -/
theorem exps_eq (s : FVec Ideal (⟨4, ![20000, 2, 1, 9]⟩ : Shape) .f32) (s' : FVec Ideal (⟨3, ![20000, 2, 9]⟩ : Shape) .f32)
    (hs : ∀ n h j, s (ix4 n h 0 j) = s' (ix3 n h j)) (n : Fin 20000) (h : Fin 2) (j : Fin 9) :
    Cert.ReferenceIdeal.Bev.exps (F := Ideal) s (ix4 n h 0 j) = Cert.KernelIdeal.Bev.exps (F := Ideal) s' (ix3 n h j) := by
  unfold Cert.ReferenceIdeal.Bev.exps Cert.KernelIdeal.Bev.exps
  simp only [pointwise]
  simp [hs]

/-- Of equal exponentials the two programs' weights are equal. -/
theorem weights_eq (s : FVec Ideal (⟨4, ![20000, 2, 1, 9]⟩ : Shape) .f32) (s' : FVec Ideal (⟨3, ![20000, 2, 9]⟩ : Shape) .f32)
    (hs : ∀ n h j, s (ix4 n h 0 j) = s' (ix3 n h j)) (n : Fin 20000) (h : Fin 2) (j : Fin 9) :
    Cert.ReferenceIdeal.Bev.weights (F := Ideal) s (ix4 n h 0 j) = Cert.KernelIdeal.Bev.weights (F := Ideal) s' (ix3 n h j) := by
  unfold Cert.ReferenceIdeal.Bev.weights Cert.KernelIdeal.Bev.weights
  simp only [pointwise]
  simp [hs]

/-- Of equal weights the two programs' weighted sums of values are equal. -/
theorem mix_eq (s : FVec Ideal (⟨4, ![20000, 2, 1, 9]⟩ : Shape) .f32) (s' : FVec Ideal (⟨3, ![20000, 2, 9]⟩ : Shape) .f32)
    (hs : ∀ n h j, s (ix4 n h 0 j) = s' (ix3 n h j)) (key : FVec Ideal (⟨3, ![20000, 9, 32]⟩ : Shape) .f32)
    (W : FVec Ideal (⟨2, ![96, 32]⟩ : Shape) .f32) (b : FVec Ideal (⟨1, ![96]⟩ : Shape) .f32) (n : Fin 20000) (e : Fin 32) :
    Cert.ReferenceIdeal.Bev.mix (F := Ideal) s key W b (ix3 n 0 e)
      = Cert.KernelIdeal.Bev.mix (F := Ideal) s' (Cert.KernelIdeal.Bev.unflat (F := Ideal) (proj (Cert.KernelIdeal.Bev.flatKeys (F := Ideal) key) (Cert.KernelIdeal.Bev.matV (F := Ideal) W) (Cert.KernelIdeal.Bev.biasV (F := Ideal) b))) (ix2 n e) := by
  unfold Cert.ReferenceIdeal.Bev.mix Cert.KernelIdeal.Bev.mix Cert.KernelIdeal.Bev.heads Cert.ReferenceIdeal.Bev.affine9
  unfold Cert.KernelIdeal.Bev.matV Cert.KernelIdeal.Bev.biasV Cert.KernelIdeal.Bev.biasRow Cert.KernelIdeal.Bev.flatKeys Cert.KernelIdeal.Bev.unflat
  simp only [pointwise, proj, hs]
  simp

/-- The reference's attention is the kernel's. -/
theorem mha_eq (x : Rows 20000) (key : FVec Ideal (⟨3, ![20000, 9, 32]⟩ : Shape) .f32)
    (W : FVec Ideal (⟨2, ![96, 32]⟩ : Shape) .f32) (b : FVec Ideal (⟨1, ![96]⟩ : Shape) .f32) (Wo : Rows 32)
    (bo : FVec Ideal (⟨1, ![32]⟩ : Shape) .f32) :
    Cert.ReferenceIdeal.Bev.mha (F := Ideal) x key W b Wo bo = kernelMha x key W b Wo bo := by
  have hm := fun n e => mix_eq _ _ (weights_eq _ _ (exps_eq _ _ (scores_eq x key W b))) key W b n e
  funext i
  unfold Cert.ReferenceIdeal.Bev.mha kernelMha Cert.ReferenceIdeal.Bev.affine1 Cert.KernelIdeal.Bev.attend Cert.KernelIdeal.Bev.biasRow
  simp only [pointwise, proj]
  simp
  exact congrArg₂ (· + ·) (Finset.sum_congr rfl fun k _ => congrArg (· * Wo (ix2 (i 1) k)) (hm (i 0) k)) rfl

end Cert.Bev

end
-- ==== Proof.Cross.lean ====
/- Hand-written: ONE CROSS ATTENTION of the kernel as a function of its arrays, and the steps' results put together. -/
module

public import proofs.«01_k».proof.Proof.KernelAttn

@[expose] public section

noncomputable section

namespace Cert.KernelIdeal.Bev

open Cert.KernelIdeal Cert.KernelIdeal.Gen Idealize.ShloMosaic Idealize.ShloMosaic.TcCoe Idealize.SL.Sem

/-- Two grids, one per scene. -/
def pair {F : FTy → Type} [FloatOps F] (a b : Floats F S1x32x496x432) : Floats F S2x32x496x432 :=
  concatenate S2x32x496x432 0 [⟨S1x32x496x432, a⟩, ⟨S1x32x496x432, b⟩] concatenates_S1x32x496x432_S1x32x496x432_S2x32x496x432_d0

/-- One cross attention: pillars with features `x` at cells `q`, each attending to its neighbours among the pillars with
    features `k` at cells `kc`; the sum of features and attention, on the grid. -/
def grid (x : Floats Ideal S20000x32) (q : Ints Ideal S20000x2) (k : Floats Ideal S20000x32) (kc : Ints Ideal S20000x2)
    (W : Floats Ideal S96x32) (b : Floats Ideal S96) (Wo : Floats Ideal S32x32) (bo : Floats Ideal S32) :
    Floats Ideal S1x32x496x432 :=
  canvas q (addf (F := Ideal) (φ := .f32) x (kernelMha x (keys (table kc) q k) W b Wo bo))

/-- Equal operands, equal affine maps. -/
theorem proj_congr {R : ℕ} {x x' : Rows R} {W W' : Rows 32} {b b' : Rows 1} (hx : x = x') (hW : W = W') (hb : b = b') :
    proj x W b = proj x' W' b' := by rw [hx, hW, hb]

/-- The four launches' results and the attention between them, put together. -/
theorem mha_of {x : Rows 20000} {key : Floats Ideal S20000x9x32} {W : Floats Ideal S96x32} {b : Floats Ideal S96}
    {Wo : Rows 32} {bo : Floats Ideal S32} {q a o : Rows 20000} {k v : Rows 180000}
    (hq : q = proj x (matQ W) (biasQ b)) (hk : k = proj (flatKeys key) (matK W) (biasK b))
    (hv : v = proj (flatKeys key) (matV W) (biasV b)) (ha : a = attend (F := Ideal) q (unflat (F := Ideal) k) (unflat (F := Ideal) v))
    (ho : o = proj a Wo (biasRow bo)) : o = kernelMha x key W b Wo bo := by
  subst hq hk hv ha ho; rfl

/-- The pieces of a grid, put together. -/
theorem grid_of {x k : Floats Ideal S20000x32} {q kc : Ints Ideal S20000x2} {W : Floats Ideal S96x32} {b : Floats Ideal S96}
    {Wo : Floats Ideal S32x32} {bo : Floats Ideal S32} {x' y : Floats Ideal S20000x32} {q' : Ints Ideal S20000x2}
    (hx : x' = x) (hq : q' = q) (hy : y = kernelMha x (keys (table kc) q k) W b Wo bo) :
    canvas q' (addf (F := Ideal) (φ := .f32) x' y) = grid x q k kc W b Wo bo := by
  subst hx hq hy; rfl

end Cert.KernelIdeal.Bev

end
-- ==== Proof.Launch1.lean ====
/- Hand-written: the four launches of cross attention 1 (queries, keys, values, output), each result array as the
   affine map of the arrays that the launch reads (Proj.lean). -/
module

public import proofs.«01_k».proof.Proof.Proj
public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import Idealize.ShloMosaic.Lib.Pipeline.ValueKit

@[expose] public section

set_option maxRecDepth 16384
set_option maxHeartbeats 4000000

noncomputable section

namespace Cert.KernelIdeal.Bev

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- Which block each window of launch 0 holds at a point: the point's rows, the whole matrix, the whole bias. -/
theorem place0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 := (by decide +kernel : ∀ t : Fin grid0.N, _)

/-- Launch 0 leaves the affine map of its operands in its result array. -/
theorem final0 (c : Dev nD) : (dat0 V c).arrAt 3 cfg0.N = proj (R := 20000) (V c main_v1) (V c main_v269) (V c main_v271) := by
  refine (dat0 V c).arrAt_eq_of_covers 3 (proj (R := 20000) (V c main_v1) (V c main_v269) (V c main_v271)) (by decide +kernel) fun t _ y => ?_
  obtain ⟨e0, e1, e2, e3, e4, e5, e6, e7⟩ := place0 t
  show (dat0 V c).after 3 t y = proj (R := 20000) (V c main_v1) (V c main_v269) (V c main_v271) (((cfg0.win 3).blk t).view.emb y)
  rw [after0_3]
  unfold out0_3
  rw [View.canon_unit_zero origin, View.ld_unit_zero origin, View.ld_unit_zero origin, View.ld_unit_zero origin]
  refine (congrFun (pay_eq _ _ _) y).trans ?_
  exact proj_rows t.val (V c main_v1) (V c main_v269) (V c main_v271) ((cfg0.win 0).blk t).view.emb ((cfg0.win 1).blk t).view.emb
    ((cfg0.win 2).blk t).view.emb ((cfg0.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 1 holds at a point: the point's rows, the whole matrix, the whole bias. -/
theorem place1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 := (by decide +kernel : ∀ t : Fin grid1.N, _)

/-- Launch 1 leaves the affine map of its operands in its result array. -/
theorem final1 (c : Dev nD) : (dat1 V c).arrAt 3 cfg1.N = proj (R := 180000) (V c main_v273) (V c main_v274) (V c main_v276) := by
  refine (dat1 V c).arrAt_eq_of_covers 3 (proj (R := 180000) (V c main_v273) (V c main_v274) (V c main_v276)) (by decide +kernel) fun t _ y => ?_
  obtain ⟨e0, e1, e2, e3, e4, e5, e6, e7⟩ := place1 t
  show (dat1 V c).after 3 t y = proj (R := 180000) (V c main_v273) (V c main_v274) (V c main_v276) (((cfg1.win 3).blk t).view.emb y)
  rw [after1_3]
  unfold out1_3
  rw [View.canon_unit_zero origin, View.ld_unit_zero origin, View.ld_unit_zero origin, View.ld_unit_zero origin]
  refine (congrFun (pay_eq _ _ _) y).trans ?_
  exact proj_rows t.val (V c main_v273) (V c main_v274) (V c main_v276) ((cfg1.win 0).blk t).view.emb ((cfg1.win 1).blk t).view.emb
    ((cfg1.win 2).blk t).view.emb ((cfg1.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 2 holds at a point: the point's rows, the whole matrix, the whole bias. -/
theorem place2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 := (by decide +kernel : ∀ t : Fin grid2.N, _)

/-- Launch 2 leaves the affine map of its operands in its result array. -/
theorem final2 (c : Dev nD) : (dat2 V c).arrAt 3 cfg2.N = proj (R := 180000) (V c main_v279) (V c main_v280) (V c main_v282) := by
  refine (dat2 V c).arrAt_eq_of_covers 3 (proj (R := 180000) (V c main_v279) (V c main_v280) (V c main_v282)) (by decide +kernel) fun t _ y => ?_
  obtain ⟨e0, e1, e2, e3, e4, e5, e6, e7⟩ := place2 t
  show (dat2 V c).after 3 t y = proj (R := 180000) (V c main_v279) (V c main_v280) (V c main_v282) (((cfg2.win 3).blk t).view.emb y)
  rw [after2_3]
  unfold out2_3
  rw [View.canon_unit_zero origin, View.ld_unit_zero origin, View.ld_unit_zero origin, View.ld_unit_zero origin]
  refine (congrFun (pay_eq _ _ _) y).trans ?_
  exact proj_rows t.val (V c main_v279) (V c main_v280) (V c main_v282) ((cfg2.win 0).blk t).view.emb ((cfg2.win 1).blk t).view.emb
    ((cfg2.win 2).blk t).view.emb ((cfg2.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 3 holds at a point: the point's rows, the whole matrix, the whole bias. -/
theorem place3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 := (by decide +kernel : ∀ t : Fin grid3.N, _)

/-- Launch 3 leaves the affine map of its operands in its result array. -/
theorem final3 (c : Dev nD) : (dat3 V c).arrAt 3 cfg3.N = proj (R := 20000) (V c main_v305) (V c main_arg6) (V c main_v306) := by
  refine (dat3 V c).arrAt_eq_of_covers 3 (proj (R := 20000) (V c main_v305) (V c main_arg6) (V c main_v306)) (by decide +kernel) fun t _ y => ?_
  obtain ⟨e0, e1, e2, e3, e4, e5, e6, e7⟩ := place3 t
  show (dat3 V c).after 3 t y = proj (R := 20000) (V c main_v305) (V c main_arg6) (V c main_v306) (((cfg3.win 3).blk t).view.emb y)
  rw [after3_3]
  unfold out3_3
  rw [View.canon_unit_zero origin, View.ld_unit_zero origin, View.ld_unit_zero origin, View.ld_unit_zero origin]
  refine (congrFun (pay_out_eq _ _ _) y).trans ?_
  exact proj_rows t.val (V c main_v305) (V c main_arg6) (V c main_v306) ((cfg3.win 0).blk t).view.emb ((cfg3.win 1).blk t).view.emb
    ((cfg3.win 2).blk t).view.emb ((cfg3.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

end Cert.KernelIdeal.Bev

end
-- ==== Proof.Gather1.lean ====
/- Hand-written: WHAT THE HOST OPERATIONS BEFORE CROSS ATTENTION 1 LEAVE, from any contents of the buffers: the query
   pillars' features and cells, the nine gathered neighbours, the query launch's matrix and bias. -/
module

public import proofs.«01_k».proof.Proof.Gen.KernelIdeal.Launch
public import proofs.«01_k».proof.Proof.KernelAttn
public import Idealize.ShloMosaic.Lib.StableHlo.Run

@[expose] public section

set_option maxRecDepth 400000
set_option maxHeartbeats 40000000

noncomputable section

namespace Cert.KernelIdeal.Bev

open Cert.KernelIdeal Cert.KernelIdeal.Gen Idealize.ShloMosaic Idealize.ShloMosaic.TcCoe Idealize.SL.Sem Idealize.ShloMosaic.StableHlo

variable {F : FTy → Type} [FloatOps F]

/-- The buffers after the host operations before cross attention 1. -/
def gather1 (V : Valuation τ sig (Elt F)) : Valuation τ sig (Elt F) :=
  after hostOps0_81 (after hostOps0_80 (after hostOps0_79 (after hostOps0_78 (after hostOps0_77 (after
    hostOps0_76 (after hostOps0_75 (after hostOps0_74 (after hostOps0_73 (after hostOps0_72 (after hostOps0_71
    (after hostOps0_70 (after hostOps0_69 (after hostOps0_68 (after hostOps0_67 (after hostOps0_66 (after
    hostOps0_65 (after hostOps0_64 (after hostOps0_63 (after hostOps0_62 (after hostOps0_61 (after hostOps0_60
    (after hostOps0_59 (after hostOps0_58 (after hostOps0_57 (after hostOps0_56 (after hostOps0_55 (after
    hostOps0_54 (after hostOps0_53 (after hostOps0_52 (after hostOps0_51 (after hostOps0_50 (after hostOps0_49
    (after hostOps0_48 (after hostOps0_47 (after hostOps0_46 (after hostOps0_45 (after hostOps0_44 (after
    hostOps0_43 (after hostOps0_42 (after hostOps0_41 (after hostOps0_40 (after hostOps0_39 (after hostOps0_38
    (after hostOps0_37 (after hostOps0_36 (after hostOps0_35 (after hostOps0_34 (after hostOps0_33 (after
    hostOps0_32 (after hostOps0_31 (after hostOps0_30 (after hostOps0_29 (after hostOps0_28 (after hostOps0_27
    (after hostOps0_26 (after hostOps0_25 (after hostOps0_24 (after hostOps0_23 (after hostOps0_22 (after
    hostOps0_21 (after hostOps0_20 (after hostOps0_19 (after hostOps0_18 (after hostOps0_17 (after hostOps0_16
    (after hostOps0_15 (after hostOps0_14 (after hostOps0_13 (after hostOps0_12 (after hostOps0_11 (after
    hostOps0_10 (after hostOps0_9 (after hostOps0_8 (after hostOps0_7 (after hostOps0_6 (after hostOps0_5 (after
    hostOps0_4 (after hostOps0_3 (after hostOps0_2 (after hostOps0_1 (after hostOps0
    V)))))))))))))))))))))))))))))))))))))))))))))))))))))))))))))))))))))))))))))))))

/-- The operation that stacks the nine layers, its function by name. -/
theorem pile_op1 :
    StableHlo.nary ![main_v258, main_v259, main_v260, main_v261, main_v262, main_v263, main_v264, main_v265, main_v266] main_v267 (fun u => (concatenate S9x20000x32 0 [⟨S1x20000x32, (u 0 : (⟨S1x20000x32, .f32⟩ : BufTy).Contents (Elt F))⟩, ⟨S1x20000x32, (u 1 : (⟨S1x20000x32, .f32⟩ : BufTy).Contents (Elt F))⟩, ⟨S1x20000x32, (u 2 : (⟨S1x20000x32, .f32⟩ : BufTy).Contents (Elt F))⟩, ⟨S1x20000x32, (u 3 : (⟨S1x20000x32, .f32⟩ : BufTy).Contents (Elt F))⟩, ⟨S1x20000x32, (u 4 : (⟨S1x20000x32, .f32⟩ : BufTy).Contents (Elt F))⟩, ⟨S1x20000x32, (u 5 : (⟨S1x20000x32, .f32⟩ : BufTy).Contents (Elt F))⟩, ⟨S1x20000x32, (u 6 : (⟨S1x20000x32, .f32⟩ : BufTy).Contents (Elt F))⟩, ⟨S1x20000x32, (u 7 : (⟨S1x20000x32, .f32⟩ : BufTy).Contents (Elt F))⟩, ⟨S1x20000x32, (u 8 : (⟨S1x20000x32, .f32⟩ : BufTy).Contents (Elt F))⟩] concatenates_S1x20000x32_S1x20000x32_S1x20000x32_S1x20000x32_S1x20000x32_S1x20000x32_S1x20000x32_S1x20000x32_S1x20000x32_S9x20000x32_d0 : (⟨S9x20000x32, .f32⟩ : BufTy).Contents (Elt F)))
    = (StableHlo.nary ![main_v258, main_v259, main_v260, main_v261, main_v262, main_v263, main_v264, main_v265, main_v266]
      main_v267 (fun u => pile (u 0) (u 1) (u 2) (u 3) (u 4) (u 5) (u 6) (u 7) (u 8)) : HloOp τ sig (Elt F)) := rfl

/-- The nine neighbours of the query pillars. -/
theorem gather1_keys (V : Valuation τ sig (Elt F)) :
    gather1 V (Proc.devRef .tc main_v268)
      = keys (table (coors0 (V (Proc.devRef .tc main_arg3)))) (coors0 (V (Proc.devRef .tc main_arg1)))
          (feats0 (V (Proc.devRef .tc main_arg2))) := by
  simp only [gather1, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20, hostOps0_21, hostOps0_22, hostOps0_23, hostOps0_24,
    hostOps0_25, hostOps0_26, hostOps0_27, hostOps0_28, hostOps0_29, hostOps0_30, hostOps0_31, hostOps0_32,
    hostOps0_33, hostOps0_34, hostOps0_35, hostOps0_36, hostOps0_37, hostOps0_38, hostOps0_39, hostOps0_40,
    hostOps0_41, hostOps0_42, hostOps0_43, hostOps0_44, hostOps0_45, hostOps0_46, hostOps0_47, hostOps0_48,
    hostOps0_49, hostOps0_50, hostOps0_51, hostOps0_52, hostOps0_53, hostOps0_54, hostOps0_55, hostOps0_56,
    hostOps0_57, hostOps0_58, hostOps0_59, hostOps0_60, hostOps0_61, hostOps0_62, hostOps0_63, hostOps0_64,
    hostOps0_65, hostOps0_66, hostOps0_67, hostOps0_68, hostOps0_69, hostOps0_70, hostOps0_71, hostOps0_72,
    hostOps0_73, hostOps0_74, hostOps0_75, hostOps0_76, hostOps0_77, hostOps0_78, hostOps0_79, hostOps0_80,
    hostOps0_81,
    TRef.binary, TRef.nullary, TRef.ternary, TRef.unary, TRef.toBuf, TRef.ofBuf, cast_eq, pile_op1]
  after_results_simp
  dsimp only [Matrix.cons_val]
  after_results_simp
  rfl

/-- The query pillars' features and cells, and the query launch's matrix and bias. -/
theorem gather1_query (V : Valuation τ sig (Elt F)) :
    gather1 V (Proc.devRef .tc main_v1) = feats0 (V (Proc.devRef .tc main_arg0))
      ∧ gather1 V (Proc.devRef .tc main_v3) = coors0 (V (Proc.devRef .tc main_arg1))
      ∧ gather1 V (Proc.devRef .tc main_v269) = matQ (V (Proc.devRef .tc main_arg4))
      ∧ gather1 V (Proc.devRef .tc main_v271) = biasQ (V (Proc.devRef .tc main_arg5)) := by
  simp only [gather1, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15, hostOps0_16,
    hostOps0_17, hostOps0_18, hostOps0_19, hostOps0_20, hostOps0_21, hostOps0_22, hostOps0_23, hostOps0_24,
    hostOps0_25, hostOps0_26, hostOps0_27, hostOps0_28, hostOps0_29, hostOps0_30, hostOps0_31, hostOps0_32,
    hostOps0_33, hostOps0_34, hostOps0_35, hostOps0_36, hostOps0_37, hostOps0_38, hostOps0_39, hostOps0_40,
    hostOps0_41, hostOps0_42, hostOps0_43, hostOps0_44, hostOps0_45, hostOps0_46, hostOps0_47, hostOps0_48,
    hostOps0_49, hostOps0_50, hostOps0_51, hostOps0_52, hostOps0_53, hostOps0_54, hostOps0_55, hostOps0_56,
    hostOps0_57, hostOps0_58, hostOps0_59, hostOps0_60, hostOps0_61, hostOps0_62, hostOps0_63, hostOps0_64,
    hostOps0_65, hostOps0_66, hostOps0_67, hostOps0_68, hostOps0_69, hostOps0_70, hostOps0_71, hostOps0_72,
    hostOps0_73, hostOps0_74, hostOps0_75, hostOps0_76, hostOps0_77, hostOps0_78, hostOps0_79, hostOps0_80,
    hostOps0_81,
    TRef.binary, TRef.nullary, TRef.ternary, TRef.unary, TRef.toBuf, TRef.ofBuf, cast_eq]
  after_results_simp
  exact ⟨rfl, rfl, rfl, rfl⟩

end Cert.KernelIdeal.Bev

end
-- ==== Proof.Cross1.lean ====
/- Hand-written: CROSS ATTENTION 1 of the kernel: what its four launches and the host operations between them leave. -/
module

public import proofs.«01_k».proof.Proof.Cross
public import proofs.«01_k».proof.Proof.Launch1
public import proofs.«01_k».proof.Proof.Gather1
public import proofs.«01_k».proof.Proof.Gen.KernelIdeal.Frame.Fold1

@[expose] public section

set_option maxRecDepth 100000
set_option maxHeartbeats 4000000

noncomputable section

namespace Cert.KernelIdeal.Bev

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Before the key launch: the neighbours as rows, the keys' matrix and bias. -/
theorem before1 (V : Valuation τ sig (Elt Ideal)) :
    after hostOps1 V (Proc.devRef .tc main_v273) = flatKeys (F := Ideal) (V (Proc.devRef .tc main_v268))
      ∧ after hostOps1 V (Proc.devRef .tc main_v274) = matK (F := Ideal) (V (Proc.devRef .tc main_arg4))
      ∧ after hostOps1 V (Proc.devRef .tc main_v276) = biasK (F := Ideal) (V (Proc.devRef .tc main_arg5)) := by
  simp only [hostOps1, TRef.unary, TRef.toBuf, TRef.ofBuf, cast_eq]
  after_results_simp
  exact ⟨rfl, rfl, rfl⟩

/-- Before the value launch: the projected keys by pillar, the neighbours as rows, the values' matrix and bias. -/
theorem before2 (V : Valuation τ sig (Elt Ideal)) :
    after hostOps2 V (Proc.devRef .tc main_v278) = unflat (F := Ideal) (V (Proc.devRef .tc main_v277))
      ∧ after hostOps2 V (Proc.devRef .tc main_v279) = flatKeys (F := Ideal) (V (Proc.devRef .tc main_v268))
      ∧ after hostOps2 V (Proc.devRef .tc main_v280) = matV (F := Ideal) (V (Proc.devRef .tc main_arg4))
      ∧ after hostOps2 V (Proc.devRef .tc main_v282) = biasV (F := Ideal) (V (Proc.devRef .tc main_arg5)) := by
  simp only [hostOps2, TRef.unary, TRef.toBuf, TRef.ofBuf, cast_eq]
  after_results_simp
  exact ⟨rfl, rfl, rfl, rfl⟩

/-- Before the output launch: the attention, and the output bias as a row. -/
theorem before3 (V : Valuation τ sig (Elt Ideal)) :
    after hostOps3 V (Proc.devRef .tc main_v305)
        = attend (F := Ideal) (V (Proc.devRef .tc main_v272)) (V (Proc.devRef .tc main_v278)) (unflat (F := Ideal) (V (Proc.devRef .tc main_v283)))
      ∧ after hostOps3 V (Proc.devRef .tc main_v306) = biasRow (F := Ideal) (V (Proc.devRef .tc main_arg7)) := by
  simp only [hostOps3, TRef.binary, TRef.nullary, TRef.unary, TRef.toBuf, TRef.ofBuf, cast_eq]
  after_results_simp
  exact ⟨rfl, rfl⟩

/-- After cross attention 1: its attention, and the query pillars' features and cells. -/
theorem cross1 (c : Dev nD) :
    W89 m ρ c (Proc.devRef .tc main_v307) = kernelMha (feats0 (m ((c : Thread nD τ).loc main_arg0)))
        (keys (table (coors0 (m ((c : Thread nD τ).loc main_arg3)))) (coors0 (m ((c : Thread nD τ).loc main_arg1))) (feats0 (m ((c : Thread nD τ).loc main_arg2))))
        (m ((c : Thread nD τ).loc main_arg4)) (m ((c : Thread nD τ).loc main_arg5)) (m ((c : Thread nD τ).loc main_arg6)) (m ((c : Thread nD τ).loc main_arg7))
      ∧ W89 m ρ c (Proc.devRef .tc main_v1) = feats0 (m ((c : Thread nD τ).loc main_arg0))
      ∧ W89 m ρ c (Proc.devRef .tc main_v3) = coors0 (m ((c : Thread nD τ).loc main_arg1)) := by
  have g : W82 m ρ c = gather1 (W0 m ρ c) := rfl
  obtain ⟨hx, hc, hw, hb⟩ := gather1_query (W0 m ρ c)
  have hk := gather1_keys (W0 m ρ c)
  rw [← g] at hx hc hw hb hk
  rw [W0_args m ρ c main_arg0 (by decide)] at hx
  rw [W0_args m ρ c main_arg1 (by decide)] at hc
  rw [W0_args m ρ c main_arg4 (by decide)] at hw
  rw [W0_args m ρ c main_arg5 (by decide)] at hb
  rw [W0_args m ρ c main_arg3 (by decide), W0_args m ρ c main_arg1 (by decide),
    W0_args m ρ c main_arg2 (by decide)] at hk
  obtain ⟨k1, k2, k3⟩ := before1 (W83 m ρ c)
  obtain ⟨v0, v1, v2, v3⟩ := before2 (W85 m ρ c)
  obtain ⟨o1, o2⟩ := before3 (W87 m ρ c)
  have s1 : W83 m ρ c (Proc.devRef .tc main_v268) = keys (table (coors0 (m ((c : Thread nD τ).loc main_arg3)))) (coors0 (m ((c : Thread nD τ).loc main_arg1))) (feats0 (m ((c : Thread nD τ).loc main_arg2))) :=
    (W83_of m ρ c main_v268 (by decide)).trans hk
  have s3 : W85 m ρ c (Proc.devRef .tc main_v268) = keys (table (coors0 (m ((c : Thread nD τ).loc main_arg3)))) (coors0 (m ((c : Thread nD τ).loc main_arg1))) (feats0 (m ((c : Thread nD τ).loc main_arg2))) :=
    ((W85_of m ρ c main_v268 (by decide)).trans (W84_of m ρ c main_v268 (by decide))).trans s1
  have eq := (W83_arr m ρ c 3).trans ((final0 (V82 m ρ) c).trans (proj_congr hx hw hb))
  have ek := (W85_arr m ρ c 3).trans ((final1 (V84 m ρ) c).trans
    (proj_congr (k1.trans (congrArg (flatKeys (F := Ideal)) s1)) (k2.trans (congrArg (matK (F := Ideal)) (W83_args m ρ c main_arg4 (by decide))))
      (k3.trans (congrArg (biasK (F := Ideal)) (W83_args m ρ c main_arg5 (by decide))))))
  have ev := (W87_arr m ρ c 3).trans ((final2 (V86 m ρ) c).trans
    (proj_congr (v1.trans (congrArg (flatKeys (F := Ideal)) s3)) (v2.trans (congrArg (matV (F := Ideal)) (W85_args m ρ c main_arg4 (by decide))))
      (v3.trans (congrArg (biasV (F := Ideal)) (W85_args m ρ c main_arg5 (by decide))))))
  have eo := (W89_arr m ρ c 3).trans ((final3 (V88 m ρ) c).trans
    (proj_congr rfl (W88_args m ρ c main_arg6 (by decide)) (o2.trans (congrArg (biasRow (F := Ideal)) (W87_args m ρ c main_arg7 (by decide))))))
  have h278 : W87 m ρ c (Proc.devRef .tc main_v278) = unflat (F := Ideal) (W85 m ρ c (Proc.devRef .tc main_v277)) :=
    (W87_of m ρ c main_v278 (by decide)).trans v0
  have h272 : W87 m ρ c (Proc.devRef .tc main_v272) = W83 m ρ c (Proc.devRef .tc main_v272) :=
    ((((W87_of m ρ c main_v272 (by decide)).trans (W86_of m ρ c main_v272 (by decide))).trans (W85_of m ρ c main_v272 (by decide))).trans (W84_of m ρ c main_v272 (by decide)))
  rw [h278, h272] at o1
  refine ⟨mha_of eq ek ev o1 eo, ?_, ?_⟩
  · exact (((((((W89_of m ρ c main_v1 (by decide)).trans (W88_of m ρ c main_v1 (by decide))).trans (W87_of m ρ c main_v1 (by decide))).trans (W86_of m ρ c main_v1 (by decide))).trans (W85_of m ρ c main_v1 (by decide))).trans (W84_of m ρ c main_v1 (by decide))).trans (W83_of m ρ c main_v1 (by decide))).trans hx
  · exact (((((((W89_of m ρ c main_v3 (by decide)).trans (W88_of m ρ c main_v3 (by decide))).trans (W87_of m ρ c main_v3 (by decide))).trans (W86_of m ρ c main_v3 (by decide))).trans (W85_of m ρ c main_v3 (by decide))).trans (W84_of m ρ c main_v3 (by decide))).trans (W83_of m ρ c main_v3 (by decide))).trans hc

end Cert.KernelIdeal.Bev

end
-- ==== Proof.Launch2.lean ====
/- Hand-written: the four launches of cross attention 2 (queries, keys, values, output), each result array as the
   affine map of the arrays that the launch reads (Proj.lean). -/
module

public import proofs.«01_k».proof.Proof.Proj
public import proofs.«01_k».proof.Proof.Gen.KernelIdeal.Frame.Region4
public import proofs.«01_k».proof.Proof.Gen.KernelIdeal.Frame.Region5
public import proofs.«01_k».proof.Proof.Gen.KernelIdeal.Frame.Region6
public import proofs.«01_k».proof.Proof.Gen.KernelIdeal.Frame.Region7
public import Idealize.ShloMosaic.Lib.Pipeline.ValueKit

@[expose] public section

set_option maxRecDepth 16384
set_option maxHeartbeats 4000000

noncomputable section

namespace Cert.KernelIdeal.Bev

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- Which block each window of launch 4 holds at a point: the point's rows, the whole matrix, the whole bias. -/
theorem place4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 := (by decide +kernel : ∀ t : Fin grid4.N, _)

/-- Launch 4 leaves the affine map of its operands in its result array. -/
theorem final4 (c : Dev nD) : (dat4 V c).arrAt 3 cfg4.N = proj (R := 20000) (V c main_v327) (V c main_v595) (V c main_v597) := by
  refine (dat4 V c).arrAt_eq_of_covers 3 (proj (R := 20000) (V c main_v327) (V c main_v595) (V c main_v597)) (by decide +kernel) fun t _ y => ?_
  obtain ⟨e0, e1, e2, e3, e4, e5, e6, e7⟩ := place4 t
  show (dat4 V c).after 3 t y = proj (R := 20000) (V c main_v327) (V c main_v595) (V c main_v597) (((cfg4.win 3).blk t).view.emb y)
  rw [after4_3]
  unfold out4_3
  rw [View.canon_unit_zero origin, View.ld_unit_zero origin, View.ld_unit_zero origin, View.ld_unit_zero origin]
  refine (congrFun (pay_eq _ _ _) y).trans ?_
  exact proj_rows t.val (V c main_v327) (V c main_v595) (V c main_v597) ((cfg4.win 0).blk t).view.emb ((cfg4.win 1).blk t).view.emb
    ((cfg4.win 2).blk t).view.emb ((cfg4.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 5 holds at a point: the point's rows, the whole matrix, the whole bias. -/
theorem place5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 := (by decide +kernel : ∀ t : Fin grid5.N, _)

/-- Launch 5 leaves the affine map of its operands in its result array. -/
theorem final5 (c : Dev nD) : (dat5 V c).arrAt 3 cfg5.N = proj (R := 180000) (V c main_v599) (V c main_v600) (V c main_v602) := by
  refine (dat5 V c).arrAt_eq_of_covers 3 (proj (R := 180000) (V c main_v599) (V c main_v600) (V c main_v602)) (by decide +kernel) fun t _ y => ?_
  obtain ⟨e0, e1, e2, e3, e4, e5, e6, e7⟩ := place5 t
  show (dat5 V c).after 3 t y = proj (R := 180000) (V c main_v599) (V c main_v600) (V c main_v602) (((cfg5.win 3).blk t).view.emb y)
  rw [after5_3]
  unfold out5_3
  rw [View.canon_unit_zero origin, View.ld_unit_zero origin, View.ld_unit_zero origin, View.ld_unit_zero origin]
  refine (congrFun (pay_eq _ _ _) y).trans ?_
  exact proj_rows t.val (V c main_v599) (V c main_v600) (V c main_v602) ((cfg5.win 0).blk t).view.emb ((cfg5.win 1).blk t).view.emb
    ((cfg5.win 2).blk t).view.emb ((cfg5.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 6 holds at a point: the point's rows, the whole matrix, the whole bias. -/
theorem place6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 := (by decide +kernel : ∀ t : Fin grid6.N, _)

/-- Launch 6 leaves the affine map of its operands in its result array. -/
theorem final6 (c : Dev nD) : (dat6 V c).arrAt 3 cfg6.N = proj (R := 180000) (V c main_v605) (V c main_v606) (V c main_v608) := by
  refine (dat6 V c).arrAt_eq_of_covers 3 (proj (R := 180000) (V c main_v605) (V c main_v606) (V c main_v608)) (by decide +kernel) fun t _ y => ?_
  obtain ⟨e0, e1, e2, e3, e4, e5, e6, e7⟩ := place6 t
  show (dat6 V c).after 3 t y = proj (R := 180000) (V c main_v605) (V c main_v606) (V c main_v608) (((cfg6.win 3).blk t).view.emb y)
  rw [after6_3]
  unfold out6_3
  rw [View.canon_unit_zero origin, View.ld_unit_zero origin, View.ld_unit_zero origin, View.ld_unit_zero origin]
  refine (congrFun (pay_eq _ _ _) y).trans ?_
  exact proj_rows t.val (V c main_v605) (V c main_v606) (V c main_v608) ((cfg6.win 0).blk t).view.emb ((cfg6.win 1).blk t).view.emb
    ((cfg6.win 2).blk t).view.emb ((cfg6.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 7 holds at a point: the point's rows, the whole matrix, the whole bias. -/
theorem place7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 := (by decide +kernel : ∀ t : Fin grid7.N, _)

/-- Launch 7 leaves the affine map of its operands in its result array. -/
theorem final7 (c : Dev nD) : (dat7 V c).arrAt 3 cfg7.N = proj (R := 20000) (V c main_v631) (V c main_arg10) (V c main_v632) := by
  refine (dat7 V c).arrAt_eq_of_covers 3 (proj (R := 20000) (V c main_v631) (V c main_arg10) (V c main_v632)) (by decide +kernel) fun t _ y => ?_
  obtain ⟨e0, e1, e2, e3, e4, e5, e6, e7⟩ := place7 t
  show (dat7 V c).after 3 t y = proj (R := 20000) (V c main_v631) (V c main_arg10) (V c main_v632) (((cfg7.win 3).blk t).view.emb y)
  rw [after7_3]
  unfold out7_3
  rw [View.canon_unit_zero origin, View.ld_unit_zero origin, View.ld_unit_zero origin, View.ld_unit_zero origin]
  refine (congrFun (pay_out_eq _ _ _) y).trans ?_
  exact proj_rows t.val (V c main_v631) (V c main_arg10) (V c main_v632) ((cfg7.win 0).blk t).view.emb ((cfg7.win 1).blk t).view.emb
    ((cfg7.win 2).blk t).view.emb ((cfg7.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

end Cert.KernelIdeal.Bev

end
-- ==== Proof.Gather2.lean ====
/- Hand-written: WHAT THE HOST OPERATIONS BEFORE CROSS ATTENTION 2 LEAVE, from any contents of the buffers: the query
   pillars' features and cells, the nine gathered neighbours, the query launch's matrix and bias, and the grid of the cross attention before. -/
module

public import proofs.«01_k».proof.Proof.Gen.KernelIdeal.Launch
public import proofs.«01_k».proof.Proof.KernelAttn
public import Idealize.ShloMosaic.Lib.StableHlo.Run

@[expose] public section

set_option maxRecDepth 400000
set_option maxHeartbeats 40000000

noncomputable section

namespace Cert.KernelIdeal.Bev

open Cert.KernelIdeal Cert.KernelIdeal.Gen Idealize.ShloMosaic Idealize.ShloMosaic.TcCoe Idealize.SL.Sem Idealize.ShloMosaic.StableHlo

variable {F : FTy → Type} [FloatOps F]

/-- The buffers after the host operations before cross attention 2. -/
def gather2 (V : Valuation τ sig (Elt F)) : Valuation τ sig (Elt F) :=
  after hostOps4_81 (after hostOps4_80 (after hostOps4_79 (after hostOps4_78 (after hostOps4_77 (after
    hostOps4_76 (after hostOps4_75 (after hostOps4_74 (after hostOps4_73 (after hostOps4_72 (after hostOps4_71
    (after hostOps4_70 (after hostOps4_69 (after hostOps4_68 (after hostOps4_67 (after hostOps4_66 (after
    hostOps4_65 (after hostOps4_64 (after hostOps4_63 (after hostOps4_62 (after hostOps4_61 (after hostOps4_60
    (after hostOps4_59 (after hostOps4_58 (after hostOps4_57 (after hostOps4_56 (after hostOps4_55 (after
    hostOps4_54 (after hostOps4_53 (after hostOps4_52 (after hostOps4_51 (after hostOps4_50 (after hostOps4_49
    (after hostOps4_48 (after hostOps4_47 (after hostOps4_46 (after hostOps4_45 (after hostOps4_44 (after
    hostOps4_43 (after hostOps4_42 (after hostOps4_41 (after hostOps4_40 (after hostOps4_39 (after hostOps4_38
    (after hostOps4_37 (after hostOps4_36 (after hostOps4_35 (after hostOps4_34 (after hostOps4_33 (after
    hostOps4_32 (after hostOps4_31 (after hostOps4_30 (after hostOps4_29 (after hostOps4_28 (after hostOps4_27
    (after hostOps4_26 (after hostOps4_25 (after hostOps4_24 (after hostOps4_23 (after hostOps4_22 (after
    hostOps4_21 (after hostOps4_20 (after hostOps4_19 (after hostOps4_18 (after hostOps4_17 (after hostOps4_16
    (after hostOps4_15 (after hostOps4_14 (after hostOps4_13 (after hostOps4_12 (after hostOps4_11 (after
    hostOps4_10 (after hostOps4_9 (after hostOps4_8 (after hostOps4_7 (after hostOps4_6 (after hostOps4_5 (after
    hostOps4_4 (after hostOps4_3 (after hostOps4_2 (after hostOps4_1 (after hostOps4
    V)))))))))))))))))))))))))))))))))))))))))))))))))))))))))))))))))))))))))))))))))

/-- The operation that stacks the nine layers, its function by name. -/
theorem pile_op2 :
    StableHlo.nary ![main_v584, main_v585, main_v586, main_v587, main_v588, main_v589, main_v590, main_v591, main_v592] main_v593 (fun u => (concatenate S9x20000x32 0 [⟨S1x20000x32, (u 0 : (⟨S1x20000x32, .f32⟩ : BufTy).Contents (Elt F))⟩, ⟨S1x20000x32, (u 1 : (⟨S1x20000x32, .f32⟩ : BufTy).Contents (Elt F))⟩, ⟨S1x20000x32, (u 2 : (⟨S1x20000x32, .f32⟩ : BufTy).Contents (Elt F))⟩, ⟨S1x20000x32, (u 3 : (⟨S1x20000x32, .f32⟩ : BufTy).Contents (Elt F))⟩, ⟨S1x20000x32, (u 4 : (⟨S1x20000x32, .f32⟩ : BufTy).Contents (Elt F))⟩, ⟨S1x20000x32, (u 5 : (⟨S1x20000x32, .f32⟩ : BufTy).Contents (Elt F))⟩, ⟨S1x20000x32, (u 6 : (⟨S1x20000x32, .f32⟩ : BufTy).Contents (Elt F))⟩, ⟨S1x20000x32, (u 7 : (⟨S1x20000x32, .f32⟩ : BufTy).Contents (Elt F))⟩, ⟨S1x20000x32, (u 8 : (⟨S1x20000x32, .f32⟩ : BufTy).Contents (Elt F))⟩] concatenates_S1x20000x32_S1x20000x32_S1x20000x32_S1x20000x32_S1x20000x32_S1x20000x32_S1x20000x32_S1x20000x32_S1x20000x32_S9x20000x32_d0 : (⟨S9x20000x32, .f32⟩ : BufTy).Contents (Elt F)))
    = (StableHlo.nary ![main_v584, main_v585, main_v586, main_v587, main_v588, main_v589, main_v590, main_v591, main_v592]
      main_v593 (fun u => pile (u 0) (u 1) (u 2) (u 3) (u 4) (u 5) (u 6) (u 7) (u 8)) : HloOp τ sig (Elt F)) := rfl

/-- The nine neighbours of the query pillars. -/
theorem gather2_keys (V : Valuation τ sig (Elt F)) :
    gather2 V (Proc.devRef .tc main_v594)
      = keys (table (coors0 (V (Proc.devRef .tc main_arg1)))) (coors0 (V (Proc.devRef .tc main_arg3)))
          (feats0 (V (Proc.devRef .tc main_arg0))) := by
  simp only [gather2, hostOps4, hostOps4_1, hostOps4_2, hostOps4_3, hostOps4_4, hostOps4_5, hostOps4_6, hostOps4_7, hostOps4_8,
    hostOps4_9, hostOps4_10, hostOps4_11, hostOps4_12, hostOps4_13, hostOps4_14, hostOps4_15, hostOps4_16,
    hostOps4_17, hostOps4_18, hostOps4_19, hostOps4_20, hostOps4_21, hostOps4_22, hostOps4_23, hostOps4_24,
    hostOps4_25, hostOps4_26, hostOps4_27, hostOps4_28, hostOps4_29, hostOps4_30, hostOps4_31, hostOps4_32,
    hostOps4_33, hostOps4_34, hostOps4_35, hostOps4_36, hostOps4_37, hostOps4_38, hostOps4_39, hostOps4_40,
    hostOps4_41, hostOps4_42, hostOps4_43, hostOps4_44, hostOps4_45, hostOps4_46, hostOps4_47, hostOps4_48,
    hostOps4_49, hostOps4_50, hostOps4_51, hostOps4_52, hostOps4_53, hostOps4_54, hostOps4_55, hostOps4_56,
    hostOps4_57, hostOps4_58, hostOps4_59, hostOps4_60, hostOps4_61, hostOps4_62, hostOps4_63, hostOps4_64,
    hostOps4_65, hostOps4_66, hostOps4_67, hostOps4_68, hostOps4_69, hostOps4_70, hostOps4_71, hostOps4_72,
    hostOps4_73, hostOps4_74, hostOps4_75, hostOps4_76, hostOps4_77, hostOps4_78, hostOps4_79, hostOps4_80,
    hostOps4_81,
    TRef.binary, TRef.nullary, TRef.ternary, TRef.unary, TRef.toBuf, TRef.ofBuf, cast_eq, pile_op2]
  after_results_simp
  dsimp only [Matrix.cons_val]
  after_results_simp
  rfl

/-- The query pillars' features and cells, and the query launch's matrix and bias. -/
theorem gather2_query (V : Valuation τ sig (Elt F)) :
    gather2 V (Proc.devRef .tc main_v327) = feats0 (V (Proc.devRef .tc main_arg2))
      ∧ gather2 V (Proc.devRef .tc main_v329) = coors0 (V (Proc.devRef .tc main_arg3))
      ∧ gather2 V (Proc.devRef .tc main_v595) = matQ (V (Proc.devRef .tc main_arg8))
      ∧ gather2 V (Proc.devRef .tc main_v597) = biasQ (V (Proc.devRef .tc main_arg9)) := by
  simp only [gather2, hostOps4, hostOps4_1, hostOps4_2, hostOps4_3, hostOps4_4, hostOps4_5, hostOps4_6, hostOps4_7, hostOps4_8,
    hostOps4_9, hostOps4_10, hostOps4_11, hostOps4_12, hostOps4_13, hostOps4_14, hostOps4_15, hostOps4_16,
    hostOps4_17, hostOps4_18, hostOps4_19, hostOps4_20, hostOps4_21, hostOps4_22, hostOps4_23, hostOps4_24,
    hostOps4_25, hostOps4_26, hostOps4_27, hostOps4_28, hostOps4_29, hostOps4_30, hostOps4_31, hostOps4_32,
    hostOps4_33, hostOps4_34, hostOps4_35, hostOps4_36, hostOps4_37, hostOps4_38, hostOps4_39, hostOps4_40,
    hostOps4_41, hostOps4_42, hostOps4_43, hostOps4_44, hostOps4_45, hostOps4_46, hostOps4_47, hostOps4_48,
    hostOps4_49, hostOps4_50, hostOps4_51, hostOps4_52, hostOps4_53, hostOps4_54, hostOps4_55, hostOps4_56,
    hostOps4_57, hostOps4_58, hostOps4_59, hostOps4_60, hostOps4_61, hostOps4_62, hostOps4_63, hostOps4_64,
    hostOps4_65, hostOps4_66, hostOps4_67, hostOps4_68, hostOps4_69, hostOps4_70, hostOps4_71, hostOps4_72,
    hostOps4_73, hostOps4_74, hostOps4_75, hostOps4_76, hostOps4_77, hostOps4_78, hostOps4_79, hostOps4_80,
    hostOps4_81,
    TRef.binary, TRef.nullary, TRef.ternary, TRef.unary, TRef.toBuf, TRef.ofBuf, cast_eq]
  after_results_simp
  exact ⟨rfl, rfl, rfl, rfl⟩

/-- The grid of cross attention 1. -/
theorem gather2_canvas (V : Valuation τ sig (Elt F)) :
    gather2 V (Proc.devRef .tc main_v325)
        = canvas (V (Proc.devRef .tc main_v3)) (addf (V (Proc.devRef .tc main_v1)) (V (Proc.devRef .tc main_v307))) := by
  simp only [gather2, hostOps4, hostOps4_1, hostOps4_2, hostOps4_3, hostOps4_4, hostOps4_5, hostOps4_6, hostOps4_7, hostOps4_8,
    hostOps4_9, hostOps4_10, hostOps4_11, hostOps4_12, hostOps4_13, hostOps4_14, hostOps4_15, hostOps4_16,
    hostOps4_17, hostOps4_18, hostOps4_19, hostOps4_20, hostOps4_21, hostOps4_22, hostOps4_23, hostOps4_24,
    hostOps4_25, hostOps4_26, hostOps4_27, hostOps4_28, hostOps4_29, hostOps4_30, hostOps4_31, hostOps4_32,
    hostOps4_33, hostOps4_34, hostOps4_35, hostOps4_36, hostOps4_37, hostOps4_38, hostOps4_39, hostOps4_40,
    hostOps4_41, hostOps4_42, hostOps4_43, hostOps4_44, hostOps4_45, hostOps4_46, hostOps4_47, hostOps4_48,
    hostOps4_49, hostOps4_50, hostOps4_51, hostOps4_52, hostOps4_53, hostOps4_54, hostOps4_55, hostOps4_56,
    hostOps4_57, hostOps4_58, hostOps4_59, hostOps4_60, hostOps4_61, hostOps4_62, hostOps4_63, hostOps4_64,
    hostOps4_65, hostOps4_66, hostOps4_67, hostOps4_68, hostOps4_69, hostOps4_70, hostOps4_71, hostOps4_72,
    hostOps4_73, hostOps4_74, hostOps4_75, hostOps4_76, hostOps4_77, hostOps4_78, hostOps4_79, hostOps4_80,
    hostOps4_81,
    TRef.binary, TRef.nullary, TRef.ternary, TRef.unary, TRef.toBuf, TRef.ofBuf, cast_eq]
  after_results_simp
  exact rfl

end Cert.KernelIdeal.Bev

end
-- ==== Proof.Cross2.lean ====
/- Hand-written: CROSS ATTENTION 2 of the kernel: what its four launches and the host operations between them leave. -/
module

public import proofs.«01_k».proof.Proof.Cross
public import proofs.«01_k».proof.Proof.Launch2
public import proofs.«01_k».proof.Proof.Gather2
public import proofs.«01_k».proof.Proof.Gen.KernelIdeal.Frame.Fold1

@[expose] public section

set_option maxRecDepth 100000
set_option maxHeartbeats 4000000

noncomputable section

namespace Cert.KernelIdeal.Bev

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Before the key launch: the neighbours as rows, the keys' matrix and bias. -/
theorem before5 (V : Valuation τ sig (Elt Ideal)) :
    after hostOps5 V (Proc.devRef .tc main_v599) = flatKeys (F := Ideal) (V (Proc.devRef .tc main_v594))
      ∧ after hostOps5 V (Proc.devRef .tc main_v600) = matK (F := Ideal) (V (Proc.devRef .tc main_arg8))
      ∧ after hostOps5 V (Proc.devRef .tc main_v602) = biasK (F := Ideal) (V (Proc.devRef .tc main_arg9)) := by
  simp only [hostOps5, TRef.unary, TRef.toBuf, TRef.ofBuf, cast_eq]
  after_results_simp
  exact ⟨rfl, rfl, rfl⟩

/-- Before the value launch: the projected keys by pillar, the neighbours as rows, the values' matrix and bias. -/
theorem before6 (V : Valuation τ sig (Elt Ideal)) :
    after hostOps6 V (Proc.devRef .tc main_v604) = unflat (F := Ideal) (V (Proc.devRef .tc main_v603))
      ∧ after hostOps6 V (Proc.devRef .tc main_v605) = flatKeys (F := Ideal) (V (Proc.devRef .tc main_v594))
      ∧ after hostOps6 V (Proc.devRef .tc main_v606) = matV (F := Ideal) (V (Proc.devRef .tc main_arg8))
      ∧ after hostOps6 V (Proc.devRef .tc main_v608) = biasV (F := Ideal) (V (Proc.devRef .tc main_arg9)) := by
  simp only [hostOps6, TRef.unary, TRef.toBuf, TRef.ofBuf, cast_eq]
  after_results_simp
  exact ⟨rfl, rfl, rfl, rfl⟩

/-- Before the output launch: the attention, and the output bias as a row. -/
theorem before7 (V : Valuation τ sig (Elt Ideal)) :
    after hostOps7 V (Proc.devRef .tc main_v631)
        = attend (F := Ideal) (V (Proc.devRef .tc main_v598)) (V (Proc.devRef .tc main_v604)) (unflat (F := Ideal) (V (Proc.devRef .tc main_v609)))
      ∧ after hostOps7 V (Proc.devRef .tc main_v632) = biasRow (F := Ideal) (V (Proc.devRef .tc main_arg11)) := by
  simp only [hostOps7, TRef.binary, TRef.nullary, TRef.unary, TRef.toBuf, TRef.ofBuf, cast_eq]
  after_results_simp
  exact ⟨rfl, rfl⟩

/-- After cross attention 2: its attention, and the query pillars' features and cells. -/
theorem cross2 (c : Dev nD) :
    W178 m ρ c (Proc.devRef .tc main_v633) = kernelMha (feats0 (m ((c : Thread nD τ).loc main_arg2)))
        (keys (table (coors0 (m ((c : Thread nD τ).loc main_arg1)))) (coors0 (m ((c : Thread nD τ).loc main_arg3))) (feats0 (m ((c : Thread nD τ).loc main_arg0))))
        (m ((c : Thread nD τ).loc main_arg8)) (m ((c : Thread nD τ).loc main_arg9)) (m ((c : Thread nD τ).loc main_arg10)) (m ((c : Thread nD τ).loc main_arg11))
      ∧ W178 m ρ c (Proc.devRef .tc main_v327) = feats0 (m ((c : Thread nD τ).loc main_arg2))
      ∧ W178 m ρ c (Proc.devRef .tc main_v329) = coors0 (m ((c : Thread nD τ).loc main_arg3)) := by
  have g : W171 m ρ c = gather2 (W89 m ρ c) := rfl
  obtain ⟨hx, hc, hw, hb⟩ := gather2_query (W89 m ρ c)
  have hk := gather2_keys (W89 m ρ c)
  rw [← g] at hx hc hw hb hk
  rw [W89_args m ρ c main_arg2 (by decide)] at hx
  rw [W89_args m ρ c main_arg3 (by decide)] at hc
  rw [W89_args m ρ c main_arg8 (by decide)] at hw
  rw [W89_args m ρ c main_arg9 (by decide)] at hb
  rw [W89_args m ρ c main_arg1 (by decide), W89_args m ρ c main_arg3 (by decide),
    W89_args m ρ c main_arg0 (by decide)] at hk
  obtain ⟨k1, k2, k3⟩ := before5 (W172 m ρ c)
  obtain ⟨v0, v1, v2, v3⟩ := before6 (W174 m ρ c)
  obtain ⟨o1, o2⟩ := before7 (W176 m ρ c)
  have s1 : W172 m ρ c (Proc.devRef .tc main_v594) = keys (table (coors0 (m ((c : Thread nD τ).loc main_arg1)))) (coors0 (m ((c : Thread nD τ).loc main_arg3))) (feats0 (m ((c : Thread nD τ).loc main_arg0))) :=
    (W172_of m ρ c main_v594 (by decide)).trans hk
  have s3 : W174 m ρ c (Proc.devRef .tc main_v594) = keys (table (coors0 (m ((c : Thread nD τ).loc main_arg1)))) (coors0 (m ((c : Thread nD τ).loc main_arg3))) (feats0 (m ((c : Thread nD τ).loc main_arg0))) :=
    ((W174_of m ρ c main_v594 (by decide)).trans (W173_of m ρ c main_v594 (by decide))).trans s1
  have eq := (W172_arr m ρ c 3).trans ((final4 (V171 m ρ) c).trans (proj_congr hx hw hb))
  have ek := (W174_arr m ρ c 3).trans ((final5 (V173 m ρ) c).trans
    (proj_congr (k1.trans (congrArg (flatKeys (F := Ideal)) s1)) (k2.trans (congrArg (matK (F := Ideal)) (W172_args m ρ c main_arg8 (by decide))))
      (k3.trans (congrArg (biasK (F := Ideal)) (W172_args m ρ c main_arg9 (by decide))))))
  have ev := (W176_arr m ρ c 3).trans ((final6 (V175 m ρ) c).trans
    (proj_congr (v1.trans (congrArg (flatKeys (F := Ideal)) s3)) (v2.trans (congrArg (matV (F := Ideal)) (W174_args m ρ c main_arg8 (by decide))))
      (v3.trans (congrArg (biasV (F := Ideal)) (W174_args m ρ c main_arg9 (by decide))))))
  have eo := (W178_arr m ρ c 3).trans ((final7 (V177 m ρ) c).trans
    (proj_congr rfl (W177_args m ρ c main_arg10 (by decide)) (o2.trans (congrArg (biasRow (F := Ideal)) (W176_args m ρ c main_arg11 (by decide))))))
  have h278 : W176 m ρ c (Proc.devRef .tc main_v604) = unflat (F := Ideal) (W174 m ρ c (Proc.devRef .tc main_v603)) :=
    (W176_of m ρ c main_v604 (by decide)).trans v0
  have h272 : W176 m ρ c (Proc.devRef .tc main_v598) = W172 m ρ c (Proc.devRef .tc main_v598) :=
    ((((W176_of m ρ c main_v598 (by decide)).trans (W175_of m ρ c main_v598 (by decide))).trans (W174_of m ρ c main_v598 (by decide))).trans (W173_of m ρ c main_v598 (by decide)))
  rw [h278, h272] at o1
  refine ⟨mha_of eq ek ev o1 eo, ?_, ?_⟩
  · exact (((((((W178_of m ρ c main_v327 (by decide)).trans (W177_of m ρ c main_v327 (by decide))).trans (W176_of m ρ c main_v327 (by decide))).trans (W175_of m ρ c main_v327 (by decide))).trans (W174_of m ρ c main_v327 (by decide))).trans (W173_of m ρ c main_v327 (by decide))).trans (W172_of m ρ c main_v327 (by decide))).trans hx
  · exact (((((((W178_of m ρ c main_v329 (by decide)).trans (W177_of m ρ c main_v329 (by decide))).trans (W176_of m ρ c main_v329 (by decide))).trans (W175_of m ρ c main_v329 (by decide))).trans (W174_of m ρ c main_v329 (by decide))).trans (W173_of m ρ c main_v329 (by decide))).trans (W172_of m ρ c main_v329 (by decide))).trans hc

/-- After cross attention 2: the grid of the one before it. -/
theorem cross2_canvas (c : Dev nD) :
    W178 m ρ c (Proc.devRef .tc main_v325) = canvas (F := Ideal) (W89 m ρ c (Proc.devRef .tc main_v3))
        (addf (F := Ideal) (φ := .f32) (W89 m ρ c (Proc.devRef .tc main_v1)) (W89 m ρ c (Proc.devRef .tc main_v307))) := by
  have g : W171 m ρ c = gather2 (W89 m ρ c) := rfl
  have h := gather2_canvas (W89 m ρ c)
  rw [← g] at h
  exact (((((((W178_of m ρ c main_v325 (by decide)).trans (W177_of m ρ c main_v325 (by decide))).trans (W176_of m ρ c main_v325 (by decide))).trans (W175_of m ρ c main_v325 (by decide))).trans (W174_of m ρ c main_v325 (by decide))).trans (W173_of m ρ c main_v325 (by decide))).trans (W172_of m ρ c main_v325 (by decide))).trans h

end Cert.KernelIdeal.Bev

end
-- ==== Proof.Launch3.lean ====
/- Hand-written: the four launches of cross attention 3 (queries, keys, values, output), each result array as the
   affine map of the arrays that the launch reads (Proj.lean). -/
module

public import proofs.«01_k».proof.Proof.Proj
public import proofs.«01_k».proof.Proof.Gen.KernelIdeal.Frame.Region8
public import proofs.«01_k».proof.Proof.Gen.KernelIdeal.Frame.Region9
public import proofs.«01_k».proof.Proof.Gen.KernelIdeal.Frame.Region10
public import proofs.«01_k».proof.Proof.Gen.KernelIdeal.Frame.Region11
public import Idealize.ShloMosaic.Lib.Pipeline.ValueKit

@[expose] public section

set_option maxRecDepth 16384
set_option maxHeartbeats 4000000

noncomputable section

namespace Cert.KernelIdeal.Bev

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- Which block each window of launch 8 holds at a point: the point's rows, the whole matrix, the whole bias. -/
theorem place8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 := (by decide +kernel : ∀ t : Fin grid8.N, _)

/-- Launch 8 leaves the affine map of its operands in its result array. -/
theorem final8 (c : Dev nD) : (dat8 V c).arrAt 3 cfg8.N = proj (R := 20000) (V c main_v653) (V c main_v921) (V c main_v923) := by
  refine (dat8 V c).arrAt_eq_of_covers 3 (proj (R := 20000) (V c main_v653) (V c main_v921) (V c main_v923)) (by decide +kernel) fun t _ y => ?_
  obtain ⟨e0, e1, e2, e3, e4, e5, e6, e7⟩ := place8 t
  show (dat8 V c).after 3 t y = proj (R := 20000) (V c main_v653) (V c main_v921) (V c main_v923) (((cfg8.win 3).blk t).view.emb y)
  rw [after8_3]
  unfold out8_3
  rw [View.canon_unit_zero origin, View.ld_unit_zero origin, View.ld_unit_zero origin, View.ld_unit_zero origin]
  refine (congrFun (pay_eq _ _ _) y).trans ?_
  exact proj_rows t.val (V c main_v653) (V c main_v921) (V c main_v923) ((cfg8.win 0).blk t).view.emb ((cfg8.win 1).blk t).view.emb
    ((cfg8.win 2).blk t).view.emb ((cfg8.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 9 holds at a point: the point's rows, the whole matrix, the whole bias. -/
theorem place9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 := (by decide +kernel : ∀ t : Fin grid9.N, _)

/-- Launch 9 leaves the affine map of its operands in its result array. -/
theorem final9 (c : Dev nD) : (dat9 V c).arrAt 3 cfg9.N = proj (R := 180000) (V c main_v925) (V c main_v926) (V c main_v928) := by
  refine (dat9 V c).arrAt_eq_of_covers 3 (proj (R := 180000) (V c main_v925) (V c main_v926) (V c main_v928)) (by decide +kernel) fun t _ y => ?_
  obtain ⟨e0, e1, e2, e3, e4, e5, e6, e7⟩ := place9 t
  show (dat9 V c).after 3 t y = proj (R := 180000) (V c main_v925) (V c main_v926) (V c main_v928) (((cfg9.win 3).blk t).view.emb y)
  rw [after9_3]
  unfold out9_3
  rw [View.canon_unit_zero origin, View.ld_unit_zero origin, View.ld_unit_zero origin, View.ld_unit_zero origin]
  refine (congrFun (pay_eq _ _ _) y).trans ?_
  exact proj_rows t.val (V c main_v925) (V c main_v926) (V c main_v928) ((cfg9.win 0).blk t).view.emb ((cfg9.win 1).blk t).view.emb
    ((cfg9.win 2).blk t).view.emb ((cfg9.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 10 holds at a point: the point's rows, the whole matrix, the whole bias. -/
theorem place10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 := (by decide +kernel : ∀ t : Fin grid10.N, _)

/-- Launch 10 leaves the affine map of its operands in its result array. -/
theorem final10 (c : Dev nD) : (dat10 V c).arrAt 3 cfg10.N = proj (R := 180000) (V c main_v931) (V c main_v932) (V c main_v934) := by
  refine (dat10 V c).arrAt_eq_of_covers 3 (proj (R := 180000) (V c main_v931) (V c main_v932) (V c main_v934)) (by decide +kernel) fun t _ y => ?_
  obtain ⟨e0, e1, e2, e3, e4, e5, e6, e7⟩ := place10 t
  show (dat10 V c).after 3 t y = proj (R := 180000) (V c main_v931) (V c main_v932) (V c main_v934) (((cfg10.win 3).blk t).view.emb y)
  rw [after10_3]
  unfold out10_3
  rw [View.canon_unit_zero origin, View.ld_unit_zero origin, View.ld_unit_zero origin, View.ld_unit_zero origin]
  refine (congrFun (pay_eq _ _ _) y).trans ?_
  exact proj_rows t.val (V c main_v931) (V c main_v932) (V c main_v934) ((cfg10.win 0).blk t).view.emb ((cfg10.win 1).blk t).view.emb
    ((cfg10.win 2).blk t).view.emb ((cfg10.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 11 holds at a point: the point's rows, the whole matrix, the whole bias. -/
theorem place11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 := (by decide +kernel : ∀ t : Fin grid11.N, _)

/-- Launch 11 leaves the affine map of its operands in its result array. -/
theorem final11 (c : Dev nD) : (dat11 V c).arrAt 3 cfg11.N = proj (R := 20000) (V c main_v957) (V c main_arg6) (V c main_v958) := by
  refine (dat11 V c).arrAt_eq_of_covers 3 (proj (R := 20000) (V c main_v957) (V c main_arg6) (V c main_v958)) (by decide +kernel) fun t _ y => ?_
  obtain ⟨e0, e1, e2, e3, e4, e5, e6, e7⟩ := place11 t
  show (dat11 V c).after 3 t y = proj (R := 20000) (V c main_v957) (V c main_arg6) (V c main_v958) (((cfg11.win 3).blk t).view.emb y)
  rw [after11_3]
  unfold out11_3
  rw [View.canon_unit_zero origin, View.ld_unit_zero origin, View.ld_unit_zero origin, View.ld_unit_zero origin]
  refine (congrFun (pay_out_eq _ _ _) y).trans ?_
  exact proj_rows t.val (V c main_v957) (V c main_arg6) (V c main_v958) ((cfg11.win 0).blk t).view.emb ((cfg11.win 1).blk t).view.emb
    ((cfg11.win 2).blk t).view.emb ((cfg11.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

end Cert.KernelIdeal.Bev

end
-- ==== Proof.Gather3.lean ====
/- Hand-written: WHAT THE HOST OPERATIONS BEFORE CROSS ATTENTION 3 LEAVE, from any contents of the buffers: the query
   pillars' features and cells, the nine gathered neighbours, the query launch's matrix and bias, and the grid of the cross attention before. -/
module

public import proofs.«01_k».proof.Proof.Gen.KernelIdeal.Launch
public import proofs.«01_k».proof.Proof.KernelAttn
public import Idealize.ShloMosaic.Lib.StableHlo.Run

@[expose] public section

set_option maxRecDepth 400000
set_option maxHeartbeats 40000000

noncomputable section

namespace Cert.KernelIdeal.Bev

open Cert.KernelIdeal Cert.KernelIdeal.Gen Idealize.ShloMosaic Idealize.ShloMosaic.TcCoe Idealize.SL.Sem Idealize.ShloMosaic.StableHlo

variable {F : FTy → Type} [FloatOps F]

/-- The buffers after the host operations before cross attention 3. -/
def gather3 (V : Valuation τ sig (Elt F)) : Valuation τ sig (Elt F) :=
  after hostOps8_81 (after hostOps8_80 (after hostOps8_79 (after hostOps8_78 (after hostOps8_77 (after
    hostOps8_76 (after hostOps8_75 (after hostOps8_74 (after hostOps8_73 (after hostOps8_72 (after hostOps8_71
    (after hostOps8_70 (after hostOps8_69 (after hostOps8_68 (after hostOps8_67 (after hostOps8_66 (after
    hostOps8_65 (after hostOps8_64 (after hostOps8_63 (after hostOps8_62 (after hostOps8_61 (after hostOps8_60
    (after hostOps8_59 (after hostOps8_58 (after hostOps8_57 (after hostOps8_56 (after hostOps8_55 (after
    hostOps8_54 (after hostOps8_53 (after hostOps8_52 (after hostOps8_51 (after hostOps8_50 (after hostOps8_49
    (after hostOps8_48 (after hostOps8_47 (after hostOps8_46 (after hostOps8_45 (after hostOps8_44 (after
    hostOps8_43 (after hostOps8_42 (after hostOps8_41 (after hostOps8_40 (after hostOps8_39 (after hostOps8_38
    (after hostOps8_37 (after hostOps8_36 (after hostOps8_35 (after hostOps8_34 (after hostOps8_33 (after
    hostOps8_32 (after hostOps8_31 (after hostOps8_30 (after hostOps8_29 (after hostOps8_28 (after hostOps8_27
    (after hostOps8_26 (after hostOps8_25 (after hostOps8_24 (after hostOps8_23 (after hostOps8_22 (after
    hostOps8_21 (after hostOps8_20 (after hostOps8_19 (after hostOps8_18 (after hostOps8_17 (after hostOps8_16
    (after hostOps8_15 (after hostOps8_14 (after hostOps8_13 (after hostOps8_12 (after hostOps8_11 (after
    hostOps8_10 (after hostOps8_9 (after hostOps8_8 (after hostOps8_7 (after hostOps8_6 (after hostOps8_5 (after
    hostOps8_4 (after hostOps8_3 (after hostOps8_2 (after hostOps8_1 (after hostOps8
    V)))))))))))))))))))))))))))))))))))))))))))))))))))))))))))))))))))))))))))))))))

/-- The operation that stacks the nine layers, its function by name. -/
theorem pile_op3 :
    StableHlo.nary ![main_v910, main_v911, main_v912, main_v913, main_v914, main_v915, main_v916, main_v917, main_v918] main_v919 (fun u => (concatenate S9x20000x32 0 [⟨S1x20000x32, (u 0 : (⟨S1x20000x32, .f32⟩ : BufTy).Contents (Elt F))⟩, ⟨S1x20000x32, (u 1 : (⟨S1x20000x32, .f32⟩ : BufTy).Contents (Elt F))⟩, ⟨S1x20000x32, (u 2 : (⟨S1x20000x32, .f32⟩ : BufTy).Contents (Elt F))⟩, ⟨S1x20000x32, (u 3 : (⟨S1x20000x32, .f32⟩ : BufTy).Contents (Elt F))⟩, ⟨S1x20000x32, (u 4 : (⟨S1x20000x32, .f32⟩ : BufTy).Contents (Elt F))⟩, ⟨S1x20000x32, (u 5 : (⟨S1x20000x32, .f32⟩ : BufTy).Contents (Elt F))⟩, ⟨S1x20000x32, (u 6 : (⟨S1x20000x32, .f32⟩ : BufTy).Contents (Elt F))⟩, ⟨S1x20000x32, (u 7 : (⟨S1x20000x32, .f32⟩ : BufTy).Contents (Elt F))⟩, ⟨S1x20000x32, (u 8 : (⟨S1x20000x32, .f32⟩ : BufTy).Contents (Elt F))⟩] concatenates_S1x20000x32_S1x20000x32_S1x20000x32_S1x20000x32_S1x20000x32_S1x20000x32_S1x20000x32_S1x20000x32_S1x20000x32_S9x20000x32_d0 : (⟨S9x20000x32, .f32⟩ : BufTy).Contents (Elt F)))
    = (StableHlo.nary ![main_v910, main_v911, main_v912, main_v913, main_v914, main_v915, main_v916, main_v917, main_v918]
      main_v919 (fun u => pile (u 0) (u 1) (u 2) (u 3) (u 4) (u 5) (u 6) (u 7) (u 8)) : HloOp τ sig (Elt F)) := rfl

/-- The nine neighbours of the query pillars. -/
theorem gather3_keys (V : Valuation τ sig (Elt F)) :
    gather3 V (Proc.devRef .tc main_v920)
      = keys (table (coors1 (V (Proc.devRef .tc main_arg3)))) (coors1 (V (Proc.devRef .tc main_arg1)))
          (feats1 (V (Proc.devRef .tc main_arg2))) := by
  simp only [gather3, hostOps8, hostOps8_1, hostOps8_2, hostOps8_3, hostOps8_4, hostOps8_5, hostOps8_6, hostOps8_7, hostOps8_8,
    hostOps8_9, hostOps8_10, hostOps8_11, hostOps8_12, hostOps8_13, hostOps8_14, hostOps8_15, hostOps8_16,
    hostOps8_17, hostOps8_18, hostOps8_19, hostOps8_20, hostOps8_21, hostOps8_22, hostOps8_23, hostOps8_24,
    hostOps8_25, hostOps8_26, hostOps8_27, hostOps8_28, hostOps8_29, hostOps8_30, hostOps8_31, hostOps8_32,
    hostOps8_33, hostOps8_34, hostOps8_35, hostOps8_36, hostOps8_37, hostOps8_38, hostOps8_39, hostOps8_40,
    hostOps8_41, hostOps8_42, hostOps8_43, hostOps8_44, hostOps8_45, hostOps8_46, hostOps8_47, hostOps8_48,
    hostOps8_49, hostOps8_50, hostOps8_51, hostOps8_52, hostOps8_53, hostOps8_54, hostOps8_55, hostOps8_56,
    hostOps8_57, hostOps8_58, hostOps8_59, hostOps8_60, hostOps8_61, hostOps8_62, hostOps8_63, hostOps8_64,
    hostOps8_65, hostOps8_66, hostOps8_67, hostOps8_68, hostOps8_69, hostOps8_70, hostOps8_71, hostOps8_72,
    hostOps8_73, hostOps8_74, hostOps8_75, hostOps8_76, hostOps8_77, hostOps8_78, hostOps8_79, hostOps8_80,
    hostOps8_81,
    TRef.binary, TRef.nullary, TRef.ternary, TRef.unary, TRef.toBuf, TRef.ofBuf, cast_eq, pile_op3]
  after_results_simp
  dsimp only [Matrix.cons_val]
  after_results_simp
  rfl

/-- The query pillars' features and cells, and the query launch's matrix and bias. -/
theorem gather3_query (V : Valuation τ sig (Elt F)) :
    gather3 V (Proc.devRef .tc main_v653) = feats1 (V (Proc.devRef .tc main_arg0))
      ∧ gather3 V (Proc.devRef .tc main_v655) = coors1 (V (Proc.devRef .tc main_arg1))
      ∧ gather3 V (Proc.devRef .tc main_v921) = matQ (V (Proc.devRef .tc main_arg4))
      ∧ gather3 V (Proc.devRef .tc main_v923) = biasQ (V (Proc.devRef .tc main_arg5)) := by
  simp only [gather3, hostOps8, hostOps8_1, hostOps8_2, hostOps8_3, hostOps8_4, hostOps8_5, hostOps8_6, hostOps8_7, hostOps8_8,
    hostOps8_9, hostOps8_10, hostOps8_11, hostOps8_12, hostOps8_13, hostOps8_14, hostOps8_15, hostOps8_16,
    hostOps8_17, hostOps8_18, hostOps8_19, hostOps8_20, hostOps8_21, hostOps8_22, hostOps8_23, hostOps8_24,
    hostOps8_25, hostOps8_26, hostOps8_27, hostOps8_28, hostOps8_29, hostOps8_30, hostOps8_31, hostOps8_32,
    hostOps8_33, hostOps8_34, hostOps8_35, hostOps8_36, hostOps8_37, hostOps8_38, hostOps8_39, hostOps8_40,
    hostOps8_41, hostOps8_42, hostOps8_43, hostOps8_44, hostOps8_45, hostOps8_46, hostOps8_47, hostOps8_48,
    hostOps8_49, hostOps8_50, hostOps8_51, hostOps8_52, hostOps8_53, hostOps8_54, hostOps8_55, hostOps8_56,
    hostOps8_57, hostOps8_58, hostOps8_59, hostOps8_60, hostOps8_61, hostOps8_62, hostOps8_63, hostOps8_64,
    hostOps8_65, hostOps8_66, hostOps8_67, hostOps8_68, hostOps8_69, hostOps8_70, hostOps8_71, hostOps8_72,
    hostOps8_73, hostOps8_74, hostOps8_75, hostOps8_76, hostOps8_77, hostOps8_78, hostOps8_79, hostOps8_80,
    hostOps8_81,
    TRef.binary, TRef.nullary, TRef.ternary, TRef.unary, TRef.toBuf, TRef.ofBuf, cast_eq]
  after_results_simp
  exact ⟨rfl, rfl, rfl, rfl⟩

/-- The grid of cross attention 2, and the grids before it as they were. -/
theorem gather3_canvas (V : Valuation τ sig (Elt F)) :
    gather3 V (Proc.devRef .tc main_v651)
        = canvas (V (Proc.devRef .tc main_v329)) (addf (V (Proc.devRef .tc main_v327)) (V (Proc.devRef .tc main_v633)))
      ∧ gather3 V (Proc.devRef .tc main_v325) = V (Proc.devRef .tc main_v325) := by
  simp only [gather3, hostOps8, hostOps8_1, hostOps8_2, hostOps8_3, hostOps8_4, hostOps8_5, hostOps8_6, hostOps8_7, hostOps8_8,
    hostOps8_9, hostOps8_10, hostOps8_11, hostOps8_12, hostOps8_13, hostOps8_14, hostOps8_15, hostOps8_16,
    hostOps8_17, hostOps8_18, hostOps8_19, hostOps8_20, hostOps8_21, hostOps8_22, hostOps8_23, hostOps8_24,
    hostOps8_25, hostOps8_26, hostOps8_27, hostOps8_28, hostOps8_29, hostOps8_30, hostOps8_31, hostOps8_32,
    hostOps8_33, hostOps8_34, hostOps8_35, hostOps8_36, hostOps8_37, hostOps8_38, hostOps8_39, hostOps8_40,
    hostOps8_41, hostOps8_42, hostOps8_43, hostOps8_44, hostOps8_45, hostOps8_46, hostOps8_47, hostOps8_48,
    hostOps8_49, hostOps8_50, hostOps8_51, hostOps8_52, hostOps8_53, hostOps8_54, hostOps8_55, hostOps8_56,
    hostOps8_57, hostOps8_58, hostOps8_59, hostOps8_60, hostOps8_61, hostOps8_62, hostOps8_63, hostOps8_64,
    hostOps8_65, hostOps8_66, hostOps8_67, hostOps8_68, hostOps8_69, hostOps8_70, hostOps8_71, hostOps8_72,
    hostOps8_73, hostOps8_74, hostOps8_75, hostOps8_76, hostOps8_77, hostOps8_78, hostOps8_79, hostOps8_80,
    hostOps8_81,
    TRef.binary, TRef.nullary, TRef.ternary, TRef.unary, TRef.toBuf, TRef.ofBuf, cast_eq]
  after_results_simp
  exact ⟨rfl, trivial⟩

end Cert.KernelIdeal.Bev

end
-- ==== Proof.Cross3.lean ====
/- Hand-written: CROSS ATTENTION 3 of the kernel: what its four launches and the host operations between them leave. -/
module

public import proofs.«01_k».proof.Proof.Cross
public import proofs.«01_k».proof.Proof.Launch3
public import proofs.«01_k».proof.Proof.Gather3
public import proofs.«01_k».proof.Proof.Gen.KernelIdeal.Frame.Fold1

@[expose] public section

set_option maxRecDepth 100000
set_option maxHeartbeats 4000000

noncomputable section

namespace Cert.KernelIdeal.Bev

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Before the key launch: the neighbours as rows, the keys' matrix and bias. -/
theorem before9 (V : Valuation τ sig (Elt Ideal)) :
    after hostOps9 V (Proc.devRef .tc main_v925) = flatKeys (F := Ideal) (V (Proc.devRef .tc main_v920))
      ∧ after hostOps9 V (Proc.devRef .tc main_v926) = matK (F := Ideal) (V (Proc.devRef .tc main_arg4))
      ∧ after hostOps9 V (Proc.devRef .tc main_v928) = biasK (F := Ideal) (V (Proc.devRef .tc main_arg5)) := by
  simp only [hostOps9, TRef.unary, TRef.toBuf, TRef.ofBuf, cast_eq]
  after_results_simp
  exact ⟨rfl, rfl, rfl⟩

/-- Before the value launch: the projected keys by pillar, the neighbours as rows, the values' matrix and bias. -/
theorem before10 (V : Valuation τ sig (Elt Ideal)) :
    after hostOps10 V (Proc.devRef .tc main_v930) = unflat (F := Ideal) (V (Proc.devRef .tc main_v929))
      ∧ after hostOps10 V (Proc.devRef .tc main_v931) = flatKeys (F := Ideal) (V (Proc.devRef .tc main_v920))
      ∧ after hostOps10 V (Proc.devRef .tc main_v932) = matV (F := Ideal) (V (Proc.devRef .tc main_arg4))
      ∧ after hostOps10 V (Proc.devRef .tc main_v934) = biasV (F := Ideal) (V (Proc.devRef .tc main_arg5)) := by
  simp only [hostOps10, TRef.unary, TRef.toBuf, TRef.ofBuf, cast_eq]
  after_results_simp
  exact ⟨rfl, rfl, rfl, rfl⟩

/-- Before the output launch: the attention, and the output bias as a row. -/
theorem before11 (V : Valuation τ sig (Elt Ideal)) :
    after hostOps11 V (Proc.devRef .tc main_v957)
        = attend (F := Ideal) (V (Proc.devRef .tc main_v924)) (V (Proc.devRef .tc main_v930)) (unflat (F := Ideal) (V (Proc.devRef .tc main_v935)))
      ∧ after hostOps11 V (Proc.devRef .tc main_v958) = biasRow (F := Ideal) (V (Proc.devRef .tc main_arg7)) := by
  simp only [hostOps11, TRef.binary, TRef.nullary, TRef.unary, TRef.toBuf, TRef.ofBuf, cast_eq]
  after_results_simp
  exact ⟨rfl, rfl⟩

/-- After cross attention 3: its attention, and the query pillars' features and cells. -/
theorem cross3 (c : Dev nD) :
    W267 m ρ c (Proc.devRef .tc main_v959) = kernelMha (feats1 (m ((c : Thread nD τ).loc main_arg0)))
        (keys (table (coors1 (m ((c : Thread nD τ).loc main_arg3)))) (coors1 (m ((c : Thread nD τ).loc main_arg1))) (feats1 (m ((c : Thread nD τ).loc main_arg2))))
        (m ((c : Thread nD τ).loc main_arg4)) (m ((c : Thread nD τ).loc main_arg5)) (m ((c : Thread nD τ).loc main_arg6)) (m ((c : Thread nD τ).loc main_arg7))
      ∧ W267 m ρ c (Proc.devRef .tc main_v653) = feats1 (m ((c : Thread nD τ).loc main_arg0))
      ∧ W267 m ρ c (Proc.devRef .tc main_v655) = coors1 (m ((c : Thread nD τ).loc main_arg1)) := by
  have g : W260 m ρ c = gather3 (W178 m ρ c) := rfl
  obtain ⟨hx, hc, hw, hb⟩ := gather3_query (W178 m ρ c)
  have hk := gather3_keys (W178 m ρ c)
  rw [← g] at hx hc hw hb hk
  rw [W178_args m ρ c main_arg0 (by decide)] at hx
  rw [W178_args m ρ c main_arg1 (by decide)] at hc
  rw [W178_args m ρ c main_arg4 (by decide)] at hw
  rw [W178_args m ρ c main_arg5 (by decide)] at hb
  rw [W178_args m ρ c main_arg3 (by decide), W178_args m ρ c main_arg1 (by decide),
    W178_args m ρ c main_arg2 (by decide)] at hk
  obtain ⟨k1, k2, k3⟩ := before9 (W261 m ρ c)
  obtain ⟨v0, v1, v2, v3⟩ := before10 (W263 m ρ c)
  obtain ⟨o1, o2⟩ := before11 (W265 m ρ c)
  have s1 : W261 m ρ c (Proc.devRef .tc main_v920) = keys (table (coors1 (m ((c : Thread nD τ).loc main_arg3)))) (coors1 (m ((c : Thread nD τ).loc main_arg1))) (feats1 (m ((c : Thread nD τ).loc main_arg2))) :=
    (W261_of m ρ c main_v920 (by decide)).trans hk
  have s3 : W263 m ρ c (Proc.devRef .tc main_v920) = keys (table (coors1 (m ((c : Thread nD τ).loc main_arg3)))) (coors1 (m ((c : Thread nD τ).loc main_arg1))) (feats1 (m ((c : Thread nD τ).loc main_arg2))) :=
    ((W263_of m ρ c main_v920 (by decide)).trans (W262_of m ρ c main_v920 (by decide))).trans s1
  have eq := (W261_arr m ρ c 3).trans ((final8 (V260 m ρ) c).trans (proj_congr hx hw hb))
  have ek := (W263_arr m ρ c 3).trans ((final9 (V262 m ρ) c).trans
    (proj_congr (k1.trans (congrArg (flatKeys (F := Ideal)) s1)) (k2.trans (congrArg (matK (F := Ideal)) (W261_args m ρ c main_arg4 (by decide))))
      (k3.trans (congrArg (biasK (F := Ideal)) (W261_args m ρ c main_arg5 (by decide))))))
  have ev := (W265_arr m ρ c 3).trans ((final10 (V264 m ρ) c).trans
    (proj_congr (v1.trans (congrArg (flatKeys (F := Ideal)) s3)) (v2.trans (congrArg (matV (F := Ideal)) (W263_args m ρ c main_arg4 (by decide))))
      (v3.trans (congrArg (biasV (F := Ideal)) (W263_args m ρ c main_arg5 (by decide))))))
  have eo := (W267_arr m ρ c 3).trans ((final11 (V266 m ρ) c).trans
    (proj_congr rfl (W266_args m ρ c main_arg6 (by decide)) (o2.trans (congrArg (biasRow (F := Ideal)) (W265_args m ρ c main_arg7 (by decide))))))
  have h278 : W265 m ρ c (Proc.devRef .tc main_v930) = unflat (F := Ideal) (W263 m ρ c (Proc.devRef .tc main_v929)) :=
    (W265_of m ρ c main_v930 (by decide)).trans v0
  have h272 : W265 m ρ c (Proc.devRef .tc main_v924) = W261 m ρ c (Proc.devRef .tc main_v924) :=
    ((((W265_of m ρ c main_v924 (by decide)).trans (W264_of m ρ c main_v924 (by decide))).trans (W263_of m ρ c main_v924 (by decide))).trans (W262_of m ρ c main_v924 (by decide)))
  rw [h278, h272] at o1
  refine ⟨mha_of eq ek ev o1 eo, ?_, ?_⟩
  · exact (((((((W267_of m ρ c main_v653 (by decide)).trans (W266_of m ρ c main_v653 (by decide))).trans (W265_of m ρ c main_v653 (by decide))).trans (W264_of m ρ c main_v653 (by decide))).trans (W263_of m ρ c main_v653 (by decide))).trans (W262_of m ρ c main_v653 (by decide))).trans (W261_of m ρ c main_v653 (by decide))).trans hx
  · exact (((((((W267_of m ρ c main_v655 (by decide)).trans (W266_of m ρ c main_v655 (by decide))).trans (W265_of m ρ c main_v655 (by decide))).trans (W264_of m ρ c main_v655 (by decide))).trans (W263_of m ρ c main_v655 (by decide))).trans (W262_of m ρ c main_v655 (by decide))).trans (W261_of m ρ c main_v655 (by decide))).trans hc

/-- After cross attention 3: the grid of the one before it, and the earlier grids as they were. -/
theorem cross3_canvas (c : Dev nD) :
    W267 m ρ c (Proc.devRef .tc main_v651) = canvas (F := Ideal) (W178 m ρ c (Proc.devRef .tc main_v329))
        (addf (F := Ideal) (φ := .f32) (W178 m ρ c (Proc.devRef .tc main_v327)) (W178 m ρ c (Proc.devRef .tc main_v633)))
      ∧ W267 m ρ c (Proc.devRef .tc main_v325) = W178 m ρ c (Proc.devRef .tc main_v325) := by
  have g : W260 m ρ c = gather3 (W178 m ρ c) := rfl
  have h := gather3_canvas (W178 m ρ c)
  rw [← g] at h
  exact ⟨(((((((W267_of m ρ c main_v651 (by decide)).trans (W266_of m ρ c main_v651 (by decide))).trans (W265_of m ρ c main_v651 (by decide))).trans (W264_of m ρ c main_v651 (by decide))).trans (W263_of m ρ c main_v651 (by decide))).trans (W262_of m ρ c main_v651 (by decide))).trans (W261_of m ρ c main_v651 (by decide))).trans h.1, (((((((W267_of m ρ c main_v325 (by decide)).trans (W266_of m ρ c main_v325 (by decide))).trans (W265_of m ρ c main_v325 (by decide))).trans (W264_of m ρ c main_v325 (by decide))).trans (W263_of m ρ c main_v325 (by decide))).trans (W262_of m ρ c main_v325 (by decide))).trans (W261_of m ρ c main_v325 (by decide))).trans h.2⟩

end Cert.KernelIdeal.Bev

end
-- ==== Proof.Launch4.lean ====
/- Hand-written: the four launches of cross attention 4 (queries, keys, values, output), each result array as the
   affine map of the arrays that the launch reads (Proj.lean). -/
module

public import proofs.«01_k».proof.Proof.Proj
public import proofs.«01_k».proof.Proof.Gen.KernelIdeal.Frame.Region12
public import proofs.«01_k».proof.Proof.Gen.KernelIdeal.Frame.Region13
public import proofs.«01_k».proof.Proof.Gen.KernelIdeal.Frame.Region14
public import proofs.«01_k».proof.Proof.Gen.KernelIdeal.Frame.Region15
public import Idealize.ShloMosaic.Lib.Pipeline.ValueKit

@[expose] public section

set_option maxRecDepth 16384
set_option maxHeartbeats 4000000

noncomputable section

namespace Cert.KernelIdeal.Bev

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- Which block each window of launch 12 holds at a point: the point's rows, the whole matrix, the whole bias. -/
theorem place12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 := (by decide +kernel : ∀ t : Fin grid12.N, _)

/-- Launch 12 leaves the affine map of its operands in its result array. -/
theorem final12 (c : Dev nD) : (dat12 V c).arrAt 3 cfg12.N = proj (R := 20000) (V c main_v979) (V c main_v1247) (V c main_v1249) := by
  refine (dat12 V c).arrAt_eq_of_covers 3 (proj (R := 20000) (V c main_v979) (V c main_v1247) (V c main_v1249)) (by decide +kernel) fun t _ y => ?_
  obtain ⟨e0, e1, e2, e3, e4, e5, e6, e7⟩ := place12 t
  show (dat12 V c).after 3 t y = proj (R := 20000) (V c main_v979) (V c main_v1247) (V c main_v1249) (((cfg12.win 3).blk t).view.emb y)
  rw [after12_3]
  unfold out12_3
  rw [View.canon_unit_zero origin, View.ld_unit_zero origin, View.ld_unit_zero origin, View.ld_unit_zero origin]
  refine (congrFun (pay_eq _ _ _) y).trans ?_
  exact proj_rows t.val (V c main_v979) (V c main_v1247) (V c main_v1249) ((cfg12.win 0).blk t).view.emb ((cfg12.win 1).blk t).view.emb
    ((cfg12.win 2).blk t).view.emb ((cfg12.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 13 holds at a point: the point's rows, the whole matrix, the whole bias. -/
theorem place13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 := (by decide +kernel : ∀ t : Fin grid13.N, _)

/-- Launch 13 leaves the affine map of its operands in its result array. -/
theorem final13 (c : Dev nD) : (dat13 V c).arrAt 3 cfg13.N = proj (R := 180000) (V c main_v1251) (V c main_v1252) (V c main_v1254) := by
  refine (dat13 V c).arrAt_eq_of_covers 3 (proj (R := 180000) (V c main_v1251) (V c main_v1252) (V c main_v1254)) (by decide +kernel) fun t _ y => ?_
  obtain ⟨e0, e1, e2, e3, e4, e5, e6, e7⟩ := place13 t
  show (dat13 V c).after 3 t y = proj (R := 180000) (V c main_v1251) (V c main_v1252) (V c main_v1254) (((cfg13.win 3).blk t).view.emb y)
  rw [after13_3]
  unfold out13_3
  rw [View.canon_unit_zero origin, View.ld_unit_zero origin, View.ld_unit_zero origin, View.ld_unit_zero origin]
  refine (congrFun (pay_eq _ _ _) y).trans ?_
  exact proj_rows t.val (V c main_v1251) (V c main_v1252) (V c main_v1254) ((cfg13.win 0).blk t).view.emb ((cfg13.win 1).blk t).view.emb
    ((cfg13.win 2).blk t).view.emb ((cfg13.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 14 holds at a point: the point's rows, the whole matrix, the whole bias. -/
theorem place14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 := (by decide +kernel : ∀ t : Fin grid14.N, _)

/-- Launch 14 leaves the affine map of its operands in its result array. -/
theorem final14 (c : Dev nD) : (dat14 V c).arrAt 3 cfg14.N = proj (R := 180000) (V c main_v1257) (V c main_v1258) (V c main_v1260) := by
  refine (dat14 V c).arrAt_eq_of_covers 3 (proj (R := 180000) (V c main_v1257) (V c main_v1258) (V c main_v1260)) (by decide +kernel) fun t _ y => ?_
  obtain ⟨e0, e1, e2, e3, e4, e5, e6, e7⟩ := place14 t
  show (dat14 V c).after 3 t y = proj (R := 180000) (V c main_v1257) (V c main_v1258) (V c main_v1260) (((cfg14.win 3).blk t).view.emb y)
  rw [after14_3]
  unfold out14_3
  rw [View.canon_unit_zero origin, View.ld_unit_zero origin, View.ld_unit_zero origin, View.ld_unit_zero origin]
  refine (congrFun (pay_eq _ _ _) y).trans ?_
  exact proj_rows t.val (V c main_v1257) (V c main_v1258) (V c main_v1260) ((cfg14.win 0).blk t).view.emb ((cfg14.win 1).blk t).view.emb
    ((cfg14.win 2).blk t).view.emb ((cfg14.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

/-- Which block each window of launch 15 holds at a point: the point's rows, the whole matrix, the whole bias. -/
theorem place15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 := (by decide +kernel : ∀ t : Fin grid15.N, _)

/-- Launch 15 leaves the affine map of its operands in its result array. -/
theorem final15 (c : Dev nD) : (dat15 V c).arrAt 3 cfg15.N = proj (R := 20000) (V c main_v1283) (V c main_arg10) (V c main_v1284) := by
  refine (dat15 V c).arrAt_eq_of_covers 3 (proj (R := 20000) (V c main_v1283) (V c main_arg10) (V c main_v1284)) (by decide +kernel) fun t _ y => ?_
  obtain ⟨e0, e1, e2, e3, e4, e5, e6, e7⟩ := place15 t
  show (dat15 V c).after 3 t y = proj (R := 20000) (V c main_v1283) (V c main_arg10) (V c main_v1284) (((cfg15.win 3).blk t).view.emb y)
  rw [after15_3]
  unfold out15_3
  rw [View.canon_unit_zero origin, View.ld_unit_zero origin, View.ld_unit_zero origin, View.ld_unit_zero origin]
  refine (congrFun (pay_out_eq _ _ _) y).trans ?_
  exact proj_rows t.val (V c main_v1283) (V c main_arg10) (V c main_v1284) ((cfg15.win 0).blk t).view.emb ((cfg15.win 1).blk t).view.emb
    ((cfg15.win 2).blk t).view.emb ((cfg15.win 3).blk t).view.emb
    (fun j => row_at (m := (j 0).val) e0) (fun j => col_at (s := 32) (m := (j 1).val) e1)
    (fun j => col_at (s := 32) (m := (j 0).val) e2) (fun j => col_at (s := 32) (m := (j 1).val) e3)
    (fun j => col_at (s := 1) (m := (j 0).val) e4) (fun j => col_at (s := 32) (m := (j 1).val) e5)
    (fun j => row_at (m := (j 0).val) e6) (fun j => col_at (s := 32) (m := (j 1).val) e7) y

end Cert.KernelIdeal.Bev

end
-- ==== Proof.Gather4.lean ====
/- Hand-written: WHAT THE HOST OPERATIONS BEFORE CROSS ATTENTION 4 LEAVE, from any contents of the buffers: the query
   pillars' features and cells, the nine gathered neighbours, the query launch's matrix and bias, and the grid of the cross attention before. -/
module

public import proofs.«01_k».proof.Proof.Gen.KernelIdeal.Launch
public import proofs.«01_k».proof.Proof.KernelAttn
public import Idealize.ShloMosaic.Lib.StableHlo.Run

@[expose] public section

set_option maxRecDepth 400000
set_option maxHeartbeats 40000000

noncomputable section

namespace Cert.KernelIdeal.Bev

open Cert.KernelIdeal Cert.KernelIdeal.Gen Idealize.ShloMosaic Idealize.ShloMosaic.TcCoe Idealize.SL.Sem Idealize.ShloMosaic.StableHlo

variable {F : FTy → Type} [FloatOps F]

/-- The buffers after the host operations before cross attention 4. -/
def gather4 (V : Valuation τ sig (Elt F)) : Valuation τ sig (Elt F) :=
  after hostOps12_81 (after hostOps12_80 (after hostOps12_79 (after hostOps12_78 (after hostOps12_77 (after
    hostOps12_76 (after hostOps12_75 (after hostOps12_74 (after hostOps12_73 (after hostOps12_72 (after
    hostOps12_71 (after hostOps12_70 (after hostOps12_69 (after hostOps12_68 (after hostOps12_67 (after
    hostOps12_66 (after hostOps12_65 (after hostOps12_64 (after hostOps12_63 (after hostOps12_62 (after
    hostOps12_61 (after hostOps12_60 (after hostOps12_59 (after hostOps12_58 (after hostOps12_57 (after
    hostOps12_56 (after hostOps12_55 (after hostOps12_54 (after hostOps12_53 (after hostOps12_52 (after
    hostOps12_51 (after hostOps12_50 (after hostOps12_49 (after hostOps12_48 (after hostOps12_47 (after
    hostOps12_46 (after hostOps12_45 (after hostOps12_44 (after hostOps12_43 (after hostOps12_42 (after
    hostOps12_41 (after hostOps12_40 (after hostOps12_39 (after hostOps12_38 (after hostOps12_37 (after
    hostOps12_36 (after hostOps12_35 (after hostOps12_34 (after hostOps12_33 (after hostOps12_32 (after
    hostOps12_31 (after hostOps12_30 (after hostOps12_29 (after hostOps12_28 (after hostOps12_27 (after
    hostOps12_26 (after hostOps12_25 (after hostOps12_24 (after hostOps12_23 (after hostOps12_22 (after
    hostOps12_21 (after hostOps12_20 (after hostOps12_19 (after hostOps12_18 (after hostOps12_17 (after
    hostOps12_16 (after hostOps12_15 (after hostOps12_14 (after hostOps12_13 (after hostOps12_12 (after
    hostOps12_11 (after hostOps12_10 (after hostOps12_9 (after hostOps12_8 (after hostOps12_7 (after hostOps12_6
    (after hostOps12_5 (after hostOps12_4 (after hostOps12_3 (after hostOps12_2 (after hostOps12_1 (after
    hostOps12 V)))))))))))))))))))))))))))))))))))))))))))))))))))))))))))))))))))))))))))))))))

/-- The operation that stacks the nine layers, its function by name. -/
theorem pile_op4 :
    StableHlo.nary ![main_v1236, main_v1237, main_v1238, main_v1239, main_v1240, main_v1241, main_v1242, main_v1243, main_v1244] main_v1245 (fun u => (concatenate S9x20000x32 0 [⟨S1x20000x32, (u 0 : (⟨S1x20000x32, .f32⟩ : BufTy).Contents (Elt F))⟩, ⟨S1x20000x32, (u 1 : (⟨S1x20000x32, .f32⟩ : BufTy).Contents (Elt F))⟩, ⟨S1x20000x32, (u 2 : (⟨S1x20000x32, .f32⟩ : BufTy).Contents (Elt F))⟩, ⟨S1x20000x32, (u 3 : (⟨S1x20000x32, .f32⟩ : BufTy).Contents (Elt F))⟩, ⟨S1x20000x32, (u 4 : (⟨S1x20000x32, .f32⟩ : BufTy).Contents (Elt F))⟩, ⟨S1x20000x32, (u 5 : (⟨S1x20000x32, .f32⟩ : BufTy).Contents (Elt F))⟩, ⟨S1x20000x32, (u 6 : (⟨S1x20000x32, .f32⟩ : BufTy).Contents (Elt F))⟩, ⟨S1x20000x32, (u 7 : (⟨S1x20000x32, .f32⟩ : BufTy).Contents (Elt F))⟩, ⟨S1x20000x32, (u 8 : (⟨S1x20000x32, .f32⟩ : BufTy).Contents (Elt F))⟩] concatenates_S1x20000x32_S1x20000x32_S1x20000x32_S1x20000x32_S1x20000x32_S1x20000x32_S1x20000x32_S1x20000x32_S1x20000x32_S9x20000x32_d0 : (⟨S9x20000x32, .f32⟩ : BufTy).Contents (Elt F)))
    = (StableHlo.nary ![main_v1236, main_v1237, main_v1238, main_v1239, main_v1240, main_v1241, main_v1242, main_v1243, main_v1244]
      main_v1245 (fun u => pile (u 0) (u 1) (u 2) (u 3) (u 4) (u 5) (u 6) (u 7) (u 8)) : HloOp τ sig (Elt F)) := rfl

/-- The nine neighbours of the query pillars. -/
theorem gather4_keys (V : Valuation τ sig (Elt F)) :
    gather4 V (Proc.devRef .tc main_v1246)
      = keys (table (coors1 (V (Proc.devRef .tc main_arg1)))) (coors1 (V (Proc.devRef .tc main_arg3)))
          (feats1 (V (Proc.devRef .tc main_arg0))) := by
  simp only [gather4, hostOps12, hostOps12_1, hostOps12_2, hostOps12_3, hostOps12_4, hostOps12_5, hostOps12_6, hostOps12_7,
    hostOps12_8, hostOps12_9, hostOps12_10, hostOps12_11, hostOps12_12, hostOps12_13, hostOps12_14, hostOps12_15,
    hostOps12_16, hostOps12_17, hostOps12_18, hostOps12_19, hostOps12_20, hostOps12_21, hostOps12_22,
    hostOps12_23, hostOps12_24, hostOps12_25, hostOps12_26, hostOps12_27, hostOps12_28, hostOps12_29,
    hostOps12_30, hostOps12_31, hostOps12_32, hostOps12_33, hostOps12_34, hostOps12_35, hostOps12_36,
    hostOps12_37, hostOps12_38, hostOps12_39, hostOps12_40, hostOps12_41, hostOps12_42, hostOps12_43,
    hostOps12_44, hostOps12_45, hostOps12_46, hostOps12_47, hostOps12_48, hostOps12_49, hostOps12_50,
    hostOps12_51, hostOps12_52, hostOps12_53, hostOps12_54, hostOps12_55, hostOps12_56, hostOps12_57,
    hostOps12_58, hostOps12_59, hostOps12_60, hostOps12_61, hostOps12_62, hostOps12_63, hostOps12_64,
    hostOps12_65, hostOps12_66, hostOps12_67, hostOps12_68, hostOps12_69, hostOps12_70, hostOps12_71,
    hostOps12_72, hostOps12_73, hostOps12_74, hostOps12_75, hostOps12_76, hostOps12_77, hostOps12_78,
    hostOps12_79, hostOps12_80, hostOps12_81,
    TRef.binary, TRef.nullary, TRef.ternary, TRef.unary, TRef.toBuf, TRef.ofBuf, cast_eq, pile_op4]
  after_results_simp
  dsimp only [Matrix.cons_val]
  after_results_simp
  rfl

/-- The query pillars' features and cells, and the query launch's matrix and bias. -/
theorem gather4_query (V : Valuation τ sig (Elt F)) :
    gather4 V (Proc.devRef .tc main_v979) = feats1 (V (Proc.devRef .tc main_arg2))
      ∧ gather4 V (Proc.devRef .tc main_v981) = coors1 (V (Proc.devRef .tc main_arg3))
      ∧ gather4 V (Proc.devRef .tc main_v1247) = matQ (V (Proc.devRef .tc main_arg8))
      ∧ gather4 V (Proc.devRef .tc main_v1249) = biasQ (V (Proc.devRef .tc main_arg9)) := by
  simp only [gather4, hostOps12, hostOps12_1, hostOps12_2, hostOps12_3, hostOps12_4, hostOps12_5, hostOps12_6, hostOps12_7,
    hostOps12_8, hostOps12_9, hostOps12_10, hostOps12_11, hostOps12_12, hostOps12_13, hostOps12_14, hostOps12_15,
    hostOps12_16, hostOps12_17, hostOps12_18, hostOps12_19, hostOps12_20, hostOps12_21, hostOps12_22,
    hostOps12_23, hostOps12_24, hostOps12_25, hostOps12_26, hostOps12_27, hostOps12_28, hostOps12_29,
    hostOps12_30, hostOps12_31, hostOps12_32, hostOps12_33, hostOps12_34, hostOps12_35, hostOps12_36,
    hostOps12_37, hostOps12_38, hostOps12_39, hostOps12_40, hostOps12_41, hostOps12_42, hostOps12_43,
    hostOps12_44, hostOps12_45, hostOps12_46, hostOps12_47, hostOps12_48, hostOps12_49, hostOps12_50,
    hostOps12_51, hostOps12_52, hostOps12_53, hostOps12_54, hostOps12_55, hostOps12_56, hostOps12_57,
    hostOps12_58, hostOps12_59, hostOps12_60, hostOps12_61, hostOps12_62, hostOps12_63, hostOps12_64,
    hostOps12_65, hostOps12_66, hostOps12_67, hostOps12_68, hostOps12_69, hostOps12_70, hostOps12_71,
    hostOps12_72, hostOps12_73, hostOps12_74, hostOps12_75, hostOps12_76, hostOps12_77, hostOps12_78,
    hostOps12_79, hostOps12_80, hostOps12_81,
    TRef.binary, TRef.nullary, TRef.ternary, TRef.unary, TRef.toBuf, TRef.ofBuf, cast_eq]
  after_results_simp
  exact ⟨rfl, rfl, rfl, rfl⟩

/-- The grid of cross attention 3, and the grids before it as they were. -/
theorem gather4_canvas (V : Valuation τ sig (Elt F)) :
    gather4 V (Proc.devRef .tc main_v977)
        = canvas (V (Proc.devRef .tc main_v655)) (addf (V (Proc.devRef .tc main_v653)) (V (Proc.devRef .tc main_v959)))
      ∧ gather4 V (Proc.devRef .tc main_v325) = V (Proc.devRef .tc main_v325)
      ∧ gather4 V (Proc.devRef .tc main_v651) = V (Proc.devRef .tc main_v651) := by
  simp only [gather4, hostOps12, hostOps12_1, hostOps12_2, hostOps12_3, hostOps12_4, hostOps12_5, hostOps12_6, hostOps12_7,
    hostOps12_8, hostOps12_9, hostOps12_10, hostOps12_11, hostOps12_12, hostOps12_13, hostOps12_14, hostOps12_15,
    hostOps12_16, hostOps12_17, hostOps12_18, hostOps12_19, hostOps12_20, hostOps12_21, hostOps12_22,
    hostOps12_23, hostOps12_24, hostOps12_25, hostOps12_26, hostOps12_27, hostOps12_28, hostOps12_29,
    hostOps12_30, hostOps12_31, hostOps12_32, hostOps12_33, hostOps12_34, hostOps12_35, hostOps12_36,
    hostOps12_37, hostOps12_38, hostOps12_39, hostOps12_40, hostOps12_41, hostOps12_42, hostOps12_43,
    hostOps12_44, hostOps12_45, hostOps12_46, hostOps12_47, hostOps12_48, hostOps12_49, hostOps12_50,
    hostOps12_51, hostOps12_52, hostOps12_53, hostOps12_54, hostOps12_55, hostOps12_56, hostOps12_57,
    hostOps12_58, hostOps12_59, hostOps12_60, hostOps12_61, hostOps12_62, hostOps12_63, hostOps12_64,
    hostOps12_65, hostOps12_66, hostOps12_67, hostOps12_68, hostOps12_69, hostOps12_70, hostOps12_71,
    hostOps12_72, hostOps12_73, hostOps12_74, hostOps12_75, hostOps12_76, hostOps12_77, hostOps12_78,
    hostOps12_79, hostOps12_80, hostOps12_81,
    TRef.binary, TRef.nullary, TRef.ternary, TRef.unary, TRef.toBuf, TRef.ofBuf, cast_eq]
  after_results_simp
  exact ⟨rfl, trivial, trivial⟩

end Cert.KernelIdeal.Bev

end
-- ==== Proof.Cross4.lean ====
/- Hand-written: CROSS ATTENTION 4 of the kernel: what its four launches and the host operations between them leave. -/
module

public import proofs.«01_k».proof.Proof.Cross
public import proofs.«01_k».proof.Proof.Launch4
public import proofs.«01_k».proof.Proof.Gather4
public import proofs.«01_k».proof.Proof.Gen.KernelIdeal.Frame.Fold1

@[expose] public section

set_option maxRecDepth 100000
set_option maxHeartbeats 4000000

noncomputable section

namespace Cert.KernelIdeal.Bev

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- Before the key launch: the neighbours as rows, the keys' matrix and bias. -/
theorem before13 (V : Valuation τ sig (Elt Ideal)) :
    after hostOps13 V (Proc.devRef .tc main_v1251) = flatKeys (F := Ideal) (V (Proc.devRef .tc main_v1246))
      ∧ after hostOps13 V (Proc.devRef .tc main_v1252) = matK (F := Ideal) (V (Proc.devRef .tc main_arg8))
      ∧ after hostOps13 V (Proc.devRef .tc main_v1254) = biasK (F := Ideal) (V (Proc.devRef .tc main_arg9)) := by
  simp only [hostOps13, TRef.unary, TRef.toBuf, TRef.ofBuf, cast_eq]
  after_results_simp
  exact ⟨rfl, rfl, rfl⟩

/-- Before the value launch: the projected keys by pillar, the neighbours as rows, the values' matrix and bias. -/
theorem before14 (V : Valuation τ sig (Elt Ideal)) :
    after hostOps14 V (Proc.devRef .tc main_v1256) = unflat (F := Ideal) (V (Proc.devRef .tc main_v1255))
      ∧ after hostOps14 V (Proc.devRef .tc main_v1257) = flatKeys (F := Ideal) (V (Proc.devRef .tc main_v1246))
      ∧ after hostOps14 V (Proc.devRef .tc main_v1258) = matV (F := Ideal) (V (Proc.devRef .tc main_arg8))
      ∧ after hostOps14 V (Proc.devRef .tc main_v1260) = biasV (F := Ideal) (V (Proc.devRef .tc main_arg9)) := by
  simp only [hostOps14, TRef.unary, TRef.toBuf, TRef.ofBuf, cast_eq]
  after_results_simp
  exact ⟨rfl, rfl, rfl, rfl⟩

/-- Before the output launch: the attention, and the output bias as a row. -/
theorem before15 (V : Valuation τ sig (Elt Ideal)) :
    after hostOps15 V (Proc.devRef .tc main_v1283)
        = attend (F := Ideal) (V (Proc.devRef .tc main_v1250)) (V (Proc.devRef .tc main_v1256)) (unflat (F := Ideal) (V (Proc.devRef .tc main_v1261)))
      ∧ after hostOps15 V (Proc.devRef .tc main_v1284) = biasRow (F := Ideal) (V (Proc.devRef .tc main_arg11)) := by
  simp only [hostOps15, TRef.binary, TRef.nullary, TRef.unary, TRef.toBuf, TRef.ofBuf, cast_eq]
  after_results_simp
  exact ⟨rfl, rfl⟩

/-- After cross attention 4: its attention, and the query pillars' features and cells. -/
theorem cross4 (c : Dev nD) :
    W356 m ρ c (Proc.devRef .tc main_v1285) = kernelMha (feats1 (m ((c : Thread nD τ).loc main_arg2)))
        (keys (table (coors1 (m ((c : Thread nD τ).loc main_arg1)))) (coors1 (m ((c : Thread nD τ).loc main_arg3))) (feats1 (m ((c : Thread nD τ).loc main_arg0))))
        (m ((c : Thread nD τ).loc main_arg8)) (m ((c : Thread nD τ).loc main_arg9)) (m ((c : Thread nD τ).loc main_arg10)) (m ((c : Thread nD τ).loc main_arg11))
      ∧ W356 m ρ c (Proc.devRef .tc main_v979) = feats1 (m ((c : Thread nD τ).loc main_arg2))
      ∧ W356 m ρ c (Proc.devRef .tc main_v981) = coors1 (m ((c : Thread nD τ).loc main_arg3)) := by
  have g : W349 m ρ c = gather4 (W267 m ρ c) := rfl
  obtain ⟨hx, hc, hw, hb⟩ := gather4_query (W267 m ρ c)
  have hk := gather4_keys (W267 m ρ c)
  rw [← g] at hx hc hw hb hk
  rw [W267_args m ρ c main_arg2 (by decide)] at hx
  rw [W267_args m ρ c main_arg3 (by decide)] at hc
  rw [W267_args m ρ c main_arg8 (by decide)] at hw
  rw [W267_args m ρ c main_arg9 (by decide)] at hb
  rw [W267_args m ρ c main_arg1 (by decide), W267_args m ρ c main_arg3 (by decide),
    W267_args m ρ c main_arg0 (by decide)] at hk
  obtain ⟨k1, k2, k3⟩ := before13 (W350 m ρ c)
  obtain ⟨v0, v1, v2, v3⟩ := before14 (W352 m ρ c)
  obtain ⟨o1, o2⟩ := before15 (W354 m ρ c)
  have s1 : W350 m ρ c (Proc.devRef .tc main_v1246) = keys (table (coors1 (m ((c : Thread nD τ).loc main_arg1)))) (coors1 (m ((c : Thread nD τ).loc main_arg3))) (feats1 (m ((c : Thread nD τ).loc main_arg0))) :=
    (W350_of m ρ c main_v1246 (by decide)).trans hk
  have s3 : W352 m ρ c (Proc.devRef .tc main_v1246) = keys (table (coors1 (m ((c : Thread nD τ).loc main_arg1)))) (coors1 (m ((c : Thread nD τ).loc main_arg3))) (feats1 (m ((c : Thread nD τ).loc main_arg0))) :=
    ((W352_of m ρ c main_v1246 (by decide)).trans (W351_of m ρ c main_v1246 (by decide))).trans s1
  have eq := (W350_arr m ρ c 3).trans ((final12 (V349 m ρ) c).trans (proj_congr hx hw hb))
  have ek := (W352_arr m ρ c 3).trans ((final13 (V351 m ρ) c).trans
    (proj_congr (k1.trans (congrArg (flatKeys (F := Ideal)) s1)) (k2.trans (congrArg (matK (F := Ideal)) (W350_args m ρ c main_arg8 (by decide))))
      (k3.trans (congrArg (biasK (F := Ideal)) (W350_args m ρ c main_arg9 (by decide))))))
  have ev := (W354_arr m ρ c 3).trans ((final14 (V353 m ρ) c).trans
    (proj_congr (v1.trans (congrArg (flatKeys (F := Ideal)) s3)) (v2.trans (congrArg (matV (F := Ideal)) (W352_args m ρ c main_arg8 (by decide))))
      (v3.trans (congrArg (biasV (F := Ideal)) (W352_args m ρ c main_arg9 (by decide))))))
  have eo := (W356_arr m ρ c 3).trans ((final15 (V355 m ρ) c).trans
    (proj_congr rfl (W355_args m ρ c main_arg10 (by decide)) (o2.trans (congrArg (biasRow (F := Ideal)) (W354_args m ρ c main_arg11 (by decide))))))
  have h278 : W354 m ρ c (Proc.devRef .tc main_v1256) = unflat (F := Ideal) (W352 m ρ c (Proc.devRef .tc main_v1255)) :=
    (W354_of m ρ c main_v1256 (by decide)).trans v0
  have h272 : W354 m ρ c (Proc.devRef .tc main_v1250) = W350 m ρ c (Proc.devRef .tc main_v1250) :=
    ((((W354_of m ρ c main_v1250 (by decide)).trans (W353_of m ρ c main_v1250 (by decide))).trans (W352_of m ρ c main_v1250 (by decide))).trans (W351_of m ρ c main_v1250 (by decide)))
  rw [h278, h272] at o1
  refine ⟨mha_of eq ek ev o1 eo, ?_, ?_⟩
  · exact (((((((W356_of m ρ c main_v979 (by decide)).trans (W355_of m ρ c main_v979 (by decide))).trans (W354_of m ρ c main_v979 (by decide))).trans (W353_of m ρ c main_v979 (by decide))).trans (W352_of m ρ c main_v979 (by decide))).trans (W351_of m ρ c main_v979 (by decide))).trans (W350_of m ρ c main_v979 (by decide))).trans hx
  · exact (((((((W356_of m ρ c main_v981 (by decide)).trans (W355_of m ρ c main_v981 (by decide))).trans (W354_of m ρ c main_v981 (by decide))).trans (W353_of m ρ c main_v981 (by decide))).trans (W352_of m ρ c main_v981 (by decide))).trans (W351_of m ρ c main_v981 (by decide))).trans (W350_of m ρ c main_v981 (by decide))).trans hc

/-- After cross attention 4: the grid of the one before it, and the earlier grids as they were. -/
theorem cross4_canvas (c : Dev nD) :
    W356 m ρ c (Proc.devRef .tc main_v977) = canvas (F := Ideal) (W267 m ρ c (Proc.devRef .tc main_v655))
        (addf (F := Ideal) (φ := .f32) (W267 m ρ c (Proc.devRef .tc main_v653)) (W267 m ρ c (Proc.devRef .tc main_v959)))
      ∧ W356 m ρ c (Proc.devRef .tc main_v325) = W267 m ρ c (Proc.devRef .tc main_v325)
      ∧ W356 m ρ c (Proc.devRef .tc main_v651) = W267 m ρ c (Proc.devRef .tc main_v651) := by
  have g : W349 m ρ c = gather4 (W267 m ρ c) := rfl
  have h := gather4_canvas (W267 m ρ c)
  rw [← g] at h
  exact ⟨(((((((W356_of m ρ c main_v977 (by decide)).trans (W355_of m ρ c main_v977 (by decide))).trans (W354_of m ρ c main_v977 (by decide))).trans (W353_of m ρ c main_v977 (by decide))).trans (W352_of m ρ c main_v977 (by decide))).trans (W351_of m ρ c main_v977 (by decide))).trans (W350_of m ρ c main_v977 (by decide))).trans h.1, (((((((W356_of m ρ c main_v325 (by decide)).trans (W355_of m ρ c main_v325 (by decide))).trans (W354_of m ρ c main_v325 (by decide))).trans (W353_of m ρ c main_v325 (by decide))).trans (W352_of m ρ c main_v325 (by decide))).trans (W351_of m ρ c main_v325 (by decide))).trans (W350_of m ρ c main_v325 (by decide))).trans h.2.1, (((((((W356_of m ρ c main_v651 (by decide)).trans (W355_of m ρ c main_v651 (by decide))).trans (W354_of m ρ c main_v651 (by decide))).trans (W353_of m ρ c main_v651 (by decide))).trans (W352_of m ρ c main_v651 (by decide))).trans (W351_of m ρ c main_v651 (by decide))).trans (W350_of m ρ c main_v651 (by decide))).trans h.2.2⟩

end Cert.KernelIdeal.Bev

end
-- ==== Proof.KernelRun.lean ====
/- Hand-written: WHAT THE KERNEL RETURNS. Its two results as functions of its arguments, and its run: every execution
   ends with these results and the arguments as they were. -/
module

public import proofs.«01_k».proof.Proof.Cross1
public import proofs.«01_k».proof.Proof.Cross2
public import proofs.«01_k».proof.Proof.Cross3
public import proofs.«01_k».proof.Proof.Cross4
public import proofs.«01_k».proof.Proof.Gen.KernelIdeal.Frame

@[expose] public section

set_option maxRecDepth 100000
set_option maxHeartbeats 4000000

noncomputable section

namespace Cert.KernelIdeal.Bev

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable (m : (ℓ : Loc nD τ sig) → Buf (Elt Ideal) ℓ) (ρ : Dev nD → PrngReg)

local notation "𝕄" => MT nD τ sig Unit (Elt Ideal) ℕ (UR sig nD τ) ℕ

/-- The first result: of each scene, the first sensor's pillars attending to the second's. -/
def first (a0 : Floats Ideal S2x20000x32) (a1 : Ints Ideal S2x20000x2) (a2 : Floats Ideal S2x20000x32)
    (a3 : Ints Ideal S2x20000x2) (a4 : Floats Ideal S96x32) (a5 : Floats Ideal S96) (a6 : Floats Ideal S32x32) (a7 : Floats Ideal S32)
    (a8 : Floats Ideal S96x32) (a9 : Floats Ideal S96) (a10 : Floats Ideal S32x32) (a11 : Floats Ideal S32) :
    Floats Ideal S2x32x496x432 :=
  pair (grid (feats0 a0) (coors0 a1) (feats0 a2) (coors0 a3) a4 a5 a6 a7)
    (grid (feats1 a0) (coors1 a1) (feats1 a2) (coors1 a3) a4 a5 a6 a7)

/-- The second result: of each scene, the second sensor's pillars attending to the first's. -/
def second (a0 : Floats Ideal S2x20000x32) (a1 : Ints Ideal S2x20000x2) (a2 : Floats Ideal S2x20000x32)
    (a3 : Ints Ideal S2x20000x2) (a4 : Floats Ideal S96x32) (a5 : Floats Ideal S96) (a6 : Floats Ideal S32x32) (a7 : Floats Ideal S32)
    (a8 : Floats Ideal S96x32) (a9 : Floats Ideal S96) (a10 : Floats Ideal S32x32) (a11 : Floats Ideal S32) :
    Floats Ideal S2x32x496x432 :=
  pair (grid (feats0 a2) (coors0 a3) (feats0 a0) (coors0 a1) a8 a9 a10 a11)
    (grid (feats1 a2) (coors1 a3) (feats1 a0) (coors1 a1) a8 a9 a10 a11)

/-- The operations that put two grids together, their function by name. -/
theorem pair_op1 :
    StableHlo.binary main_v325 main_v977 main_v1304 ((fun a b => concatenate S2x32x496x432 0 [⟨S1x32x496x432, a⟩, ⟨S1x32x496x432, b⟩] concatenates_S1x32x496x432_S1x32x496x432_S2x32x496x432_d0) : (⟨S1x32x496x432, .f32⟩ : BufTy).Contents (Elt Ideal) → (⟨S1x32x496x432, .f32⟩ : BufTy).Contents (Elt Ideal) → (⟨S2x32x496x432, .f32⟩ : BufTy).Contents (Elt Ideal))
    = (StableHlo.binary main_v325 main_v977 main_v1304 (fun a b => pair (F := Ideal) a b) : HloOp τ sig (Elt Ideal)) := rfl
theorem pair_op2 :
    StableHlo.binary main_v651 main_v1303 main_v1305 ((fun a b => concatenate S2x32x496x432 0 [⟨S1x32x496x432, a⟩, ⟨S1x32x496x432, b⟩] concatenates_S1x32x496x432_S1x32x496x432_S2x32x496x432_d0) : (⟨S1x32x496x432, .f32⟩ : BufTy).Contents (Elt Ideal) → (⟨S1x32x496x432, .f32⟩ : BufTy).Contents (Elt Ideal) → (⟨S2x32x496x432, .f32⟩ : BufTy).Contents (Elt Ideal))
    = (StableHlo.binary main_v651 main_v1303 main_v1305 (fun a b => pair (F := Ideal) a b) : HloOp τ sig (Elt Ideal)) := rfl

/-- The last host operations: the fourth grid, and the grids in pairs. -/
theorem last (V : Valuation τ sig (Elt Ideal)) :
    after hostOps16 V (Proc.devRef .tc main_v1304) = pair (F := Ideal) (V (Proc.devRef .tc main_v325)) (V (Proc.devRef .tc main_v977))
      ∧ after hostOps16 V (Proc.devRef .tc main_v1305) = pair (F := Ideal) (V (Proc.devRef .tc main_v651))
          (canvas (F := Ideal) (V (Proc.devRef .tc main_v981)) (addf (F := Ideal) (φ := .f32) (V (Proc.devRef .tc main_v979)) (V (Proc.devRef .tc main_v1285)))) := by
  simp only [hostOps16, pair_op1, pair_op2, TRef.binary, TRef.nullary, TRef.ternary, TRef.unary, TRef.toBuf, TRef.ofBuf, cast_eq]
  after_results_simp
  exact ⟨trivial, rfl⟩

/-- The results when the last operation has run. -/
theorem results (c : Dev nD) :
    W357 m ρ c (Proc.devRef .tc main_v1304) = first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ W357 m ρ c (Proc.devRef .tc main_v1305) = second (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨y1, x1, q1⟩ := cross1 m ρ c
  obtain ⟨y2, x2, q2⟩ := cross2 m ρ c
  obtain ⟨y3, x3, q3⟩ := cross3 m ρ c
  obtain ⟨y4, x4, q4⟩ := cross4 m ρ c
  have d2 := cross2_canvas m ρ c
  obtain ⟨d3, d31⟩ := cross3_canvas m ρ c
  obtain ⟨d4, d41, d42⟩ := cross4_canvas m ρ c
  obtain ⟨l1, l2⟩ := last (W356 m ρ c)
  have g1 := ((d41.trans d31).trans d2).trans (grid_of x1 q1 y1)
  have g2 := (d42.trans d3).trans (grid_of x2 q2 y2)
  have g3 := d4.trans (grid_of x3 q3 y3)
  have g4 := grid_of x4 q4 y4
  exact ⟨l1.trans (congrArg₂ (pair (F := Ideal)) g1 g3), l2.trans (congrArg₂ (pair (F := Ideal)) g2 g4)⟩

set_option backward.isDefEq.respectTransparency.types false in
/-- The kernel's run: it ends, faulting nowhere, with the two results above and its arguments unchanged. -/
theorem run : θ_run defs (onTc (τ := τ) (main (F := Ideal))) ⟨m, fun _ => 0, ρ⟩ (fun r => ∀ c : Dev nD,
      r.2.mem ((c.tc : Thread nD τ).loc main_v1304) = first (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v1305) = second (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ => .rfl, fun
      _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W357 m ρ c b)
    (hfin := fun c s' => by
      iintro ⟨⟨Hh, -⟩, HSI⟩
      unfold StableHlo.held
      imodintro
      iapply (pointsTo_read_all (Pipeline.ucRefs τ sig) (fun b => (((c : Thread nD τ)).1, b)) (W357 m ρ c) s')
      isplitl [Hh] <;> iassumption)
    (hQ := fun s h _ c =>
      ⟨(h c _ (mem_uc main_v1304 (by decide))).trans (results m ρ c).1,
       (h c _ (mem_uc main_v1305 (by decide))).trans (results m ρ c).2,
       (h c _ (mem_uc main_arg0 (by decide))).trans (W357_main_arg0 m ρ c),
       (h c _ (mem_uc main_arg1 (by decide))).trans (W357_main_arg1 m ρ c),
       (h c _ (mem_uc main_arg2 (by decide))).trans (W357_main_arg2 m ρ c),
       (h c _ (mem_uc main_arg3 (by decide))).trans (W357_main_arg3 m ρ c),
       (h c _ (mem_uc main_arg4 (by decide))).trans (W357_main_arg4 m ρ c),
       (h c _ (mem_uc main_arg5 (by decide))).trans (W357_main_arg5 m ρ c),
       (h c _ (mem_uc main_arg6 (by decide))).trans (W357_main_arg6 m ρ c),
       (h c _ (mem_uc main_arg7 (by decide))).trans (W357_main_arg7 m ρ c),
       (h c _ (mem_uc main_arg8 (by decide))).trans (W357_main_arg8 m ρ c),
       (h c _ (mem_uc main_arg9 (by decide))).trans (W357_main_arg9 m ρ c),
       (h c _ (mem_uc main_arg10 (by decide))).trans (W357_main_arg10 m ρ c),
       (h c _ (mem_uc main_arg11 (by decide))).trans (W357_main_arg11 m ρ c)⟩)

end Cert.KernelIdeal.Bev

end
-- ==== Proof.RefValue.lean ====
/- Hand-written: WHAT THE REFERENCE RETURNS: the kernel's two functions of its arguments. Its shifts are the nine of the
   kernel, so its neighbours are the kernel's, and so are its attentions and its grids. -/
module

public import proofs.«01_k».proof.Proof.KeysEq
public import proofs.«01_k».proof.Proof.Attn
public import proofs.«01_k».proof.Proof.KernelRun
public import proofs.«01_k».proof.Proof.Gen.ReferenceIdeal.Run

@[expose] public section

set_option maxRecDepth 100000
set_option maxHeartbeats 4000000

noncomputable section

namespace Cert.Bev

open Cert.ReferenceIdeal Cert.ReferenceIdeal.Gen Idealize.ShloMosaic Idealize.ShloMosaic.TcCoe Idealize.SL.Sem Idealize.ShloMosaic.StableHlo
open Cert.ReferenceIdeal.Value Cert.ReferenceIdeal.Bev
open Cert.KernelIdeal.Bev (feats0 feats1 coors0 coors1 table canvas pair grid kernelMha first second)

variable (V : Valuation τ sig (Elt Ideal))

/-- One cross attention as the reference computes it, on the grid, its shifts in an array `s`. -/
def refGrid (s : Cert.ReferenceIdeal.Bev.Ints Ideal S9x2) (x : Cert.ReferenceIdeal.Bev.Floats Ideal S20000x32)
    (q : Cert.ReferenceIdeal.Bev.Ints Ideal S20000x2) (k : Cert.ReferenceIdeal.Bev.Floats Ideal S20000x32)
    (kc : Cert.ReferenceIdeal.Bev.Ints Ideal S20000x2) (W : Cert.ReferenceIdeal.Bev.Floats Ideal S96x32)
    (b : Cert.ReferenceIdeal.Bev.Floats Ideal S96) (Wo : Cert.ReferenceIdeal.Bev.Floats Ideal S32x32)
    (bo : Cert.ReferenceIdeal.Bev.Floats Ideal S32) : Cert.ReferenceIdeal.Bev.Floats Ideal S1x32x496x432 :=
  canvas (F := Ideal) q (addf (F := Ideal) (φ := .f32) x
    (mha (F := Ideal) x (keys9 (F := Ideal) s (table (F := Ideal) kc) q k) W b Wo bo))

/-- An array holding the nine shifts, row by row, gives the reference the kernel's grid. -/
theorem refGrid_eq (s : Cert.ReferenceIdeal.Bev.Ints Ideal S9x2) (h0 : ∀ j, s (ix2 j 0) = shiftRow j)
    (h1 : ∀ j, s (ix2 j 1) = shiftCol j) (x : Cert.ReferenceIdeal.Bev.Floats Ideal S20000x32)
    (q : Cert.ReferenceIdeal.Bev.Ints Ideal S20000x2) (k : Cert.ReferenceIdeal.Bev.Floats Ideal S20000x32)
    (kc : Cert.ReferenceIdeal.Bev.Ints Ideal S20000x2) (W : Cert.ReferenceIdeal.Bev.Floats Ideal S96x32)
    (b : Cert.ReferenceIdeal.Bev.Floats Ideal S96) (Wo : Cert.ReferenceIdeal.Bev.Floats Ideal S32x32)
    (bo : Cert.ReferenceIdeal.Bev.Floats Ideal S32) : refGrid s x q k kc W b Wo bo = grid x q k kc W b Wo bo := by
  unfold refGrid grid
  exact congrArg (fun y => canvas (F := Ideal) q (addf (F := Ideal) (φ := .f32) x y))
    ((congrArg (fun key => mha (F := Ideal) x key W b Wo bo) (keys_eq s h0 h1 (table (F := Ideal) kc) q k)).trans (mha_eq _ _ _ _ _ _))

/-- The shifts of cross attention 1: the kernel's rows and columns. -/
theorem shifts1 : (∀ j : Fin 9, res_main_c V (ix2 j 0) = shiftRow j) ∧ (∀ j : Fin 9, res_main_c V (ix2 j 1) = shiftCol j) :=
  ⟨fun j => by fin_cases j <;> rfl, fun j => by fin_cases j <;> rfl⟩

/-- The neighbours of cross attention 1. -/
theorem refKeys1 : res_main_v55 V = keys9 (F := Ideal) (res_main_c V) (table (F := Ideal) (coors0 (F := Ideal) (V (Proc.devRef .tc main_arg3)))) (coors0 (F := Ideal) (V (Proc.devRef .tc main_arg1))) (feats0 (F := Ideal) (V (Proc.devRef .tc main_arg2))) := rfl

/-- The exponentials of cross attention 1. -/
theorem refExps1 : res_main_v94 V = exps (F := Ideal) (scores (F := Ideal) (feats0 (F := Ideal) (V (Proc.devRef .tc main_arg0))) (res_main_v55 V) (V (Proc.devRef .tc main_arg4)) (V (Proc.devRef .tc main_arg5))) := rfl

/-- The shifts of cross attention 2: the kernel's rows and columns. -/
theorem shifts2 : (∀ j : Fin 9, res_main_c_0 V (ix2 j 0) = shiftRow j) ∧ (∀ j : Fin 9, res_main_c_0 V (ix2 j 1) = shiftCol j) :=
  ⟨fun j => by fin_cases j <;> rfl, fun j => by fin_cases j <;> rfl⟩

/-- The neighbours of cross attention 2. -/
theorem refKeys2 : res_main_v181 V = keys9 (F := Ideal) (res_main_c_0 V) (table (F := Ideal) (coors0 (F := Ideal) (V (Proc.devRef .tc main_arg1)))) (coors0 (F := Ideal) (V (Proc.devRef .tc main_arg3))) (feats0 (F := Ideal) (V (Proc.devRef .tc main_arg0))) := rfl

/-- The exponentials of cross attention 2. -/
theorem refExps2 : res_main_v220 V = exps (F := Ideal) (scores (F := Ideal) (feats0 (F := Ideal) (V (Proc.devRef .tc main_arg2))) (res_main_v181 V) (V (Proc.devRef .tc main_arg8)) (V (Proc.devRef .tc main_arg9))) := rfl

/-- The shifts of cross attention 3: the kernel's rows and columns. -/
theorem shifts3 : (∀ j : Fin 9, res_main_c_1 V (ix2 j 0) = shiftRow j) ∧ (∀ j : Fin 9, res_main_c_1 V (ix2 j 1) = shiftCol j) :=
  ⟨fun j => by fin_cases j <;> rfl, fun j => by fin_cases j <;> rfl⟩

/-- The neighbours of cross attention 3. -/
theorem refKeys3 : res_main_v307 V = keys9 (F := Ideal) (res_main_c_1 V) (table (F := Ideal) (coors1 (F := Ideal) (V (Proc.devRef .tc main_arg3)))) (coors1 (F := Ideal) (V (Proc.devRef .tc main_arg1))) (feats1 (F := Ideal) (V (Proc.devRef .tc main_arg2))) := rfl

/-- The exponentials of cross attention 3. -/
theorem refExps3 : res_main_v346 V = exps (F := Ideal) (scores (F := Ideal) (feats1 (F := Ideal) (V (Proc.devRef .tc main_arg0))) (res_main_v307 V) (V (Proc.devRef .tc main_arg4)) (V (Proc.devRef .tc main_arg5))) := rfl

/-- The shifts of cross attention 4: the kernel's rows and columns. -/
theorem shifts4 : (∀ j : Fin 9, res_main_c_2 V (ix2 j 0) = shiftRow j) ∧ (∀ j : Fin 9, res_main_c_2 V (ix2 j 1) = shiftCol j) :=
  ⟨fun j => by fin_cases j <;> rfl, fun j => by fin_cases j <;> rfl⟩

/-- The neighbours of cross attention 4. -/
theorem refKeys4 : res_main_v433 V = keys9 (F := Ideal) (res_main_c_2 V) (table (F := Ideal) (coors1 (F := Ideal) (V (Proc.devRef .tc main_arg1)))) (coors1 (F := Ideal) (V (Proc.devRef .tc main_arg3))) (feats1 (F := Ideal) (V (Proc.devRef .tc main_arg0))) := rfl

/-- The exponentials of cross attention 4. -/
theorem refExps4 : res_main_v472 V = exps (F := Ideal) (scores (F := Ideal) (feats1 (F := Ideal) (V (Proc.devRef .tc main_arg2))) (res_main_v433 V) (V (Proc.devRef .tc main_arg8)) (V (Proc.devRef .tc main_arg9))) := rfl

/-- The reference's first result: two of its grids. -/
theorem ref_first : res_main_v504 V = pair (F := Ideal) (refGrid (res_main_c V) (feats0 (F := Ideal) (V (Proc.devRef .tc main_arg0))) (coors0 (F := Ideal) (V (Proc.devRef .tc main_arg1))) (feats0 (F := Ideal) (V (Proc.devRef .tc main_arg2))) (coors0 (F := Ideal) (V (Proc.devRef .tc main_arg3))) (V (Proc.devRef .tc main_arg4)) (V (Proc.devRef .tc main_arg5)) (V (Proc.devRef .tc main_arg6)) (V (Proc.devRef .tc main_arg7)))
    (refGrid (res_main_c_1 V) (feats1 (F := Ideal) (V (Proc.devRef .tc main_arg0))) (coors1 (F := Ideal) (V (Proc.devRef .tc main_arg1))) (feats1 (F := Ideal) (V (Proc.devRef .tc main_arg2))) (coors1 (F := Ideal) (V (Proc.devRef .tc main_arg3))) (V (Proc.devRef .tc main_arg4)) (V (Proc.devRef .tc main_arg5)) (V (Proc.devRef .tc main_arg6)) (V (Proc.devRef .tc main_arg7))) := by
  unfold res_main_v504
  rw [refExps1, refExps3, refKeys1, refKeys3]
  rfl

/-- The reference's first result is the kernel's function of its arguments. -/
theorem first_eq : res_main_v504 V = first (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (ref_first V).trans (congrArg₂ (pair (F := Ideal))
    (refGrid_eq _ (shifts1 V).1 (shifts1 V).2 _ _ _ _ _ _ _ _) (refGrid_eq _ (shifts3 V).1 (shifts3 V).2 _ _ _ _ _ _ _ _))

/-- The reference's second result: two of its grids. -/
theorem ref_second : res_main_v505 V = pair (F := Ideal) (refGrid (res_main_c_0 V) (feats0 (F := Ideal) (V (Proc.devRef .tc main_arg2))) (coors0 (F := Ideal) (V (Proc.devRef .tc main_arg3))) (feats0 (F := Ideal) (V (Proc.devRef .tc main_arg0))) (coors0 (F := Ideal) (V (Proc.devRef .tc main_arg1))) (V (Proc.devRef .tc main_arg8)) (V (Proc.devRef .tc main_arg9)) (V (Proc.devRef .tc main_arg10)) (V (Proc.devRef .tc main_arg11)))
    (refGrid (res_main_c_2 V) (feats1 (F := Ideal) (V (Proc.devRef .tc main_arg2))) (coors1 (F := Ideal) (V (Proc.devRef .tc main_arg3))) (feats1 (F := Ideal) (V (Proc.devRef .tc main_arg0))) (coors1 (F := Ideal) (V (Proc.devRef .tc main_arg1))) (V (Proc.devRef .tc main_arg8)) (V (Proc.devRef .tc main_arg9)) (V (Proc.devRef .tc main_arg10)) (V (Proc.devRef .tc main_arg11))) := by
  unfold res_main_v505
  rw [refExps2, refExps4, refKeys2, refKeys4]
  rfl

/-- The reference's second result is the kernel's function of its arguments. -/
theorem second_eq : res_main_v505 V = second (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  (ref_second V).trans (congrArg₂ (pair (F := Ideal))
    (refGrid_eq _ (shifts2 V).1 (shifts2 V).2 _ _ _ _ _ _ _ _) (refGrid_eq _ (shifts4 V).1 (shifts4 V).2 _ _ _ _ _ _ _ _))

end Cert.Bev

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs, ends with its arguments unchanged, and has no semaphores to leave raised. -/
theorem frame_reference : quiescent_ReferenceIdeal (hReferenceIdeal := Cert.ReferenceIdeal.Gen.facts) :=
  fun m g _ => (θ_run _ _ _).mono (fun r h => ⟨fun c => (h c).2.2, sem_eq_zero_of_no_sems (by decide) r.2⟩)
    (Cert.ReferenceIdeal.Value.run (F := Ideal) m g)

/-- The kernel and the reference, of equal arguments, return the same two arrays. -/
theorem algebraic : algebraic_KernelIdeal_ReferenceIdeal (hKernelIdeal := Cert.KernelIdeal.Gen.facts)
    (hReferenceIdeal := Cert.ReferenceIdeal.Gen.facts) := by
  intro m g m' g' _ hm
  refine ⟨_, _, Cert.KernelIdeal.Bev.run m g, (θ_run _ _ _).mono (fun r h c => ?_) (Cert.ReferenceIdeal.Value.run (F := Ideal) m' g')⟩
  obtain ⟨h0, h1, h2, h3, h4, h5, h6, h7, h8, h9, h10, h11⟩ := hm c
  refine ⟨(h c).1.trans ((Cert.Bev.first_eq (StableHlo.launchContents m' c)).trans ?_),
    (h c).2.1.trans ((Cert.Bev.second_eq (StableHlo.launchContents m' c)).trans ?_), (h c).2.2⟩
  · rw [← h0, ← h1, ← h2, ← h3, ← h4, ← h5, ← h6, ← h7, ← h8, ← h9, ← h10, ← h11]
  · rw [← h0, ← h1, ← h2, ← h3, ← h4, ← h5, ← h6, ← h7, ← h8, ← h9, ← h10, ← h11]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
